-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v129)) (v1 : (c : Dev Cert.Kernel2Ideal.nD) → Buf (Elt Ideal) ((c.tc : Thread Cert.Kernel2Ideal.nD Cert.Kernel2Ideal.τ).loc Cert.Kernel2Ideal.main_v131)) (v2 : (c : Dev Cert.Kernel2Ideal.nD) → Buf (Elt Ideal) ((c.tc : Thread Cert.Kernel2Ideal.nD Cert.Kernel2Ideal.τ).loc Cert.Kernel2Ideal.main_v116)) (v3 : (c : Dev Cert.Kernel2Ideal.nD) → Buf (Elt Ideal) ((c.tc : Thread Cert.Kernel2Ideal.nD Cert.Kernel2Ideal.τ).loc Cert.Kernel2Ideal.main_v127)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v129) = v0 c
          ∧ r.2.mem ((c.tc : Thread Cert.Kernel2Ideal.nD Cert.Kernel2Ideal.τ).loc Cert.Kernel2Ideal.main_v131) = v1 c
          ∧ r.2.mem ((c.tc : Thread Cert.Kernel2Ideal.nD Cert.Kernel2Ideal.τ).loc Cert.Kernel2Ideal.main_v116) = v2 c
          ∧ r.2.mem ((c.tc : Thread Cert.Kernel2Ideal.nD Cert.Kernel2Ideal.τ).loc Cert.Kernel2Ideal.main_v127) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_v77) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v55) = v0 c
          ∧ r.2.mem ((c.tc : Thread Cert.Reference9Ideal.nD Cert.Reference9Ideal.τ).loc Cert.Reference9Ideal.main_v62) = v1 c
          ∧ r.2.mem ((c.tc : Thread Cert.Reference9Ideal.nD Cert.Reference9Ideal.τ).loc Cert.Reference9Ideal.main_v64) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v51) = v0 c
          ∧ r.2.mem ((c.tc : Thread Cert.Reference10Ideal.nD Cert.Reference10Ideal.τ).loc Cert.Reference10Ideal.main_v53) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v19) = v0 c
          ∧ r.2.mem ((c.tc : Thread Cert.Reference14Ideal.nD Cert.Reference14Ideal.τ).loc Cert.Reference14Ideal.main_v20) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x16x64 : Shape := ⟨3, ![8192, 16, 64]⟩
abbrev S16x8192 : Shape := ⟨2, ![16, 8192]⟩
abbrev S_ : Shape := ⟨0, ![]⟩

class Facts : Prop where
  bcast_S_S8192x16x64 : S_.BroadcastsInDim S8192x16x64 (![] : Fin 0 → Fin S8192x16x64.rank)
  bcast_S_S16x8192 : S_.BroadcastsInDim S16x8192 (![] : Fin 0 → Fin S16x8192.rank)

variable [Facts]

def fn {F : FTy → Type} [FloatOps F] (main_arg0 : FVec F S8192x16x64 .f32) (main_arg1 : FVec F S8192x16x64 .f32) (main_arg2 : FVec F S8192x16x64 .f32) (main_arg3 : FVec F S16x8192 .f32) (main_arg4 : FVec F S8192x16x64 .f32) : IVec S8192x16x64 1 × IVec S8192x16x64 1 × IVec S8192x16x64 1 × IVec S16x8192 1 × IVec S8192x16x64 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_v3 : FVec F S8192x16x64 .f32 := Host.absf main_arg1
  let main_cst_0 : FVec F S_ .f32 := constant S_ .f32 0x7F800000#32
  let main_v4 : FVec F S8192x16x64 .f32 := broadcastInDim S8192x16x64 ![] bcast_S_S8192x16x64 main_cst_0
  let main_v5 : IVec S8192x16x64 1 := cmpf .olt main_v3 main_v4
  let main_v6 : FVec F S8192x16x64 .f32 := Host.absf main_arg2
  let main_cst_1 : FVec F S_ .f32 := constant S_ .f32 0x7F800000#32
  let main_v7 : FVec F S8192x16x64 .f32 := broadcastInDim S8192x16x64 ![] bcast_S_S8192x16x64 main_cst_1
  let main_v8 : IVec S8192x16x64 1 := cmpf .olt main_v6 main_v7
  let main_v9 : FVec F S16x8192 .f32 := Host.absf main_arg3
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_v12 : FVec F S8192x16x64 .f32 := Host.absf main_arg4
  let main_cst_3 : FVec F S_ .f32 := constant S_ .f32 0x7F800000#32
  let main_v13 : FVec F S8192x16x64 .f32 := broadcastInDim S8192x16x64 ![] bcast_S_S8192x16x64 main_cst_3
  let main_v14 : IVec S8192x16x64 1 := cmpf .olt main_v12 main_v13
  (main_v2, main_v5, main_v8, main_v11, main_v14)
-- ==== Kernel.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S8192x2x2816 : Shape := ⟨3, ![8192, 2, 2816]⟩
abbrev S2x8192x2816 : Shape := ⟨3, ![2, 8192, 2816]⟩
abbrev S1024x4x1408 : Shape := ⟨3, ![1024, 4, 1408]⟩
abbrev S4x1024x1408 : Shape := ⟨3, ![4, 1024, 1408]⟩
abbrev S8x1024 : Shape := ⟨2, ![8, 1024]⟩
abbrev S256x1024 : Shape := ⟨2, ![256, 1024]⟩
abbrev S2x256x2816 : Shape := ⟨3, ![2, 256, 2816]⟩
abbrev S1x256x1408 : Shape := ⟨3, ![1, 256, 1408]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 20
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .bf16⟩
  | .hbm, ⟨7, _⟩ => ⟨S8192x1024, .f32⟩
  | .hbm, ⟨8, _⟩ => ⟨S8192x5632, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x2x2816, .bf16⟩
  | .hbm, ⟨14, _⟩ => ⟨S2x8192x2816, .bf16⟩
  | .hbm, ⟨15, _⟩ => ⟨S1024x4x1408, .bf16⟩
  | .hbm, ⟨16, _⟩ => ⟨S4x1024x1408, .bf16⟩
  | .hbm, ⟨17, _⟩ => ⟨S8192x1024, .f32⟩
  | .hbm, ⟨18, _⟩ => ⟨S8192x1024, .bf16⟩
  | .hbm, ⟨19, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S2x256x2816, .bf16⟩
  | .local _ .vmem, ⟨3, _⟩ => ⟨S2x256x2816, .bf16⟩
  | .local _ .vmem, ⟨4, _⟩ => ⟨S4x1024x1408, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .bf16⟩
  | .hbm, ⟨7, _⟩ => ⟨S8192x1024, .f32⟩
  | .hbm, ⟨8, _⟩ => ⟨S8192x5632, .bf16⟩
  | .hbm, ⟨9, _⟩ => ⟨S1024x5632, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x5632, .f32⟩
  | .hbm, ⟨41, _⟩ => ⟨S8192x5632, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .bf16⟩
  | .hbm, ⟨84, _⟩ => ⟨S_, .f32⟩
  | .hbm, ⟨85, _⟩ => ⟨S4x1024, .f32⟩
  | .hbm, ⟨86, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel2.lean ====
abbrev S8192x16x64 : Shape := ⟨3, ![8192, 16, 64]⟩
abbrev S16x8192 : Shape := ⟨2, ![16, 8192]⟩
abbrev S16x8192x1 : Shape := ⟨3, ![16, 8192, 1]⟩
abbrev S16x1x8192 : Shape := ⟨3, ![16, 1, 8192]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S8192x16 : Shape := ⟨2, ![8192, 16]⟩
abbrev S16x8192x64 : Shape := ⟨3, ![16, 8192, 64]⟩
abbrev S16x8192x3 : Shape := ⟨3, ![16, 8192, 3]⟩
abbrev S16x8192x55 : Shape := ⟨3, ![16, 8192, 55]⟩
abbrev S16x8192x128 : Shape := ⟨3, ![16, 8192, 128]⟩
abbrev S16x8192x6 : Shape := ⟨3, ![16, 8192, 6]⟩
abbrev S2x8192x128 : Shape := ⟨3, ![2, 8192, 128]⟩
abbrev S2x512x128 : Shape := ⟨3, ![2, 512, 128]⟩
abbrev S512x128 : Shape := ⟨2, ![512, 128]⟩
abbrev S1x512x128 : Shape := ⟨3, ![1, 512, 128]⟩
abbrev S512x512 : Shape := ⟨2, ![512, 512]⟩
abbrev S512x1 : Shape := ⟨2, ![512, 1]⟩
abbrev S8192x128 : Shape := ⟨2, ![8192, 128]⟩
abbrev S1x8192x128 : Shape := ⟨3, ![1, 8192, 128]⟩

abbrev nBuf : Space → Nat
  | .hbm => 152
  | .vmem => 15
  | .smem => 0
  | _ => 0

abbrev hbmTy0_0 (i : Nat) : BufTy := match i % 128 with
  | 0 => ⟨S8192x16x64, .f32⟩
  | 1 => ⟨S8192x16x64, .f32⟩
  | 2 => ⟨S8192x16x64, .f32⟩
  | 3 => ⟨S16x8192, .f32⟩
  | 4 => ⟨S8192x16x64, .f32⟩
  | 5 => ⟨S16x8192x1, .f32⟩
  | 6 => ⟨S16x1x8192, .f32⟩
  | 7 => ⟨S16x8192x8192, .f32⟩
  | 8 => ⟨S16x8192x8192, .f32⟩
  | 9 => ⟨S16x8192x8192, .f32⟩
  | 10 => ⟨S16x8192x8192, .f32⟩
  | 11 => ⟨S_, .f32⟩
  | 12 => ⟨S16x8192x8192, .f32⟩
  | 13 => ⟨S16x8192x8192, .f32⟩
  | 14 => ⟨S16x8192x8192, .f32⟩
  | 15 => ⟨S8192, .i32⟩
  | 16 => ⟨S1x8192, .i32⟩
  | 17 => ⟨S8192, .i32⟩
  | 18 => ⟨S8192x1, .i32⟩
  | 19 => ⟨S8192x8192, .i32⟩
  | 20 => ⟨S8192x8192, .i32⟩
  | 21 => ⟨S8192x8192, .i1⟩
  | 22 => ⟨S_, .f32⟩
  | 23 => ⟨S_, .f32⟩
  | 24 => ⟨S16x8192x8192, .i1⟩
  | 25 => ⟨S16x8192x8192, .f32⟩
  | 26 => ⟨S16x8192x8192, .f32⟩
  | 27 => ⟨S_, .f32⟩
  | 28 => ⟨S16x8192, .f32⟩
  | 29 => ⟨S16x8192x1, .f32⟩
  | 30 => ⟨S16x8192x8192, .f32⟩
  | 31 => ⟨S16x8192x8192, .f32⟩
  | 32 => ⟨S16x8192x8192, .f32⟩
  | 33 => ⟨S_, .f32⟩
  | 34 => ⟨S16x8192, .f32⟩
  | 35 => ⟨S16x8192x1, .f32⟩
  | 36 => ⟨S16x8192x8192, .f32⟩
  | 37 => ⟨S16x8192x8192, .f32⟩
  | 38 => ⟨S16x64x8192, .f32⟩
  | 39 => ⟨S8192x16x64, .f32⟩
  | 40 => ⟨S16x8192x1, .f32⟩
  | 41 => ⟨S16x8192x1, .f32⟩
  | 42 => ⟨S16x8192, .f32⟩
  | 43 => ⟨S8192x16x64, .f32⟩
  | 44 => ⟨S_, .f32⟩
  | 45 => ⟨S8192x16, .f32⟩
  | 46 => ⟨S16x8192, .f32⟩
  | 47 => ⟨S16x8192x64, .f32⟩
  | 48 => ⟨S16x8192x64, .f32⟩
  | 49 => ⟨S16x8192x64, .f32⟩
  | 50 => ⟨S16x8192x64, .f32⟩
  | 51 => ⟨S_, .f32⟩
  | 52 => ⟨S16x8192x3, .f32⟩
  | 53 => ⟨S_, .f32⟩
  | 54 => ⟨S16x8192x55, .f32⟩
  | 55 => ⟨S_, .f32⟩
  | 56 => ⟨S_, .f32⟩
  | 57 => ⟨S16x8192, .f32⟩
  | 58 => ⟨S16x8192, .f32⟩
  | 59 => ⟨S16x8192, .bf16⟩
  | 60 => ⟨S16x8192, .f32⟩
  | 61 => ⟨S16x8192, .f32⟩
  | 62 => ⟨S16x8192, .bf16⟩
  | 63 => ⟨S16x8192, .f32⟩
  | 64 => ⟨S16x8192, .f32⟩
  | 65 => ⟨S16x8192, .bf16⟩
  | 66 => ⟨S16x8192, .f32⟩
  | 67 => ⟨S16x8192x1, .f32⟩
  | 68 => ⟨S16x8192, .f32⟩
  | 69 => ⟨S16x8192x1, .f32⟩
  | 70 => ⟨S16x8192, .f32⟩
  | 71 => ⟨S16x8192x1, .f32⟩
  | 72 => ⟨S16x8192, .f32⟩
  | 73 => ⟨S16x8192, .f32⟩
  | 74 => ⟨S16x8192, .bf16⟩
  | 75 => ⟨S16x8192, .f32⟩
  | 76 => ⟨S16x8192, .f32⟩
  | 77 => ⟨S16x8192, .bf16⟩
  | 78 => ⟨S16x8192, .f32⟩
  | 79 => ⟨S16x8192, .f32⟩
  | 80 => ⟨S16x8192, .bf16⟩
  | 81 => ⟨S16x8192, .f32⟩
  | 82 => ⟨S16x8192x1, .f32⟩
  | 83 => ⟨S16x8192, .f32⟩
  | 84 => ⟨S16x8192x1, .f32⟩
  | 85 => ⟨S16x8192, .f32⟩
  | 86 => ⟨S16x8192x1, .f32⟩
  | 87 => ⟨S_, .f32⟩
  | 88 => ⟨S16x8192x64, .f32⟩
  | 89 => ⟨S16x8192x64, .f32⟩
  | 90 => ⟨S16x8192x64, .f32⟩
  | 91 => ⟨S16x8192x64, .f32⟩
  | 92 => ⟨S16x8192x1, .f32⟩
  | 93 => ⟨S16x8192x1, .f32⟩
  | 94 => ⟨S16x8192x1, .f32⟩
  | 95 => ⟨S16x8192x128, .f32⟩
  | 96 => ⟨S16x8192x1, .f32⟩
  | 97 => ⟨S16x8192x1, .f32⟩
  | 98 => ⟨S16x8192x1, .f32⟩
  | 99 => ⟨S16x8192x128, .f32⟩
  | 100 => ⟨S16x8192x6, .f32⟩
  | 101 => ⟨S16x8192x128, .f32⟩
  | 102 => ⟨S16x8192, .bf16⟩
  | 103 => ⟨S16x8192, .f32⟩
  | 104 => ⟨S16x8192, .f32⟩
  | 105 => ⟨S16x8192, .bf16⟩
  | 106 => ⟨S16x8192, .f32⟩
  | 107 => ⟨S16x8192, .f32⟩
  | 108 => ⟨S16x8192, .bf16⟩
  | 109 => ⟨S16x8192, .f32⟩
  | 110 => ⟨S16x8192x1, .f32⟩
  | 111 => ⟨S16x8192, .f32⟩
  | 112 => ⟨S16x8192x1, .f32⟩
  | 113 => ⟨S16x8192, .f32⟩
  | 114 => ⟨S16x8192x1, .f32⟩
  | 115 => ⟨S16x8192x1, .f32⟩
  | 116 => ⟨S16x8192x1, .f32⟩
  | 117 => ⟨S16x8192x1, .f32⟩
  | 118 => ⟨S16x8192x6, .f32⟩
  | 119 => ⟨S16x8192x128, .f32⟩
  | 120 => ⟨S16x8192x128, .bf16⟩
  | 121 => ⟨S16x8192x128, .bf16⟩
  | 122 => ⟨S16x8192x128, .bf16⟩
  | 123 => ⟨S16x8192x128, .bf16⟩
  | 124 => ⟨S16x8192x128, .bf16⟩
  | 125 => ⟨S16x8192x128, .bf16⟩
  | 126 => ⟨S16x8192x128, .bf16⟩
  | 127 => ⟨S16x8192x128, .f32⟩
  | _ => ⟨S8192x16x64, .f32⟩

abbrev hbmTy0_1 (i : Nat) : BufTy := match i % 128 with
  | 0 => ⟨S16x8192x128, .f32⟩
  | 1 => ⟨S16x8192x128, .f32⟩
  | 2 => ⟨S16x8192x64, .f32⟩
  | 3 => ⟨S8192x16x64, .f32⟩
  | 4 => ⟨S16x8192x64, .f32⟩
  | 5 => ⟨S8192x16x64, .f32⟩
  | 6 => ⟨S16x8192x64, .f32⟩
  | 7 => ⟨S8192x16x64, .f32⟩
  | 8 => ⟨S16x8192x1, .f32⟩
  | 9 => ⟨S16x8192, .f32⟩
  | 10 => ⟨S16x8192x1, .f32⟩
  | 11 => ⟨S16x8192, .f32⟩
  | 12 => ⟨S16x8192, .f32⟩
  | 13 => ⟨S16x8192x1, .f32⟩
  | 14 => ⟨S16x8192, .f32⟩
  | 15 => ⟨S16x8192, .f32⟩
  | 16 => ⟨S16x8192x1, .f32⟩
  | 17 => ⟨S16x8192, .f32⟩
  | 18 => ⟨S16x8192, .f32⟩
  | 19 => ⟨S_, .f32⟩
  | 20 => ⟨S8192x16x64, .f32⟩
  | 21 => ⟨S8192x16x64, .f32⟩
  | 22 => ⟨S8192x16x64, .f32⟩
  | 23 => ⟨S8192x16x64, .f32⟩
  | _ => ⟨S8192x16x64, .f32⟩

abbrev hbmTy (i : Nat) : BufTy := match i / 128 with
  | 0 => hbmTy0_0 i
  | 1 => hbmTy0_1 i
  | _ => ⟨S8192x16x64, .f32⟩

abbrev bufTy : (tb : Table) → Fin (tcTables nBuf tb) → BufTy
  | .hbm, ⟨i, _⟩ => hbmTy i
  | .local _ .vmem, ⟨0, _⟩ => ⟨S2x8192x128, .bf16⟩
  | .local _ .vmem, ⟨1, _⟩ => ⟨S2x8192x128, .bf16⟩
  | .local _ .vmem, ⟨2, _⟩ => ⟨S2x512x128, .bf16⟩
  | .local _ .vmem, ⟨3, _⟩ => ⟨S2x512x128, .bf16⟩
  | .local _ .vmem, ⟨4, _⟩ => ⟨S2x512x128, .bf16⟩
  | .local _ .vmem, ⟨5, _⟩ => ⟨S2x512x128, .bf16⟩
  | .local _ .vmem, ⟨6, _⟩ => ⟨S2x8192x128, .bf16⟩
  | .local _ .vmem, ⟨7, _⟩ => ⟨S2x8192x128, .bf16⟩
  | .local _ .vmem, ⟨8, _⟩ => ⟨S2x8192x128, .bf16⟩
  | .local _ .vmem, ⟨9, _⟩ => ⟨S2x8192x128, .bf16⟩
  | .local _ .vmem, ⟨10, _⟩ => ⟨S2x512x128, .bf16⟩
  | .local _ .vmem, ⟨11, _⟩ => ⟨S2x512x128, .bf16⟩
  | .local _ .vmem, ⟨12, _⟩ => ⟨S2x512x128, .bf16⟩
  | .local _ .vmem, ⟨13, _⟩ => ⟨S2x512x128, .bf16⟩
  | .local _ .vmem, ⟨14, _⟩ => ⟨S2x8192x128, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107_0 : Ref sig .tc := ⟨.hbm, 124, rfl⟩
abbrev main_v107_1 : Ref sig .tc := ⟨.hbm, 125, rfl⟩
abbrev main_v107_2 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_cst_8 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v13 : BitVec 32 := Scalar.muli arg1 c512_i32
  v13
def k0_off1 (i : grid0.Coords) : Fin 3 → Nat :=
  let c0_11 : Index := 0#32
  let arg1 : BitVec 32 := BitVec.ofNat 32 (i 1).val
  let c512_i32 : BitVec 32 := 512#32
  let v13 : BitVec 32 := Scalar.muli arg1 c512_i32
  let v14 : BitVec 32 := v13
  let v15 : Index := Scalar.indexCast v14
  let c0_12 : Index := 0#32
  ![0, v15.toNat, 0]
def k0_off2 (i : grid0.Coords) : Fin 3 → Nat :=
  let c1_13 : Index := 1#32
  let arg1 : BitVec 32 := BitVec.ofNat 32 (i 1).val
  let c512_i32 : BitVec 32 := 512#32
  let v13 : BitVec 32 := Scalar.muli arg1 c512_i32
  let v14 : BitVec 32 := v13
  let v18 : Index := Scalar.indexCast v14
  let c0_14 : Index := 0#32
  ![1, v18.toNat, 0]
@[reducible] def k0_t1_loop (i : grid0.Coords) : Scf.Loop 32 :=
  let arg1 : BitVec 32 := BitVec.ofNat 32 (i 1).val
  let c1_i32 : BitVec 32 := 1#32
  let v75 : BitVec 32 := Scalar.addi arg1 c1_i32
  let c16_i32 : BitVec 32 := 16#32
  let v76 : BitVec 32 := Scalar.subi c16_i32 v75
  let c1_i32_39 : BitVec 32 := 1#32
  let v78 : BitVec 32 := Scalar.divsi v76 c1_i32_39
  let v79 : BitVec 32 := Scalar.muli v78 c1_i32_39
  let v80 : BitVec 32 := Scalar.addi v75 v79
  let c1_i32_40 : BitVec 32 := 1#32
  ⟨v75, v80, c1_i32_40⟩
def k0_mult2 (i : grid0.Coords) (k0_t1 : Fin (k0_t1_loop i).trips) : BitVec 32 :=
  let arg1 : BitVec 32 := BitVec.ofNat 32 (i 1).val
  let c1_i32 : BitVec 32 := 1#32
  let v75 : BitVec 32 := Scalar.addi arg1 c1_i32
  let c1_i32_40 : BitVec 32 := 1#32
  let arg10 : BitVec 32 := Scf.iv v75 c1_i32_40 k0_t1
  let c512_i32_57 : BitVec 32 := 512#32
  let v130 : BitVec 32 := Scalar.muli arg10 c512_i32_57
  v130
def k0_off3 (i : grid0.Coords) (k0_t1 : Fin (k0_t1_loop i).trips) : Fin 3 → Nat :=
  let c0_58 : Index := 0#32
  let arg1 : BitVec 32 := BitVec.ofNat 32 (i 1).val
  let c1_i32 : BitVec 32 := 1#32
  let v75 : BitVec 32 := Scalar.addi arg1 c1_i32
  let c1_i32_40 : BitVec 32 := 1#32
  let arg10 : BitVec 32 := Scf.iv v75 c1_i32_40 k0_t1
  let c512_i32_57 : BitVec 32 := 512#32
  let v130 : BitVec 32 := Scalar.muli arg10 c512_i32_57
  let v131 : BitVec 32 := v130
  let v132 : Index := Scalar.indexCast v131
  let c0_59 : Index := 0#32
  ![0, v132.toNat, 0]
def k0_off4 (i : grid0.Coords) (k0_t1 : Fin (k0_t1_loop i).trips) : Fin 3 → Nat :=
  let c1_60 : Index := 1#32
  let arg1 : BitVec 32 := BitVec.ofNat 32 (i 1).val
  let c1_i32 : BitVec 32 := 1#32
  let v75 : BitVec 32 := Scalar.addi arg1 c1_i32
  let c1_i32_40 : BitVec 32 := 1#32
  let arg10 : BitVec 32 := Scf.iv v75 c1_i32_40 k0_t1
  let c512_i32_57 : BitVec 32 := 512#32
  let v130 : BitVec 32 := Scalar.muli arg10 c512_i32_57
  let v131 : BitVec 32 := v130
  let v135 : Index := Scalar.indexCast v131
  let c0_61 : Index := 0#32
  ![1, v135.toNat, 0]
@[reducible] def k0_t2_loop (i : grid0.Coords) : Scf.Loop 32 :=
  let arg1 : BitVec 32 := BitVec.ofNat 32 (i 1).val
  let c1_i32 : BitVec 32 := 1#32
  let v75 : BitVec 32 := Scalar.addi arg1 c1_i32
  let c16_i32 : BitVec 32 := 16#32
  let v76 : BitVec 32 := Scalar.subi c16_i32 v75
  let c1_i32_39 : BitVec 32 := 1#32
  let v78 : BitVec 32 := Scalar.divsi v76 c1_i32_39
  let v79 : BitVec 32 := Scalar.muli v78 c1_i32_39
  let v80 : BitVec 32 := Scalar.addi v75 v79
  let v77 : BitVec 32 := Scalar.addi v75 v76
  let c1_i32_41 : BitVec 32 := 1#32
  ⟨v80, v77, c1_i32_41⟩
def k0_mult3 (i : grid0.Coords) (k0_t2 : Fin (k0_t2_loop i).trips) : BitVec 32 :=
  let arg1 : BitVec 32 := BitVec.ofNat 32 (i 1).val
  let c1_i32 : BitVec 32 := 1#32
  let v75 : BitVec 32 := Scalar.addi arg1 c1_i32
  let c16_i32 : BitVec 32 := 16#32
  let v76 : BitVec 32 := Scalar.subi c16_i32 v75
  let c1_i32_39 : BitVec 32 := 1#32
  let v78 : BitVec 32 := Scalar.divsi v76 c1_i32_39
  let v79 : BitVec 32 := Scalar.muli v78 c1_i32_39
  let v80 : BitVec 32 := Scalar.addi v75 v79
  let c1_i32_41 : BitVec 32 := 1#32
  let arg10 : BitVec 32 := Scf.iv v80 c1_i32_41 k0_t2
  let c512_i32_57 : BitVec 32 := 512#32
  let v130 : BitVec 32 := Scalar.muli arg10 c512_i32_57
  v130
def k0_off5 (i : grid0.Coords) (k0_t2 : Fin (k0_t2_loop i).trips) : Fin 3 → Nat :=
  let c0_58 : Index := 0#32
  let arg1 : BitVec 32 := BitVec.ofNat 32 (i 1).val
  let c1_i32 : BitVec 32 := 1#32
  let v75 : BitVec 32 := Scalar.addi arg1 c1_i32
  let c16_i32 : BitVec 32 := 16#32
  let v76 : BitVec 32 := Scalar.subi c16_i32 v75
  let c1_i32_39 : BitVec 32 := 1#32
  let v78 : BitVec 32 := Scalar.divsi v76 c1_i32_39
  let v79 : BitVec 32 := Scalar.muli v78 c1_i32_39
  let v80 : BitVec 32 := Scalar.addi v75 v79
  let c1_i32_41 : BitVec 32 := 1#32
  let arg10 : BitVec 32 := Scf.iv v80 c1_i32_41 k0_t2
  let c512_i32_57 : BitVec 32 := 512#32
  let v130 : BitVec 32 := Scalar.muli arg10 c512_i32_57
  let v131 : BitVec 32 := v130
  let v132 : Index := Scalar.indexCast v131
  let c0_59 : Index := 0#32
  ![0, v132.toNat, 0]
def k0_off6 (i : grid0.Coords) (k0_t2 : Fin (k0_t2_loop i).trips) : Fin 3 → Nat :=
  let c1_60 : Index := 1#32
  let arg1 : BitVec 32 := BitVec.ofNat 32 (i 1).val
  let c1_i32 : BitVec 32 := 1#32
  let v75 : BitVec 32 := Scalar.addi arg1 c1_i32
  let c16_i32 : BitVec 32 := 16#32
  let v76 : BitVec 32 := Scalar.subi c16_i32 v75
  let c1_i32_39 : BitVec 32 := 1#32
  let v78 : BitVec 32 := Scalar.divsi v76 c1_i32_39
  let v79 : BitVec 32 := Scalar.muli v78 c1_i32_39
  let v80 : BitVec 32 := Scalar.addi v75 v79
  let c1_i32_41 : BitVec 32 := 1#32
  let arg10 : BitVec 32 := Scf.iv v80 c1_i32_41 k0_t2
  let c512_i32_57 : BitVec 32 := 512#32
  let v130 : BitVec 32 := Scalar.muli arg10 c512_i32_57
  let v131 : BitVec 32 := v130
  let v135 : Index := Scalar.indexCast v131
  let c0_61 : Index := 0#32
  ![1, v135.toNat, 0]
def k0_cond2 (i : grid0.Coords) : BitVec 1 :=
  let arg1 : BitVec 32 := BitVec.ofNat 32 (i 1).val
  let c15_i32 : BitVec 32 := 15#32
  let v127 : BitVec 1 := Scalar.cmpi .eq arg1 c15_i32
  let v128 : BitVec 32 := Scalar.extui v127
  let c0_i32_56 : BitVec 32 := 0#32
  let v129 : BitVec 1 := Scalar.cmpi .ne v128 c0_i32_56
  v129

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8192x16x64 : Shape := ⟨3, ![8192, 16, 64]⟩
abbrev S16x8192 : Shape := ⟨2, ![16, 8192]⟩
abbrev S16x8192x1 : Shape := ⟨3, ![16, 8192, 1]⟩
abbrev S16x1x8192 : Shape := ⟨3, ![16, 1, 8192]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S16x8192x64 : Shape := ⟨3, ![16, 8192, 64]⟩

abbrev nBuf : Space → Nat
  | .hbm => 109
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S16x8192, .f32⟩
  | .hbm, ⟨4, _⟩ => ⟨S8192x16x64, .f32⟩
  | .hbm, ⟨5, _⟩ => ⟨S16x8192x1, .f32⟩
  | .hbm, ⟨6, _⟩ => ⟨S16x1x8192, .f32⟩
  | .hbm, ⟨7, _⟩ => ⟨S16x8192x8192, .f32⟩
  | .hbm, ⟨8, _⟩ => ⟨S16x8192x8192, .f32⟩
  | .hbm, ⟨9, _⟩ => ⟨S16x8192x8192, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S16x8192x8192, .f32⟩
  | .hbm, ⟨15, _⟩ => ⟨S8192, .i32⟩
  | .hbm, ⟨16, _⟩ => ⟨S1x8192, .i32⟩
  | .hbm, ⟨17, _⟩ => ⟨S8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S16x8192x8192, .i1⟩
  | .hbm, ⟨25, _⟩ => ⟨S16x8192x8192, .f32⟩
  | .hbm, ⟨26, _⟩ => ⟨S16x8192x8192, .f32⟩
  | .hbm, ⟨27, _⟩ => ⟨S_, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S16x8192x1, .f32⟩
  | .hbm, ⟨32, _⟩ => ⟨S16x8192x8192, .f32⟩
  | .hbm, ⟨33, _⟩ => ⟨S16x8192x8192, .i1⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S_, .f32⟩
  | .hbm, ⟨38, _⟩ => ⟨S16x8192, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .i1⟩
  | .hbm, ⟨43, _⟩ => ⟨S_, .f32⟩
  | .hbm, ⟨44, _⟩ => ⟨S16x8192, .f32⟩
  | .hbm, ⟨45, _⟩ => ⟨S16x8192, .i1⟩
  | .hbm, ⟨46, _⟩ => ⟨S_, .f32⟩
  | .hbm, ⟨47, _⟩ => ⟨S16x8192, .f32⟩
  | .hbm, ⟨48, _⟩ => ⟨S_, .f32⟩
  | .hbm, ⟨49, _⟩ => ⟨S16x8192, .f32⟩
  | .hbm, ⟨50, _⟩ => ⟨S_, .f32⟩
  | .hbm, ⟨51, _⟩ => ⟨S16x8192, .f32⟩
  | .hbm, ⟨52, _⟩ => ⟨S16x8192, .f32⟩
  | .hbm, ⟨53, _⟩ => ⟨S16x8192, .f32⟩
  | .hbm, ⟨54, _⟩ => ⟨S16x8192x1, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S_, .f32⟩
  | .hbm, ⟨59, _⟩ => ⟨S16x8192, .f32⟩
  | .hbm, ⟨60, _⟩ => ⟨S16x8192x1, .f32⟩
  | .hbm, ⟨61, _⟩ => ⟨S16x8192x8192, .f32⟩
  | .hbm, ⟨62, _⟩ => ⟨S16x8192x8192, .f32⟩
  | .hbm, ⟨63, _⟩ => ⟨S16x8192x1, .f32⟩
  | .hbm, ⟨64, _⟩ => ⟨S_, .f32⟩
  | .hbm, ⟨65, _⟩ => ⟨S16x8192x1, .f32⟩
  | .hbm, ⟨66, _⟩ => ⟨S16x8192x1, .f32⟩
  | .hbm, ⟨67, _⟩ => ⟨S16x64x8192, .f32⟩
  | .hbm, ⟨68, _⟩ => ⟨S8192x16x64, .f32⟩
  | .hbm, ⟨69, _⟩ => ⟨S16x64x8192, .f32⟩
  | .hbm, ⟨70, _⟩ => ⟨S16x8192x8192, .f32⟩
  | .hbm, ⟨71, _⟩ => ⟨S16x64x8192, .f32⟩
  | .hbm, ⟨72, _⟩ => ⟨S8192x16x64, .f32⟩
  | .hbm, ⟨73, _⟩ => ⟨S16x8192x8192, .f32⟩
  | .hbm, ⟨74, _⟩ => ⟨S16x8192x8192, .f32⟩
  | .hbm, ⟨75, _⟩ => ⟨S16x8192x8192, .f32⟩
  | .hbm, ⟨76, _⟩ => ⟨S_, .f32⟩
  | .hbm, ⟨77, _⟩ => ⟨S16x8192, .f32⟩
  | .hbm, ⟨78, _⟩ => ⟨S16x8192x1, .f32⟩
  | .hbm, ⟨79, _⟩ => ⟨S16x8192x1, .f32⟩
  | .hbm, ⟨80, _⟩ => ⟨S16x8192x8192, .f32⟩
  | .hbm, ⟨81, _⟩ => ⟨S16x8192x8192, .f32⟩
  | .hbm, ⟨82, _⟩ => ⟨S_, .f32⟩
  | .hbm, ⟨83, _⟩ => ⟨S16x8192, .f32⟩
  | .hbm, ⟨84, _⟩ => ⟨S16x8192x8192, .f32⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192x8192, .f32⟩
  | .hbm, ⟨89, _⟩ => ⟨S16x8192x8192, .f32⟩
  | .hbm, ⟨90, _⟩ => ⟨S_, .f32⟩
  | .hbm, ⟨91, _⟩ => ⟨S16x8192x8192, .f32⟩
  | .hbm, ⟨92, _⟩ => ⟨S16x8192x8192, .f32⟩
  | .hbm, ⟨93, _⟩ => ⟨S16x8192x64, .f32⟩
  | .hbm, ⟨94, _⟩ => ⟨S8192x16x64, .f32⟩
  | .hbm, ⟨95, _⟩ => ⟨S16x8192x64, .f32⟩
  | .hbm, ⟨96, _⟩ => ⟨S8192x16x64, .f32⟩
  | .hbm, ⟨97, _⟩ => ⟨S_, .f32⟩
  | .hbm, ⟨98, _⟩ => ⟨S16x8192, .f32⟩
  | .hbm, ⟨99, _⟩ => ⟨S16x8192x1, .f32⟩
  | .hbm, ⟨100, _⟩ => ⟨S16x8192x8192, .f32⟩
  | .hbm, ⟨101, _⟩ => ⟨S_, .f32⟩
  | .hbm, ⟨102, _⟩ => ⟨S16x8192, .f32⟩
  | .hbm, ⟨103, _⟩ => ⟨S16x1x8192, .f32⟩
  | .hbm, ⟨104, _⟩ => ⟨S_, .f32⟩
  | .hbm, ⟨105, _⟩ => ⟨S16x8192, .f32⟩
  | .hbm, ⟨106, _⟩ => ⟨S_, .f32⟩
  | .hbm, ⟨107, _⟩ => ⟨S16x8192, .f32⟩
  | .hbm, ⟨108, _⟩ => ⟨S16x8192, .f32⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]
-- ==== Kernel3.lean ====
abbrev S8192x1024 : Shape := ⟨2, ![8192, 1024]⟩
abbrev S1024x5632 : Shape := ⟨2, ![1024, 5632]⟩
abbrev S8192x5632 : Shape := ⟨2, ![8192, 5632]⟩
abbrev S8192x2x2816 : Shape := ⟨3, ![8192, 2, 2816]⟩
abbrev S2x8192x2816 : Shape := ⟨3, ![2, 8192, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .hbm, ⟨3, _⟩ => ⟨S8192x2x2816, .bf16⟩
  | .hbm, ⟨4, _⟩ => ⟨S2x8192x2816, .bf16⟩
  | .hbm, ⟨5, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S1024x4x1408, .bf16⟩
  | .hbm, ⟨11, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1024x4096 : Shape := ⟨2, ![1024, 4096]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1024x4224 : Shape := ⟨2, ![1024, 4224]⟩
abbrev S8192x4224 : Shape := ⟨2, ![8192, 4224]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4224, .bf16⟩
  | .hbm, ⟨2, _⟩ => ⟨S8192x4224, .bf16⟩
  | .hbm, ⟨3, _⟩ => ⟨S1024x4224, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x4224 : Shape := ⟨2, ![1024, 4224]⟩
abbrev S8192x4224 : Shape := ⟨2, ![8192, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4224, .bf16⟩
  | .hbm, ⟨2, _⟩ => ⟨S8192x4224, .bf16⟩
  | .hbm, ⟨3, _⟩ => ⟨S1024x4224, .f32⟩
  | .hbm, ⟨4, _⟩ => ⟨S8192x1024, .f32⟩
  | .hbm, ⟨5, _⟩ => ⟨S8192x4224, .f32⟩
  | .hbm, ⟨6, _⟩ => ⟨S8192x4224, .f32⟩
  | .hbm, ⟨7, _⟩ => ⟨S4224x1024, .f32⟩
  | .hbm, ⟨8, _⟩ => ⟨S1024x4224, .f32⟩
  | .hbm, ⟨9, _⟩ => ⟨S1024x4224, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1024x4x1024 : Shape := ⟨3, ![1024, 4, 1024]⟩
abbrev S4x1024x1024 : Shape := ⟨3, ![4, 1024, 1024]⟩
abbrev S8x1024 : Shape := ⟨2, ![8, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S8192x1024, .f32⟩
  | .hbm, ⟨8, _⟩ => ⟨S8192x4096, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S1024x4x1024, .bf16⟩
  | .hbm, ⟨14, _⟩ => ⟨S4x1024x1024, .bf16⟩
  | .hbm, ⟨15, _⟩ => ⟨S8192x1024, .f32⟩
  | .hbm, ⟨16, _⟩ => ⟨S8192x1024, .bf16⟩
  | .hbm, ⟨17, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S8192x1024, .f32⟩
  | .hbm, ⟨8, _⟩ => ⟨S8192x4096, .bf16⟩
  | .hbm, ⟨9, _⟩ => ⟨S1024x4096, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x4096, .f32⟩
  | .hbm, ⟨41, _⟩ => ⟨S8192x4096, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .bf16⟩
  | .hbm, ⟨84, _⟩ => ⟨S_, .f32⟩
  | .hbm, ⟨85, _⟩ => ⟨S4x1024, .f32⟩
  | .hbm, ⟨86, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x4224 : Shape := ⟨2, ![1024, 4224]⟩
abbrev S8192x4224 : Shape := ⟨2, ![8192, 4224]⟩
abbrev S8x1024 : Shape := ⟨2, ![8, 1024]⟩
abbrev S512x1024 : Shape := ⟨2, ![512, 1024]⟩
abbrev S512x4224 : Shape := ⟨2, ![512, 4224]⟩
abbrev S512x1408 : Shape := ⟨2, ![512, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4224, .bf16⟩
  | .hbm, ⟨5, _⟩ => ⟨S8192x1024, .f32⟩
  | .hbm, ⟨6, _⟩ => ⟨S8192x4224, .bf16⟩
  | .hbm, ⟨7, _⟩ => ⟨S8192x1024, .f32⟩
  | .hbm, ⟨8, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x4224, .bf16⟩
  | .local _ .vmem, ⟨3, _⟩ => ⟨S512x4224, .bf16⟩
  | .local _ .vmem, ⟨4, _⟩ => ⟨S1024x4224, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S8192x1024 : Shape := ⟨2, ![8192, 1024]⟩
abbrev S1x1024 : Shape := ⟨2, ![1, 1024]⟩
abbrev S1024x4224 : Shape := ⟨2, ![1024, 4224]⟩
abbrev S8192x4224 : Shape := ⟨2, ![8192, 4224]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4224, .bf16⟩
  | .hbm, ⟨5, _⟩ => ⟨S8192x1024, .f32⟩
  | .hbm, ⟨6, _⟩ => ⟨S8192x4224, .bf16⟩
  | .hbm, ⟨7, _⟩ => ⟨S1024x4224, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x4224, .f32⟩
  | .hbm, ⟨35, _⟩ => ⟨S8192x4224, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S5x1024, .f32⟩
  | .hbm, ⟨72, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel11.lean ====
abbrev S8192x2048 : Shape := ⟨2, ![8192, 2048]⟩
abbrev S2048x1024 : Shape := ⟨2, ![2048, 1024]⟩
abbrev S8192x1024 : Shape := ⟨2, ![8192, 1024]⟩
abbrev S512x1024 : Shape := ⟨2, ![512, 1024]⟩
abbrev S512x2048 : Shape := ⟨2, ![512, 2048]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S_ : Shape := ⟨0, ![]⟩
abbrev S1x5632 : Shape := ⟨2, ![1, 5632]⟩
abbrev S2x8192x2816 : Shape := ⟨3, ![2, 8192, 2816]⟩
abbrev S512x1024 : Shape := ⟨2, ![512, 1024]⟩
abbrev S2x512x2816 : Shape := ⟨3, ![2, 512, 2816]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x1408 : Shape := ⟨2, ![1, 1408]⟩
abbrev S1x512x1408 : Shape := ⟨3, ![1, 512, 1408]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S_, .f32⟩
  | .hbm, ⟨8, _⟩ => ⟨S1x5632, .f32⟩
  | .hbm, ⟨9, _⟩ => ⟨S2x8192x2816, .bf16⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S4x1024x1408, .bf16⟩
  | .local _ .vmem, ⟨6, _⟩ => ⟨S1x5632, .f32⟩
  | .local _ .vmem, ⟨7, _⟩ => ⟨S2x512x2816, .bf16⟩
  | .local _ .vmem, ⟨8, _⟩ => ⟨S2x512x2816, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2x2816 : Shape := ⟨3, ![8192, 2, 2816]⟩
abbrev S2x8192x2816 : Shape := ⟨3, ![2, 8192, 2816]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x5632, .f32⟩
  | .hbm, ⟨28, _⟩ => ⟨S8192x5632, .f32⟩
  | .hbm, ⟨29, _⟩ => ⟨S8192x5632, .bf16⟩
  | .hbm, ⟨30, _⟩ => ⟨S8192x2x2816, .bf16⟩
  | .hbm, ⟨31, _⟩ => ⟨S2x8192x2816, .bf16⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S1024x4096 : Shape := ⟨2, ![1024, 4096]⟩
abbrev S1x4096 : Shape := ⟨2, ![1, 4096]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .bf16⟩
  | .hbm, ⟨5, _⟩ => ⟨S1x4096, .f32⟩
  | .hbm, ⟨6, _⟩ => ⟨S1024x4x1024, .bf16⟩
  | .hbm, ⟨7, _⟩ => ⟨S4x1024x1024, .bf16⟩
  | .hbm, ⟨8, _⟩ => ⟨S8192x4096, .bf16⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S4x1024x1024, .bf16⟩
  | .local _ .vmem, ⟨6, _⟩ => ⟨S1x4096, .f32⟩
  | .local _ .vmem, ⟨7, _⟩ => ⟨S512x4096, .bf16⟩
  | .local _ .vmem, ⟨8, _⟩ => ⟨S512x4096, .bf16⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8192x1024 : Shape := ⟨2, ![8192, 1024]⟩
abbrev S1x1024 : Shape := ⟨2, ![1, 1024]⟩
abbrev S1024x4096 : Shape := ⟨2, ![1024, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .bf16⟩
  | .hbm, ⟨5, _⟩ => ⟨S1x4096, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S1024x4224 : Shape := ⟨2, ![1024, 4224]⟩
abbrev S_ : Shape := ⟨0, ![]⟩
abbrev S1x4224 : Shape := ⟨2, ![1, 4224]⟩
abbrev S8192x4224 : Shape := ⟨2, ![8192, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1x1408 : Shape := ⟨2, ![1, 1408]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4224, .bf16⟩
  | .hbm, ⟨5, _⟩ => ⟨S_, .f32⟩
  | .hbm, ⟨6, _⟩ => ⟨S1x4224, .f32⟩
  | .hbm, ⟨7, _⟩ => ⟨S8192x4224, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x4224, .bf16⟩
  | .local _ .vmem, ⟨6, _⟩ => ⟨S1x4224, .f32⟩
  | .local _ .vmem, ⟨7, _⟩ => ⟨S512x4224, .f32⟩
  | .local _ .vmem, ⟨8, _⟩ => ⟨S512x4224, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4224 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8192x1024 : Shape := ⟨2, ![8192, 1024]⟩
abbrev S1x1024 : Shape := ⟨2, ![1, 1024]⟩
abbrev S1024x4224 : Shape := ⟨2, ![1024, 4224]⟩
abbrev S_ : Shape := ⟨0, ![]⟩
abbrev S8192 : Shape := ⟨1, ![8192]⟩
abbrev S8192x1 : Shape := ⟨2, ![8192, 1]⟩
abbrev S8192x4224 : Shape := ⟨2, ![8192, 4224]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4224, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x4224, .f32⟩
  | .hbm, ⟨28, _⟩ => ⟨S8192x4224, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.NormRow.lean ====
/-
  ONE ROW OF THE BACKWARD PASS OF A MODULATED RMS NORM, OVER THE EXTENDED REALS.

  A row `x` of 1024 numbers is scaled by `r = 1 / sqrt (mean (x * x) + eps)`. With `t = h * (1 + sc) * ng` the cotangent
  that reaches the scaled row, its gradient is written in two ways:
    `dxK`: `ct + r * (t - (x r) * mean (t * (x r)))`, with one fused mean;
    `dxR`: `ct + t * r + x * q + q * x`, where `q = (sum (x * t)) * (-1/2 * (r / v)) / 1024` and `v = mean (x * x) + eps`:
    the transposed steps of the forward lines, one by one.
  `dxK_eq_dxR`: they are equal for EVERY row of extended reals, infinite entries included.
-/
module

public import Idealize.ShloMosaic.Lib.Pointwise

@[expose] public section

noncomputable section

namespace Cert.NormRow

open Idealize.ShloMosaic

/-- The row length, 1024, as the constant the programs carry. -/
abbrev cN : EReal := Ideal.ofBits .f32 0x44800000#32
/-- The norm's epsilon, as the constant the programs carry. -/
abbrev cE : EReal := Ideal.ofBits .f32 0x358637BD#32
/-- Minus one half, as the constant the programs carry. -/
abbrev cH : EReal := Ideal.ofBits .f32 0xBF000000#32

theorem cN_eq : cN = ((1024 : ℝ) : EReal) := by
  simp [cN, Ideal.ofBits, Ideal.ieee, -EReal.coe_mul]; norm_num

theorem cH_eq : cH = ((-(1 / 2) : ℝ) : EReal) := by
  simp [cH, Ideal.ofBits, Ideal.ieee, -EReal.coe_mul]; norm_num

/-- The epsilon is a positive real. -/
theorem cE_pos : ∃ e : ℝ, 0 < e ∧ cE = (e : EReal) := by
  refine ⟨_, ?_, by simp only [cE, Ideal.ofBits, Ideal.ieee]; simp [-EReal.coe_mul]; rfl⟩
  norm_num

/-- The mean of the squares of a row, plus epsilon. -/
def ms (x : Fin 1024 → EReal) : EReal := Ideal.div (∑ k, x k * x k) cN + cE
/-- Its reciprocal square root. -/
def rs (x : Fin 1024 → EReal) : EReal := Ideal.rsqrt (ms x)
/-- The cotangent that reaches the scaled row. -/
def tt (h sc ng : Fin 1024 → EReal) (k : Fin 1024) : EReal := h k * (1 + sc k) * ng k
/-- The row's gradient, with one fused mean. -/
def dxK (ct x h sc ng : Fin 1024 → EReal) (j : Fin 1024) : EReal :=
  ct j + rs x * (tt h sc ng j - x j * rs x * Ideal.div (∑ k, tt h sc ng k * (x k * rs x)) cN)
/-- The factor by which the norm's own gradient scales the row. -/
def qq (x h sc ng : Fin 1024 → EReal) : EReal :=
  Ideal.div ((∑ k, x k * tt h sc ng k) * (cH * Ideal.div (rs x) (ms x))) cN
/-- The row's gradient, the transposed forward steps one by one. -/
def dxR (ct x h sc ng : Fin 1024 → EReal) (j : Fin 1024) : EReal :=
  ct j + tt h sc ng j * rs x + x j * qq x h sc ng + qq x h sc ng * x j

theorem sq_nonneg (a : EReal) : 0 ≤ a * a := by
  induction a using EReal.rec with
  | bot => simp
  | top => simp
  | coe a => rw [← EReal.coe_mul]; exact_mod_cast mul_self_nonneg a

/-- A real factor that is not negative distributes over a sum. -/
theorem mul_sum_of_nonneg {n : Nat} (r : ℝ) (hr : 0 ≤ r) (f : Fin n → EReal) :
    (r : EReal) * ∑ k, f k = ∑ k, (r : EReal) * f k := by
  have key : ∀ s : Finset (Fin n), (r : EReal) * ∑ k ∈ s, f k = ∑ k ∈ s, (r : EReal) * f k := by
    intro s
    induction s using Finset.induction_on with
    | empty => simp
    | insert a s ha ih =>
      rw [Finset.sum_insert ha, Finset.sum_insert ha, ← ih,
        EReal.left_distrib_of_nonneg_of_ne_top (by exact_mod_cast hr) (EReal.coe_ne_top r)]
  exact key _

/-- Two copies of the same infinite-or-finite number times half a real are the whole. -/
theorem half_add_half (S : EReal) (k : ℝ) : S * ((-(k / 2) : ℝ) : EReal) + S * ((-(k / 2) : ℝ) : EReal) = -(S * (k : EReal)) := by
  induction S using EReal.rec with
  | coe s => norm_cast; ring
  | top =>
    rcases lt_trichotomy k 0 with hk | rfl | hk
    · rw [EReal.top_mul_coe_of_pos (by linarith), EReal.top_mul_coe_of_neg hk]; rfl
    · simp
    · rw [EReal.top_mul_coe_of_neg (by linarith), EReal.top_mul_coe_of_pos hk]; rfl
  | bot =>
    rcases lt_trichotomy k 0 with hk | rfl | hk
    · rw [EReal.bot_mul_coe_of_pos (by linarith), EReal.bot_mul_coe_of_neg hk]; rfl
    · simp
    · rw [EReal.bot_mul_coe_of_neg (by linarith), EReal.bot_mul_coe_of_pos hk]; rfl

/-- Either the mean of squares is infinite, or it is a positive real and the whole row is real. -/
theorem ms_cases (x : Fin 1024 → EReal) :
    ms x = ⊤ ∨ ∃ (v : ℝ) (y : Fin 1024 → ℝ), 0 < v ∧ ms x = (v : EReal) ∧ ∀ k, x k = (y k : EReal) := by
  obtain ⟨e, he, hE⟩ := cE_pos
  have h0 : 0 ≤ ∑ k, x k * x k := Finset.sum_nonneg fun k _ => sq_nonneg (x k)
  unfold ms
  rw [hE, cN_eq, Ideal.div_coe (by norm_num)]
  generalize hs : (∑ k, x k * x k) = s at h0
  induction s using EReal.rec with
  | bot => simp at h0
  | top => left; rw [EReal.top_mul_coe_of_pos (by norm_num)]; rfl
  | coe s =>
    right
    have hs0 : 0 ≤ s := by exact_mod_cast h0
    have hx : ∀ k, ∃ y : ℝ, x k = (y : EReal) := by
      intro k
      have hle : x k * x k ≤ (s : EReal) :=
        hs ▸ Finset.single_le_sum (f := fun k => x k * x k) (fun k _ => sq_nonneg (x k)) (Finset.mem_univ k)
      generalize x k = a at hle
      induction a using EReal.rec with
      | bot => simp at hle
      | top => simp at hle
      | coe a => exact ⟨a, rfl⟩
    choose y hy using hx
    refine ⟨s * (1 / 1024) + e, y, by positivity, ?_, hy⟩
    norm_cast

/-- The two ways to write the gradient agree, for every row of extended reals. -/
theorem dxK_eq_dxR (ct x h sc ng : Fin 1024 → EReal) (j : Fin 1024) : dxK ct x h sc ng j = dxR ct x h sc ng j := by
  unfold dxK dxR qq rs
  generalize tt h sc ng = t
  rcases ms_cases x with hv | ⟨v, y, hv0, hv, hy⟩
  · rw [hv, Ideal.rsqrt_top]
    simp [Ideal.div, cN_eq]
  · rw [hv, Ideal.rsqrt_coe, if_neg (by linarith), if_neg (by linarith)]
    have hr0 : 0 < (Real.sqrt v)⁻¹ := inv_pos.mpr (Real.sqrt_pos.mpr hv0)
    have hr2 : 1 / v = (Real.sqrt v)⁻¹ * (Real.sqrt v)⁻¹ := by
      rw [← mul_inv, Real.mul_self_sqrt hv0.le, one_div]
    generalize (Real.sqrt v)⁻¹ = r at hr0 hr2
    rw [cN_eq, cH_eq, Ideal.div_coe (by norm_num), Ideal.div_coe (by norm_num), Ideal.div_coe hv0.ne', hr2]
    have e1 : (∑ k, t k * (x k * (r : EReal))) = (r : EReal) * ∑ k, x k * t k := by
      rw [mul_sum_of_nonneg r hr0.le]
      exact Finset.sum_congr rfl fun k _ => by ac_rfl
    rw [e1, hy j]
    generalize (∑ k, x k * t k) = S
    have e2 : ((y j : ℝ) : EReal) * (r : EReal) * ((r : EReal) * S * ((1 / 1024 : ℝ) : EReal))
        = S * ((y j * r * r / 1024 : ℝ) : EReal) := by
      have : ((y j * r * r / 1024 : ℝ) : EReal) = (y j : EReal) * r * r * ((1 / 1024 : ℝ) : EReal) := by
        norm_cast; ring
      rw [this]; ac_rfl
    have e3 : S * (((-(1 / 2) : ℝ) : EReal) * ((r : EReal) * ((r * r : ℝ) : EReal))) * ((1 / 1024 : ℝ) : EReal)
        = S * ((-(r * r * r / 1024 / 2) : ℝ) : EReal) := by
      rw [mul_assoc]; congr 1; norm_cast; ring
    have e4 : (y j : EReal) * (S * ((-(r * r * r / 1024 / 2) : ℝ) : EReal))
        = S * ((-((y j * r * r * r / 1024) / 2) : ℝ) : EReal) := by
      rw [mul_left_comm]; congr 1; norm_cast; ring
    rw [e2, e3, mul_comm (S * _) (y j : EReal), e4, add_assoc, half_add_half, sub_eq_add_neg,
      EReal.left_distrib_of_nonneg_of_ne_top (by exact_mod_cast hr0.le) (EReal.coe_ne_top r), mul_neg, mul_comm (t j),
      add_assoc, mul_left_comm]
    congr 4
    norm_cast; ring

end Cert.NormRow
-- ==== Proof.NormSpec.lean ====
/-
  THE RESULTS OF THE NORM'S BACKWARD PASS, AS FUNCTIONS OF THE ARGUMENT ARRAYS.

  The forward lines: `x = xp + g * y`, `h = (x r) * ng * (1 + sc) + sh` with `r = 1 / sqrt (mean (x * x) + eps)`, and the
  product `h w`. Given the cotangent `ct` of `x` and the cotangent `a` of the product, `Args` collects the arrays and
  `Args.dx`, `Args.dy`, `Args.red` are the gradients: of `xp`; of `y`; and eight rows, the gradients of `sh`, `sc`, `ng`,
  `g` and four rows of zeros. The contracted length `K` is a parameter.
-/
module

public import proofs.«01_k».proof.Proof.NormRow

@[expose] public section

noncomputable section

namespace Cert.NormSpec

open Idealize.ShloMosaic Cert.NormRow

/-- The argument arrays. -/
structure Args (K : Nat) where
  xp : FVec Ideal ⟨2, ![8192, 1024]⟩ .f32
  y : FVec Ideal ⟨2, ![8192, 1024]⟩ .bf16
  g : FVec Ideal ⟨2, ![1, 1024]⟩ .f32
  ng : FVec Ideal ⟨2, ![1, 1024]⟩ .f32
  sc : FVec Ideal ⟨2, ![1, 1024]⟩ .f32
  w : FVec Ideal ⟨2, ![1024, K]⟩ .bf16
  ct : FVec Ideal ⟨2, ![8192, 1024]⟩ .f32
  a : FVec Ideal ⟨2, ![8192, K]⟩ .bf16

namespace Args
variable {K : Nat} (A : Args K)

/-- The normed rows, `xp + g * y`. -/
def X (i : Fin 8192) (k : Fin 1024) : EReal := A.xp (ix2 i k) + A.g (ix2 0 k) * A.y (ix2 i k)
/-- The cotangent of the product's left factor: `a` times the transpose of `w`. -/
def H (i : Fin 8192) (j : Fin 1024) : EReal := ∑ l : Fin K, A.a (ix2 i l) * A.w (ix2 j l)
/-- The gradient of `xp` at a row and a column. -/
def DX (i : Fin 8192) (j : Fin 1024) : EReal :=
  dxR (fun k => A.ct (ix2 i k)) (A.X i) (A.H i) (fun k => A.sc (ix2 0 k)) (fun k => A.ng (ix2 0 k)) j
/-- What row `i` of the inputs adds to place `(r, j)` of the reduced rows. -/
def term (r : Fin 8) (i : Fin 8192) (j : Fin 1024) : EReal :=
  if r.val = 0 then A.H i j
  else if r.val = 1 then A.H i j * (A.X i j * rs (A.X i) * A.ng (ix2 0 j))
  else if r.val = 2 then A.H i j * (1 + A.sc (ix2 0 j)) * (A.X i j * rs (A.X i))
  else if r.val = 3 then A.DX i j * A.y (ix2 i j)
  else 0
theorem term_0 {r : Fin 8} (h : r.val = 0) (i j) : A.term r i j = A.H i j := by simp only [term, h, if_true]
theorem term_1 {r : Fin 8} (h : r.val = 1) (i j) : A.term r i j = A.H i j * (A.X i j * rs (A.X i) * A.ng (ix2 0 j)) := by
  simp [term, h]
theorem term_2 {r : Fin 8} (h : r.val = 2) (i j) :
    A.term r i j = A.H i j * (1 + A.sc (ix2 0 j)) * (A.X i j * rs (A.X i)) := by
  simp [term, h]
theorem term_3 {r : Fin 8} (h : r.val = 3) (i j) : A.term r i j = A.DX i j * A.y (ix2 i j) := by simp [term, h]
theorem term_4 {r : Fin 8} (h : 4 ≤ r.val) (i j) : A.term r i j = 0 := by
  rw [term, if_neg (by omega), if_neg (by omega), if_neg (by omega), if_neg (by omega)]

/-- The gradient of `xp`. -/
def dx : FVec Ideal ⟨2, ![8192, 1024]⟩ .f32 := fun p => A.DX (p 0) (p 1)
/-- The gradient of `y`. -/
def dy : FVec Ideal ⟨2, ![8192, 1024]⟩ .bf16 := fun p => A.DX (p 0) (p 1) * A.g (ix2 0 (p 1))
/-- The reduced rows: each a sum over all 8192 rows. -/
def red : FVec Ideal ⟨2, ![8, 1024]⟩ .f32 := fun p => ∑ i, A.term (p 0) i (p 1)

end Args

end Cert.NormSpec
-- ==== Proof.NormKernel.lean ====
/-
  THE KERNEL'S FIRST TWO RESULTS ARE THE SPECIFICATION'S.

  The launch takes 32 tiles of 256 rows. On each it multiplies the cotangent's four column quarters by the four quarters
  of the transposed weight and adds the products, which is the whole product of the tile's rows; from that and the rows'
  own sums it writes the tile of the gradient of `xp` (window 8) and of `y` (window 9). `arr8` and `arr9` say what the
  two whole arrays are at the end.
-/
module

public import proofs.«01_k».proof.Proof.NormSpec
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.NormKernel

open Cert.KernelIdeal Cert.KernelIdeal.Gen Idealize.ShloMosaic Idealize.ShloMosaic.TcCoe Idealize.SL.Sem
open Idealize.ShloMosaic.Pipeline (Dat)
open Cert.NormRow Cert.NormSpec

/-! ## The payloads at an index -/

theorem pay4_apply (x : Vec Ideal S256x1024 .f32) (i : Fin 256) :
    k0_pay4 x (ix2 i 0) = rs (fun k => x (ix2 i k)) := by
  pointwise [k0_pay4, k0_pay3, rs, ms]

theorem pay5_apply (x : Vec Ideal S256x1024 .f32) (i : Fin 256) (j : Fin 1024) :
    k0_pay5 x (ix2 i j) = x (ix2 i j) * rs (fun k => x (ix2 i k)) := by
  pointwise [k0_pay5, k0_pay4, k0_pay3, rs, ms]

theorem pay6_apply (h : FVec Ideal S256x1024 .f32) (sc : Vec Ideal S1x1024 .f32) (i : Fin 256) (j : Fin 1024) :
    k0_pay6 h sc (ix2 i j) = h (ix2 i j) * (1 + sc (ix2 0 j)) := by
  pointwise [k0_pay6]

theorem pay7_apply (h : FVec Ideal S256x1024 .f32) (x : Vec Ideal S256x1024 .f32) (sc ng : Vec Ideal S1x1024 .f32)
    (ct : Vec Ideal S256x1024 .f32) (i : Fin 256) (j : Fin 1024) :
    k0_pay7 h x sc ng ct (ix2 i j)
      = dxR (fun k => ct (ix2 i k)) (fun k => x (ix2 i k)) (fun k => h (ix2 i k)) (fun k => sc (ix2 0 k))
          (fun k => ng (ix2 0 k)) j := by
  rw [← dxK_eq_dxR]
  pointwise [k0_pay7, k0_pay6, k0_pay5, k0_pay4, k0_pay3, rs, ms, dxK, tt]

theorem pay8_apply (h : FVec Ideal S256x1024 .f32) (o : Vec Ideal S1x1024 .f32) (j : Fin 1024) :
    k0_pay8 h o (ix2 0 j) = o (ix2 0 j) + ∑ i : Fin 256, h (ix2 i j) := by
  pointwise [k0_pay8]

theorem pay9_apply (h xh : FVec Ideal S256x1024 .f32) (o ng : Vec Ideal S1x1024 .f32) (j : Fin 1024) :
    k0_pay9 h xh o ng (ix2 0 j) = o (ix2 0 j) + ∑ i : Fin 256, h (ix2 i j) * (xh (ix2 i j) * ng (ix2 0 j)) := by
  pointwise [k0_pay9]

theorem pay10_apply (xh dr : FVec Ideal S256x1024 .f32) (o : Vec Ideal S1x1024 .f32) (j : Fin 1024) :
    k0_pay10 xh dr o (ix2 0 j) = o (ix2 0 j) + ∑ i : Fin 256, dr (ix2 i j) * xh (ix2 i j) := by
  pointwise [k0_pay10]

theorem pay11_apply (dx : FVec Ideal S256x1024 .f32) (g : Vec Ideal S1x1024 .f32) (i : Fin 256) (j : Fin 1024) :
    k0_pay11 dx g (ix2 i j) = dx (ix2 i j) * g (ix2 0 j) := by
  pointwise [k0_pay11]

theorem pay12_apply (dx : FVec Ideal S256x1024 .f32) (o : Vec Ideal S1x1024 .f32) (y : Vec Ideal S256x1024 .bf16) (j : Fin 1024) :
    k0_pay12 dx o y (ix2 0 j) = o (ix2 0 j) + ∑ i : Fin 256, dx (ix2 i j) * y (ix2 i j) := by
  pointwise [k0_pay12]

theorem pay2_apply (a0 a1 a2 a3 : Vec Ideal S1x256x1408 .bf16) (w0 w1 w2 w3 : Vec Ideal S1x1024x1408 .bf16)
    (i : Fin 256) (j : Fin 1024) :
    k0_pay2 a0 w0 a1 w1 a2 w2 a3 w3 (ix2 i j)
      = (∑ q : Fin 1408, a0 (ix3 0 i q) * w0 (ix3 0 j q)) + (∑ q : Fin 1408, a1 (ix3 0 i q) * w1 (ix3 0 j q))
        + (∑ q : Fin 1408, a2 (ix3 0 i q) * w2 (ix3 0 j q)) + (∑ q : Fin 1408, a3 (ix3 0 i q) * w3 (ix3 0 j q)) := by
  pointwise [k0_pay2]

/-! ## The blocks read at an index -/

variable (m : (ℓ : Loc nD τ sig) → Buf (Elt Ideal) ℓ)

/-- The argument arrays of the launch. -/
def args (c : Dev nD) : Args 5632 where
  xp := m ((c : Thread nD τ).loc main_arg0)
  y := m ((c : Thread nD τ).loc main_arg1)
  g := m ((c : Thread nD τ).loc main_arg2)
  ng := m ((c : Thread nD τ).loc main_arg3)
  sc := m ((c : Thread nD τ).loc main_arg4)
  w := m ((c : Thread nD τ).loc main_arg6)
  ct := m ((c : Thread nD τ).loc main_arg7)
  a := m ((c : Thread nD τ).loc main_arg8)

theorem idx : ∀ t : Fin cfg0.N, win0_0.index t = ![t.val, 0] ∧ win0_1.index t = ![0, t.val, 0] ∧ win0_2.index t = ![0, 0, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![0, 0] :=
  (by decide +kernel : ∀ t : Fin grid0.N, _)

/-- Row `i` of the block of point `t`, as a row of the whole array. -/
def row (t : Fin cfg0.N) (i : Fin 256) : Fin 8192 :=
  ⟨t.val * 256 + i.val, by have := t.isLt; have hN : cfg0.N = 32 := N_0; have := i.isLt; omega⟩

variable (c : Dev nD) (t : Fin cfg0.N)

theorem read0 (i : Fin 256) (k : Fin 1024) : iblk m c 0 t (ix2 i k) = (args m c).X (row t i) k := by
  blk_simp [iblk]
  entry_read
  rw [show ((View.whole main_v3).slice (win0_0.rect t)).emb (ix2 i k) = ix2 (row t i) k from by blk_ext [idx t, row]]
  pointwise [Args.X, args]

theorem read1 (p : Fin 2) (i : Fin 256) (q : Fin 2816) :
    iblk m c 1 t (ix3 p i q) = (args m c).a (ix2 (row t i) ⟨p.val * 2816 + q.val, by omega⟩) := by
  blk_simp [iblk]
  entry_read
  rw [show ((View.whole main_v5).slice (win0_1.rect t)).emb (ix3 p i q) = ix3 p (row t i) q from by blk_ext [idx t, row]]
  pointwise [args]

theorem read2 (p : Fin 4) (j : Fin 1024) (q : Fin 1408) :
    iblk m c 2 t (ix3 p j q) = (args m c).w (ix2 j ⟨p.val * 1408 + q.val, by omega⟩) := by
  blk_simp [iblk]
  entry_read
  rw [show ((View.whole main_v7).slice (win0_2.rect t)).emb (ix3 p j q) = ix3 p j q from by blk_ext [idx t]]
  pointwise [args]

theorem read3 (i : Fin 256) (k : Fin 1024) : iblk m c 3 t (ix2 i k) = (args m c).ct (ix2 (row t i) k) := by
  blk_ext [iblk, V, idx t, args, row]

theorem read4 (k : Fin 1024) : iblk m c 4 t (ix2 0 k) = (args m c).ng (ix2 0 k) := by
  blk_ext [iblk, V, idx t, args, row]

theorem read5 (k : Fin 1024) : iblk m c 5 t (ix2 0 k) = (args m c).sc (ix2 0 k) := by
  blk_ext [iblk, V, idx t, args, row]

theorem read6 (k : Fin 1024) : iblk m c 6 t (ix2 0 k) = (args m c).g (ix2 0 k) := by
  blk_ext [iblk, V, idx t, args, row]

theorem read7 (i : Fin 256) (k : Fin 1024) : iblk m c 7 t (ix2 i k) = (args m c).y (ix2 (row t i) k) := by
  blk_ext [iblk, V, idx t, args, row]

/-! ## The cotangent of the product's left factor, block by block -/

/-- The four loads of a half lane block of window 1 read the argument. -/
theorem ld1 (p o : Nat) (hp : p < 2) (ho : o + 1408 ≤ 2816)
    (h : ∀ a, (![p, 0, o] : Fin 3 → Nat) a + (![1, 256, 1408] : Fin 3 → Nat) a ≤ S2x256x2816.size a) (i : Fin 256) (q : Fin 1408)
    (l : Fin 5632) (hl : l.val = p * 2816 + (o + q.val)) :
    View.ld (iblk m c 1 t) (Rect.unit ![p, 0, o] ![1, 256, 1408] h) (ix3 0 i q)
      = (args m c).a (ix2 (row t i) l) := by
  rw [View.ld_unit_apply_of _ _ _ _ _ (ix3 ⟨p, hp⟩ i ⟨o + q.val, by omega⟩) fun a => by fin_cases a <;> simp [ix3], read1]
  exact congrArg (fun l => (args m c).a (ix2 (row t i) l)) (Fin.ext hl.symm)

/-- The load of member `p` of window 2 reads the argument. -/
theorem ld2 (p : Nat) (hp : p < 4)
    (h : ∀ a, (![p, 0, 0] : Fin 3 → Nat) a + (![1, 1024, 1408] : Fin 3 → Nat) a ≤ S4x1024x1408.size a) (j : Fin 1024) (q : Fin 1408)
    (l : Fin 5632) (hl : l.val = p * 1408 + q.val) :
    View.ld (iblk m c 2 t) (Rect.unit ![p, 0, 0] ![1, 1024, 1408] h) (ix3 0 j q)
      = (args m c).w (ix2 j l) := by
  rw [View.ld_unit_apply_of _ _ _ _ _ (ix3 ⟨p, hp⟩ j q) fun a => by fin_cases a <;> simp [ix3], read2]
  exact congrArg (fun l => (args m c).w (ix2 j l)) (Fin.ext hl.symm)

/-- A sum over 5632 places is the sum of its four quarters. -/
theorem sum_quarters (f : Fin 5632 → EReal) :
    ∑ l, f l = (∑ q : Fin 1408, f ⟨q.val, by omega⟩) + (∑ q : Fin 1408, f ⟨1408 + q.val, by omega⟩)
      + (∑ q : Fin 1408, f ⟨2816 + q.val, by omega⟩) + (∑ q : Fin 1408, f ⟨4224 + q.val, by omega⟩) := by
  rw [show (∑ l, f l) = _ from Fin.sum_univ_add (a := 4224) (b := 1408) f, Fin.sum_univ_add (a := 2816) (b := 1408),
    Fin.sum_univ_add (a := 1408) (b := 1408)]
  rfl

/-- The block's cotangent of the product's left factor, as the body computes it: four products summed. -/
abbrev dhB : FVec Ideal S256x1024 .f32 :=
  k0_pay2 (View.ld (iblk m c 1 t) (Rect.unit ![0, 0, 0] ![1, 256, 1408] inb_S2x256x2816_S1x256x1408_0_0_0))
    (View.ld (iblk m c 2 t) (Rect.unit ![0, 0, 0] ![1, 1024, 1408] inb_S4x1024x1408_S1x1024x1408_0_0_0))
    (View.ld (iblk m c 1 t) (Rect.unit ![0, 0, 1408] ![1, 256, 1408] inb_S2x256x2816_S1x256x1408_0_0_1408))
    (View.ld (iblk m c 2 t) (Rect.unit ![1, 0, 0] ![1, 1024, 1408] inb_S4x1024x1408_S1x1024x1408_1_0_0))
    (View.ld (iblk m c 1 t) (Rect.unit ![1, 0, 0] ![1, 256, 1408] inb_S2x256x2816_S1x256x1408_1_0_0))
    (View.ld (iblk m c 2 t) (Rect.unit ![2, 0, 0] ![1, 1024, 1408] inb_S4x1024x1408_S1x1024x1408_2_0_0))
    (View.ld (iblk m c 1 t) (Rect.unit ![1, 0, 1408] ![1, 256, 1408] inb_S2x256x2816_S1x256x1408_1_0_1408))
    (View.ld (iblk m c 2 t) (Rect.unit ![3, 0, 0] ![1, 1024, 1408] inb_S4x1024x1408_S1x1024x1408_3_0_0))

theorem dhB_apply (i : Fin 256) (j : Fin 1024) : dhB m c t (ix2 i j) = (args m c).H (row t i) j := by
  rw [dhB, pay2_apply, Args.H, sum_quarters]
  refine congrArg₂ (· + ·) (congrArg₂ (· + ·) (congrArg₂ (· + ·) ?_ ?_) ?_) ?_
  all_goals
    refine Finset.sum_congr rfl fun q _ => ?_
    exact congrArg₂ (· * ·) (ld1 m c t _ _ (by omega) (by omega) _ i q _ (by dsimp only; omega))
      (ld2 m c t _ (by omega) _ j q _ (by first | rfl | (dsimp only; omega)))

/-- The block's gradient of `xp`, as the body computes it. -/
abbrev dxB : FVec Ideal S256x1024 .f32 :=
  k0_pay7 (dhB m c t) (iblk m c 0 t) (iblk m c 5 t) (iblk m c 4 t) (iblk m c 3 t)

theorem dxB_apply (i : Fin 256) (j : Fin 1024) : dxB m c t (ix2 i j) = (args m c).DX (row t i) j := by
  rw [dxB, pay7_apply, Args.DX]
  simp only [dhB_apply, read0, read3, read4, read5]

/-! ## The two arrays written block by block -/

theorem emb8 (i : Fin 256) (j : Fin 1024) : ((cfg0.win 8).blk t).view.emb (ix2 i j) = ix2 (row t i) j := by
  blk_ext [idx t, row]

theorem emb9 (i : Fin 256) (j : Fin 1024) : ((cfg0.win 9).blk t).view.emb (ix2 i j) = ix2 (row t i) j := by
  blk_ext [idx t, row]

/-- The first result array after the run: the gradient of `xp`. -/
theorem arr8 : (dats m 0 c).arrAt 8 cfg0.N = (args m c).dx := by
  refine (dats m 0 c).arrAt_eq_of_covers 8 _ (by decide +kernel) fun t hf y => ?_
  have hy : ∀ y : S256x1024.Idx, dxB m c t y = (args m c).dx (((cfg0.win 8).blk t).view.emb y) := by
    intro y
    obtain ⟨i, j, rfl⟩ : ∃ (i : Fin 256) (j : Fin 1024), y = ix2 i j := ⟨y 0, y 1, eq_ix2 y⟩
    rw [dxB_apply]
    erw [emb8]
    rfl
  have hy := hy y
  blk_simp
  rw [after0_8]
  by_cases h0 : t.val % 32 = 0
  · rw [outsAt0_A m c t h0]
    frame_out
    exact hy
  · rw [outsAt0_B m c t h0]
    frame_out
    exact hy

/-- The second result array after the run: the gradient of `y`. -/
theorem arr9 : (dats m 0 c).arrAt 9 cfg0.N = (args m c).dy := by
  refine (dats m 0 c).arrAt_eq_of_covers 9 _ (by decide +kernel) fun t hf y => ?_
  have hy : ∀ y : S256x1024.Idx, k0_pay11 (dxB m c t) (iblk m c 6 t) y = (args m c).dy (((cfg0.win 9).blk t).view.emb y) := by
    intro y
    obtain ⟨i, j, rfl⟩ : ∃ (i : Fin 256) (j : Fin 1024), y = ix2 i j := ⟨y 0, y 1, eq_ix2 y⟩
    rw [pay11_apply, dxB_apply, read6]
    erw [emb9]
    rfl
  have hy := hy y
  blk_simp
  rw [after0_9]
  by_cases h0 : t.val % 32 = 0
  · rw [outsAt0_A m c t h0]
    frame_out
    exact hy
  · rw [outsAt0_B m c t h0]
    frame_out
    exact hy

end Cert.NormKernel
-- ==== Proof.NormRed.lean ====
module

public import proofs.«01_k».proof.Proof.NormKernel
public import Idealize.ShloMosaic.Lib.Pipeline.ValueKit
public import Idealize.ShloMosaic.Lib.Pipeline.ReadBack

@[expose] public section

set_option maxRecDepth 16384

noncomputable section

namespace Cert.NormKernel

open Cert.KernelIdeal Cert.KernelIdeal.Gen Idealize.ShloMosaic Idealize.ShloMosaic.TcCoe Idealize.SL.Sem
open Idealize.ShloMosaic.Pipeline (Dat)
open Cert.NormRow Cert.NormSpec

variable (m : (ℓ : Loc nD τ sig) → Buf (Elt Ideal) ℓ) (c : Dev nD) (t : Fin cfg0.N)

/-! ## The reduced rows, accumulated over the grid -/

/-- Four rows written over a list of writes, read at an index. -/
theorem rows_read {κ : Kind} {sp : Space} (v : View sig κ sp S8x1024 .f32) (f : v.ty.Contents (Elt Ideal))
    (p0 p1 p2 p3 : FVec Ideal S1x1024 .f32) (L : List (View.Piece (Elt Ideal) S8x1024 .f32)) (r : Fin 8) (j : Fin 1024) :
    v.read (Elt Ideal) (v.writes (Elt Ideal) f
      (⟨Rect.unit ![3, 0] ![1, 1024] inb_S8x1024_S1x1024_3_0, p3⟩ :: ⟨Rect.unit ![2, 0] ![1, 1024] inb_S8x1024_S1x1024_2_0, p2⟩
        :: ⟨Rect.unit ![1, 0] ![1, 1024] inb_S8x1024_S1x1024_1_0, p1⟩
        :: ⟨Rect.unit ![0, 0] ![1, 1024] inb_S8x1024_S1x1024_0_0, p0⟩ :: L)) (ix2 r j)
      = if r.val = 0 then p0 (ix2 0 j) else if r.val = 1 then p1 (ix2 0 j) else if r.val = 2 then p2 (ix2 0 j)
        else if r.val = 3 then p3 (ix2 0 j) else v.read (Elt Ideal) (v.writes (Elt Ideal) f L) (ix2 r j) := by
  by_cases h3 : r.val = 3
  · rw [View.read_writes_cons_hit_of_coords _ _ _ _ _ (ix2 0 j) _ fun a => by fin_cases a <;> simp [ix2, h3]]
    simp [h3]
  rw [View.read_writes_cons_miss_of_axis _ _ _ _ _ (0 : Fin 2) 3 1 rfl rfl rfl (by simp [ix2]; omega)]
  by_cases h2 : r.val = 2
  · rw [View.read_writes_cons_hit_of_coords _ _ _ _ _ (ix2 0 j) _ fun a => by fin_cases a <;> simp [ix2, h2]]
    simp [h2]
  rw [View.read_writes_cons_miss_of_axis _ _ _ _ _ (0 : Fin 2) 2 1 rfl rfl rfl (by simp [ix2]; omega)]
  by_cases h1 : r.val = 1
  · rw [View.read_writes_cons_hit_of_coords _ _ _ _ _ (ix2 0 j) _ fun a => by fin_cases a <;> simp [ix2, h1]]
    simp [h1]
  rw [View.read_writes_cons_miss_of_axis _ _ _ _ _ (0 : Fin 2) 1 1 rfl rfl rfl (by simp [ix2]; omega)]
  by_cases h0 : r.val = 0
  · rw [View.read_writes_cons_hit_of_coords _ _ _ _ _ (ix2 0 j) _ fun a => by fin_cases a <;> simp [ix2, h0]]
    simp [h0]
  rw [View.read_writes_cons_miss_of_axis _ _ _ _ _ (0 : Fin 2) 0 1 rfl rfl rfl (by simp [ix2]; omega)]
  simp [h0, h1, h2, h3]

/-- One point adds to every place the terms of its 256 rows. -/
theorem rows_step {κ : Kind} {sp : Space} (v : View sig κ sp S8x1024 .f32) (f : v.ty.Contents (Elt Ideal))
    (L : List (View.Piece (Elt Ideal) S8x1024 .f32)) (o : FVec Ideal S8x1024 .f32) (l0 l1 l2 l3 : FVec Ideal S1x1024 .f32)
    (h0 : ∀ j, l0 (ix2 0 j) = o (ix2 0 j)) (h1 : ∀ j, l1 (ix2 0 j) = o (ix2 1 j)) (h2 : ∀ j, l2 (ix2 0 j) = o (ix2 2 j))
    (h3 : ∀ j, l3 (ix2 0 j) = o (ix2 3 j)) (hb : ∀ y, v.read (Elt Ideal) (v.writes (Elt Ideal) f L) y = o y) (y : S8x1024.Idx) :
    v.read (Elt Ideal) (v.writes (Elt Ideal) f
      (⟨Rect.unit ![3, 0] ![1, 1024] inb_S8x1024_S1x1024_3_0, k0_pay12 (dxB m c t) l3 (iblk m c 7 t)⟩
        :: ⟨Rect.unit ![2, 0] ![1, 1024] inb_S8x1024_S1x1024_2_0,
            k0_pay10 (k0_pay5 (iblk m c 0 t)) (k0_pay6 (dhB m c t) (iblk m c 5 t)) l2⟩
        :: ⟨Rect.unit ![1, 0] ![1, 1024] inb_S8x1024_S1x1024_1_0,
            k0_pay9 (dhB m c t) (k0_pay5 (iblk m c 0 t)) l1 (iblk m c 4 t)⟩
        :: ⟨Rect.unit ![0, 0] ![1, 1024] inb_S8x1024_S1x1024_0_0, k0_pay8 (dhB m c t) l0⟩ :: L)) y
      = o y + ∑ i : Fin 256, (args m c).term (y 0) (row t i) (y 1) := by
  obtain ⟨r, j, rfl⟩ : ∃ r j, y = ix2 r j := ⟨y 0, y 1, eq_ix2 y⟩
  show _ = o (ix2 r j) + ∑ i : Fin 256, (args m c).term r (row t i) j
  rw [rows_read, hb]
  simp only [pay8_apply, pay9_apply, pay10_apply, pay12_apply, pay5_apply, pay6_apply, dhB_apply, dxB_apply, read0, read4,
    read5, read7, h0, h1, h2, h3]
  have e : ∀ k : Fin 8, r.val = k.val → ix2 (n1 := 1024) r j = ix2 k j := fun k h => by rw [Fin.ext h]
  by_cases c0 : r.val = 0
  · simp only [if_pos c0, e 0 c0, Args.term_0 _ c0]
  by_cases c1 : r.val = 1
  · simp only [if_neg c0, if_pos c1, e 1 c1, Args.term_1 _ c1]
  by_cases c2 : r.val = 2
  · simp only [if_neg c0, if_neg c1, if_pos c2, e 2 c2, Args.term_2 _ c2]
  by_cases c3 : r.val = 3
  · simp only [if_neg c0, if_neg c1, if_neg c2, if_pos c3, e 3 c3, Args.term_3 _ c3]
  simp only [if_neg c0, if_neg c1, if_neg c2, if_neg c3, Args.term_4 (r := r) _ (by omega), Finset.sum_const_zero, add_zero]

/-- A load of row `k` of the accumulator is that row. -/
theorem ld_row (o : FVec Ideal S8x1024 .f32) (k : Nat) (hk : k < 8)
    (h : ∀ a, (![k, 0] : Fin 2 → Nat) a + (![1, 1024] : Fin 2 → Nat) a ≤ S8x1024.size a) (j : Fin 1024) :
    View.ld (Val := Elt Ideal) (e' := .f32) o (Rect.unit (s := S8x1024) ![k, 0] ![1, 1024] h) (ix2 0 j) = o (ix2 ⟨k, hk⟩ j) :=
  View.ld_unit_apply_of _ _ _ _ _ _ fun a => by fin_cases a <;> simp [ix2]

theorem pay1_apply (y : S8x1024.Idx) : k0_pay1 (F := Ideal) y = 0 := by
  pointwise [k0_pay1]

/-- A write of the whole accumulator, read at an index. -/
theorem fill_read {κ : Kind} {sp : Space} (v : View sig κ sp S8x1024 .f32) (f : v.ty.Contents (Elt Ideal)) (y : S8x1024.Idx) :
    v.read (Elt Ideal) (v.writes (Elt Ideal) f [⟨Rect.unit ![0, 0] ![8, 1024] inb_S8x1024_S8x1024_0_0, k0_pay1 (F := Ideal)⟩]) y
      = k0_pay1 (F := Ideal) y :=
  View.read_writes_cons_hit_of_coords _ _ (Rect.unit (s := S8x1024) ![0, 0] ![8, 1024] inb_S8x1024_S8x1024_0_0) _ _ y y
    fun a => by
      show _ = (![0, 0] : Fin 2 → Nat) a + 1 * (y a).val
      fin_cases a <;> simp

/-- What the accumulator holds after the last point. -/
theorem acc (t : Fin cfg0.N) (ht : t.val + 1 = cfg0.N) (y : S8x1024.Idx) :
    (outsAt0 m c t.val t.isLt).2.2 y = 0 + ∑ p : Fin cfg0.N, ∑ i : Fin 256, (args m c).term (y 0) (row p i) (y 1) := by
  refine Pipeline.eq_sum_fin_of_reset_step_apply_last (fun n h => (outsAt0 m c n h).2.2) 32 (fun _ => (0 : EReal))
    (fun p y => ∑ i : Fin 256, (args m c).term (y 0) (row p i) (y 1)) (fun t h y => ?_) (fun t h y => ?_)
    (le_of_eq N_0) t ht y
  · rw [outsAt0_A m c t h]
    frame_open
    simp (disch := decide) only [↓ View.readCov_skip, ↓ View.readCov_cons_toLoadRect, ↓ View.readCov_fill]
    frame_out
    rw [← View.read_writes_junk_eq_canon (ms0_10 t).view]
    have key := rows_step m c t (ms0_10 t).view ((ms0_10 t).view.junk)
      [⟨Rect.unit ![0, 0] ![8, 1024] inb_S8x1024_S8x1024_0_0, k0_pay1 (F := Ideal)⟩] (k0_pay1 (F := Ideal)) _ _ _ _
      (ld_row _ 0 (by omega) inb_S8x1024_S1x1024_0_0) (ld_row _ 1 (by omega) inb_S8x1024_S1x1024_1_0)
      (ld_row _ 2 (by omega) inb_S8x1024_S1x1024_2_0) (ld_row _ 3 (by omega) inb_S8x1024_S1x1024_3_0)
      (fun y => fill_read _ _ y) y
    rw [pay1_apply] at key
    exact key
  · rw [outsAt0_B m c t h]
    frame_out
    generalize (outsAt0 m c (t.val - 1) _).2.2 = o
    exact rows_step m c t (ms0_10 t).view _ [] o _ _ _ _
      (ld_row _ 0 (by omega) inb_S8x1024_S1x1024_0_0) (ld_row _ 1 (by omega) inb_S8x1024_S1x1024_1_0)
      (ld_row _ 2 (by omega) inb_S8x1024_S1x1024_2_0) (ld_row _ 3 (by omega) inb_S8x1024_S1x1024_3_0)
      (fun y => congrFun ((hs0_10 t).read_unread o) y) y

/-- The last grid point. -/
def tLast : Fin cfg0.N := ⟨31, by decide +kernel⟩

/-- The third result array after the run: the reduced rows. -/
theorem arr10 : (dats m 0 c).arrAt 10 cfg0.N = (args m c).red := by
  refine (dats m 0 c).arrAt_eq_of_after_last 10 tLast (by decide +kernel) _ fun j => ?_
  blk_simp
  rw [after0_10]
  refine (acc m c tLast rfl j).trans ?_
  rw [zero_add]
  refine Fin.sum_mul_add_congr fun t k hl => ?_
  rfl

end Cert.NormKernel
-- ==== Proof.NormRef.lean ====
/-
  THE REFERENCE'S RESULTS ARE THE SPECIFICATION'S. Each of its three composed terms, read at an index, is `Args.dx`,
  `Args.dy` and `Args.red` of the arguments.
-/
module

public import proofs.«01_k».proof.Proof.NormSpec
public import proofs.«01_k».proof.Proof.Gen.ReferenceIdeal.Run

@[expose] public section

set_option maxRecDepth 16384

noncomputable section

namespace Cert.NormRef

open Cert.ReferenceIdeal Cert.ReferenceIdeal.Gen Cert.ReferenceIdeal.Value Idealize.ShloMosaic Idealize.ShloMosaic.TcCoe
open Idealize.SL.Sem Cert.NormRow Cert.NormSpec

variable (m : (ℓ : Loc nD τ sig) → Buf (Elt Ideal) ℓ) (c : Dev nD)

/-- The argument arrays of the launch. -/
def args : Args 5632 where
  xp := m ((c.tc : Thread nD τ).loc main_arg0)
  y := m ((c.tc : Thread nD τ).loc main_arg1)
  g := m ((c.tc : Thread nD τ).loc main_arg2)
  ng := m ((c.tc : Thread nD τ).loc main_arg3)
  sc := m ((c.tc : Thread nD τ).loc main_arg4)
  w := m ((c.tc : Thread nD τ).loc main_arg6)
  ct := m ((c.tc : Thread nD τ).loc main_arg7)
  a := m ((c.tc : Thread nD τ).loc main_arg8)

/-- The first result, the gradient of `xp`. -/
theorem out0_apply (i : Fin 8192) (j : Fin 1024) : res_out0 m c (ix2 i j) = (args m c).DX i j := by
  pointwise [res_out0, res_main_v55, Args.DX, dxR, qq, tt, rs, ms, Args.X, Args.H, args]
  simp only [Fin.sum_univ_one]

/-- The second result, the gradient of `y`. -/
theorem out1_apply (i : Fin 8192) (j : Fin 1024) : res_out1 m c (ix2 i j) = (args m c).DX i j * (args m c).g (ix2 0 j) := by
  rw [mul_comm, ← out0_apply]
  pointwise [res_out1, res_main_v62, res_out0, res_main_v55, args]

theorem out0 : res_out0 m c = (args m c).dx := by
  funext y
  obtain ⟨i, j, rfl⟩ : ∃ (i : Fin 8192) (j : Fin 1024), y = ix2 i j := ⟨y 0, y 1, eq_ix2 y⟩
  exact out0_apply m c i j

theorem out1 : res_out1 m c = (args m c).dy := by
  funext y
  obtain ⟨i, j, rfl⟩ : ∃ (i : Fin 8192) (j : Fin 1024), y = ix2 i j := ⟨y 0, y 1, eq_ix2 y⟩
  exact out1_apply m c i j

/-- The third result, row by row. -/
theorem out2_apply (p : Fin 8) (j : Fin 1024) : res_out2 m c (ix2 p j) = ∑ i, (args m c).term p i j := by
  obtain ⟨p, hp⟩ := p
  have h0 : res_out2 m c (ix2 (0 : Fin 8) j) = ∑ i, (args m c).H i j := by
    pointwise [res_out2, res_main_v64, Args.H, args]
  have h1 : res_out2 m c (ix2 (1 : Fin 8) j)
      = ∑ i, (args m c).X i j * rs ((args m c).X i) * (args m c).ng (ix2 0 j) * (args m c).H i j := by
    pointwise [res_out2, res_main_v64, Args.X, rs, ms, Args.H, args]
  have h2 : res_out2 m c (ix2 (2 : Fin 8) j)
      = ∑ i, (args m c).X i j * rs ((args m c).X i) * ((args m c).H i j * (1 + (args m c).sc (ix2 0 j))) := by
    pointwise [res_out2, res_main_v64, Args.X, rs, ms, Args.H, args]
  have h3 : res_out2 m c (ix2 (3 : Fin 8) j) = ∑ i, (args m c).DX i j * (args m c).y (ix2 i j) := by
    have e : ∀ i, (args m c).DX i j = res_out0 m c (ix2 i j) := fun i => (out0_apply m c i j).symm
    simp only [e]
    pointwise [res_out2, res_main_v64, res_out0, res_main_v55, args]
  have h4 : ∀ q : Fin 8, 4 ≤ q.val → res_out2 m c (ix2 q j) = (0 : EReal) := by
    intro q hq
    obtain ⟨q, hq'⟩ := q
    obtain rfl | rfl | rfl | rfl : q = 4 ∨ q = 5 ∨ q = 6 ∨ q = 7 := by
      have : 4 ≤ q := hq
      omega
    · change res_out2 m c (ix2 (4 : Fin 8) j) = (0 : EReal)
      pointwise [res_out2, res_main_v64]
    · change res_out2 m c (ix2 (5 : Fin 8) j) = (0 : EReal)
      pointwise [res_out2, res_main_v64]
    · change res_out2 m c (ix2 (6 : Fin 8) j) = (0 : EReal)
      pointwise [res_out2, res_main_v64]
    · change res_out2 m c (ix2 (7 : Fin 8) j) = (0 : EReal)
      pointwise [res_out2, res_main_v64]
  by_cases hq : 4 ≤ p
  · refine (h4 ⟨p, hp⟩ hq).trans ?_
    exact (Finset.sum_eq_zero fun i _ => Args.term_4 _ hq i j).symm
  obtain rfl | rfl | rfl | rfl : p = 0 ∨ p = 1 ∨ p = 2 ∨ p = 3 := by omega
  · exact h0.trans (Finset.sum_congr (M := EReal) rfl fun i _ => (Args.term_0 _ rfl i j).symm)
  · exact h1.trans (Finset.sum_congr (M := EReal) rfl fun i _ => by rw [Args.term_1 _ rfl i j, mul_comm])
  · exact h2.trans (Finset.sum_congr (M := EReal) rfl fun i _ => by rw [Args.term_2 _ rfl i j, mul_comm])
  · exact h3.trans (Finset.sum_congr (M := EReal) rfl fun i _ => (Args.term_3 _ rfl i j).symm)

theorem out2 : res_out2 m c = (args m c).red := by
  funext y
  obtain ⟨i, j, rfl⟩ : ∃ (i : Fin 8) (j : Fin 1024), y = ix2 i j := ⟨y 0, y 1, eq_ix2 y⟩
  exact out2_apply m c i j

end Cert.NormRef
-- ==== Proof.NormClaims.lean ====
/-
  THE CLAIMS ON THE NORM'S BACKWARD PASS: the reference leaves its arguments alone, and the kernel and the reference leave
  the same three results, the specification's, from arguments that agree.
-/
module

public import proofs.«01_k».proof.Defs
public import proofs.«01_k».proof.Proof.NormRed
public import proofs.«01_k».proof.Proof.NormRef
public import Idealize.ShloMosaic.Adequacy

@[expose] public section

noncomputable section

namespace Cert.NormClaims

open Idealize.ShloMosaic Idealize.SL.Sem Cert.NormSpec

/-- The reference terminates, leaves its arguments and every semaphore as they were. -/
theorem frameRef : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- From arguments that agree, the kernel and the reference leave the same three arrays: the gradient of `xp`, the gradient
    of `y`, and the rows of the gradients of `sh`, `sc`, `ng` and `g`. -/
theorem algebraic : Cert.algebraic_KernelIdeal_ReferenceIdeal := by
  intro m ρ m' ρ' _ hagree
  have same : ∀ c : Dev Cert.KernelIdeal.nD, NormRef.args m' c = NormKernel.args m c := fun c => by
    obtain ⟨h0, h1, h2, h3, h4, -, h6, h7, h8⟩ := hagree c
    rw [NormRef.args, NormKernel.args, h0, h1, h2, h3, h4, h6, h7, h8]
  refine ⟨fun c => (NormKernel.args m c).dx, fun c => (NormKernel.args m c).dy, fun c => (NormKernel.args m c).red, ?_, ?_⟩
  · exact (θ_run Cert.KernelIdeal.defs _ _).mono
      (fun _ h c => ⟨(h c).1.trans (NormKernel.arr8 m c), (h c).2.1.trans (NormKernel.arr9 m c),
        (h c).2.2.1.trans (NormKernel.arr10 m c), (h c).2.2.2⟩)
      (Cert.KernelIdeal.Value.run_blocks (F := Ideal) m ρ)
  · exact (θ_run Cert.ReferenceIdeal.defs _ _).mono
      (fun _ h c => ⟨(h c).1.trans ((NormRef.out0 m' c).trans (congrArg Args.dx (same c))),
        (h c).2.1.trans ((NormRef.out1 m' c).trans (congrArg Args.dy (same c))),
        (h c).2.2.1.trans ((NormRef.out2 m' c).trans (congrArg Args.red (same c))), (h c).2.2.2⟩)
      (Cert.ReferenceIdeal.Value.run (F := Ideal) m' ρ')

end Cert.NormClaims
-- ==== Proof.AttnRun.lean ====
module

public import proofs.«01_k».proof.Proof.Gen.Kernel2Ideal.Frame
public import proofs.«01_k».proof.Proof.Gen.Kernel2Ideal.Loops

/-! The body of the attention gradient's kernel, run at a point of its grid: at the first tile of keys of a pair of heads (the
scratch that gathers the queries' gradient is cleared first), at a middle tile, and at the last (the scratch is written out). -/

@[expose] public section

set_option maxRecDepth 16384

noncomputable section

namespace Cert.AttnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The point holds the pair's first tile of keys. -/
abbrev IsFirst (i : grid0.Coords) : Prop :=
  (Scalar.cmpi .ne (Scalar.extui (Scalar.cmpi .eq (BitVec.ofNat 32 (i 1).val) 0#32)) 0#32) = 1#1

/-- The point holds the pair's last tile of keys. -/
abbrev IsLast (i : grid0.Coords) : Prop := k0_cond2 i = 1#1

set_option maxHeartbeats 1000000 in
/-- What the body leaves at a pair's first tile of keys: the pieces it writes into the scratch, the keys' gradient and the values' gradient, found by running it; on whole staging buffers holding the blocks `x0` (queries), `x1` (keys), `x2` (values), `x3` (the results' gradient), it runs to its end and leaves the inputs as they were. -/
noncomputable def runFirst (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (hc0 : IsFirst i) (hc1 : ¬ IsLast i)
    (x0 : Vec F S2x8192x128 .bf16) (x1 x2 : Vec F S2x512x128 .bf16) (x3 : Vec F S2x8192x128 .bf16) :
    Σ' (L9 : List (View.Piece (Elt F) S2x8192x128 .f32)) (L7 : List (View.Piece (Elt F) S2x512x128 .bf16)), { L8 : List (View.Piece (Elt F) S2x512x128 .bf16) //
      ∀ (E : Set ℕ) (K : PUnit → sProp (MT nD τ sig Unit (Elt F) ℕ (UR sig nD τ) ℕ)) (x4 : Vec F S2x8192x128 .bf16),
        iprop(owns (c : Thread nD τ) M2 fullShare x0 ∗ owns (c : Thread nD τ) M3 fullShare x1 ∗ owns (c : Thread nD τ) M4 fullShare x2 ∗ owns (c : Thread nD τ) M5 fullShare x3
            ∗ owns (c : Thread nD τ) M6 fullShare x4 ∗ (∃ d, owns (c : Thread nD τ) M7 fullShare d) ∗ (∃ d, owns (c : Thread nD τ) M8 fullShare d) ∗ (∃ d, owns (c : Thread nD τ) M9 fullShare d)
            ∗ (iprop(owns (c : Thread nD τ) M2 fullShare x0 ∗ owns (c : Thread nD τ) M3 fullShare x1 ∗ owns (c : Thread nD τ) M4 fullShare x2 ∗ owns (c : Thread nD τ) M5 fullShare x3
              ∗ owns (c : Thread nD τ) M6 fullShare x4 ∗ (∃ f, M7.view.loc (c : Thread nD τ) ↦[M7.view.set]{fullShare} M7.view.writes (Elt F) f L7) ∗ (∃ f, M8.view.loc (c : Thread nD τ) ↦[M8.view.set]{fullShare} M8.view.writes (Elt F) f L8) ∗ (∃ f, M9.view.loc (c : Thread nD τ) ↦[M9.view.set]{fullShare} M9.view.writes (Elt F) f L9)) -∗ K ⟨⟩))
          ⊢ wp frame (wpE (defs₀ (F := F)) Variants.none c none) E (cc0_attn_bwd i M2 h2 M3 h3 M4 h4 M5 h5 M6 h6 M7 h7 M8 h8 M9 h9) K } := by
  refine ⟨?_, ?_, ?_, fun E K x4 => ?run⟩
  case run =>
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := h2.eq_unread hf0; obtain rfl := h3.eq_unread hf1; obtain rfl := h4.eq_unread hf2; obtain rfl := h5.eq_unread hf3
    obtain rfl := h6.eq_unread hf4
    sl_exec (disch := first | sl_exact hc0 | sl_exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [H6]; · iexists _; iexact H6
    iexists _; iexact H7

set_option maxHeartbeats 1000000 in
/-- What the body leaves at a middle tile of keys: the pieces it writes into the scratch, the keys' gradient and the values' gradient, found by running it; on whole staging buffers holding the blocks `x0` (queries), `x1` (keys), `x2` (values), `x3` (the results' gradient) and the scratch holding `xs`, it runs to its end and leaves the inputs as they were. -/
noncomputable def runMid (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (hc0 : ¬ IsFirst i) (hc1 : ¬ IsLast i)
    (x0 : Vec F S2x8192x128 .bf16) (x1 x2 : Vec F S2x512x128 .bf16) (x3 : Vec F S2x8192x128 .bf16) (xs : Vec F S2x8192x128 .f32) :
    Σ' (L9 : List (View.Piece (Elt F) S2x8192x128 .f32)) (L7 : List (View.Piece (Elt F) S2x512x128 .bf16)), { L8 : List (View.Piece (Elt F) S2x512x128 .bf16) //
      ∀ (E : Set ℕ) (K : PUnit → sProp (MT nD τ sig Unit (Elt F) ℕ (UR sig nD τ) ℕ)) (x4 : Vec F S2x8192x128 .bf16),
        iprop(owns (c : Thread nD τ) M2 fullShare x0 ∗ owns (c : Thread nD τ) M3 fullShare x1 ∗ owns (c : Thread nD τ) M4 fullShare x2 ∗ owns (c : Thread nD τ) M5 fullShare x3
            ∗ owns (c : Thread nD τ) M6 fullShare x4 ∗ (∃ d, owns (c : Thread nD τ) M7 fullShare d) ∗ (∃ d, owns (c : Thread nD τ) M8 fullShare d) ∗ owns (c : Thread nD τ) M9 fullShare xs
            ∗ (iprop(owns (c : Thread nD τ) M2 fullShare x0 ∗ owns (c : Thread nD τ) M3 fullShare x1 ∗ owns (c : Thread nD τ) M4 fullShare x2 ∗ owns (c : Thread nD τ) M5 fullShare x3
              ∗ owns (c : Thread nD τ) M6 fullShare x4 ∗ (∃ f, M7.view.loc (c : Thread nD τ) ↦[M7.view.set]{fullShare} M7.view.writes (Elt F) f L7) ∗ (∃ f, M8.view.loc (c : Thread nD τ) ↦[M8.view.set]{fullShare} M8.view.writes (Elt F) f L8) ∗ (M9.view.loc (c : Thread nD τ) ↦[M9.view.set]{fullShare} M9.view.writes (Elt F) (h9.unread xs) L9)) -∗ K ⟨⟩))
          ⊢ wp frame (wpE (defs₀ (F := F)) Variants.none c none) E (cc0_attn_bwd i M2 h2 M3 h3 M4 h4 M5 h5 M6 h6 M7 h7 M8 h8 M9 h9) K } := by
  refine ⟨?_, ?_, ?_, fun E K x4 => ?run⟩
  case run =>
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
    obtain rfl := h2.eq_unread hf0; obtain rfl := h3.eq_unread hf1; obtain rfl := h4.eq_unread hf2; obtain rfl := h5.eq_unread hf3
    obtain rfl := h6.eq_unread hf4
    obtain rfl := h9.eq_unread hf7
    sl_exec (disch := first | sl_exact hc0 | sl_exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [H6]; · iexists _; iexact H6
    iexact H7

set_option maxHeartbeats 1000000 in
/-- What the body leaves at a pair's last tile of keys: the pieces it writes into the scratch, the keys', the values' and the queries' gradient, found by running it; on whole staging buffers holding the blocks `x0` (queries), `x1` (keys), `x2` (values), `x3` (the results' gradient) and the scratch holding `xs`, it runs to its end and leaves the inputs as they were. -/
noncomputable def runLast (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (hc0 : ¬ IsFirst i) (hc1 : IsLast i)
    (x0 : Vec F S2x8192x128 .bf16) (x1 x2 : Vec F S2x512x128 .bf16) (x3 : Vec F S2x8192x128 .bf16) (xs : Vec F S2x8192x128 .f32) :
    Σ' (L9 : List (View.Piece (Elt F) S2x8192x128 .f32)) (L7 : List (View.Piece (Elt F) S2x512x128 .bf16)) (L8 : List (View.Piece (Elt F) S2x512x128 .bf16)), { L6 : List (View.Piece (Elt F) S2x8192x128 .bf16) //
      ∀ (E : Set ℕ) (K : PUnit → sProp (MT nD τ sig Unit (Elt F) ℕ (UR sig nD τ) ℕ)),
        iprop(owns (c : Thread nD τ) M2 fullShare x0 ∗ owns (c : Thread nD τ) M3 fullShare x1 ∗ owns (c : Thread nD τ) M4 fullShare x2 ∗ owns (c : Thread nD τ) M5 fullShare x3
            ∗ (∃ d, owns (c : Thread nD τ) M6 fullShare d) ∗ (∃ d, owns (c : Thread nD τ) M7 fullShare d) ∗ (∃ d, owns (c : Thread nD τ) M8 fullShare d) ∗ owns (c : Thread nD τ) M9 fullShare xs
            ∗ (iprop(owns (c : Thread nD τ) M2 fullShare x0 ∗ owns (c : Thread nD τ) M3 fullShare x1 ∗ owns (c : Thread nD τ) M4 fullShare x2 ∗ owns (c : Thread nD τ) M5 fullShare x3
              ∗ (∃ f, M6.view.loc (c : Thread nD τ) ↦[M6.view.set]{fullShare} M6.view.writes (Elt F) f L6) ∗ (∃ f, M7.view.loc (c : Thread nD τ) ↦[M7.view.set]{fullShare} M7.view.writes (Elt F) f L7) ∗ (∃ f, M8.view.loc (c : Thread nD τ) ↦[M8.view.set]{fullShare} M8.view.writes (Elt F) f L8) ∗ (M9.view.loc (c : Thread nD τ) ↦[M9.view.set]{fullShare} M9.view.writes (Elt F) (h9.unread xs) L9)) -∗ K ⟨⟩))
          ⊢ wp frame (wpE (defs₀ (F := F)) Variants.none c none) E (cc0_attn_bwd i M2 h2 M3 h3 M4 h4 M5 h5 M6 h6 M7 h7 M8 h8 M9 h9) K } := by
  refine ⟨?_, ?_, ?_, ?_, fun E K => ?run⟩
  case run =>
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, Hk⟩
    obtain rfl := h2.eq_unread hf0; obtain rfl := h3.eq_unread hf1; obtain rfl := h4.eq_unread hf2; obtain rfl := h5.eq_unread hf3
    obtain rfl := h9.eq_unread hf7
    sl_exec (disch := first | sl_exact hc0 | sl_exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    iexact H7

end Cert.AttnRun

end
-- ==== Proof.AttnFrame.lean ====
module

public import proofs.«01_k».proof.Proof.AttnRun

/-! The whole run of the attention gradient's kernel: what its scratch and its results hold after each point of the grid, and the
launch. -/

@[expose] public section

set_option maxRecDepth 16384

noncomputable section

namespace Cert.AttnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- A pair's first tile of keys is at the points that are 0 modulo 16. -/
theorem isFirst_iff (t : Fin cfg0.N) : IsFirst (grid0.coords t) ↔ t.val % 16 = 0 := by
  have ht : t.val < 128 := Nat.lt_of_lt_of_eq t.isLt N_0
  have e : (grid0.coords t 1).val = t.val / 1 % 16 := Pipeline.Grid.coords_val t 1 (by decide) rfl
  simp only [IsFirst, e]
  word_cmp

/-- A pair's last tile of keys is at the points that are 15 modulo 16. -/
theorem isLast_iff (t : Fin cfg0.N) : IsLast (grid0.coords t) ↔ t.val % 16 = 15 := by
  have ht : t.val < 128 := Nat.lt_of_lt_of_eq t.isLt N_0
  have e : (grid0.coords t 1).val = t.val / 1 % 16 := Pipeline.Grid.coords_val t 1 (by decide) rfl
  simp only [IsLast, k0_cond2, e]
  word_cmp

/-- The scratch that gathers the queries' gradient. -/
abbrev scr : Memref sig .tc .vmem S2x8192x128 .f32 := Memref.whole cc0_scratch0

/-- The staging buffers of the queries' and the keys' and values' gradient at point `t`. -/
abbrev dqBuf (t : Fin cfg0.N) : Memref sig .tc .vmem S2x8192x128 .bf16 := win0_4.stage (cfg0.slots t 4)
abbrev dkBuf (t : Fin cfg0.N) : Memref sig .tc .vmem S2x512x128 .bf16 := win0_5.stage (cfg0.slots t 5)
abbrev dvBuf (t : Fin cfg0.N) : Memref sig .tc .vmem S2x512x128 .bf16 := win0_6.stage (cfg0.slots t 6)

/-- The body's run at point `t`, a pair's first tile. -/
abbrev atFirst (c : Dev nD) (t : Fin cfg0.N) (h0 : t.val % 16 = 0) (h1 : ¬t.val % 16 = 15) :=
  runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) ((isFirst_iff t).mpr h0) (fun h => h1 ((isLast_iff t).mp h)) (iblk m c 0 t) (iblk m c 1 t) (iblk m c 2 t) (iblk m c 3 t)

/-- The body's run at point `t`, a middle tile. -/
abbrev atMid (c : Dev nD) (t : Fin cfg0.N) (h0 : ¬t.val % 16 = 0) (h1 : ¬t.val % 16 = 15) (xs : Vec F S2x8192x128 .f32) :=
  runMid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (fun h => h0 ((isFirst_iff t).mp h)) (fun h => h1 ((isLast_iff t).mp h)) (iblk m c 0 t) (iblk m c 1 t) (iblk m c 2 t) (iblk m c 3 t) xs

/-- The body's run at point `t`, a pair's last tile. -/
abbrev atLast (c : Dev nD) (t : Fin cfg0.N) (h0 : ¬t.val % 16 = 0) (h1 : t.val % 16 = 15) (xs : Vec F S2x8192x128 .f32) :=
  runLast c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (fun h => h0 ((isFirst_iff t).mp h)) ((isLast_iff t).mpr h1) (iblk m c 0 t) (iblk m c 1 t) (iblk m c 2 t) (iblk m c 3 t) xs

theorem dkFirst_cover (c : Dev nD) (t : Fin cfg0.N) (h0 : t.val % 16 = 0) (h1 : ¬t.val % 16 = 15) (y : S2x512x128.Idx) :
    ∃ p ∈ (atFirst m c t h0 h1).2.1, y ∈ p.1.set :=
  View.cover_of_tiledL (atFirst m c t h0 h1).2.1 S1x512x128.size (by sl_kernel_rfl) y

/-- What a pair's first tile leaves as the keys' gradient. -/
def dkFirst (c : Dev nD) (t : Fin cfg0.N) (h0 : t.val % 16 = 0) (h1 : ¬t.val % 16 = 15) : Vec F S2x512x128 .bf16 :=
  (dkBuf t).view.read (Elt F) ((dkBuf t).view.writes (Elt F) (dkBuf t).view.junk (atFirst m c t h0 h1).2.1)

theorem dvFirst_cover (c : Dev nD) (t : Fin cfg0.N) (h0 : t.val % 16 = 0) (h1 : ¬t.val % 16 = 15) (y : S2x512x128.Idx) :
    ∃ p ∈ (atFirst m c t h0 h1).2.2.1, y ∈ p.1.set :=
  View.cover_of_tiledL (atFirst m c t h0 h1).2.2.1 S1x512x128.size (by sl_kernel_rfl) y

/-- What a pair's first tile leaves as the values' gradient. -/
def dvFirst (c : Dev nD) (t : Fin cfg0.N) (h0 : t.val % 16 = 0) (h1 : ¬t.val % 16 = 15) : Vec F S2x512x128 .bf16 :=
  (dvBuf t).view.read (Elt F) ((dvBuf t).view.writes (Elt F) (dvBuf t).view.junk (atFirst m c t h0 h1).2.2.1)

theorem dkMid_cover (c : Dev nD) (t : Fin cfg0.N) (h0 : ¬t.val % 16 = 0) (h1 : ¬t.val % 16 = 15) (xs : Vec F S2x8192x128 .f32) (y : S2x512x128.Idx) :
    ∃ p ∈ (atMid m c t h0 h1 xs).2.1, y ∈ p.1.set :=
  View.cover_of_tiledL (atMid m c t h0 h1 xs).2.1 S1x512x128.size (by sl_kernel_rfl) y

/-- What a middle tile leaves as the keys' gradient. -/
def dkMid (c : Dev nD) (t : Fin cfg0.N) (h0 : ¬t.val % 16 = 0) (h1 : ¬t.val % 16 = 15) (xs : Vec F S2x8192x128 .f32) : Vec F S2x512x128 .bf16 :=
  (dkBuf t).view.read (Elt F) ((dkBuf t).view.writes (Elt F) (dkBuf t).view.junk (atMid m c t h0 h1 xs).2.1)

theorem dvMid_cover (c : Dev nD) (t : Fin cfg0.N) (h0 : ¬t.val % 16 = 0) (h1 : ¬t.val % 16 = 15) (xs : Vec F S2x8192x128 .f32) (y : S2x512x128.Idx) :
    ∃ p ∈ (atMid m c t h0 h1 xs).2.2.1, y ∈ p.1.set :=
  View.cover_of_tiledL (atMid m c t h0 h1 xs).2.2.1 S1x512x128.size (by sl_kernel_rfl) y

/-- What a middle tile leaves as the values' gradient. -/
def dvMid (c : Dev nD) (t : Fin cfg0.N) (h0 : ¬t.val % 16 = 0) (h1 : ¬t.val % 16 = 15) (xs : Vec F S2x8192x128 .f32) : Vec F S2x512x128 .bf16 :=
  (dvBuf t).view.read (Elt F) ((dvBuf t).view.writes (Elt F) (dvBuf t).view.junk (atMid m c t h0 h1 xs).2.2.1)

theorem dkLast_cover (c : Dev nD) (t : Fin cfg0.N) (h0 : ¬t.val % 16 = 0) (h1 : t.val % 16 = 15) (xs : Vec F S2x8192x128 .f32) (y : S2x512x128.Idx) :
    ∃ p ∈ (atLast m c t h0 h1 xs).2.1, y ∈ p.1.set :=
  View.cover_of_tiledL (atLast m c t h0 h1 xs).2.1 S1x512x128.size (by sl_kernel_rfl) y

/-- What a pair's last tile leaves as the keys' gradient. -/
def dkLast (c : Dev nD) (t : Fin cfg0.N) (h0 : ¬t.val % 16 = 0) (h1 : t.val % 16 = 15) (xs : Vec F S2x8192x128 .f32) : Vec F S2x512x128 .bf16 :=
  (dkBuf t).view.read (Elt F) ((dkBuf t).view.writes (Elt F) (dkBuf t).view.junk (atLast m c t h0 h1 xs).2.1)

theorem dvLast_cover (c : Dev nD) (t : Fin cfg0.N) (h0 : ¬t.val % 16 = 0) (h1 : t.val % 16 = 15) (xs : Vec F S2x8192x128 .f32) (y : S2x512x128.Idx) :
    ∃ p ∈ (atLast m c t h0 h1 xs).2.2.1, y ∈ p.1.set :=
  View.cover_of_tiledL (atLast m c t h0 h1 xs).2.2.1 S1x512x128.size (by sl_kernel_rfl) y

/-- What a pair's last tile leaves as the values' gradient. -/
def dvLast (c : Dev nD) (t : Fin cfg0.N) (h0 : ¬t.val % 16 = 0) (h1 : t.val % 16 = 15) (xs : Vec F S2x8192x128 .f32) : Vec F S2x512x128 .bf16 :=
  (dvBuf t).view.read (Elt F) ((dvBuf t).view.writes (Elt F) (dvBuf t).view.junk (atLast m c t h0 h1 xs).2.2.1)

theorem dqLast_cover (c : Dev nD) (t : Fin cfg0.N) (h0 : ¬t.val % 16 = 0) (h1 : t.val % 16 = 15) (xs : Vec F S2x8192x128 .f32) (y : S2x8192x128.Idx) :
    ∃ p ∈ (atLast m c t h0 h1 xs).2.2.2.1, y ∈ p.1.set :=
  View.cover_of_tiledL (atLast m c t h0 h1 xs).2.2.2.1 S1x8192x128.size (by sl_kernel_rfl) y

/-- What a pair's last tile leaves as the queries' gradient. -/
def dqLast (c : Dev nD) (t : Fin cfg0.N) (h0 : ¬t.val % 16 = 0) (h1 : t.val % 16 = 15) (xs : Vec F S2x8192x128 .f32) : Vec F S2x8192x128 .bf16 :=
  (dqBuf t).view.read (Elt F) ((dqBuf t).view.writes (Elt F) (dqBuf t).view.junk (atLast m c t h0 h1 xs).2.2.2.1)

theorem scrFirst_cover (c : Dev nD) (t : Fin cfg0.N) (h0 : t.val % 16 = 0) (h1 : ¬t.val % 16 = 15) (y : S2x8192x128.Idx) :
    ∃ p ∈ (atFirst m c t h0 h1).1, y ∈ p.1.set := by
  obtain ⟨p, hp, hy⟩ := View.cover_of_wholeMem (Val := Elt F) runFirst.sl.H7_1 (by sl_whole_mem) y
  refine ⟨p, ?_, hy⟩
  unfold atFirst runFirst
  exact List.mem_append_right _ (List.mem_append_right _ (List.mem_cons_of_mem _ (List.mem_cons_of_mem _ hp)))

/-- What each kind of tile leaves in the scratch. -/
def scrFirst (c : Dev nD) (t : Fin cfg0.N) (h0 : t.val % 16 = 0) (h1 : ¬t.val % 16 = 15) : Vec F S2x8192x128 .f32 :=
  scr.view.read (Elt F) (scr.view.writes (Elt F) scr.view.junk (atFirst m c t h0 h1).1)
def scrMid (c : Dev nD) (t : Fin cfg0.N) (h0 : ¬t.val % 16 = 0) (h1 : ¬t.val % 16 = 15) (xs : Vec F S2x8192x128 .f32) : Vec F S2x8192x128 .f32 :=
  scr.view.read (Elt F) (scr.view.writes (Elt F) ((Memref.isWhole_whole _).unread xs) (atMid m c t h0 h1 xs).1)
def scrLast (c : Dev nD) (t : Fin cfg0.N) (h0 : ¬t.val % 16 = 0) (h1 : t.val % 16 = 15) (xs : Vec F S2x8192x128 .f32) : Vec F S2x8192x128 .f32 :=
  scr.view.read (Elt F) (scr.view.writes (Elt F) ((Memref.isWhole_whole _).unread xs) (atLast m c t h0 h1 xs).1)

/-- The scratch after point `n`: cleared and begun at a pair's first tile, else carried on from the point before. -/
def scrAt (c : Dev nD) : (n : ℕ) → n < cfg0.N → Vec F S2x8192x128 .f32
  | 0, hn => scrFirst m c ⟨0, hn⟩ (Nat.zero_mod _) (by show ¬ 0 % 16 = 15; decide)
  | n + 1, hn =>
    if h0 : (n + 1) % 16 = 0 then scrFirst m c ⟨n + 1, hn⟩ h0 (by show ¬ (n + 1) % 16 = 15; omega)
    else if h1 : (n + 1) % 16 = 15 then scrLast m c ⟨n + 1, hn⟩ h0 h1 (scrAt c n (Nat.lt_of_succ_lt hn))
    else scrMid m c ⟨n + 1, hn⟩ h0 h1 (scrAt c n (Nat.lt_of_succ_lt hn))

/-- The scratch as point `t` finds it, when `t` is not a pair's first tile. -/
def scrBefore (c : Dev nD) (t : Fin cfg0.N) : Vec F S2x8192x128 .f32 :=
  scrAt m c (t.val - 1) (Nat.lt_of_le_of_lt (Nat.sub_le _ _) t.isLt)

theorem scrAt_first (c : Dev nD) (t : Fin cfg0.N) (h0 : t.val % 16 = 0) (h1 : ¬t.val % 16 = 15) :
    scrAt m c t.val t.isLt = scrFirst m c t h0 h1 := by
  obtain ⟨n, hn⟩ := t
  cases n with
  | zero => rfl
  | succ n => exact dif_pos h0

theorem scrAt_mid (c : Dev nD) (t : Fin cfg0.N) (h0 : ¬t.val % 16 = 0) (h1 : ¬t.val % 16 = 15) :
    scrAt m c t.val t.isLt = scrMid m c t h0 h1 (scrBefore m c t) := by
  obtain ⟨n, hn⟩ := t
  cases n with
  | zero => exact absurd (Nat.zero_mod _) h0
  | succ n => exact (dif_neg h0).trans (dif_neg h1)

theorem scrAt_last (c : Dev nD) (t : Fin cfg0.N) (h0 : ¬t.val % 16 = 0) (h1 : t.val % 16 = 15) :
    scrAt m c t.val t.isLt = scrLast m c t h0 h1 (scrBefore m c t) := by
  obtain ⟨n, hn⟩ := t
  cases n with
  | zero => exact absurd (Nat.zero_mod _) h0
  | succ n => exact (dif_neg h0).trans (dif_pos h1)

/-- The keys' gradient of point `t`'s tile. -/
def dkAt (c : Dev nD) (t : Fin cfg0.N) : Vec F S2x512x128 .bf16 :=
  if h0 : t.val % 16 = 0 then dkFirst m c t h0 (by omega)
  else if h1 : t.val % 16 = 15 then dkLast m c t h0 h1 (scrBefore m c t) else dkMid m c t h0 h1 (scrBefore m c t)

/-- The values' gradient of point `t`'s tile. -/
def dvAt (c : Dev nD) (t : Fin cfg0.N) : Vec F S2x512x128 .bf16 :=
  if h0 : t.val % 16 = 0 then dvFirst m c t h0 (by omega)
  else if h1 : t.val % 16 = 15 then dvLast m c t h0 h1 (scrBefore m c t) else dvMid m c t h0 h1 (scrBefore m c t)

/-- The queries' gradient of the pair, once point `t` is its last tile. -/
def dqAt (c : Dev nD) (t : Fin cfg0.N) : Vec F S2x8192x128 .bf16 :=
  if h1 : t.val % 16 = 15 then dqLast m c t (by omega) h1 (scrBefore m c t) else Pipeline.Dat.unnamed (cfg := cfg0) 4 t

/-- What is held between points: before the first the scratch at anything, afterwards at what the point before left. -/
def Held (c : Dev nD) : (n : ℕ) → n ≤ cfg0.N → sProp (MT nD τ sig Unit (Elt F) ℕ (UR sig nD τ) ℕ)
  | 0, _ => Pipeline.ΦA spec0 c
  | n + 1, hn => iprop(owns (c : Thread nD τ) scr fullShare (scrAt m c n hn) ∗ (∃ r, prngReg c r))

theorem rest_eq (c : Dev nD) :
    (Pipeline.ΦA spec0 c : sProp (MT nD τ sig Unit (Elt F) ℕ (UR sig nD τ) ℕ)) = iprop((∃ d, owns (c : Thread nD τ) scr fullShare d) ∗ (∃ r, prngReg c r)) := by
  unfold Pipeline.ΦA; rw [scopedRest0_eq]; simp only [scr, owns_whole]; rfl

theorem held_pos (c : Dev nD) (t : Fin cfg0.N) (hz : t.val ≠ 0) (h : t.val ≤ cfg0.N) :
    Held m c t.val h = iprop(owns (c : Thread nD τ) scr fullShare (scrBefore m c t) ∗ (∃ r, prngReg c r)) := by
  obtain ⟨n, hn⟩ := t
  cases n with
  | zero => exact absurd rfl hz
  | succ n => rfl

/-- Whatever the point, the scratch is held at some contents. -/
theorem held_some (c : Dev nD) (n : ℕ) (h : n ≤ cfg0.N) :
    Held m c n h ⊢ iprop((∃ d, owns (c : Thread nD τ) scr fullShare d) ∗ (∃ r, prngReg c r)) := by
  cases n with
  | zero => exact (show Held m c 0 h = _ from rest_eq c) ▸ Idealize.SL.BI.Entails.refl _
  | succ n =>
    show iprop(owns (c : Thread nD τ) scr fullShare (scrAt m c n h) ∗ (∃ r, prngReg c r)) ⊢ _
    iintro ⟨HS, Hg⟩
    isplitl [HS]; · iexists _; iexact HS
    iexact Hg

/-- The region's proof data: the arrays as it finds them, what each window's buffer holds after each point, what is held between
points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t
    | ⟨5, _⟩ => dkAt m c t
    | ⟨6, _⟩ => dvAt m c t
  Φ t := Held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = Held m c t.val (Nat.le_of_lt t.isLt) := by
  dsimp only [dats]; exact Pipeline.Dat.Φ_castSucc (Held m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dqAt m c t := by dsimp only [dats]
theorem after0_5 (c : Dev nD) (t : Fin cfg0.N) : (dats m 0 c).after 5 t = dkAt m c t := by dsimp only [dats]
theorem after0_6 (c : Dev nD) (t : Fin cfg0.N) : (dats m 0 c).after 6 t = dvAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem leaves0_0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (grid0.coords t) = false from rfl, after0_0]
theorem leaves0_1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (grid0.coords t) = false from rfl, after0_1]
theorem leaves0_2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (grid0.coords t) = false from rfl, after0_2]
theorem leaves0_3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (grid0.coords t) = false from rfl, after0_3]
theorem leaves0_5 (c : Dev nD) (t : Fin cfg0.N) :
    (dats m 0 c).leavesExact 5 t = owns (c : Thread nD τ) (win0_5.stage (cfg0.slots t 5)) fullShare (dkAt m c t) := by
  unfold Dat.leavesExact; rw [show cfg0.idle 5 (grid0.coords t) = false from rfl, after0_5]
theorem leaves0_6 (c : Dev nD) (t : Fin cfg0.N) :
    (dats m 0 c).leavesExact 6 t = owns (c : Thread nD τ) (win0_6.stage (cfg0.slots t 6)) fullShare (dvAt m c t) := by
  unfold Dat.leavesExact; rw [show cfg0.idle 6 (grid0.coords t) = false from rfl, after0_6]
theorem leaves0_4_last (c : Dev nD) (t : Fin cfg0.N) (h1 : t.val % 16 = 15) :
    (dats m 0 c).leavesExact 4 t = owns (c : Thread nD τ) (dqBuf t) fullShare (dqAt m c t) := by
  unfold Dat.leavesExact
  rw [show cfg0.idle 4 (grid0.coords t) = false from by
    show (!(k0_cond2 (grid0.coords t) == 1#1)) = false
    rw [(isLast_iff t).mpr h1]; rfl, after0_4]
theorem leaves0_4_idle (c : Dev nD) (t : Fin cfg0.N) (h1 : ¬t.val % 16 = 15) :
    (dats m 0 c).leavesExact 4 t = iprop(∃ d, owns (c : Thread nD τ) (dqBuf t) fullShare ((dats m 0 c).before 4 t d)) :=
  (dats m 0 c).leavesExact_idle 4 t (by
    show (!(k0_cond2 (grid0.coords t) == 1#1)) = true
    simpa using fun h => h1 ((isLast_iff t).mp h)) (by
    cases hf : (cfg0.win 4).flush t with
    | false => rfl
    | true => exact absurd ((flush0_4 t).mp hf) h1)

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The body at any point, its triple: by the kind of tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = iprop(owns (c : Thread nD τ) scr fullShare (scrAt m c t.val t.isLt) ∗ (∃ r, prngReg c r)) from rfl]
  rw [leaves0_0, leaves0_1, leaves0_2, leaves0_3, leaves0_5, leaves0_6, held_castSucc]
  by_cases h0 : t.val % 16 = 0
  · have h1 : ¬t.val % 16 = 15 := by omega
    rw [leaves0_4_idle m c t h1]
    rw [scrAt_first m c t h0 h1]
    rw [show dkAt m c t = dkFirst m c t h0 h1 from dif_pos h0, show dvAt m c t = dvFirst m c t h0 h1 from dif_pos h0]
    refine BIBase.Entails.trans (Q := iprop(((∃ d, owns (c : Thread nD τ) scr fullShare d) ∗ (∃ r, prngReg c r)) ∗ _)) (sep_mono_l (held_some m c _ _)) ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((atFirst m c t h0 h1).2.2.2 Set.univ _ ((dats m 0 c).before 4 t d4))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%eS, HS⟩⟩
    isplitl [HS Hg]
    · isplitl [HS]
      · unfold owns; iexists _; isplitr
        swap; · iexact HS
        ipureintro; exact View.read_writes_of_cover _ _ _ _ _ (scrFirst_cover m c t h0 h1)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]
    · unfold owns; iexists _; isplitr
      swap; · iexact H5
      ipureintro; exact View.read_writes_of_cover _ _ _ _ _ (dkFirst_cover m c t h0 h1)
    unfold owns; iexists _; isplitr
    swap; · iexact H6
    ipureintro; exact View.read_writes_of_cover _ _ _ _ _ (dvFirst_cover m c t h0 h1)
  · by_cases h1 : t.val % 16 = 15
    · rw [leaves0_4_last m c t h1]
      rw [scrAt_last m c t h0 h1]
      rw [show dkAt m c t = dkLast m c t h0 h1 (scrBefore m c t) from (dif_neg h0).trans (dif_pos h1), show dvAt m c t = dvLast m c t h0 h1 (scrBefore m c t) from (dif_neg h0).trans (dif_pos h1)]
      rw [show dqAt m c t = dqLast m c t h0 h1 (scrBefore m c t) from dif_pos h1]
      rw [held_pos m c t (by intro hz; rw [hz] at h0; exact h0 rfl)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((atLast m c t h0 h1 (scrBefore m c t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS]; · iexact HS
      iintro ⟨H0, H1, H2, H3, ⟨%e4, H4⟩, ⟨%e5, H5⟩, ⟨%e6, H6⟩, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (dqLast_cover m c t h0 h1 (scrBefore m c t))
      isplitl [H5]
      · unfold owns; iexists _; isplitr
        swap; · iexact H5
        ipureintro; exact View.read_writes_of_cover _ _ _ _ _ (dkLast_cover m c t h0 h1 (scrBefore m c t))
      unfold owns; iexists _; isplitr
      swap; · iexact H6
      ipureintro; exact View.read_writes_of_cover _ _ _ _ _ (dvLast_cover m c t h0 h1 (scrBefore m c t))
    · rw [leaves0_4_idle m c t h1]
      rw [scrAt_mid m c t h0 h1]
      rw [show dkAt m c t = dkMid m c t h0 h1 (scrBefore m c t) from (dif_neg h0).trans (dif_neg h1), show dvAt m c t = dvMid m c t h0 h1 (scrBefore m c t) from (dif_neg h0).trans (dif_neg h1)]
      rw [held_pos m c t (by intro hz; rw [hz] at h0; exact h0 rfl)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((atMid m c t h0 h1 (scrBefore m c t)).2.2.2 Set.univ _ ((dats m 0 c).before 4 t d4))
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, ⟨%e5, H5⟩, ⟨%e6, H6⟩, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]
      · unfold owns; iexists _; isplitr
        swap; · iexact H5
        ipureintro; exact View.read_writes_of_cover _ _ _ _ _ (dkMid_cover m c t h0 h1 (scrBefore m c t))
      unfold owns; iexists _; isplitr
      swap; · iexact H6
      ipureintro; exact View.read_writes_of_cover _ _ _ _ _ (dvMid_cover m c t h0 h1 (scrBefore m c t))

/-- The region's obligation on the body, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

theorem held_out (c : Dev nD) : (dats m 0 c).Φ (Fin.last cfg0.N) ⊢ Pipeline.ΦA spec0 c := by
  rw [rest_eq, show (dats m 0 c).Φ (Fin.last cfg0.N) = Held m c cfg0.N le_rfl from rfl]
  exact held_some m c _ _

set_option backward.isDefEq.respectTransparency.types false in
set_option maxHeartbeats 800000 in
/-- Every run ends with each result array holding what its points left, the arguments as they were, and every counter zero. -/
theorem run_main_quiescent : θ_run defs (onTc (τ := τ) (main (F := F))) (s₀ m ρ) (fun r =>
      Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => Idealize.SL.BI.Entails.refl _) (hout := held_out m)

/-- The frame claim: every run ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) (A_eq m)) (run_main_quiescent m ρ)

end Cert.AttnRun

end
-- ==== Proof.AttnTile.lean ====
module

public import proofs.«01_k».proof.Proof.Gen.Kernel2Ideal.Skeleton
public import Idealize.ShloMosaic.Lib.Pointwise
public import Idealize.ShloMosaic.Lib.WordCmp

/-! The arithmetic of one tile of the attention gradient: what each product of the kernel's body is, entry by entry, over the
extended reals. A tile has 512 queries (rows `r`) and 512 keys (columns `c`), each with 128 lanes (`l`). -/

@[expose] public section

noncomputable section

namespace Cert.AttnTile

open Cert.Kernel2Ideal Cert.Kernel2Ideal.Gen
open Idealize.ShloMosaic Idealize.ShloMosaic.TcCoe Idealize.ShloMosaic.Tactic

/-- A tile's array: 512 rows of 128 lanes. -/
abbrev Rows := Fin 512 → Fin 128 → EReal

/-- The product of a row of `a` and a row of `b`. -/
def dot (a b : Rows) (r c : Fin 512) : EReal := ∑ l, a r l * b c l

/-- The weights of a tile wholly below the diagonal, -/
def pOff (q k : Rows) (r c : Fin 512) : EReal := Ideal.exp2 (dot q k r c)

/-- and of a tile on the diagonal, where a key after the query has none. -/
def pDiag (q k : Rows) (r c : Fin 512) : EReal := if c ≤ r then Ideal.exp2 (dot q k r c) else 0

/-- What a tile with weights `p` adds to the values' gradient, -/
def dvInc (p : Fin 512 → Fin 512 → EReal) (o : Rows) (c : Fin 512) (l : Fin 128) : EReal := ∑ r, p r c * o r l

/-- to the keys' gradient, -/
def dkInc (p : Fin 512 → Fin 512 → EReal) (q v o : Rows) (c : Fin 512) (l : Fin 128) : EReal := ∑ r, p r c * dot o v r c * q r l

/-- and to the queries' gradient. -/
def dqInc (p : Fin 512 → Fin 512 → EReal) (k v o : Rows) (r : Fin 512) (l : Fin 128) : EReal := ∑ c, p r c * dot o v r c * k c l

/-- A choice by the order of two positions of a tile, and by a lane's number. -/
theorem select_le (r c : Fin 512) (a b : EReal) :
    Scalar.select (IntOp.cmpi CmpIPredicate.sle (BitVec.ofNat 32 c.val) (BitVec.ofNat 32 r.val)) a b = if c ≤ r then a else b := by
  have h : (IntOp.cmpi CmpIPredicate.sle (BitVec.ofNat 32 c.val) (BitVec.ofNat 32 r.val) = 1#1) ↔ c ≤ r := by
    rw [Fin.le_def]; have := c.isLt; have := r.isLt; word_cmp
  unfold Scalar.select
  by_cases hc : c ≤ r
  · rw [if_pos hc]; exact if_pos (h.mpr hc)
  · rw [if_neg hc]; exact if_neg (fun e => hc (h.mp e))

theorem select_lane (l : Fin 128) (n : ℕ) (hn : n < 128) (a b : EReal) :
    Scalar.select (IntOp.cmpi CmpIPredicate.eq (BitVec.ofNat 32 l.val) (BitVec.ofNat 32 n)) a b = if l.val = n then a else b := by
  have h : (IntOp.cmpi CmpIPredicate.eq (BitVec.ofNat 32 l.val) (BitVec.ofNat 32 n) = 1#1) ↔ l.val = n := by
    have := l.isLt; word_cmp
  unfold Scalar.select
  by_cases hc : l.val = n
  · rw [if_pos hc]; exact if_pos (h.mpr hc)
  · rw [if_neg hc]; exact if_neg (fun e => hc (h.mp e))

theorem pay30 (x : Vec Ideal S1x512x128 .bf16) (r : Fin 512) (l : Fin 128) : k0_pay30 (F := Ideal) x (ix2 r l) = x (ix3 0 r l) := by
  pointwise [k0_pay30]
theorem pay31 (x : Vec Ideal S1x512x128 .bf16) (r : Fin 512) (l : Fin 128) : k0_pay31 (F := Ideal) x (ix2 r l) = x (ix3 0 r l) := by
  pointwise [k0_pay31]
theorem pay32 (x : Vec Ideal S1x512x128 .bf16) (r : Fin 512) (l : Fin 128) : k0_pay32 (F := Ideal) x (ix2 r l) = x (ix3 0 r l) := by
  pointwise [k0_pay32]
theorem pay33 (x : Vec Ideal S1x512x128 .bf16) (r : Fin 512) (l : Fin 128) : k0_pay33 (F := Ideal) x (ix2 r l) = x (ix3 0 r l) := by
  pointwise [k0_pay33]
theorem pay35 (x : Vec Ideal S1x512x128 .bf16) (r : Fin 512) (l : Fin 128) : k0_pay35 (F := Ideal) x (ix2 r l) = x (ix3 0 r l) := by
  pointwise [k0_pay35]
theorem pay36 (x : Vec Ideal S1x512x128 .bf16) (r : Fin 512) (l : Fin 128) : k0_pay36 (F := Ideal) x (ix2 r l) = x (ix3 0 r l) := by
  pointwise [k0_pay36]
theorem pay37 (x : Vec Ideal S1x512x128 .bf16) (r : Fin 512) (l : Fin 128) : k0_pay37 (F := Ideal) x (ix2 r l) = x (ix3 0 r l) := by
  pointwise [k0_pay37]
theorem pay38 (x : Vec Ideal S1x512x128 .bf16) (r : Fin 512) (l : Fin 128) : k0_pay38 (F := Ideal) x (ix2 r l) = x (ix3 0 r l) := by
  pointwise [k0_pay38]
theorem pay29 (e : Fin 2) (r : Fin 8192) (l : Fin 128) : k0_pay29 (F := Ideal) (ix3 e r l) = (0 : EReal) := by
  pointwise [k0_pay29]
theorem pay34 (r : Fin 512) (l : Fin 128) : k0_pay34 (F := Ideal) (ix2 r l) = (0 : EReal) := by
  pointwise [k0_pay34]
theorem pay39 (k q : Vec Ideal S1x512x128 .bf16) (r c : Fin 512) : k0_pay39 (F := Ideal) k q (ix2 r c) = dot (fun r l => q (ix3 0 r l)) (fun r l => k (ix3 0 r l)) r c := by
  pointwise [k0_pay39, k0_pay35, k0_pay30, dot]
theorem pay40 (k q : Vec Ideal S1x512x128 .bf16) (r c : Fin 512) : k0_pay40 (F := Ideal) k q (ix2 r c) = dot (fun r l => q (ix3 0 r l)) (fun r l => k (ix3 0 r l)) r c := by
  pointwise [k0_pay40, k0_pay36, k0_pay31, dot]
theorem pay41 (v o : Vec Ideal S1x512x128 .bf16) (r c : Fin 512) : k0_pay41 (F := Ideal) v o (ix2 r c) = dot (fun r l => o (ix3 0 r l)) (fun r l => v (ix3 0 r l)) r c := by
  pointwise [k0_pay41, k0_pay37, k0_pay32, dot]
theorem pay42 (s : FVec Ideal S512x512 .f32) (r c : Fin 512) : k0_pay42 (F := Ideal) s (ix2 r c) = if c ≤ r then Ideal.exp2 (s (ix2 r c)) else 0 := by
  pointwise [k0_pay42]
  rw [select_le]; rfl
theorem pay14 (k : FVec Ideal S512x128 .bf16) (a : FVec Ideal S512x128 .f32) (q o : Vec Ideal S1x512x128 .bf16) (c : Fin 512) (l : Fin 128) :
    k0_pay14 (F := Ideal) k a q o (ix2 c l) = a (ix2 c l) + dvInc (pOff (fun r l => q (ix3 0 r l)) (fun r l => k (ix2 r l))) (fun r l => o (ix3 0 r l)) c l := by
  pointwise [k0_pay14, k0_pay9, k0_pay7, k0_pay5, dvInc, pOff, dot]
  rfl
theorem pay15 (k v : FVec Ideal S512x128 .bf16) (a : FVec Ideal S512x128 .f32) (q o : Vec Ideal S1x512x128 .bf16) (c : Fin 512) (l : Fin 128) :
    k0_pay15 (F := Ideal) k v a q o (ix2 c l) = a (ix2 c l) + dkInc (pOff (fun r l => q (ix3 0 r l)) (fun r l => k (ix2 r l))) (fun r l => q (ix3 0 r l)) (fun r l => v (ix2 r l)) (fun r l => o (ix3 0 r l)) c l := by
  pointwise [k0_pay15, k0_pay10, k0_pay9, k0_pay7, k0_pay5, dkInc, pOff, dot]
  rfl
theorem pay44 (s : FVec Ideal S512x512 .f32) (r c : Fin 512) : k0_pay44 (F := Ideal) s (ix2 r c) = if c ≤ r then Ideal.exp2 (s (ix2 r c)) else 0 := by
  pointwise [k0_pay44]
  rw [select_le]; rfl
theorem pay43 (s d : FVec Ideal S512x512 .f32) (r c : Fin 512) : k0_pay43 (F := Ideal) s d (ix2 r c) = (if c ≤ r then Ideal.exp2 (s (ix2 r c)) else 0) * d (ix2 r c) := by
  rw [← pay42]; pointwise [k0_pay43]
theorem pay45 (v o : FVec Ideal S512x128 .bf16) (s : FVec Ideal S512x512 .f32) (r c : Fin 512) :
    k0_pay45 (F := Ideal) v o s (ix2 r c) = (if c ≤ r then Ideal.exp2 (s (ix2 r c)) else 0) * dot (fun r l => o (ix2 r l)) (fun r l => v (ix2 r l)) r c := by
  rw [← pay44]; pointwise [k0_pay45, dot]
theorem pay46 (a : FVec Ideal S512x128 .f32) (o : FVec Ideal S512x128 .bf16) (s : FVec Ideal S512x512 .f32) (c : Fin 512) (l : Fin 128) :
    k0_pay46 (F := Ideal) a o s (ix2 c l) = a (ix2 c l) + ∑ r, k0_pay42 (F := Ideal) s (ix2 r c) * o (ix2 r l) := by
  pointwise [k0_pay46]
theorem pay49 (a : FVec Ideal S512x128 .f32) (o : FVec Ideal S512x128 .bf16) (s : FVec Ideal S512x512 .f32) (c : Fin 512) (l : Fin 128) :
    k0_pay49 (F := Ideal) a o s (ix2 c l) = a (ix2 c l) + ∑ r, k0_pay44 (F := Ideal) s (ix2 r c) * o (ix2 r l) := by
  pointwise [k0_pay49]
theorem pay47 (a : FVec Ideal S512x128 .f32) (q : FVec Ideal S512x128 .bf16) (s d : FVec Ideal S512x512 .f32) (c : Fin 512) (l : Fin 128) :
    k0_pay47 (F := Ideal) a q s d (ix2 c l) = a (ix2 c l) + ∑ r, k0_pay43 (F := Ideal) s d (ix2 r c) * q (ix2 r l) := by
  pointwise [k0_pay47]
theorem pay50 (v : FVec Ideal S512x128 .bf16) (a : FVec Ideal S512x128 .f32) (q o : FVec Ideal S512x128 .bf16) (s : FVec Ideal S512x512 .f32) (c : Fin 512) (l : Fin 128) :
    k0_pay50 (F := Ideal) v a q o s (ix2 c l) = a (ix2 c l) + ∑ r, k0_pay45 (F := Ideal) v o s (ix2 r c) * q (ix2 r l) := by
  pointwise [k0_pay50]
theorem pay48 (k : FVec Ideal S512x128 .bf16) (s d : FVec Ideal S512x512 .f32) (g : Vec Ideal S1x512x128 .f32) (r : Fin 512) (l : Fin 128) :
    k0_pay48 (F := Ideal) k s d g (ix3 0 r l) = g (ix3 0 r l) + ∑ c, k0_pay43 (F := Ideal) s d (ix2 r c) * k (ix2 c l) := by
  pointwise [k0_pay48]
theorem pay51 (k v o : FVec Ideal S512x128 .bf16) (s : FVec Ideal S512x512 .f32) (g : Vec Ideal S1x512x128 .f32) (r : Fin 512) (l : Fin 128) :
    k0_pay51 (F := Ideal) k v o s g (ix2 r l) = g (ix3 0 r l) + ∑ c, k0_pay45 (F := Ideal) v o s (ix2 r c) * k (ix2 c l) := by
  pointwise [k0_pay51]
theorem pay52 (x : FVec Ideal S512x128 .f32) (r : Fin 512) (l : Fin 128) : k0_pay52 (F := Ideal) x (ix3 0 r l) = x (ix2 r l) := by
  pointwise [k0_pay52]
theorem pay16 (k v : FVec Ideal S512x128 .bf16) (q o : Vec Ideal S1x512x128 .bf16) (g : Vec Ideal S1x512x128 .f32) (r : Fin 512) (l : Fin 128) :
    k0_pay16 (F := Ideal) k v q o g (ix3 0 r l) = g (ix3 0 r l) + dqInc (pOff (fun r l => q (ix3 0 r l)) (fun r l => k (ix2 r l))) (fun r l => k (ix2 r l)) (fun r l => v (ix2 r l)) (fun r l => o (ix3 0 r l)) r l := by
  pointwise [k0_pay16, k0_pay10, k0_pay9, k0_pay7, k0_pay5, dqInc, pOff, dot]
  rfl
theorem pay53 (k : FVec Ideal S512x128 .bf16) (a : FVec Ideal S512x128 .f32) (q o : Vec Ideal S1x512x128 .bf16) (c : Fin 512) (l : Fin 128) :
    k0_pay53 (F := Ideal) a (k0_pay8 o) (k0_pay13 k q) (ix2 c l) = a (ix2 c l) + dvInc (pOff (fun r l => q (ix3 0 r l)) (fun r l => k (ix2 r l))) (fun r l => o (ix3 0 r l)) c l := by
  pointwise [k0_pay53, k0_pay8, k0_pay13, k0_pay11, k0_pay6, dvInc, pOff, dot]
  rfl
theorem pay54 (k v : FVec Ideal S512x128 .bf16) (a : FVec Ideal S512x128 .f32) (q o : Vec Ideal S1x512x128 .bf16) (c : Fin 512) (l : Fin 128) :
    k0_pay54 (F := Ideal) a (k0_pay6 q) (k0_pay12 k v q o) (ix2 c l)
      = a (ix2 c l) + dkInc (pOff (fun r l => q (ix3 0 r l)) (fun r l => k (ix2 r l))) (fun r l => q (ix3 0 r l)) (fun r l => v (ix2 r l)) (fun r l => o (ix3 0 r l)) c l := by
  pointwise [k0_pay54, k0_pay12, k0_pay11, k0_pay6, k0_pay8, dkInc, pOff, dot]
  rfl
theorem pay55 (k v : FVec Ideal S512x128 .bf16) (q o : Vec Ideal S1x512x128 .bf16) (g : Vec Ideal S1x512x128 .f32) (r : Fin 512) (l : Fin 128) :
    k0_pay55 (F := Ideal) k (k0_pay12 k v q o) g (ix3 0 r l)
      = g (ix3 0 r l) + dqInc (pOff (fun r l => q (ix3 0 r l)) (fun r l => k (ix2 r l))) (fun r l => k (ix2 r l)) (fun r l => v (ix2 r l)) (fun r l => o (ix3 0 r l)) r l := by
  pointwise [k0_pay55, k0_pay12, k0_pay11, k0_pay6, k0_pay8, dqInc, pOff, dot]
  rfl

/-- A lane of a row kept in two parts: at `hi` the lane itself, at `hi + 1` what is left of lane `hi`. -/
def split (hi : ℕ) (hlt : hi < 128) (x : Fin 128 → EReal) (l : Fin 128) : EReal :=
  if l.val = hi then x ⟨hi, hlt⟩ else if l.val = hi + 1 then x ⟨hi, hlt⟩ - x ⟨hi, hlt⟩ else x l

theorem pay3 (x : Vec Ideal S1x8192x128 .f32) (r : Fin 8192) (l : Fin 128) :
    k0_pay3 (F := Ideal) x (ix3 0 r l) = split 64 (by decide) (fun l => x (ix3 0 r l)) l := by
  pointwise [k0_pay3, split]
  erw [select_lane l 64 (by decide), select_lane l 65 (by decide)]
theorem pay4 (x : Vec Ideal S1x8192x128 .f32) (r : Fin 8192) (l : Fin 128) :
    k0_pay4 (F := Ideal) x (ix3 0 r l) = split 64 (by decide) (fun l => x (ix3 0 r l)) l := by
  pointwise [k0_pay4, split]
  erw [select_lane l 64 (by decide), select_lane l 65 (by decide)]
/-- The lanes' numbers. -/
abbrev lanes : IVec S512x128 32 := iota .tc S512x128 32 [1] iota_S512x128_d1_w32

theorem pay59 (x : FVec Ideal S512x128 .f32) (r : Fin 512) (l : Fin 128) :
    k0_pay59 (F := Ideal) lanes x (ix3 0 r l) = split 67 (by decide) (fun l => x (ix2 r l)) l := by
  pointwise [k0_pay59, split, lanes]
  erw [select_lane l 67 (by decide), select_lane l 68 (by decide)]
theorem pay1 (x : FVec Ideal S512x128 .f32) (r : Fin 512) (l : Fin 128) :
    k0_pay1 (F := Ideal) x (k0_pay62 x) (k0_pay63 lanes) (k0_pay64 lanes) (k0_pay65 x) (ix3 0 r l) = split 67 (by decide) (fun l => x (ix2 r l)) l := by
  pointwise [k0_pay1, k0_pay61, k0_pay62, k0_pay63, k0_pay64, k0_pay65, split, lanes]
  erw [select_lane l 67 (by decide), select_lane l 68 (by decide)]
theorem pay60 (x : FVec Ideal S512x128 .f32) (r : Fin 512) (l : Fin 128) : k0_pay60 (F := Ideal) x (ix3 0 r l) = x (ix2 r l) := by
  pointwise [k0_pay60]
theorem pay2 (x : FVec Ideal S512x128 .f32) (r : Fin 512) (l : Fin 128) : k0_pay2 (F := Ideal) x (ix3 0 r l) = x (ix2 r l) := by
  pointwise [k0_pay2]

end Cert.AttnTile

end
-- ==== Proof.AttnLoop.lean ====
module

public import proofs.«01_k».proof.Proof.AttnFrame
public import proofs.«01_k».proof.Proof.AttnTile
public import Idealize.ShloMosaic.Lib.WritesUnit
public import Idealize.ShloMosaic.Lib.VecWindow

/-! The loop of the attention gradient's body, over the tiles of queries below the diagonal: what its four accumulators and the
scratch hold after any number of trips, entry by entry. -/

@[expose] public section

set_option maxRecDepth 16384

noncomputable section

namespace Cert.AttnLoop

open Cert.Kernel2Ideal Cert.Kernel2Ideal.Gen Cert.AttnTile
open Idealize.ShloMosaic Idealize.ShloMosaic.TcCoe Idealize.ShloMosaic.Tactic

/-- Row `r` of tile `a`, among the 8192. -/
def rowAt (a : ℕ) (r : Fin 512) : Fin 8192 := ⟨(512 * a + r.val) % 8192, Nat.mod_lt _ (by decide)⟩

theorem rowAt_val (a : ℕ) (ha : a < 16) (r : Fin 512) : (rowAt a r).val = 512 * a + r.val := by
  have := r.isLt
  exact Nat.mod_eq_of_lt (by omega)

/-- A row's place in its tile. -/
def inTile (x : Fin 8192) : Fin 512 := ⟨x.val % 512, Nat.mod_lt _ (by decide)⟩

/-- Tile `a` of head `e` of an array of two heads, -/
def tile (f : S2x8192x128.Idx → EReal) (e : Fin 2) (a : ℕ) : Rows := fun r l => f (ix3 e (rowAt a r) l)

/-- and a tile already loaded. -/
def asRows (f : S512x128.Idx → EReal) : Rows := fun r l => f (ix2 r l)

/-- What the tile of row `x` adds to the queries' gradient of head `e`. -/
def dqTile (Q O : S2x8192x128.Idx → EReal) (v5 v7 v9 v11 : FVec Ideal S512x128 .bf16) (e : Fin 2) (x : Fin 8192) (l : Fin 128) : EReal :=
  dqInc (pOff (tile Q e (x.val / 512)) (asRows (if e = 0 then v5 else v7))) (asRows (if e = 0 then v5 else v7)) (asRows (if e = 0 then v9 else v11))
    (tile O e (x.val / 512)) (inTile x) l

/-- A load of 512 rows at tile `a` of head `e` reads that tile. -/
theorem load_tile {φ : EltTy} (v : View sig .tc .vmem S2x8192x128 φ) (f : v.ty.Contents (Elt Ideal)) (e : Fin 2) (a : ℕ) (ha : a < 16)
    {off : Fin 3 → ℕ} (inb : ∀ d, off d + S1x512x128.size d ≤ S2x8192x128.size d) (h : off = ![e.val, 512 * a, 0]) (r : Fin 512) (l : Fin 128) :
    v.readAt (Elt Ideal) (Rect.unit (s := S2x8192x128) off S1x512x128.size inb).toLoadRect f (ix3 0 r l) = v.read (Elt Ideal) f (ix3 e (rowAt a r) l) := by
  subst h
  refine congrArg (v.read (Elt Ideal) f) (funext fun d => Fin.ext ?_)
  have hr := rowAt_val a ha r
  fin_cases d
  · show e.val + 1 * 0 = e.val; omega
  · show 512 * a + 1 * r.val = (rowAt a r).val; omega
  · show 0 + 1 * l.val = l.val; omega

/-- A store of 512 rows at tile `a` of head `e` is read back there, and nowhere else. -/
theorem store_tile {φ : EltTy} (v : View sig .tc .vmem S2x8192x128 φ) (f : v.ty.Contents (Elt Ideal)) (e : Fin 2) (a : ℕ)
    {off : Fin 3 → ℕ} (inb : ∀ d, off d + S1x512x128.size d ≤ S2x8192x128.size d) (h : off = ![e.val, 512 * a, 0])
    (w : (Rect.unit (s := S2x8192x128) off S1x512x128.size inb).shape.Idx → Elt Ideal φ) (L : List (View.Piece (Elt Ideal) S2x8192x128 φ)) (e' : Fin 2) (x : Fin 8192) (l : Fin 128) :
    v.read (Elt Ideal) (v.writes (Elt Ideal) f (⟨Rect.unit (s := S2x8192x128) off S1x512x128.size inb, w⟩ :: L)) (ix3 e' x l)
      = if e' = e ∧ x.val / 512 = a then w (ix3 0 (inTile x) l) else v.read (Elt Ideal) (v.writes (Elt Ideal) f L) (ix3 e' x l) := by
  by_cases hc : e' = e ∧ x.val / 512 = a
  · rw [if_pos hc]
    refine View.read_writes_cons_unit_of_mem v f inb w L _ _ h fun d => ?_
    obtain ⟨rfl, hx⟩ := hc
    fin_cases d
    · show e'.val = e'.val + 0; omega
    · show x.val = 512 * a + x.val % 512; omega
    · show l.val = 0 + l.val; omega
  · rw [if_neg hc]
    by_cases he : e' = e
    · have hx : x.val / 512 ≠ a := fun t => hc ⟨he, t⟩
      refine View.read_writes_cons_unit_of_not_mem v f inb w L _ h 1 ?_
      show x.val < 512 * a ∨ 512 * a + 512 ≤ x.val
      omega
    · have hv : e'.val ≠ e.val := fun t => he (Fin.ext t)
      refine View.read_writes_cons_unit_of_not_mem v f inb w L _ h 0 ?_
      show e'.val < e.val ∨ e.val + 1 ≤ e'.val
      omega

/-- The loop goes over the tiles after the point's own, and the one after it has no trips. -/
theorem trips1 : ∀ i : grid0.Coords, (k0_t1_loop i).trips = 15 - (i 1).val := by decide +kernel
theorem trips2 (i : grid0.Coords) : (k0_t2_loop i).trips = 0 := Nat.le_zero.mp (k0_t2_abs i).2.1

section
variable (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (a1 : BitVec 32) (v3 : IVec S512x128 32) (v5 v7 v9 v11 : FVec Ideal S512x128 .bf16) (v50 v52 v63 v65 v70 : FVec Ideal S512x128 .f32) (v75 : BitVec 32)
    (X2 : BufTy.Contents (Elt Ideal) M2.view.ty) (X5 : BufTy.Contents (Elt Ideal) M5.view.ty)

/-- What one trip yields, -/
theorem trip_yield (k : Fin (k0_t1_loop i).trips) (acc : FVec Ideal S512x128 .f32 × FVec Ideal S512x128 .f32 × FVec Ideal S512x128 .f32 × FVec Ideal S512x128 .f32)
    (f : BufTy.Contents (Elt Ideal) M9.view.ty) :
    tripR_k0_t1 (F := Ideal) Variants.none c none i M2 h2 M3 h3 M4 h4 M5 h5 M6 h6 M7 h7 M8 h8 M9 h9 a1 v3 v5 v7 v9 v11 v50 v52 v63 v65 v70 v75 X2 X5 k acc f
      = (k0_pay15 v5 v9 acc.1 (M2.view.readAt (Elt Ideal) (Rect.unit (s := S2x8192x128) (k0_off3 i k) S1x512x128.size (k0_off3_inb i k)).toLoadRect X2) (M5.view.readAt (Elt Ideal) (Rect.unit (s := S2x8192x128) (k0_off3 i k) S1x512x128.size (k0_off3_inb i k)).toLoadRect X5), k0_pay14 v5 acc.2.1 (M2.view.readAt (Elt Ideal) (Rect.unit (s := S2x8192x128) (k0_off3 i k) S1x512x128.size (k0_off3_inb i k)).toLoadRect X2) (M5.view.readAt (Elt Ideal) (Rect.unit (s := S2x8192x128) (k0_off3 i k) S1x512x128.size (k0_off3_inb i k)).toLoadRect X5),
          k0_pay54 acc.2.2.1 (k0_pay6 (M2.view.readAt (Elt Ideal) (Rect.unit (s := S2x8192x128) (k0_off4 i k) S1x512x128.size (k0_off4_inb i k)).toLoadRect X2)) (k0_pay12 v7 v11 (M2.view.readAt (Elt Ideal) (Rect.unit (s := S2x8192x128) (k0_off4 i k) S1x512x128.size (k0_off4_inb i k)).toLoadRect X2) (M5.view.readAt (Elt Ideal) (Rect.unit (s := S2x8192x128) (k0_off4 i k) S1x512x128.size (k0_off4_inb i k)).toLoadRect X5)), k0_pay53 acc.2.2.2 (k0_pay8 (M5.view.readAt (Elt Ideal) (Rect.unit (s := S2x8192x128) (k0_off4 i k) S1x512x128.size (k0_off4_inb i k)).toLoadRect X5)) (k0_pay13 v7 (M2.view.readAt (Elt Ideal) (Rect.unit (s := S2x8192x128) (k0_off4 i k) S1x512x128.size (k0_off4_inb i k)).toLoadRect X2))) := by
  unfold tripR_k0_t1 trip_k0_t1; rfl

/-- and what it writes into the scratch. -/
theorem trip_pieces (k : Fin (k0_t1_loop i).trips) (acc : FVec Ideal S512x128 .f32 × FVec Ideal S512x128 .f32 × FVec Ideal S512x128 .f32 × FVec Ideal S512x128 .f32)
    (f : BufTy.Contents (Elt Ideal) M9.view.ty) :
    tripL_k0_t1 (F := Ideal) Variants.none c none i M2 h2 M3 h3 M4 h4 M5 h5 M6 h6 M7 h7 M8 h8 M9 h9 a1 v3 v5 v7 v9 v11 v50 v52 v63 v65 v70 v75 X2 X5 k acc f
      = [(⟨Rect.unit (s := S2x8192x128) (k0_off4 i k) S1x512x128.size (k0_off4_inb i k), k0_pay55 v7 (k0_pay12 v7 v11 (M2.view.readAt (Elt Ideal) (Rect.unit (s := S2x8192x128) (k0_off4 i k) S1x512x128.size (k0_off4_inb i k)).toLoadRect X2) (M5.view.readAt (Elt Ideal) (Rect.unit (s := S2x8192x128) (k0_off4 i k) S1x512x128.size (k0_off4_inb i k)).toLoadRect X5)) (M9.view.readAt (Elt Ideal) (Rect.unit (s := S2x8192x128) (k0_off4 i k) S1x512x128.size (k0_off4_inb i k)).toLoadRect f)⟩ : View.Piece (Elt Ideal) S2x8192x128 .f32),
         (⟨Rect.unit (s := S2x8192x128) (k0_off3 i k) S1x512x128.size (k0_off3_inb i k), k0_pay16 v5 v9 (M2.view.readAt (Elt Ideal) (Rect.unit (s := S2x8192x128) (k0_off3 i k) S1x512x128.size (k0_off3_inb i k)).toLoadRect X2) (M5.view.readAt (Elt Ideal) (Rect.unit (s := S2x8192x128) (k0_off3 i k) S1x512x128.size (k0_off3_inb i k)).toLoadRect X5) (M9.view.readAt (Elt Ideal) (Rect.unit (s := S2x8192x128) (k0_off3 i k) S1x512x128.size (k0_off3_inb i k)).toLoadRect f)⟩ : View.Piece (Elt Ideal) S2x8192x128 .f32)] := by
  unfold tripL_k0_t1 trip_k0_t1; rfl

/-- After `k` trips the four accumulators have gathered the `k` tiles below the diagonal, and so have the scratch's rows of those tiles. -/
theorem loop_value (G : BufTy.Contents (Elt Ideal) M9.view.ty) (init : FVec Ideal S512x128 .f32 × FVec Ideal S512x128 .f32 × FVec Ideal S512x128 .f32 × FVec Ideal S512x128 .f32) :
    ∀ k : ℕ, k ≤ (k0_t1_loop i).trips →
      (∀ x l, ((st_k0_t1 (F := Ideal) Variants.none c none i M2 h2 M3 h3 M4 h4 M5 h5 M6 h6 M7 h7 M8 h8 M9 h9 a1 v3 v5 v7 v9 v11 v50 v52 v63 v65 v70 v75 X2 X5 G init k).1.1 (ix2 x l) : EReal) = init.1 (ix2 x l) + ∑ a ∈ Finset.range k, dkInc (pOff (tile (M2.view.read (Elt Ideal) X2) 0 ((i 1).val + 1 + a)) (asRows v5)) (tile (M2.view.read (Elt Ideal) X2) 0 ((i 1).val + 1 + a)) (asRows v9) (tile (M5.view.read (Elt Ideal) X5) 0 ((i 1).val + 1 + a)) x l)
      ∧ (∀ x l, ((st_k0_t1 (F := Ideal) Variants.none c none i M2 h2 M3 h3 M4 h4 M5 h5 M6 h6 M7 h7 M8 h8 M9 h9 a1 v3 v5 v7 v9 v11 v50 v52 v63 v65 v70 v75 X2 X5 G init k).1.2.1 (ix2 x l) : EReal) = init.2.1 (ix2 x l) + ∑ a ∈ Finset.range k, dvInc (pOff (tile (M2.view.read (Elt Ideal) X2) 0 ((i 1).val + 1 + a)) (asRows v5)) (tile (M5.view.read (Elt Ideal) X5) 0 ((i 1).val + 1 + a)) x l)
      ∧ (∀ x l, ((st_k0_t1 (F := Ideal) Variants.none c none i M2 h2 M3 h3 M4 h4 M5 h5 M6 h6 M7 h7 M8 h8 M9 h9 a1 v3 v5 v7 v9 v11 v50 v52 v63 v65 v70 v75 X2 X5 G init k).1.2.2.1 (ix2 x l) : EReal) = init.2.2.1 (ix2 x l) + ∑ a ∈ Finset.range k, dkInc (pOff (tile (M2.view.read (Elt Ideal) X2) 1 ((i 1).val + 1 + a)) (asRows v7)) (tile (M2.view.read (Elt Ideal) X2) 1 ((i 1).val + 1 + a)) (asRows v11) (tile (M5.view.read (Elt Ideal) X5) 1 ((i 1).val + 1 + a)) x l)
      ∧ (∀ x l, ((st_k0_t1 (F := Ideal) Variants.none c none i M2 h2 M3 h3 M4 h4 M5 h5 M6 h6 M7 h7 M8 h8 M9 h9 a1 v3 v5 v7 v9 v11 v50 v52 v63 v65 v70 v75 X2 X5 G init k).1.2.2.2 (ix2 x l) : EReal) = init.2.2.2 (ix2 x l) + ∑ a ∈ Finset.range k, dvInc (pOff (tile (M2.view.read (Elt Ideal) X2) 1 ((i 1).val + 1 + a)) (asRows v7)) (tile (M5.view.read (Elt Ideal) X5) 1 ((i 1).val + 1 + a)) x l)
      ∧ (∀ e x l, (M9.view.read (Elt Ideal) (M9.view.writes (Elt Ideal) G (st_k0_t1 (F := Ideal) Variants.none c none i M2 h2 M3 h3 M4 h4 M5 h5 M6 h6 M7 h7 M8 h8 M9 h9 a1 v3 v5 v7 v9 v11 v50 v52 v63 v65 v70 v75 X2 X5 G init k).2) (ix3 e x l) : EReal) = M9.view.read (Elt Ideal) G (ix3 e x l) + (if (i 1).val + 1 ≤ x.val / 512 ∧ x.val / 512 < (i 1).val + 1 + k then dqTile (M2.view.read (Elt Ideal) X2) (M5.view.read (Elt Ideal) X5) v5 v7 v9 v11 e x l else 0)) := by
  intro k
  induction k with
  | zero =>
    intro _
    refine ⟨fun x l => ?_, fun x l => ?_, fun x l => ?_, fun x l => ?_, fun e x l => ?_⟩
    · rw [Finset.range_zero, Finset.sum_empty]; exact (add_zero (M := EReal) _).symm
    · rw [Finset.range_zero, Finset.sum_empty]; exact (add_zero (M := EReal) _).symm
    · rw [Finset.range_zero, Finset.sum_empty]; exact (add_zero (M := EReal) _).symm
    · rw [Finset.range_zero, Finset.sum_empty]; exact (add_zero (M := EReal) _).symm
    · rw [if_neg (by omega)]; exact (add_zero (M := EReal) _).symm
  | succ n ih =>
    intro hk
    have hn : n < (k0_t1_loop i).trips := hk
    obtain ⟨ihk0, ihv0, ihk1, ihv1, ihs⟩ := ih (Nat.le_of_lt hn)
    have ht := trips1 i
    have hi : (i 1).val < 16 := (i 1).isLt
    have ha : (i 1).val + 1 + n < 16 := by omega
    have o3 : k0_off3 i ⟨n, hn⟩ = ![(0 : Fin 2).val, 512 * ((i 1).val + 1 + n), 0] := by
      rw [k0_off3_eq]; exact congrArg (fun t => (![0, t, 0] : Fin 3 → ℕ)) (show 512 * (i 1).val + 512 * n + 512 = 512 * ((i 1).val + 1 + n) by omega)
    have o4 : k0_off4 i ⟨n, hn⟩ = ![(1 : Fin 2).val, 512 * ((i 1).val + 1 + n), 0] := by
      rw [k0_off4_eq]; exact congrArg (fun t => (![1, t, 0] : Fin 3 → ℕ)) (show 512 * (i 1).val + 512 * n + 512 = 512 * ((i 1).val + 1 + n) by omega)
    have e := st_k0_t1_succ (F := Ideal) Variants.none c none i M2 h2 M3 h3 M4 h4 M5 h5 M6 h6 M7 h7 M8 h8 M9 h9 a1 v3 v5 v7 v9 v11 v50 v52 v63 v65 v70 v75 X2 X5 G init ⟨n, hn⟩
    rw [trip_yield, trip_pieces] at e
    rw [show n + 1 = (⟨n, hn⟩ : Fin (k0_t1_loop i).trips).val + 1 from rfl, e]
    clear e
    have q3 := fun r l => load_tile M2.view X2 0 _ ha (k0_off3_inb i ⟨n, hn⟩) o3 r l
    have q4 := fun r l => load_tile M2.view X2 1 _ ha (k0_off4_inb i ⟨n, hn⟩) o4 r l
    have p3 := fun r l => load_tile M5.view X5 0 _ ha (k0_off3_inb i ⟨n, hn⟩) o3 r l
    have p4 := fun r l => load_tile M5.view X5 1 _ ha (k0_off4_inb i ⟨n, hn⟩) o4 r l
    refine ⟨fun x l => ?_, fun x l => ?_, fun x l => ?_, fun x l => ?_, fun e x l => ?_⟩
    · rw [Finset.sum_range_succ, ← add_assoc, ← ihk0]
      refine (pay15 _ _ _ _ _ x l).trans ?_
      simp only [q3, p3]; rfl
    · rw [Finset.sum_range_succ, ← add_assoc, ← ihv0]
      refine (pay14 _ _ _ _ x l).trans ?_
      simp only [q3, p3]; rfl
    · rw [Finset.sum_range_succ, ← add_assoc, ← ihk1]
      refine (pay54 _ _ _ _ _ x l).trans ?_
      simp only [q4, p4]; rfl
    · rw [Finset.sum_range_succ, ← add_assoc, ← ihv1]
      refine (pay53 _ _ _ _ x l).trans ?_
      simp only [q4, p4]; rfl
    · have hrow : ∀ y : Fin 8192, y.val / 512 = (i 1).val + 1 + n → rowAt ((i 1).val + 1 + n) (inTile y) = y := fun y hy => Fin.ext (by
        rw [rowAt_val _ ha]; show 512 * ((i 1).val + 1 + n) + y.val % 512 = y.val; omega)
      rw [View.writes_append]
      dsimp only
      rw [store_tile M9.view _ 1 _ _ o4, store_tile M9.view _ 0 _ _ o3, View.writes_nil]
      by_cases hx : x.val / 512 = (i 1).val + 1 + n
      · have he : e = 0 ∨ e = 1 := by fin_cases e; exact .inl rfl; exact .inr rfl
        have hin : (i 1).val + 1 ≤ x.val / 512 ∧ x.val / 512 < (i 1).val + 1 + (n + 1) := by omega
        have hout : ¬ ((i 1).val + 1 ≤ x.val / 512 ∧ x.val / 512 < (i 1).val + 1 + n) := by omega
        have base : ∀ e, (M9.view.read (Elt Ideal) (M9.view.writes (Elt Ideal) G (st_k0_t1 (F := Ideal) Variants.none c none i M2 h2 M3 h3 M4 h4 M5 h5 M6 h6 M7 h7 M8 h8 M9 h9 a1 v3 v5 v7 v9 v11 v50 v52 v63 v65 v70 v75 X2 X5 G init n).2) (ix3 e x l) : EReal) = M9.view.read (Elt Ideal) G (ix3 e x l) := fun e => by
          rw [ihs, if_neg hout]; exact add_zero (M := EReal) _
        rw [if_pos hin]
        rcases he with rfl | rfl
        · rw [if_neg (fun t => absurd t.1 (show ¬ (0 : Fin 2) = 1 by decide)), if_pos ⟨rfl, hx⟩]
          refine (pay16 _ _ _ _ _ _ l).trans ?_
          rw [load_tile M9.view _ 0 _ ha _ o3, hrow x hx, base 0]
          simp only [q3, p3]
          unfold dqTile
          rw [hx]; rfl
        · rw [if_pos ⟨rfl, hx⟩]
          refine (pay55 _ _ _ _ _ _ l).trans ?_
          rw [load_tile M9.view _ 1 _ ha _ o4, hrow x hx, base 1]
          simp only [q4, p4]
          unfold dqTile
          rw [hx]; rfl
      · rw [if_neg (fun t => hx t.2), if_neg (fun t => hx t.2), ihs]
        congr 2
        exact propext ⟨fun t => ⟨t.1, by omega⟩, fun t => ⟨t.1, by have : (⟨n, hn⟩ : Fin (k0_t1_loop i).trips).val + 1 = n + 1 := rfl; have := t.2; omega⟩⟩

end

end Cert.AttnLoop

end
-- ==== Proof.AttnSum.lean ====
module

public import proofs.«01_k».proof.Proof.AttnLoop

/-! What a tile of keys adds to the attention gradient, as sums over the rows' numbers, and how those sums fall into tiles of queries. -/

@[expose] public section

set_option maxRecDepth 16384

noncomputable section

namespace Cert.AttnSum

open Cert.Kernel2Ideal Cert.Kernel2Ideal.Gen Cert.AttnTile Cert.AttnLoop Cert.AttnRun
open Idealize.ShloMosaic Idealize.ShloMosaic.TcCoe Idealize.ShloMosaic.Tactic

/-! ### The terms a tile adds, by the rows' numbers -/

section
variable (j : ℕ) (Q O : S2x8192x128.Idx → EReal) (K V : S2x512x128.Idx → EReal) (e : Fin 2)

/-- The weight of query `x` and key `y` of the point's tile: none when the key comes after the query. -/
def wt (x : Fin 8192) (y : Fin 512) : EReal := if 512 * j + y.val ≤ x.val then Ideal.exp2 (∑ l, Q (ix3 e x l) * K (ix3 e y l)) else 0

/-- The weight's gradient. -/
def dw (x : Fin 8192) (y : Fin 512) : EReal := ∑ l, O (ix3 e x l) * V (ix3 e y l)

/-- What the tile adds to the queries' gradient, -/
def dqAdd (x : Fin 8192) (l : Fin 128) : EReal := ∑ y, wt j Q K e x y * dw O V e x y * K (ix3 e y l)

/-- and the tile's keys' and values' gradient. -/
def dkSum (y : Fin 512) (l : Fin 128) : EReal := ∑ x, wt j Q K e x y * dw O V e x y * Q (ix3 e x l)
def dvSum (y : Fin 512) (l : Fin 128) : EReal := ∑ x, wt j Q K e x y * O (ix3 e x l)

/-- One head of a block of keys. -/
def head (f : S2x512x128.Idx → EReal) (e : Fin 2) : Rows := fun r l => f (ix3 e r l)

theorem pOff_eq (a : ℕ) (ha : a < 16) (hj : j < a) (r y : Fin 512) : pOff (tile Q e a) (head K e) r y = wt j Q K e (rowAt a r) y := by
  unfold wt
  rw [if_pos (by rw [rowAt_val a ha]; have := y.isLt; omega)]; rfl

theorem pDiag_eq (hj : j < 16) (r y : Fin 512) : pDiag (tile Q e j) (head K e) r y = wt j Q K e (rowAt j r) y := by
  unfold wt pDiag
  have hr := rowAt_val j hj r
  by_cases h : y ≤ r
  · have h' := Fin.le_def.mp h
    rw [if_pos h, if_pos (by omega)]; rfl
  · have h' : ¬ y.val ≤ r.val := fun t => h (Fin.le_def.mpr t)
    rw [if_neg h, if_neg (by omega)]

theorem wt_above (a : ℕ) (ha : a < j) (hj : j < 16) (r y : Fin 512) : wt j Q K e (rowAt a r) y = 0 := by
  unfold wt
  exact if_neg (by rw [rowAt_val a (by omega)]; have := r.isLt; omega)

/-- A sum over the 8192 rows, tile by tile; -/
theorem sum_rows (f : Fin 8192 → EReal) : ∑ x, f x = ∑ a ∈ Finset.range 16, ∑ r, f (rowAt a r) := by
  rw [Finset.sum_range, ← Fintype.sum_prod_type']
  refine (Fintype.sum_equiv (finProdFinEquiv (m := 16) (n := 512)) (fun p => f (rowAt p.1.val p.2)) f fun p => ?_).symm
  refine congrArg f (Fin.ext ?_)
  rw [rowAt_val _ p.1.isLt]
  show 512 * p.1.val + p.2.val = p.2.val + 512 * p.1.val
  omega

/-- and with nothing in the tiles before tile `j`. -/
theorem sum_rows_from (hj : j < 16) (f : Fin 8192 → EReal) (h0 : ∀ a < j, ∀ r, f (rowAt a r) = 0) :
    ∑ x, f x = ∑ r, f (rowAt j r) + ∑ a ∈ Finset.range (15 - j), ∑ r, f (rowAt (j + 1 + a) r) := by
  rw [sum_rows, show (16 : ℕ) = (j + 1) + (15 - j) by omega, Finset.sum_range_add, Finset.sum_range_succ,
    Finset.sum_eq_zero (fun a ha => Finset.sum_eq_zero fun r _ => h0 a (Finset.mem_range.mp ha) r), zero_add]

theorem dvSum_eq (hj : j < 16) (y : Fin 512) (l : Fin 128) :
    dvSum j Q O K e y l = dvInc (pDiag (tile Q e j) (head K e)) (tile O e j) y l
      + ∑ a ∈ Finset.range (15 - j), dvInc (pOff (tile Q e (j + 1 + a)) (head K e)) (tile O e (j + 1 + a)) y l := by
  unfold dvSum
  rw [sum_rows_from j hj _ fun a ha r => by rw [wt_above j Q K e a ha hj, zero_mul]]
  refine congrArg₂ (· + ·) (Finset.sum_congr rfl fun r _ => ?_) (Finset.sum_congr rfl fun a ha => Finset.sum_congr rfl fun r _ => ?_)
  · rw [pDiag_eq j Q K e hj]; rfl
  · have := Finset.mem_range.mp ha
    rw [pOff_eq j Q K e _ (by omega) (by omega)]; rfl

theorem dkSum_eq (hj : j < 16) (y : Fin 512) (l : Fin 128) :
    dkSum j Q O K V e y l = dkInc (pDiag (tile Q e j) (head K e)) (tile Q e j) (head V e) (tile O e j) y l
      + ∑ a ∈ Finset.range (15 - j), dkInc (pOff (tile Q e (j + 1 + a)) (head K e)) (tile Q e (j + 1 + a)) (head V e) (tile O e (j + 1 + a)) y l := by
  unfold dkSum
  rw [sum_rows_from j hj _ fun a ha r => by rw [wt_above j Q K e a ha hj, zero_mul, zero_mul]]
  refine congrArg₂ (· + ·) (Finset.sum_congr rfl fun r _ => ?_) (Finset.sum_congr rfl fun a ha => Finset.sum_congr rfl fun r _ => ?_)
  · rw [pDiag_eq j Q K e hj]; rfl
  · have := Finset.mem_range.mp ha
    rw [pOff_eq j Q K e _ (by omega) (by omega)]; rfl

theorem row_eq (x : Fin 8192) : rowAt (x.val / 512) (inTile x) = x := Fin.ext (by
  rw [rowAt_val _ (by have := x.isLt; omega)]; show 512 * (x.val / 512) + x.val % 512 = x.val; omega)

theorem dqAdd_above (x : Fin 8192) (h : x.val / 512 < j) (l : Fin 128) : dqAdd j Q O K V e x l = 0 := by
  refine Finset.sum_eq_zero fun y _ => ?_
  unfold wt
  rw [if_neg (by have := y.isLt; omega), zero_mul, zero_mul]

theorem dqAdd_diag (hj : j < 16) (x : Fin 8192) (h : x.val / 512 = j) (l : Fin 128) :
    dqAdd j Q O K V e x l = dqInc (pDiag (tile Q e j) (head K e)) (head K e) (head V e) (tile O e j) (inTile x) l := by
  refine Finset.sum_congr rfl fun y _ => ?_
  rw [pDiag_eq j Q K e hj]
  have hx : rowAt j (inTile x) = x := h ▸ row_eq x
  rw [hx]
  unfold dw dot tile
  simp only [hx]; rfl

theorem dqAdd_off (x : Fin 8192) (hj : j < x.val / 512) (l : Fin 128) :
    dqAdd j Q O K V e x l = dqInc (pOff (tile Q e (x.val / 512)) (head K e)) (head K e) (head V e) (tile O e (x.val / 512)) (inTile x) l := by
  refine Finset.sum_congr rfl fun y _ => ?_
  rw [pOff_eq j Q K e _ (by have := x.isLt; omega) hj]
  unfold dw dot tile
  simp only [row_eq]; rfl

end

end Cert.AttnSum

end
-- ==== Proof.AttnTerms.lean ====
module

public import proofs.«01_k».proof.Proof.AttnSum

/-! What a tile of keys adds to the attention gradient, as sums over the rows' numbers, and how those sums fall into tiles of queries. -/

@[expose] public section

set_option maxRecDepth 16384

noncomputable section

namespace Cert.AttnBody

open Cert.Kernel2Ideal Cert.Kernel2Ideal.Gen Cert.AttnTile Cert.AttnLoop Cert.AttnSum Cert.AttnRun
open Idealize.ShloMosaic Idealize.ShloMosaic.TcCoe Idealize.ShloMosaic.Tactic

/-! ### The body's own terms -/

/-- The two heads of the point's keys, -/
def kd0 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x128 .bf16 :=
  k0_pay30 (M3.view.readAt (Elt Ideal) (Rect.unit (s := S2x512x128) ![0, 0, 0] S1x512x128.size inb_S2x512x128_S1x512x128_0_0_0).toLoadRect (h3.unread x1))
/-- (the second) -/
def kd1 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x128 .bf16 :=
  k0_pay31 (M3.view.readAt (Elt Ideal) (Rect.unit (s := S2x512x128) ![1, 0, 0] S1x512x128.size inb_S2x512x128_S1x512x128_1_0_0).toLoadRect (h3.unread x1))
/-- and of its values. -/
def vd0 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x128 .bf16 :=
  k0_pay32 (M4.view.readAt (Elt Ideal) (Rect.unit (s := S2x512x128) ![0, 0, 0] S1x512x128.size inb_S2x512x128_S1x512x128_0_0_0).toLoadRect (h4.unread x2))
/-- (the second) -/
def vd1 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x128 .bf16 :=
  k0_pay33 (M4.view.readAt (Elt Ideal) (Rect.unit (s := S2x512x128) ![1, 0, 0] S1x512x128.size inb_S2x512x128_S1x512x128_1_0_0).toLoadRect (h4.unread x2))
/-- The products of the tile's queries and keys, head by head, -/
def s0 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x512 .f32 :=
  k0_pay39 (M3.view.readAt (Elt Ideal) (Rect.unit (s := S2x512x128) ![0, 0, 0] S1x512x128.size inb_S2x512x128_S1x512x128_0_0_0).toLoadRect (h3.unread x1)) (M2.view.readAt (Elt Ideal) (Rect.unit (s := S2x8192x128) (k0_off1 i) S1x512x128.size (k0_off1_inb i)).toLoadRect (h2.unread x0))
/-- (the second head) -/
def s1 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x512 .f32 :=
  k0_pay40 (M3.view.readAt (Elt Ideal) (Rect.unit (s := S2x512x128) ![1, 0, 0] S1x512x128.size inb_S2x512x128_S1x512x128_1_0_0).toLoadRect (h3.unread x1)) (M2.view.readAt (Elt Ideal) (Rect.unit (s := S2x8192x128) (k0_off2 i) S1x512x128.size (k0_off2_inb i)).toLoadRect (h2.unread x0))
/-- and of the result's gradient and the values, for the first head. -/
def t0 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x512 .f32 :=
  k0_pay41 (M4.view.readAt (Elt Ideal) (Rect.unit (s := S2x512x128) ![0, 0, 0] S1x512x128.size inb_S2x512x128_S1x512x128_0_0_0).toLoadRect (h4.unread x2)) (M5.view.readAt (Elt Ideal) (Rect.unit (s := S2x8192x128) (k0_off1 i) S1x512x128.size (k0_off1_inb i)).toLoadRect (h5.unread x3))
/-- What the diagonal tile gives the values' gradient, head by head, -/
def dv0 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x128 .f32 :=
  k0_pay46 k0_pay34 (k0_pay37 (M5.view.readAt (Elt Ideal) (Rect.unit (s := S2x8192x128) (k0_off1 i) S1x512x128.size (k0_off1_inb i)).toLoadRect (h5.unread x3))) (s0 c i M2 h2 M3 h3 M4 h4 M5 h5 M6 h6 M7 h7 M8 h8 M9 h9 x0 x1 x2 x3)
/-- (the second head) -/
def dv1 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x128 .f32 :=
  k0_pay49 k0_pay34 (k0_pay38 (M5.view.readAt (Elt Ideal) (Rect.unit (s := S2x8192x128) (k0_off2 i) S1x512x128.size (k0_off2_inb i)).toLoadRect (h5.unread x3))) (s1 c i M2 h2 M3 h3 M4 h4 M5 h5 M6 h6 M7 h7 M8 h8 M9 h9 x0 x1 x2 x3)
/-- and the keys' gradient. -/
def dk0 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x128 .f32 :=
  k0_pay47 k0_pay34 (k0_pay35 (M2.view.readAt (Elt Ideal) (Rect.unit (s := S2x8192x128) (k0_off1 i) S1x512x128.size (k0_off1_inb i)).toLoadRect (h2.unread x0))) (s0 c i M2 h2 M3 h3 M4 h4 M5 h5 M6 h6 M7 h7 M8 h8 M9 h9 x0 x1 x2 x3) (t0 c i M2 h2 M3 h3 M4 h4 M5 h5 M6 h6 M7 h7 M8 h8 M9 h9 x0 x1 x2 x3)
/-- (the second head) -/
def dk1 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) : FVec Ideal S512x128 .f32 :=
  k0_pay50 (vd1 c i M2 h2 M3 h3 M4 h4 M5 h5 M6 h6 M7 h7 M8 h8 M9 h9 x0 x1 x2 x3) k0_pay34 (k0_pay36 (M2.view.readAt (Elt Ideal) (Rect.unit (s := S2x8192x128) (k0_off2 i) S1x512x128.size (k0_off2_inb i)).toLoadRect (h2.unread x0))) (k0_pay38 (M5.view.readAt (Elt Ideal) (Rect.unit (s := S2x8192x128) (k0_off2 i) S1x512x128.size (k0_off2_inb i)).toLoadRect (h5.unread x3))) (s1 c i M2 h2 M3 h3 M4 h4 M5 h5 M6 h6 M7 h7 M8 h8 M9 h9 x0 x1 x2 x3)
/-- The second head's rows of the diagonal tile, over what the scratch held there (`g2`). -/
def dq1 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (f0 : BufTy.Contents (Elt Ideal) M9.view.ty) (L0 : List (View.Piece (Elt Ideal) S2x8192x128 .f32)) (g2 : Vec Ideal S1x512x128 .f32) : FVec Ideal S512x128 .f32 :=
  k0_pay51 (kd1 c i M2 h2 M3 h3 M4 h4 M5 h5 M6 h6 M7 h7 M8 h8 M9 h9 x0 x1 x2 x3) (vd1 c i M2 h2 M3 h3 M4 h4 M5 h5 M6 h6 M7 h7 M8 h8 M9 h9 x0 x1 x2 x3) (k0_pay38 (M5.view.readAt (Elt Ideal) (Rect.unit (s := S2x8192x128) (k0_off2 i) S1x512x128.size (k0_off2_inb i)).toLoadRect (h5.unread x3))) (s1 c i M2 h2 M3 h3 M4 h4 M5 h5 M6 h6 M7 h7 M8 h8 M9 h9 x0 x1 x2 x3) g2
/-- What the diagonal tile writes into the scratch, over `L0`. -/
def pcs (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (f0 : BufTy.Contents (Elt Ideal) M9.view.ty) (L0 : List (View.Piece (Elt Ideal) S2x8192x128 .f32)) (g2 : Vec Ideal S1x512x128 .f32) : List (View.Piece (Elt Ideal) S2x8192x128 .f32) :=
  ⟨Rect.unit (s := S2x8192x128) (k0_off2 i) S1x512x128.size (k0_off2_inb i), k0_pay52 (dq1 c i M2 h2 M3 h3 M4 h4 M5 h5 M6 h6 M7 h7 M8 h8 M9 h9 x0 x1 x2 x3 f0 L0 g2)⟩ ::
    ⟨Rect.unit (s := S2x8192x128) (k0_off1 i) S1x512x128.size (k0_off1_inb i), k0_pay48 (kd0 c i M2 h2 M3 h3 M4 h4 M5 h5 M6 h6 M7 h7 M8 h8 M9 h9 x0 x1 x2 x3) (s0 c i M2 h2 M3 h3 M4 h4 M5 h5 M6 h6 M7 h7 M8 h8 M9 h9 x0 x1 x2 x3) (t0 c i M2 h2 M3 h3 M4 h4 M5 h5 M6 h6 M7 h7 M8 h8 M9 h9 x0 x1 x2 x3) (M9.view.readAt (Elt Ideal) (Rect.unit (s := S2x8192x128) (k0_off1 i) S1x512x128.size (k0_off1_inb i)).toLoadRect (M9.view.writes (Elt Ideal) f0 L0))⟩ :: L0
/-- The loop's last state. -/
def st1 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (f0 : BufTy.Contents (Elt Ideal) M9.view.ty) (L0 : List (View.Piece (Elt Ideal) S2x8192x128 .f32)) (g2 : Vec Ideal S1x512x128 .f32) : (FVec Ideal S512x128 .f32 × FVec Ideal S512x128 .f32 × FVec Ideal S512x128 .f32 × FVec Ideal S512x128 .f32) × List (View.Piece (Elt Ideal) S2x8192x128 .f32) :=
  st_k0_t1 (F := Ideal) Variants.none c none i M2 h2 M3 h3 M4 h4 M5 h5 M6 h6 M7 h7 M8 h8 M9 h9 (BitVec.ofNat 32 (i 1).val) lanes (kd0 c i M2 h2 M3 h3 M4 h4 M5 h5 M6 h6 M7 h7 M8 h8 M9 h9 x0 x1 x2 x3) (kd1 c i M2 h2 M3 h3 M4 h4 M5 h5 M6 h6 M7 h7 M8 h8 M9 h9 x0 x1 x2 x3) (vd0 c i M2 h2 M3 h3 M4 h4 M5 h5 M6 h6 M7 h7 M8 h8 M9 h9 x0 x1 x2 x3) (vd1 c i M2 h2 M3 h3 M4 h4 M5 h5 M6 h6 M7 h7 M8 h8 M9 h9 x0 x1 x2 x3) (dv0 c i M2 h2 M3 h3 M4 h4 M5 h5 M6 h6 M7 h7 M8 h8 M9 h9 x0 x1 x2 x3) (dk0 c i M2 h2 M3 h3 M4 h4 M5 h5 M6 h6 M7 h7 M8 h8 M9 h9 x0 x1 x2 x3) (dv1 c i M2 h2 M3 h3 M4 h4 M5 h5 M6 h6 M7 h7 M8 h8 M9 h9 x0 x1 x2 x3) (dk1 c i M2 h2 M3 h3 M4 h4 M5 h5 M6 h6 M7 h7 M8 h8 M9 h9 x0 x1 x2 x3) (dq1 c i M2 h2 M3 h3 M4 h4 M5 h5 M6 h6 M7 h7 M8 h8 M9 h9 x0 x1 x2 x3 f0 L0 g2) (Scalar.addi (BitVec.ofNat 32 (i 1).val) 1#32) (h2.unread x0) (h5.unread x3)
    (M9.view.writes (Elt Ideal) f0 (pcs c i M2 h2 M3 h3 M4 h4 M5 h5 M6 h6 M7 h7 M8 h8 M9 h9 x0 x1 x2 x3 f0 L0 g2)) (dk0 c i M2 h2 M3 h3 M4 h4 M5 h5 M6 h6 M7 h7 M8 h8 M9 h9 x0 x1 x2 x3, dv0 c i M2 h2 M3 h3 M4 h4 M5 h5 M6 h6 M7 h7 M8 h8 M9 h9 x0 x1 x2 x3, dk1 c i M2 h2 M3 h3 M4 h4 M5 h5 M6 h6 M7 h7 M8 h8 M9 h9 x0 x1 x2 x3, dv1 c i M2 h2 M3 h3 M4 h4 M5 h5 M6 h6 M7 h7 M8 h8 M9 h9 x0 x1 x2 x3) (k0_t1_loop i).trips
/-- The state after the second loop, which has no trips. -/
def st2 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (f0 : BufTy.Contents (Elt Ideal) M9.view.ty) (L0 : List (View.Piece (Elt Ideal) S2x8192x128 .f32)) (g2 : Vec Ideal S1x512x128 .f32) : (FVec Ideal S512x128 .f32 × FVec Ideal S512x128 .f32 × FVec Ideal S512x128 .f32 × FVec Ideal S512x128 .f32) × List (View.Piece (Elt Ideal) S2x8192x128 .f32) :=
  st_k0_t2 (F := Ideal) Variants.none c none i M2 h2 M3 h3 M4 h4 M5 h5 M6 h6 M7 h7 M8 h8 M9 h9 (BitVec.ofNat 32 (i 1).val) lanes (kd0 c i M2 h2 M3 h3 M4 h4 M5 h5 M6 h6 M7 h7 M8 h8 M9 h9 x0 x1 x2 x3) (kd1 c i M2 h2 M3 h3 M4 h4 M5 h5 M6 h6 M7 h7 M8 h8 M9 h9 x0 x1 x2 x3) (vd0 c i M2 h2 M3 h3 M4 h4 M5 h5 M6 h6 M7 h7 M8 h8 M9 h9 x0 x1 x2 x3) (vd1 c i M2 h2 M3 h3 M4 h4 M5 h5 M6 h6 M7 h7 M8 h8 M9 h9 x0 x1 x2 x3) (dv0 c i M2 h2 M3 h3 M4 h4 M5 h5 M6 h6 M7 h7 M8 h8 M9 h9 x0 x1 x2 x3) (dk0 c i M2 h2 M3 h3 M4 h4 M5 h5 M6 h6 M7 h7 M8 h8 M9 h9 x0 x1 x2 x3) (dv1 c i M2 h2 M3 h3 M4 h4 M5 h5 M6 h6 M7 h7 M8 h8 M9 h9 x0 x1 x2 x3) (dk1 c i M2 h2 M3 h3 M4 h4 M5 h5 M6 h6 M7 h7 M8 h8 M9 h9 x0 x1 x2 x3) (dq1 c i M2 h2 M3 h3 M4 h4 M5 h5 M6 h6 M7 h7 M8 h8 M9 h9 x0 x1 x2 x3 f0 L0 g2) (k0_t2_loop i).lb (h2.unread x0) (h5.unread x3)
    (M9.view.writes (Elt Ideal) f0 ((st1 c i M2 h2 M3 h3 M4 h4 M5 h5 M6 h6 M7 h7 M8 h8 M9 h9 x0 x1 x2 x3 f0 L0 g2).2 ++ pcs c i M2 h2 M3 h3 M4 h4 M5 h5 M6 h6 M7 h7 M8 h8 M9 h9 x0 x1 x2 x3 f0 L0 g2)) (st1 c i M2 h2 M3 h3 M4 h4 M5 h5 M6 h6 M7 h7 M8 h8 M9 h9 x0 x1 x2 x3 f0 L0 g2).1 (k0_t2_loop i).trips
/-- What the body writes into the scratch, over `L0`. -/
def l9 (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (f0 : BufTy.Contents (Elt Ideal) M9.view.ty) (L0 : List (View.Piece (Elt Ideal) S2x8192x128 .f32)) (g2 : Vec Ideal S1x512x128 .f32) : List (View.Piece (Elt Ideal) S2x8192x128 .f32) :=
  (st2 c i M2 h2 M3 h3 M4 h4 M5 h5 M6 h6 M7 h7 M8 h8 M9 h9 x0 x1 x2 x3 f0 L0 g2).2 ++ ((st1 c i M2 h2 M3 h3 M4 h4 M5 h5 M6 h6 M7 h7 M8 h8 M9 h9 x0 x1 x2 x3 f0 L0 g2).2 ++ pcs c i M2 h2 M3 h3 M4 h4 M5 h5 M6 h6 M7 h7 M8 h8 M9 h9 x0 x1 x2 x3 f0 L0 g2)
/-! ### The run's pieces are these -/

section
attribute [local irreducible] st_k0_t1 st_k0_t2

/-- The run's pieces are these (first). -/
theorem scrFirst_eq (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (hc0 : IsFirst i) (hc1 : ¬ IsLast i) : (runFirst (F := Ideal) c i M2 h2 M3 h3 M4 h4 M5 h5 M6 h6 M7 h7 M8 h8 M9 h9 hc0 hc1 x0 x1 x2 x3).1 = l9 c i M2 h2 M3 h3 M4 h4 M5 h5 M6 h6 M7 h7 M8 h8 M9 h9 x0 x1 x2 x3 M9.view.junk runFirst.sl.H7_1 (M9.view.readAt (Elt Ideal) (Rect.unit (s := S2x8192x128) (k0_off2 i) S1x512x128.size (k0_off2_inb i)).toLoadRect (M9.view.writes (Elt Ideal) M9.view.junk (runFirst.sl.H7_2 (F := Ideal) c i M2 h2 M3 h3 M4 h4 M5 h5 M9 x0 x1 x2 x3))) := by
  unfold runFirst; rfl
theorem dkFirst_eq (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (hc0 : IsFirst i) (hc1 : ¬ IsLast i) : (runFirst (F := Ideal) c i M2 h2 M3 h3 M4 h4 M5 h5 M6 h6 M7 h7 M8 h8 M9 h9 hc0 hc1 x0 x1 x2 x3).2.1 = [⟨Rect.unit (s := S2x512x128) ![1, 0, 0] S1x512x128.size inb_S2x512x128_S1x512x128_1_0_0, k0_pay1 (st2 c i M2 h2 M3 h3 M4 h4 M5 h5 M6 h6 M7 h7 M8 h8 M9 h9 x0 x1 x2 x3 M9.view.junk runFirst.sl.H7_1 (M9.view.readAt (Elt Ideal) (Rect.unit (s := S2x8192x128) (k0_off2 i) S1x512x128.size (k0_off2_inb i)).toLoadRect (M9.view.writes (Elt Ideal) M9.view.junk (runFirst.sl.H7_2 (F := Ideal) c i M2 h2 M3 h3 M4 h4 M5 h5 M9 x0 x1 x2 x3)))).1.2.2.1 (k0_pay62 (st2 c i M2 h2 M3 h3 M4 h4 M5 h5 M6 h6 M7 h7 M8 h8 M9 h9 x0 x1 x2 x3 M9.view.junk runFirst.sl.H7_1 (M9.view.readAt (Elt Ideal) (Rect.unit (s := S2x8192x128) (k0_off2 i) S1x512x128.size (k0_off2_inb i)).toLoadRect (M9.view.writes (Elt Ideal) M9.view.junk (runFirst.sl.H7_2 (F := Ideal) c i M2 h2 M3 h3 M4 h4 M5 h5 M9 x0 x1 x2 x3)))).1.2.2.1) (k0_pay63 lanes) (k0_pay64 lanes) (k0_pay65 (st2 c i M2 h2 M3 h3 M4 h4 M5 h5 M6 h6 M7 h7 M8 h8 M9 h9 x0 x1 x2 x3 M9.view.junk runFirst.sl.H7_1 (M9.view.readAt (Elt Ideal) (Rect.unit (s := S2x8192x128) (k0_off2 i) S1x512x128.size (k0_off2_inb i)).toLoadRect (M9.view.writes (Elt Ideal) M9.view.junk (runFirst.sl.H7_2 (F := Ideal) c i M2 h2 M3 h3 M4 h4 M5 h5 M9 x0 x1 x2 x3)))).1.2.2.1)⟩,
         ⟨Rect.unit (s := S2x512x128) ![0, 0, 0] S1x512x128.size inb_S2x512x128_S1x512x128_0_0_0, k0_pay59 lanes (st2 c i M2 h2 M3 h3 M4 h4 M5 h5 M6 h6 M7 h7 M8 h8 M9 h9 x0 x1 x2 x3 M9.view.junk runFirst.sl.H7_1 (M9.view.readAt (Elt Ideal) (Rect.unit (s := S2x8192x128) (k0_off2 i) S1x512x128.size (k0_off2_inb i)).toLoadRect (M9.view.writes (Elt Ideal) M9.view.junk (runFirst.sl.H7_2 (F := Ideal) c i M2 h2 M3 h3 M4 h4 M5 h5 M9 x0 x1 x2 x3)))).1.1⟩] := by
  unfold runFirst; rfl
theorem dvFirst_eq (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (hc0 : IsFirst i) (hc1 : ¬ IsLast i) : (runFirst (F := Ideal) c i M2 h2 M3 h3 M4 h4 M5 h5 M6 h6 M7 h7 M8 h8 M9 h9 hc0 hc1 x0 x1 x2 x3).2.2.1 = [⟨Rect.unit (s := S2x512x128) ![1, 0, 0] S1x512x128.size inb_S2x512x128_S1x512x128_1_0_0, k0_pay2 (st2 c i M2 h2 M3 h3 M4 h4 M5 h5 M6 h6 M7 h7 M8 h8 M9 h9 x0 x1 x2 x3 M9.view.junk runFirst.sl.H7_1 (M9.view.readAt (Elt Ideal) (Rect.unit (s := S2x8192x128) (k0_off2 i) S1x512x128.size (k0_off2_inb i)).toLoadRect (M9.view.writes (Elt Ideal) M9.view.junk (runFirst.sl.H7_2 (F := Ideal) c i M2 h2 M3 h3 M4 h4 M5 h5 M9 x0 x1 x2 x3)))).1.2.2.2⟩,
         ⟨Rect.unit (s := S2x512x128) ![0, 0, 0] S1x512x128.size inb_S2x512x128_S1x512x128_0_0_0, k0_pay60 (st2 c i M2 h2 M3 h3 M4 h4 M5 h5 M6 h6 M7 h7 M8 h8 M9 h9 x0 x1 x2 x3 M9.view.junk runFirst.sl.H7_1 (M9.view.readAt (Elt Ideal) (Rect.unit (s := S2x8192x128) (k0_off2 i) S1x512x128.size (k0_off2_inb i)).toLoadRect (M9.view.writes (Elt Ideal) M9.view.junk (runFirst.sl.H7_2 (F := Ideal) c i M2 h2 M3 h3 M4 h4 M5 h5 M9 x0 x1 x2 x3)))).1.2.1⟩] := by
  unfold runFirst; rfl
/-- The run's pieces are these (mid). -/
theorem scrMid_eq (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (hc0 : ¬ IsFirst i) (hc1 : ¬ IsLast i) (xs : Vec Ideal S2x8192x128 .f32) : (runMid (F := Ideal) c i M2 h2 M3 h3 M4 h4 M5 h5 M6 h6 M7 h7 M8 h8 M9 h9 hc0 hc1 x0 x1 x2 x3 xs).1 = l9 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs)) := by
  unfold runMid; rfl
theorem dkMid_eq (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (hc0 : ¬ IsFirst i) (hc1 : ¬ IsLast i) (xs : Vec Ideal S2x8192x128 .f32) : (runMid (F := Ideal) c i M2 h2 M3 h3 M4 h4 M5 h5 M6 h6 M7 h7 M8 h8 M9 h9 hc0 hc1 x0 x1 x2 x3 xs).2.1 = [⟨Rect.unit (s := S2x512x128) ![1, 0, 0] S1x512x128.size inb_S2x512x128_S1x512x128_1_0_0, k0_pay1 (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.2.2.1 (k0_pay62 (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.2.2.1) (k0_pay63 lanes) (k0_pay64 lanes) (k0_pay65 (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.2.2.1)⟩,
         ⟨Rect.unit (s := S2x512x128) ![0, 0, 0] S1x512x128.size inb_S2x512x128_S1x512x128_0_0_0, k0_pay59 lanes (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.1⟩] := by
  unfold runMid; rfl
theorem dvMid_eq (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (hc0 : ¬ IsFirst i) (hc1 : ¬ IsLast i) (xs : Vec Ideal S2x8192x128 .f32) : (runMid (F := Ideal) c i M2 h2 M3 h3 M4 h4 M5 h5 M6 h6 M7 h7 M8 h8 M9 h9 hc0 hc1 x0 x1 x2 x3 xs).2.2.1 = [⟨Rect.unit (s := S2x512x128) ![1, 0, 0] S1x512x128.size inb_S2x512x128_S1x512x128_1_0_0, k0_pay2 (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.2.2.2⟩,
         ⟨Rect.unit (s := S2x512x128) ![0, 0, 0] S1x512x128.size inb_S2x512x128_S1x512x128_0_0_0, k0_pay60 (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.2.1⟩] := by
  unfold runMid; rfl
/-- The run's pieces are these (last). -/
theorem scrLast_eq (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (hc0 : ¬ IsFirst i) (hc1 : IsLast i) (xs : Vec Ideal S2x8192x128 .f32) : (runLast (F := Ideal) c i M2 h2 M3 h3 M4 h4 M5 h5 M6 h6 M7 h7 M8 h8 M9 h9 hc0 hc1 x0 x1 x2 x3 xs).1 = l9 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs)) := by
  unfold runLast; rfl
theorem dkLast_eq (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (hc0 : ¬ IsFirst i) (hc1 : IsLast i) (xs : Vec Ideal S2x8192x128 .f32) : (runLast (F := Ideal) c i M2 h2 M3 h3 M4 h4 M5 h5 M6 h6 M7 h7 M8 h8 M9 h9 hc0 hc1 x0 x1 x2 x3 xs).2.1 = [⟨Rect.unit (s := S2x512x128) ![1, 0, 0] S1x512x128.size inb_S2x512x128_S1x512x128_1_0_0, k0_pay1 (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.2.2.1 (k0_pay62 (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.2.2.1) (k0_pay63 lanes) (k0_pay64 lanes) (k0_pay65 (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.2.2.1)⟩,
         ⟨Rect.unit (s := S2x512x128) ![0, 0, 0] S1x512x128.size inb_S2x512x128_S1x512x128_0_0_0, k0_pay59 lanes (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.1⟩] := by
  unfold runLast; rfl
theorem dvLast_eq (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (hc0 : ¬ IsFirst i) (hc1 : IsLast i) (xs : Vec Ideal S2x8192x128 .f32) : (runLast (F := Ideal) c i M2 h2 M3 h3 M4 h4 M5 h5 M6 h6 M7 h7 M8 h8 M9 h9 hc0 hc1 x0 x1 x2 x3 xs).2.2.1 = [⟨Rect.unit (s := S2x512x128) ![1, 0, 0] S1x512x128.size inb_S2x512x128_S1x512x128_1_0_0, k0_pay2 (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.2.2.2⟩,
         ⟨Rect.unit (s := S2x512x128) ![0, 0, 0] S1x512x128.size inb_S2x512x128_S1x512x128_0_0_0, k0_pay60 (st2 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs))).1.2.1⟩] := by
  unfold runLast; rfl
theorem dqLast_eq (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16) (hc0 : ¬ IsFirst i) (hc1 : IsLast i) (xs : Vec Ideal S2x8192x128 .f32) : (runLast (F := Ideal) c i M2 h2 M3 h3 M4 h4 M5 h5 M6 h6 M7 h7 M8 h8 M9 h9 hc0 hc1 x0 x1 x2 x3 xs).2.2.2.1 = [⟨(Rect.unit (s := S2x8192x128) ![1, 0, 0] S1x8192x128.size inb_S2x8192x128_S1x8192x128_1_0_0), k0_pay4 (M9.view.readAt (Elt Ideal) (Rect.unit (s := S2x8192x128) ![1, 0, 0] S1x8192x128.size inb_S2x8192x128_S1x8192x128_1_0_0).toLoadRect (M9.view.writes (Elt Ideal) (h9.unread xs) (l9 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs)))))⟩,
         ⟨(Rect.unit (s := S2x8192x128) ![0, 0, 0] S1x8192x128.size inb_S2x8192x128_S1x8192x128_0_0_0), k0_pay3 (M9.view.readAt (Elt Ideal) (Rect.unit (s := S2x8192x128) ![0, 0, 0] S1x8192x128.size inb_S2x8192x128_S1x8192x128_0_0_0).toLoadRect (M9.view.writes (Elt Ideal) (h9.unread xs) (l9 c i M2 h2 M3 h3 M4 h4 M5 h5 M6 h6 M7 h7 M8 h8 M9 h9 x0 x1 x2 x3 (h9.unread xs) [] (M9.view.readAt (Elt Ideal) (Rect.unit (s := S2x8192x128) (k0_off2 i) S1x512x128.size (k0_off2_inb i)).toLoadRect (h9.unread xs)))))⟩] := by
  unfold runLast; rfl

end

end Cert.AttnBody

end
-- ==== Proof.AttnCore.lean ====
module

public import proofs.«01_k».proof.Proof.AttnTerms

/-! The terms one tile of keys adds to the attention gradient, written with one head's rows alone. -/

@[expose] public section

set_option maxRecDepth 16384

noncomputable section

namespace Cert.AttnCore

open Cert.Kernel2Ideal Cert.Kernel2Ideal.Gen Cert.AttnTile Cert.AttnLoop Cert.AttnSum Cert.AttnRun Cert.AttnBody
open Idealize.ShloMosaic Idealize.ShloMosaic.TcCoe Idealize.ShloMosaic.Tactic

section
variable (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16)

theorem lt16 : (i 1).val < 16 := (i 1).isLt
theorem off1 : k0_off1 i = ![(0 : Fin 2).val, 512 * (i 1).val, 0] := k0_off1_eq i
theorem off2 : k0_off2 i = ![(1 : Fin 2).val, 512 * (i 1).val, 0] := k0_off2_eq i

/-! The loads of the point's blocks. -/

theorem ldK0 (M : Memref sig .tc .vmem S2x512x128 .bf16) (h : M.IsWhole) (x : Vec Ideal S2x512x128 .bf16) (r : Fin 512) (l : Fin 128) :
    (M.view.readAt (Elt Ideal) (Rect.unit (s := S2x512x128) ![0, 0, 0] S1x512x128.size inb_S2x512x128_S1x512x128_0_0_0).toLoadRect (h.unread x)) (ix3 0 r l) = x (ix3 0 r l) := by
  refine (congrFun (h.read_unread x) _).trans (congrArg x (funext fun d => Fin.ext ?_))
  fin_cases d
  · rfl
  · show 0 + 1 * r.val = r.val; omega
  · show 0 + 1 * l.val = l.val; omega

theorem ldK1 (M : Memref sig .tc .vmem S2x512x128 .bf16) (h : M.IsWhole) (x : Vec Ideal S2x512x128 .bf16) (r : Fin 512) (l : Fin 128) :
    (M.view.readAt (Elt Ideal) (Rect.unit (s := S2x512x128) ![1, 0, 0] S1x512x128.size inb_S2x512x128_S1x512x128_1_0_0).toLoadRect (h.unread x)) (ix3 0 r l) = x (ix3 1 r l) := by
  refine (congrFun (h.read_unread x) _).trans (congrArg x (funext fun d => Fin.ext ?_))
  fin_cases d
  · rfl
  · show 0 + 1 * r.val = r.val; omega
  · show 0 + 1 * l.val = l.val; omega

theorem ldQ0 (M : Memref sig .tc .vmem S2x8192x128 .bf16) (h : M.IsWhole) (x : Vec Ideal S2x8192x128 .bf16) (r : Fin 512) (l : Fin 128) :
    (M.view.readAt (Elt Ideal) (Rect.unit (s := S2x8192x128) (k0_off1 i) S1x512x128.size (k0_off1_inb i)).toLoadRect (h.unread x)) (ix3 0 r l) = x (ix3 0 (rowAt (i 1).val r) l) := by
  rw [load_tile M.view _ 0 _ (lt16 i) _ (off1 i), h.read_unread]

theorem ldQ1 (M : Memref sig .tc .vmem S2x8192x128 .bf16) (h : M.IsWhole) (x : Vec Ideal S2x8192x128 .bf16) (r : Fin 512) (l : Fin 128) :
    (M.view.readAt (Elt Ideal) (Rect.unit (s := S2x8192x128) (k0_off2 i) S1x512x128.size (k0_off2_inb i)).toLoadRect (h.unread x)) (ix3 0 r l) = x (ix3 1 (rowAt (i 1).val r) l) := by
  rw [load_tile M.view _ 1 _ (lt16 i) _ (off2 i), h.read_unread]

/-! The two heads of the keys and the values, and the products of the diagonal tile. -/

theorem kd0_at (r : Fin 512) (l : Fin 128) : kd0 c i M2 h2 M3 h3 M4 h4 M5 h5 M6 h6 M7 h7 M8 h8 M9 h9 x0 x1 x2 x3 (ix2 r l) = x1 (ix3 0 r l) := (pay30 _ r l).trans (ldK0 M3 h3 x1 r l)
theorem kd1_at (r : Fin 512) (l : Fin 128) : kd1 c i M2 h2 M3 h3 M4 h4 M5 h5 M6 h6 M7 h7 M8 h8 M9 h9 x0 x1 x2 x3 (ix2 r l) = x1 (ix3 1 r l) := (pay31 _ r l).trans (ldK1 M3 h3 x1 r l)
theorem vd0_at (r : Fin 512) (l : Fin 128) : vd0 c i M2 h2 M3 h3 M4 h4 M5 h5 M6 h6 M7 h7 M8 h8 M9 h9 x0 x1 x2 x3 (ix2 r l) = x2 (ix3 0 r l) := (pay32 _ r l).trans (ldK0 M4 h4 x2 r l)
theorem vd1_at (r : Fin 512) (l : Fin 128) : vd1 c i M2 h2 M3 h3 M4 h4 M5 h5 M6 h6 M7 h7 M8 h8 M9 h9 x0 x1 x2 x3 (ix2 r l) = x2 (ix3 1 r l) := (pay33 _ r l).trans (ldK1 M4 h4 x2 r l)
theorem kd0_rows : asRows (kd0 c i M2 h2 M3 h3 M4 h4 M5 h5 M6 h6 M7 h7 M8 h8 M9 h9 x0 x1 x2 x3) = (head x1 0) := funext fun r => funext fun l => kd0_at c i M2 h2 M3 h3 M4 h4 M5 h5 M6 h6 M7 h7 M8 h8 M9 h9 x0 x1 x2 x3 r l
theorem kd1_rows : asRows (kd1 c i M2 h2 M3 h3 M4 h4 M5 h5 M6 h6 M7 h7 M8 h8 M9 h9 x0 x1 x2 x3) = (head x1 1) := funext fun r => funext fun l => kd1_at c i M2 h2 M3 h3 M4 h4 M5 h5 M6 h6 M7 h7 M8 h8 M9 h9 x0 x1 x2 x3 r l
theorem vd0_rows : asRows (vd0 c i M2 h2 M3 h3 M4 h4 M5 h5 M6 h6 M7 h7 M8 h8 M9 h9 x0 x1 x2 x3) = (head x2 0) := funext fun r => funext fun l => vd0_at c i M2 h2 M3 h3 M4 h4 M5 h5 M6 h6 M7 h7 M8 h8 M9 h9 x0 x1 x2 x3 r l
theorem vd1_rows : asRows (vd1 c i M2 h2 M3 h3 M4 h4 M5 h5 M6 h6 M7 h7 M8 h8 M9 h9 x0 x1 x2 x3) = (head x2 1) := funext fun r => funext fun l => vd1_at c i M2 h2 M3 h3 M4 h4 M5 h5 M6 h6 M7 h7 M8 h8 M9 h9 x0 x1 x2 x3 r l

theorem s0_at (r y : Fin 512) : s0 c i M2 h2 M3 h3 M4 h4 M5 h5 M6 h6 M7 h7 M8 h8 M9 h9 x0 x1 x2 x3 (ix2 r y) = dot (tile x0 0 (i 1).val) (head x1 0) r y :=
  (pay39 _ _ r y).trans (congrArg₂ (fun a b => dot a b r y) (funext fun r => funext fun l => ldQ0 i M2 h2 x0 r l) (funext fun r => funext fun l => ldK0 M3 h3 x1 r l))
theorem s1_at (r y : Fin 512) : s1 c i M2 h2 M3 h3 M4 h4 M5 h5 M6 h6 M7 h7 M8 h8 M9 h9 x0 x1 x2 x3 (ix2 r y) = dot (tile x0 1 (i 1).val) (head x1 1) r y :=
  (pay40 _ _ r y).trans (congrArg₂ (fun a b => dot a b r y) (funext fun r => funext fun l => ldQ1 i M2 h2 x0 r l) (funext fun r => funext fun l => ldK1 M3 h3 x1 r l))
theorem t0_at (r y : Fin 512) : t0 c i M2 h2 M3 h3 M4 h4 M5 h5 M6 h6 M7 h7 M8 h8 M9 h9 x0 x1 x2 x3 (ix2 r y) = dot (tile x3 0 (i 1).val) (head x2 0) r y :=
  (pay41 _ _ r y).trans (congrArg₂ (fun a b => dot a b r y) (funext fun r => funext fun l => ldQ0 i M5 h5 x3 r l) (funext fun r => funext fun l => ldK0 M4 h4 x2 r l))
theorem t1_at (r y : Fin 512) : dot (fun r l => k0_pay38 (F := Ideal) (M5.view.readAt (Elt Ideal) (Rect.unit (s := S2x8192x128) (k0_off2 i) S1x512x128.size (k0_off2_inb i)).toLoadRect (h5.unread x3)) (ix2 r l)) (fun r l => vd1 c i M2 h2 M3 h3 M4 h4 M5 h5 M6 h6 M7 h7 M8 h8 M9 h9 x0 x1 x2 x3 (ix2 r l)) r y = dot (tile x3 1 (i 1).val) (head x2 1) r y :=
  congrArg₂ (fun a b => dot a b r y) (funext fun r => funext fun l => (pay38 _ r l).trans (ldQ1 i M5 h5 x3 r l)) (funext fun r => funext fun l => vd1_at c i M2 h2 M3 h3 M4 h4 M5 h5 M6 h6 M7 h7 M8 h8 M9 h9 x0 x1 x2 x3 r l)

theorem dv0_at (y : Fin 512) (l : Fin 128) : dv0 c i M2 h2 M3 h3 M4 h4 M5 h5 M6 h6 M7 h7 M8 h8 M9 h9 x0 x1 x2 x3 (ix2 y l) = dvInc (pDiag (tile x0 0 (i 1).val) (head x1 0)) (tile x3 0 (i 1).val) y l := by
  refine (pay46 _ _ _ y l).trans ?_
  rw [pay34]
  refine (zero_add (M := EReal) _).trans (Finset.sum_congr rfl fun r _ => ?_)
  rw [pay42, s0_at, pay37, ldQ0]; rfl
theorem dv1_at (y : Fin 512) (l : Fin 128) : dv1 c i M2 h2 M3 h3 M4 h4 M5 h5 M6 h6 M7 h7 M8 h8 M9 h9 x0 x1 x2 x3 (ix2 y l) = dvInc (pDiag (tile x0 1 (i 1).val) (head x1 1)) (tile x3 1 (i 1).val) y l := by
  refine (pay49 _ _ _ y l).trans ?_
  rw [pay34]
  refine (zero_add (M := EReal) _).trans (Finset.sum_congr rfl fun r _ => ?_)
  rw [pay44, s1_at, pay38, ldQ1]; rfl
theorem dk0_at (y : Fin 512) (l : Fin 128) : dk0 c i M2 h2 M3 h3 M4 h4 M5 h5 M6 h6 M7 h7 M8 h8 M9 h9 x0 x1 x2 x3 (ix2 y l) = dkInc (pDiag (tile x0 0 (i 1).val) (head x1 0)) (tile x0 0 (i 1).val) (head x2 0) (tile x3 0 (i 1).val) y l := by
  refine (pay47 _ _ _ _ y l).trans ?_
  rw [pay34]
  refine (zero_add (M := EReal) _).trans (Finset.sum_congr rfl fun r _ => ?_)
  rw [pay43, s0_at, t0_at, pay35, ldQ0]; rfl
theorem dk1_at (y : Fin 512) (l : Fin 128) : dk1 c i M2 h2 M3 h3 M4 h4 M5 h5 M6 h6 M7 h7 M8 h8 M9 h9 x0 x1 x2 x3 (ix2 y l) = dkInc (pDiag (tile x0 1 (i 1).val) (head x1 1)) (tile x0 1 (i 1).val) (head x2 1) (tile x3 1 (i 1).val) y l := by
  refine (pay50 _ _ _ _ _ y l).trans ?_
  rw [pay34]
  refine (zero_add (M := EReal) _).trans (Finset.sum_congr rfl fun r _ => ?_)
  rw [pay45, s1_at, t1_at, pay36, ldQ1]; rfl

variable (f0 : BufTy.Contents (Elt Ideal) M9.view.ty) (L0 : List (View.Piece (Elt Ideal) S2x8192x128 .f32)) (g2 : Vec Ideal S1x512x128 .f32)

/-- The scratch after the diagonal tile. -/
theorem pcs_at (hg : ∀ r l, g2 (ix3 0 r l) = M9.view.read (Elt Ideal) (M9.view.writes (Elt Ideal) f0 L0) (ix3 1 (rowAt (i 1).val r) l)) (e : Fin 2) (x : Fin 8192) (l : Fin 128) :
    (M9.view.read (Elt Ideal) (M9.view.writes (Elt Ideal) f0 (pcs c i M2 h2 M3 h3 M4 h4 M5 h5 M6 h6 M7 h7 M8 h8 M9 h9 x0 x1 x2 x3 f0 L0 g2)) (ix3 e x l) : EReal) = M9.view.read (Elt Ideal) (M9.view.writes (Elt Ideal) f0 L0) (ix3 e x l) + (if x.val / 512 = (i 1).val then dqInc (pDiag (tile x0 e (i 1).val) (head x1 e)) (head x1 e) (head x2 e) (tile x3 e (i 1).val) (inTile x) l else 0) := by
  unfold pcs
  rw [store_tile M9.view _ 1 _ _ (off2 i), store_tile M9.view _ 0 _ _ (off1 i)]
  by_cases hx : x.val / 512 = (i 1).val
  · have hrow : rowAt (i 1).val (inTile x) = x := hx ▸ row_eq x
    have he : e = 0 ∨ e = 1 := by fin_cases e; exact .inl rfl; exact .inr rfl
    rw [if_pos hx]
    rcases he with rfl | rfl
    · rw [if_neg (fun t => absurd t.1 (show ¬ (0 : Fin 2) = 1 by decide)), if_pos ⟨rfl, hx⟩]
      refine (pay48 _ _ _ _ _ l).trans ?_
      rw [load_tile M9.view _ 0 _ (lt16 i) _ (off1 i), hrow]
      refine congrArg (_ + ·) (Finset.sum_congr rfl fun y _ => ?_)
      rw [pay43, s0_at, t0_at, kd0_at]; rfl
    · rw [if_pos ⟨rfl, hx⟩]
      refine (pay52 _ _ l).trans ?_
      unfold dq1
      refine (pay51 _ _ _ _ _ _ l).trans ?_
      rw [hg, hrow]
      refine congrArg (_ + ·) (Finset.sum_congr rfl fun y _ => ?_)
      rw [pay45, s1_at, t1_at, kd1_at]; rfl
  · rw [if_neg (fun t => hx t.2), if_neg (fun t => hx t.2), if_neg hx]
    exact (add_zero (M := EReal) _).symm

/-- The second loop does nothing. -/
theorem st2_eq : st2 c i M2 h2 M3 h3 M4 h4 M5 h5 M6 h6 M7 h7 M8 h8 M9 h9 x0 x1 x2 x3 f0 L0 g2 = ((st1 c i M2 h2 M3 h3 M4 h4 M5 h5 M6 h6 M7 h7 M8 h8 M9 h9 x0 x1 x2 x3 f0 L0 g2).1, []) := by
  unfold st2
  rw [trips2]; rfl

/-- What the body leaves in the scratch, -/
theorem scr_at (hg : ∀ r l, g2 (ix3 0 r l) = M9.view.read (Elt Ideal) (M9.view.writes (Elt Ideal) f0 L0) (ix3 1 (rowAt (i 1).val r) l)) (e : Fin 2) (x : Fin 8192) (l : Fin 128) :
    (M9.view.read (Elt Ideal) (M9.view.writes (Elt Ideal) f0 (l9 c i M2 h2 M3 h3 M4 h4 M5 h5 M6 h6 M7 h7 M8 h8 M9 h9 x0 x1 x2 x3 f0 L0 g2)) (ix3 e x l) : EReal) = M9.view.read (Elt Ideal) (M9.view.writes (Elt Ideal) f0 L0) (ix3 e x l) + dqAdd (i 1).val x0 x3 x1 x2 e x l := by
  have ht := trips1 i
  have hi := lt16 i
  unfold l9
  rw [st2_eq]
  have hw : M9.view.writes (Elt Ideal) f0 (((st1 c i M2 h2 M3 h3 M4 h4 M5 h5 M6 h6 M7 h7 M8 h8 M9 h9 x0 x1 x2 x3 f0 L0 g2).1, ([] : List (View.Piece (Elt Ideal) S2x8192x128 .f32))).2 ++ ((st1 c i M2 h2 M3 h3 M4 h4 M5 h5 M6 h6 M7 h7 M8 h8 M9 h9 x0 x1 x2 x3 f0 L0 g2).2 ++ pcs c i M2 h2 M3 h3 M4 h4 M5 h5 M6 h6 M7 h7 M8 h8 M9 h9 x0 x1 x2 x3 f0 L0 g2)) = M9.view.writes (Elt Ideal) (M9.view.writes (Elt Ideal) f0 (pcs c i M2 h2 M3 h3 M4 h4 M5 h5 M6 h6 M7 h7 M8 h8 M9 h9 x0 x1 x2 x3 f0 L0 g2)) (st1 c i M2 h2 M3 h3 M4 h4 M5 h5 M6 h6 M7 h7 M8 h8 M9 h9 x0 x1 x2 x3 f0 L0 g2).2 := by
    rw [List.nil_append, View.writes_append]
  rw [hw]
  have h := (loop_value c i M2 h2 M3 h3 M4 h4 M5 h5 M6 h6 M7 h7 M8 h8 M9 h9 (BitVec.ofNat 32 (i 1).val) lanes (kd0 c i M2 h2 M3 h3 M4 h4 M5 h5 M6 h6 M7 h7 M8 h8 M9 h9 x0 x1 x2 x3) (kd1 c i M2 h2 M3 h3 M4 h4 M5 h5 M6 h6 M7 h7 M8 h8 M9 h9 x0 x1 x2 x3) (vd0 c i M2 h2 M3 h3 M4 h4 M5 h5 M6 h6 M7 h7 M8 h8 M9 h9 x0 x1 x2 x3) (vd1 c i M2 h2 M3 h3 M4 h4 M5 h5 M6 h6 M7 h7 M8 h8 M9 h9 x0 x1 x2 x3) (dv0 c i M2 h2 M3 h3 M4 h4 M5 h5 M6 h6 M7 h7 M8 h8 M9 h9 x0 x1 x2 x3) (dk0 c i M2 h2 M3 h3 M4 h4 M5 h5 M6 h6 M7 h7 M8 h8 M9 h9 x0 x1 x2 x3) (dv1 c i M2 h2 M3 h3 M4 h4 M5 h5 M6 h6 M7 h7 M8 h8 M9 h9 x0 x1 x2 x3) (dk1 c i M2 h2 M3 h3 M4 h4 M5 h5 M6 h6 M7 h7 M8 h8 M9 h9 x0 x1 x2 x3) (dq1 c i M2 h2 M3 h3 M4 h4 M5 h5 M6 h6 M7 h7 M8 h8 M9 h9 x0 x1 x2 x3 f0 L0 g2)
    (Scalar.addi (BitVec.ofNat 32 (i 1).val) 1#32) (h2.unread x0) (h5.unread x3) (M9.view.writes (Elt Ideal) f0 (pcs c i M2 h2 M3 h3 M4 h4 M5 h5 M6 h6 M7 h7 M8 h8 M9 h9 x0 x1 x2 x3 f0 L0 g2)) (dk0 c i M2 h2 M3 h3 M4 h4 M5 h5 M6 h6 M7 h7 M8 h8 M9 h9 x0 x1 x2 x3, dv0 c i M2 h2 M3 h3 M4 h4 M5 h5 M6 h6 M7 h7 M8 h8 M9 h9 x0 x1 x2 x3, dk1 c i M2 h2 M3 h3 M4 h4 M5 h5 M6 h6 M7 h7 M8 h8 M9 h9 x0 x1 x2 x3, dv1 c i M2 h2 M3 h3 M4 h4 M5 h5 M6 h6 M7 h7 M8 h8 M9 h9 x0 x1 x2 x3) (k0_t1_loop i).trips le_rfl).2.2.2.2 e x l
  unfold st1
  refine h.trans ?_
  rw [pcs_at c i M2 h2 M3 h3 M4 h4 M5 h5 M6 h6 M7 h7 M8 h8 M9 h9 x0 x1 x2 x3 f0 L0 g2 hg, h2.read_unread, h5.read_unread, add_assoc]
  refine congrArg (_ + ·) ?_
  have hx := x.isLt
  rcases Nat.lt_trichotomy (x.val / 512) (i 1).val with hlt | heq | hgt
  · rw [if_neg (by omega), if_neg (by omega), dqAdd_above _ _ _ _ _ _ x hlt]; exact add_zero (M := EReal) _
  · rw [if_pos heq, if_neg (by omega), dqAdd_diag _ _ _ _ _ _ hi x heq]; exact add_zero (M := EReal) _
  · rw [if_neg (by omega), if_pos (by omega), dqAdd_off _ _ _ _ _ _ x hgt]
    refine (zero_add (M := EReal) _).trans ?_
    unfold dqTile
    have he : e = 0 ∨ e = 1 := by fin_cases e; exact .inl rfl; exact .inr rfl
    rcases he with rfl | rfl
    · rw [if_pos rfl, if_pos rfl, kd0_rows, vd0_rows]
    · rw [if_neg (show ¬ (1 : Fin 2) = 0 by decide), if_neg (show ¬ (1 : Fin 2) = 0 by decide), kd1_rows, vd1_rows]

/-- and in the accumulators. -/
theorem accK0 (y : Fin 512) (l : Fin 128) : (st2 c i M2 h2 M3 h3 M4 h4 M5 h5 M6 h6 M7 h7 M8 h8 M9 h9 x0 x1 x2 x3 f0 L0 g2).1.1 (ix2 y l) = dkSum (i 1).val x0 x3 x1 x2 0 y l := by
  rw [st2_eq]
  have hi := lt16 i
  have h := (loop_value c i M2 h2 M3 h3 M4 h4 M5 h5 M6 h6 M7 h7 M8 h8 M9 h9 (BitVec.ofNat 32 (i 1).val) lanes (kd0 c i M2 h2 M3 h3 M4 h4 M5 h5 M6 h6 M7 h7 M8 h8 M9 h9 x0 x1 x2 x3) (kd1 c i M2 h2 M3 h3 M4 h4 M5 h5 M6 h6 M7 h7 M8 h8 M9 h9 x0 x1 x2 x3) (vd0 c i M2 h2 M3 h3 M4 h4 M5 h5 M6 h6 M7 h7 M8 h8 M9 h9 x0 x1 x2 x3) (vd1 c i M2 h2 M3 h3 M4 h4 M5 h5 M6 h6 M7 h7 M8 h8 M9 h9 x0 x1 x2 x3) (dv0 c i M2 h2 M3 h3 M4 h4 M5 h5 M6 h6 M7 h7 M8 h8 M9 h9 x0 x1 x2 x3) (dk0 c i M2 h2 M3 h3 M4 h4 M5 h5 M6 h6 M7 h7 M8 h8 M9 h9 x0 x1 x2 x3) (dv1 c i M2 h2 M3 h3 M4 h4 M5 h5 M6 h6 M7 h7 M8 h8 M9 h9 x0 x1 x2 x3) (dk1 c i M2 h2 M3 h3 M4 h4 M5 h5 M6 h6 M7 h7 M8 h8 M9 h9 x0 x1 x2 x3) (dq1 c i M2 h2 M3 h3 M4 h4 M5 h5 M6 h6 M7 h7 M8 h8 M9 h9 x0 x1 x2 x3 f0 L0 g2)
    (Scalar.addi (BitVec.ofNat 32 (i 1).val) 1#32) (h2.unread x0) (h5.unread x3) (M9.view.writes (Elt Ideal) f0 (pcs c i M2 h2 M3 h3 M4 h4 M5 h5 M6 h6 M7 h7 M8 h8 M9 h9 x0 x1 x2 x3 f0 L0 g2)) (dk0 c i M2 h2 M3 h3 M4 h4 M5 h5 M6 h6 M7 h7 M8 h8 M9 h9 x0 x1 x2 x3, dv0 c i M2 h2 M3 h3 M4 h4 M5 h5 M6 h6 M7 h7 M8 h8 M9 h9 x0 x1 x2 x3, dk1 c i M2 h2 M3 h3 M4 h4 M5 h5 M6 h6 M7 h7 M8 h8 M9 h9 x0 x1 x2 x3, dv1 c i M2 h2 M3 h3 M4 h4 M5 h5 M6 h6 M7 h7 M8 h8 M9 h9 x0 x1 x2 x3) (k0_t1_loop i).trips le_rfl).1 y l
  unfold st1
  refine h.trans ?_
  rw [dkSum_eq _ _ _ _ _ _ hi, h2.read_unread, h5.read_unread, trips1, kd0_rows, vd0_rows]
  exact congrArg₂ (· + ·) (dk0_at c i M2 h2 M3 h3 M4 h4 M5 h5 M6 h6 M7 h7 M8 h8 M9 h9 x0 x1 x2 x3 y l) rfl

/-- and in the accumulators. -/
theorem accV0 (y : Fin 512) (l : Fin 128) : (st2 c i M2 h2 M3 h3 M4 h4 M5 h5 M6 h6 M7 h7 M8 h8 M9 h9 x0 x1 x2 x3 f0 L0 g2).1.2.1 (ix2 y l) = dvSum (i 1).val x0 x3 x1 0 y l := by
  rw [st2_eq]
  have hi := lt16 i
  have h := (loop_value c i M2 h2 M3 h3 M4 h4 M5 h5 M6 h6 M7 h7 M8 h8 M9 h9 (BitVec.ofNat 32 (i 1).val) lanes (kd0 c i M2 h2 M3 h3 M4 h4 M5 h5 M6 h6 M7 h7 M8 h8 M9 h9 x0 x1 x2 x3) (kd1 c i M2 h2 M3 h3 M4 h4 M5 h5 M6 h6 M7 h7 M8 h8 M9 h9 x0 x1 x2 x3) (vd0 c i M2 h2 M3 h3 M4 h4 M5 h5 M6 h6 M7 h7 M8 h8 M9 h9 x0 x1 x2 x3) (vd1 c i M2 h2 M3 h3 M4 h4 M5 h5 M6 h6 M7 h7 M8 h8 M9 h9 x0 x1 x2 x3) (dv0 c i M2 h2 M3 h3 M4 h4 M5 h5 M6 h6 M7 h7 M8 h8 M9 h9 x0 x1 x2 x3) (dk0 c i M2 h2 M3 h3 M4 h4 M5 h5 M6 h6 M7 h7 M8 h8 M9 h9 x0 x1 x2 x3) (dv1 c i M2 h2 M3 h3 M4 h4 M5 h5 M6 h6 M7 h7 M8 h8 M9 h9 x0 x1 x2 x3) (dk1 c i M2 h2 M3 h3 M4 h4 M5 h5 M6 h6 M7 h7 M8 h8 M9 h9 x0 x1 x2 x3) (dq1 c i M2 h2 M3 h3 M4 h4 M5 h5 M6 h6 M7 h7 M8 h8 M9 h9 x0 x1 x2 x3 f0 L0 g2)
    (Scalar.addi (BitVec.ofNat 32 (i 1).val) 1#32) (h2.unread x0) (h5.unread x3) (M9.view.writes (Elt Ideal) f0 (pcs c i M2 h2 M3 h3 M4 h4 M5 h5 M6 h6 M7 h7 M8 h8 M9 h9 x0 x1 x2 x3 f0 L0 g2)) (dk0 c i M2 h2 M3 h3 M4 h4 M5 h5 M6 h6 M7 h7 M8 h8 M9 h9 x0 x1 x2 x3, dv0 c i M2 h2 M3 h3 M4 h4 M5 h5 M6 h6 M7 h7 M8 h8 M9 h9 x0 x1 x2 x3, dk1 c i M2 h2 M3 h3 M4 h4 M5 h5 M6 h6 M7 h7 M8 h8 M9 h9 x0 x1 x2 x3, dv1 c i M2 h2 M3 h3 M4 h4 M5 h5 M6 h6 M7 h7 M8 h8 M9 h9 x0 x1 x2 x3) (k0_t1_loop i).trips le_rfl).2.1 y l
  unfold st1
  refine h.trans ?_
  rw [dvSum_eq _ _ _ _ _ hi, h2.read_unread, h5.read_unread, trips1, kd0_rows]
  exact congrArg₂ (· + ·) (dv0_at c i M2 h2 M3 h3 M4 h4 M5 h5 M6 h6 M7 h7 M8 h8 M9 h9 x0 x1 x2 x3 y l) rfl

set_option maxHeartbeats 2000000 in
/-- and in the accumulators. -/
theorem accK1 (y : Fin 512) (l : Fin 128) : (st2 c i M2 h2 M3 h3 M4 h4 M5 h5 M6 h6 M7 h7 M8 h8 M9 h9 x0 x1 x2 x3 f0 L0 g2).1.2.2.1 (ix2 y l) = dkSum (i 1).val x0 x3 x1 x2 1 y l := by
  rw [st2_eq]
  have hi := lt16 i
  have h := (loop_value c i M2 h2 M3 h3 M4 h4 M5 h5 M6 h6 M7 h7 M8 h8 M9 h9 (BitVec.ofNat 32 (i 1).val) lanes (kd0 c i M2 h2 M3 h3 M4 h4 M5 h5 M6 h6 M7 h7 M8 h8 M9 h9 x0 x1 x2 x3) (kd1 c i M2 h2 M3 h3 M4 h4 M5 h5 M6 h6 M7 h7 M8 h8 M9 h9 x0 x1 x2 x3) (vd0 c i M2 h2 M3 h3 M4 h4 M5 h5 M6 h6 M7 h7 M8 h8 M9 h9 x0 x1 x2 x3) (vd1 c i M2 h2 M3 h3 M4 h4 M5 h5 M6 h6 M7 h7 M8 h8 M9 h9 x0 x1 x2 x3) (dv0 c i M2 h2 M3 h3 M4 h4 M5 h5 M6 h6 M7 h7 M8 h8 M9 h9 x0 x1 x2 x3) (dk0 c i M2 h2 M3 h3 M4 h4 M5 h5 M6 h6 M7 h7 M8 h8 M9 h9 x0 x1 x2 x3) (dv1 c i M2 h2 M3 h3 M4 h4 M5 h5 M6 h6 M7 h7 M8 h8 M9 h9 x0 x1 x2 x3) (dk1 c i M2 h2 M3 h3 M4 h4 M5 h5 M6 h6 M7 h7 M8 h8 M9 h9 x0 x1 x2 x3) (dq1 c i M2 h2 M3 h3 M4 h4 M5 h5 M6 h6 M7 h7 M8 h8 M9 h9 x0 x1 x2 x3 f0 L0 g2)
    (Scalar.addi (BitVec.ofNat 32 (i 1).val) 1#32) (h2.unread x0) (h5.unread x3) (M9.view.writes (Elt Ideal) f0 (pcs c i M2 h2 M3 h3 M4 h4 M5 h5 M6 h6 M7 h7 M8 h8 M9 h9 x0 x1 x2 x3 f0 L0 g2)) (dk0 c i M2 h2 M3 h3 M4 h4 M5 h5 M6 h6 M7 h7 M8 h8 M9 h9 x0 x1 x2 x3, dv0 c i M2 h2 M3 h3 M4 h4 M5 h5 M6 h6 M7 h7 M8 h8 M9 h9 x0 x1 x2 x3, dk1 c i M2 h2 M3 h3 M4 h4 M5 h5 M6 h6 M7 h7 M8 h8 M9 h9 x0 x1 x2 x3, dv1 c i M2 h2 M3 h3 M4 h4 M5 h5 M6 h6 M7 h7 M8 h8 M9 h9 x0 x1 x2 x3) (k0_t1_loop i).trips le_rfl).2.2.1 y l
  unfold st1
  refine h.trans ?_
  rw [dkSum_eq _ _ _ _ _ _ hi, h2.read_unread, h5.read_unread, trips1, kd1_rows, vd1_rows]
  exact congrArg₂ (· + ·) (dk1_at c i M2 h2 M3 h3 M4 h4 M5 h5 M6 h6 M7 h7 M8 h8 M9 h9 x0 x1 x2 x3 y l) rfl

set_option maxHeartbeats 2000000 in
/-- and in the accumulators. -/
theorem accV1 (y : Fin 512) (l : Fin 128) : (st2 c i M2 h2 M3 h3 M4 h4 M5 h5 M6 h6 M7 h7 M8 h8 M9 h9 x0 x1 x2 x3 f0 L0 g2).1.2.2.2 (ix2 y l) = dvSum (i 1).val x0 x3 x1 1 y l := by
  rw [st2_eq]
  have hi := lt16 i
  have h := (loop_value c i M2 h2 M3 h3 M4 h4 M5 h5 M6 h6 M7 h7 M8 h8 M9 h9 (BitVec.ofNat 32 (i 1).val) lanes (kd0 c i M2 h2 M3 h3 M4 h4 M5 h5 M6 h6 M7 h7 M8 h8 M9 h9 x0 x1 x2 x3) (kd1 c i M2 h2 M3 h3 M4 h4 M5 h5 M6 h6 M7 h7 M8 h8 M9 h9 x0 x1 x2 x3) (vd0 c i M2 h2 M3 h3 M4 h4 M5 h5 M6 h6 M7 h7 M8 h8 M9 h9 x0 x1 x2 x3) (vd1 c i M2 h2 M3 h3 M4 h4 M5 h5 M6 h6 M7 h7 M8 h8 M9 h9 x0 x1 x2 x3) (dv0 c i M2 h2 M3 h3 M4 h4 M5 h5 M6 h6 M7 h7 M8 h8 M9 h9 x0 x1 x2 x3) (dk0 c i M2 h2 M3 h3 M4 h4 M5 h5 M6 h6 M7 h7 M8 h8 M9 h9 x0 x1 x2 x3) (dv1 c i M2 h2 M3 h3 M4 h4 M5 h5 M6 h6 M7 h7 M8 h8 M9 h9 x0 x1 x2 x3) (dk1 c i M2 h2 M3 h3 M4 h4 M5 h5 M6 h6 M7 h7 M8 h8 M9 h9 x0 x1 x2 x3) (dq1 c i M2 h2 M3 h3 M4 h4 M5 h5 M6 h6 M7 h7 M8 h8 M9 h9 x0 x1 x2 x3 f0 L0 g2)
    (Scalar.addi (BitVec.ofNat 32 (i 1).val) 1#32) (h2.unread x0) (h5.unread x3) (M9.view.writes (Elt Ideal) f0 (pcs c i M2 h2 M3 h3 M4 h4 M5 h5 M6 h6 M7 h7 M8 h8 M9 h9 x0 x1 x2 x3 f0 L0 g2)) (dk0 c i M2 h2 M3 h3 M4 h4 M5 h5 M6 h6 M7 h7 M8 h8 M9 h9 x0 x1 x2 x3, dv0 c i M2 h2 M3 h3 M4 h4 M5 h5 M6 h6 M7 h7 M8 h8 M9 h9 x0 x1 x2 x3, dk1 c i M2 h2 M3 h3 M4 h4 M5 h5 M6 h6 M7 h7 M8 h8 M9 h9 x0 x1 x2 x3, dv1 c i M2 h2 M3 h3 M4 h4 M5 h5 M6 h6 M7 h7 M8 h8 M9 h9 x0 x1 x2 x3) (k0_t1_loop i).trips le_rfl).2.2.2.1 y l
  unfold st1
  refine h.trans ?_
  rw [dvSum_eq _ _ _ _ _ hi, h2.read_unread, h5.read_unread, trips1, kd1_rows]
  exact congrArg₂ (· + ·) (dv1_at c i M2 h2 M3 h3 M4 h4 M5 h5 M6 h6 M7 h7 M8 h8 M9 h9 x0 x1 x2 x3 y l) rfl

end

end Cert.AttnCore

end
-- ==== Proof.AttnRuns.lean ====
module

public import proofs.«01_k».proof.Proof.AttnCore

/-! The sums over the tiles of queries that one tile of keys visits, and over all tiles, as sums over whole rows. -/

@[expose] public section

set_option maxRecDepth 16384

noncomputable section

namespace Cert.AttnRuns

open Cert.Kernel2Ideal Cert.Kernel2Ideal.Gen Cert.AttnTile Cert.AttnLoop Cert.AttnSum Cert.AttnRun Cert.AttnBody Cert.AttnCore
open Idealize.ShloMosaic Idealize.ShloMosaic.TcCoe Idealize.ShloMosaic.Tactic

/-- Two heads stored one after the other are read back head by head. -/
theorem read_heads {φ : EltTy} (v : View sig .tc .vmem S2x512x128 φ) (f : v.ty.Contents (Elt Ideal)) (w1 w0 : S1x512x128.Idx → Elt Ideal φ)
    (e : Fin 2) (y : Fin 512) (l : Fin 128) :
    v.read (Elt Ideal) (v.writes (Elt Ideal) f [⟨Rect.unit (s := S2x512x128) ![1, 0, 0] S1x512x128.size inb_S2x512x128_S1x512x128_1_0_0, w1⟩,
      ⟨Rect.unit (s := S2x512x128) ![0, 0, 0] S1x512x128.size inb_S2x512x128_S1x512x128_0_0_0, w0⟩]) (ix3 e y l) = if e = 0 then w0 (ix3 0 y l) else w1 (ix3 0 y l) := by
  have he : e = 0 ∨ e = 1 := by fin_cases e; exact .inl rfl; exact .inr rfl
  rcases he with rfl | rfl
  · refine (View.read_writes_cons_unit_of_not_mem v f _ w1 _ (ix3 0 y l) rfl 0 (.inl Nat.zero_lt_one)).trans ?_
    rw [if_pos rfl]
    refine View.read_writes_cons_unit_of_mem v f _ w0 [] _ (ix3 0 y l) rfl fun d => ?_
    fin_cases d
    · rfl
    · show y.val = 0 + y.val; omega
    · show l.val = 0 + l.val; omega
  · rw [if_neg (show ¬ (1 : Fin 2) = 0 by decide)]
    refine View.read_writes_cons_unit_of_mem v f _ w1 _ _ (ix3 0 y l) rfl fun d => ?_
    fin_cases d
    · rfl
    · show y.val = 0 + y.val; omega
    · show l.val = 0 + l.val; omega

theorem read_heads_long {φ : EltTy} (v : View sig .tc .vmem S2x8192x128 φ) (f : v.ty.Contents (Elt Ideal)) (w1 w0 : S1x8192x128.Idx → Elt Ideal φ)
    (e : Fin 2) (y : Fin 8192) (l : Fin 128) :
    v.read (Elt Ideal) (v.writes (Elt Ideal) f [⟨Rect.unit (s := S2x8192x128) ![1, 0, 0] S1x8192x128.size inb_S2x8192x128_S1x8192x128_1_0_0, w1⟩,
      ⟨Rect.unit (s := S2x8192x128) ![0, 0, 0] S1x8192x128.size inb_S2x8192x128_S1x8192x128_0_0_0, w0⟩]) (ix3 e y l) = if e = 0 then w0 (ix3 0 y l) else w1 (ix3 0 y l) := by
  have he : e = 0 ∨ e = 1 := by fin_cases e; exact .inl rfl; exact .inr rfl
  rcases he with rfl | rfl
  · refine (View.read_writes_cons_unit_of_not_mem v f _ w1 _ (ix3 0 y l) rfl 0 (.inl Nat.zero_lt_one)).trans ?_
    rw [if_pos rfl]
    refine View.read_writes_cons_unit_of_mem v f _ w0 [] _ (ix3 0 y l) rfl fun d => ?_
    fin_cases d
    · rfl
    · show y.val = 0 + y.val; omega
    · show l.val = 0 + l.val; omega
  · rw [if_neg (show ¬ (1 : Fin 2) = 0 by decide)]
    refine View.read_writes_cons_unit_of_mem v f _ w1 _ _ (ix3 0 y l) rfl fun d => ?_
    fin_cases d
    · rfl
    · show y.val = 0 + y.val; omega
    · show l.val = 0 + l.val; omega

/-- A load of one head's 8192 rows reads that head. -/
theorem load_head0 {φ : EltTy} (v : View sig .tc .vmem S2x8192x128 φ) (f : v.ty.Contents (Elt Ideal)) (y : Fin 8192) (l : Fin 128) :
    v.readAt (Elt Ideal) (Rect.unit (s := S2x8192x128) ![0, 0, 0] S1x8192x128.size inb_S2x8192x128_S1x8192x128_0_0_0).toLoadRect f (ix3 0 y l) = v.read (Elt Ideal) f (ix3 0 y l) := by
  refine congrArg (v.read (Elt Ideal) f) (funext fun d => Fin.ext ?_)
  fin_cases d
  · rfl
  · show 0 + 1 * y.val = y.val; omega
  · show 0 + 1 * l.val = l.val; omega
theorem load_head1 {φ : EltTy} (v : View sig .tc .vmem S2x8192x128 φ) (f : v.ty.Contents (Elt Ideal)) (y : Fin 8192) (l : Fin 128) :
    v.readAt (Elt Ideal) (Rect.unit (s := S2x8192x128) ![1, 0, 0] S1x8192x128.size inb_S2x8192x128_S1x8192x128_1_0_0).toLoadRect f (ix3 0 y l) = v.read (Elt Ideal) f (ix3 1 y l) := by
  refine congrArg (v.read (Elt Ideal) f) (funext fun d => Fin.ext ?_)
  fin_cases d
  · rfl
  · show 0 + 1 * y.val = y.val; omega
  · show 0 + 1 * l.val = l.val; omega

section
variable (c : Dev nD) (i : grid0.Coords)
    (M2 : Memref sig .tc .vmem S2x8192x128 .bf16) (h2 : M2.IsWhole) (M3 : Memref sig .tc .vmem S2x512x128 .bf16) (h3 : M3.IsWhole)
    (M4 : Memref sig .tc .vmem S2x512x128 .bf16) (h4 : M4.IsWhole) (M5 : Memref sig .tc .vmem S2x8192x128 .bf16) (h5 : M5.IsWhole)
    (M6 : Memref sig .tc .vmem S2x8192x128 .bf16) (h6 : M6.IsWhole) (M7 : Memref sig .tc .vmem S2x512x128 .bf16) (h7 : M7.IsWhole)
    (M8 : Memref sig .tc .vmem S2x512x128 .bf16) (h8 : M8.IsWhole) (M9 : Memref sig .tc .vmem S2x8192x128 .f32) (h9 : M9.IsWhole)
    (x0 : Vec Ideal S2x8192x128 .bf16) (x1 x2 : Vec Ideal S2x512x128 .bf16) (x3 : Vec Ideal S2x8192x128 .bf16)

/-- The cleared scratch holds zero, -/
theorem cleared (e : Fin 2) (x : Fin 8192) (l : Fin 128) :
    M9.view.read (Elt Ideal) (M9.view.writes (Elt Ideal) M9.view.junk runFirst.sl.H7_1) (ix3 e x l) = (0 : EReal) := by
  refine (View.read_writes_cons_unit_of_mem M9.view _ _ _ [] _ (ix3 e x l) rfl fun d => ?_).trans (pay29 e x l)
  fin_cases d
  · show e.val = 0 + e.val; omega
  · show x.val = 0 + x.val; omega
  · show l.val = 0 + l.val; omega

/-- and the second head's rows are read past the first head's store. -/
theorem first_g2 (r : Fin 512) (l : Fin 128) :
    (M9.view.readAt (Elt Ideal) (Rect.unit (s := S2x8192x128) (k0_off2 i) S1x512x128.size (k0_off2_inb i)).toLoadRect (M9.view.writes (Elt Ideal) M9.view.junk (runFirst.sl.H7_2 (F := Ideal) c i M2 h2 M3 h3 M4 h4 M5 h5 M9 x0 x1 x2 x3))) (ix3 0 r l)
      = M9.view.read (Elt Ideal) (M9.view.writes (Elt Ideal) M9.view.junk runFirst.sl.H7_1) (ix3 1 (rowAt (i 1).val r) l) := by
  rw [load_tile M9.view _ 1 _ (lt16 i) _ (off2 i)]
  unfold runFirst.sl.H7_2
  rw [store_tile M9.view _ 0 _ _ (off1 i), if_neg (fun t => absurd t.1 (show ¬ (1 : Fin 2) = 0 by decide))]

theorem later_g2 (xs : Vec Ideal S2x8192x128 .f32) (r : Fin 512) (l : Fin 128) :
    (M9.view.readAt (Elt Ideal) (Rect.unit (s := S2x8192x128) (k0_off2 i) S1x512x128.size (k0_off2_inb i)).toLoadRect (h9.unread xs)) (ix3 0 r l)
      = M9.view.read (Elt Ideal) (M9.view.writes (Elt Ideal) (h9.unread xs) []) (ix3 1 (rowAt (i 1).val r) l) :=
  load_tile M9.view _ 1 _ (lt16 i) _ (off2 i) r l

/-- What the run leaves in the scratch and as the keys' and the values' gradient of its tile: at a pair's first tile, -/
theorem scrFirst_at (hc0 : IsFirst i) (hc1 : ¬ IsLast i) (e : Fin 2) (x : Fin 8192) (l : Fin 128) :
    (M9.view.read (Elt Ideal) (M9.view.writes (Elt Ideal) M9.view.junk (runFirst (F := Ideal) c i M2 h2 M3 h3 M4 h4 M5 h5 M6 h6 M7 h7 M8 h8 M9 h9 hc0 hc1 x0 x1 x2 x3).1) (ix3 e x l) : EReal) = dqAdd (i 1).val x0 x3 x1 x2 e x l := by
  rw [scrFirst_eq, scr_at (hg := first_g2 c i M2 h2 M3 h3 M4 h4 M5 h5 M9 x0 x1 x2 x3), cleared M9]
  exact zero_add (M := EReal) _
theorem dkFirst_at (hc0 : IsFirst i) (hc1 : ¬ IsLast i) (f : BufTy.Contents (Elt Ideal) M7.view.ty) (e : Fin 2) (y : Fin 512) (l : Fin 128) :
    M7.view.read (Elt Ideal) (M7.view.writes (Elt Ideal) f (runFirst (F := Ideal) c i M2 h2 M3 h3 M4 h4 M5 h5 M6 h6 M7 h7 M8 h8 M9 h9 hc0 hc1 x0 x1 x2 x3).2.1) (ix3 e y l) = split 67 (by decide) (fun l => dkSum (i 1).val x0 x3 x1 x2 e y l) l := by
  rw [dkFirst_eq, read_heads]
  have he : e = 0 ∨ e = 1 := by fin_cases e; exact .inl rfl; exact .inr rfl
  rcases he with rfl | rfl
  · rw [if_pos rfl, pay59]; simp only [accK0]
  · rw [if_neg (show ¬ (1 : Fin 2) = 0 by decide), pay1]; simp only [accK1]
theorem dvFirst_at (hc0 : IsFirst i) (hc1 : ¬ IsLast i) (f : BufTy.Contents (Elt Ideal) M8.view.ty) (e : Fin 2) (y : Fin 512) (l : Fin 128) :
    M8.view.read (Elt Ideal) (M8.view.writes (Elt Ideal) f (runFirst (F := Ideal) c i M2 h2 M3 h3 M4 h4 M5 h5 M6 h6 M7 h7 M8 h8 M9 h9 hc0 hc1 x0 x1 x2 x3).2.2.1) (ix3 e y l) = dvSum (i 1).val x0 x3 x1 e y l := by
  rw [dvFirst_eq, read_heads]
  have he : e = 0 ∨ e = 1 := by fin_cases e; exact .inl rfl; exact .inr rfl
  rcases he with rfl | rfl
  · rw [if_pos rfl, pay60, accV0]
  · rw [if_neg (show ¬ (1 : Fin 2) = 0 by decide), pay2, accV1]

/-- at a middle tile, -/
theorem scrMid_at (hc0 : ¬ IsFirst i) (hc1 : ¬ IsLast i) (xs : Vec Ideal S2x8192x128 .f32) (e : Fin 2) (x : Fin 8192) (l : Fin 128) :
    (M9.view.read (Elt Ideal) (M9.view.writes (Elt Ideal) (h9.unread xs) (runMid (F := Ideal) c i M2 h2 M3 h3 M4 h4 M5 h5 M6 h6 M7 h7 M8 h8 M9 h9 hc0 hc1 x0 x1 x2 x3 xs).1) (ix3 e x l) : EReal) = xs (ix3 e x l) + dqAdd (i 1).val x0 x3 x1 x2 e x l := by
  rw [scrMid_eq, scr_at (hg := later_g2 i M9 h9 xs)]
  exact congrArg (· + _) (congrFun (h9.read_unread xs) _)
theorem dkMid_at (hc0 : ¬ IsFirst i) (hc1 : ¬ IsLast i) (xs : Vec Ideal S2x8192x128 .f32) (f : BufTy.Contents (Elt Ideal) M7.view.ty) (e : Fin 2) (y : Fin 512) (l : Fin 128) :
    M7.view.read (Elt Ideal) (M7.view.writes (Elt Ideal) f (runMid (F := Ideal) c i M2 h2 M3 h3 M4 h4 M5 h5 M6 h6 M7 h7 M8 h8 M9 h9 hc0 hc1 x0 x1 x2 x3 xs).2.1) (ix3 e y l) = split 67 (by decide) (fun l => dkSum (i 1).val x0 x3 x1 x2 e y l) l := by
  rw [dkMid_eq, read_heads]
  have he : e = 0 ∨ e = 1 := by fin_cases e; exact .inl rfl; exact .inr rfl
  rcases he with rfl | rfl
  · rw [if_pos rfl, pay59]; simp only [accK0]
  · rw [if_neg (show ¬ (1 : Fin 2) = 0 by decide), pay1]; simp only [accK1]
theorem dvMid_at (hc0 : ¬ IsFirst i) (hc1 : ¬ IsLast i) (xs : Vec Ideal S2x8192x128 .f32) (f : BufTy.Contents (Elt Ideal) M8.view.ty) (e : Fin 2) (y : Fin 512) (l : Fin 128) :
    M8.view.read (Elt Ideal) (M8.view.writes (Elt Ideal) f (runMid (F := Ideal) c i M2 h2 M3 h3 M4 h4 M5 h5 M6 h6 M7 h7 M8 h8 M9 h9 hc0 hc1 x0 x1 x2 x3 xs).2.2.1) (ix3 e y l) = dvSum (i 1).val x0 x3 x1 e y l := by
  rw [dvMid_eq, read_heads]
  have he : e = 0 ∨ e = 1 := by fin_cases e; exact .inl rfl; exact .inr rfl
  rcases he with rfl | rfl
  · rw [if_pos rfl, pay60, accV0]
  · rw [if_neg (show ¬ (1 : Fin 2) = 0 by decide), pay2, accV1]

/-- and at its last. -/
theorem scrLast_at (hc0 : ¬ IsFirst i) (hc1 : IsLast i) (xs : Vec Ideal S2x8192x128 .f32) (e : Fin 2) (x : Fin 8192) (l : Fin 128) :
    (M9.view.read (Elt Ideal) (M9.view.writes (Elt Ideal) (h9.unread xs) (runLast (F := Ideal) c i M2 h2 M3 h3 M4 h4 M5 h5 M6 h6 M7 h7 M8 h8 M9 h9 hc0 hc1 x0 x1 x2 x3 xs).1) (ix3 e x l) : EReal) = xs (ix3 e x l) + dqAdd (i 1).val x0 x3 x1 x2 e x l := by
  rw [scrLast_eq, scr_at (hg := later_g2 i M9 h9 xs)]
  exact congrArg (· + _) (congrFun (h9.read_unread xs) _)
theorem dkLast_at (hc0 : ¬ IsFirst i) (hc1 : IsLast i) (xs : Vec Ideal S2x8192x128 .f32) (f : BufTy.Contents (Elt Ideal) M7.view.ty) (e : Fin 2) (y : Fin 512) (l : Fin 128) :
    M7.view.read (Elt Ideal) (M7.view.writes (Elt Ideal) f (runLast (F := Ideal) c i M2 h2 M3 h3 M4 h4 M5 h5 M6 h6 M7 h7 M8 h8 M9 h9 hc0 hc1 x0 x1 x2 x3 xs).2.1) (ix3 e y l) = split 67 (by decide) (fun l => dkSum (i 1).val x0 x3 x1 x2 e y l) l := by
  rw [dkLast_eq, read_heads]
  have he : e = 0 ∨ e = 1 := by fin_cases e; exact .inl rfl; exact .inr rfl
  rcases he with rfl | rfl
  · rw [if_pos rfl, pay59]; simp only [accK0]
  · rw [if_neg (show ¬ (1 : Fin 2) = 0 by decide), pay1]; simp only [accK1]
theorem dvLast_at (hc0 : ¬ IsFirst i) (hc1 : IsLast i) (xs : Vec Ideal S2x8192x128 .f32) (f : BufTy.Contents (Elt Ideal) M8.view.ty) (e : Fin 2) (y : Fin 512) (l : Fin 128) :
    M8.view.read (Elt Ideal) (M8.view.writes (Elt Ideal) f (runLast (F := Ideal) c i M2 h2 M3 h3 M4 h4 M5 h5 M6 h6 M7 h7 M8 h8 M9 h9 hc0 hc1 x0 x1 x2 x3 xs).2.2.1) (ix3 e y l) = dvSum (i 1).val x0 x3 x1 e y l := by
  rw [dvLast_eq, read_heads]
  have he : e = 0 ∨ e = 1 := by fin_cases e; exact .inl rfl; exact .inr rfl
  rcases he with rfl | rfl
  · rw [if_pos rfl, pay60, accV0]
  · rw [if_neg (show ¬ (1 : Fin 2) = 0 by decide), pay2, accV1]

/-- At a pair's last tile the scratch is written out as the queries' gradient. -/
theorem dqLast_at (hc0 : ¬ IsFirst i) (hc1 : IsLast i) (xs : Vec Ideal S2x8192x128 .f32) (f : BufTy.Contents (Elt Ideal) M6.view.ty) (e : Fin 2) (x : Fin 8192) (l : Fin 128) :
    M6.view.read (Elt Ideal) (M6.view.writes (Elt Ideal) f (runLast (F := Ideal) c i M2 h2 M3 h3 M4 h4 M5 h5 M6 h6 M7 h7 M8 h8 M9 h9 hc0 hc1 x0 x1 x2 x3 xs).2.2.2.1) (ix3 e x l)
      = split 64 (by decide) (fun l => (M9.view.read (Elt Ideal) (M9.view.writes (Elt Ideal) (h9.unread xs) (runLast (F := Ideal) c i M2 h2 M3 h3 M4 h4 M5 h5 M6 h6 M7 h7 M8 h8 M9 h9 hc0 hc1 x0 x1 x2 x3 xs).1) (ix3 e x l) : EReal)) l := by
  rw [dqLast_eq, read_heads_long, scrLast_eq]
  have he : e = 0 ∨ e = 1 := by fin_cases e; exact .inl rfl; exact .inr rfl
  rcases he with rfl | rfl
  · rw [if_pos rfl, pay3]; exact congrArg (fun g => split 64 _ g l) (funext fun l => load_head0 _ _ x l)
  · rw [if_neg (show ¬ (1 : Fin 2) = 0 by decide), pay4]; exact congrArg (fun g => split 64 _ g l) (funext fun l => load_head1 _ _ x l)

end

end Cert.AttnRuns

end
-- ==== Proof.AttnPoint.lean ====
module

public import proofs.«01_k».proof.Proof.AttnRuns
public import proofs.«01_k».proof.Proof.AttnFrame
public import Idealize.ShloMosaic.Lib.Pipeline.ValueKit
public import Idealize.ShloMosaic.Lib.Pipeline.ReadBack

/-
  The three arrays the attention gradient's launch leaves, entry by entry, from its four operands. Each point of the grid takes two
  heads and one tile of 512 keys; over the sixteen tiles of a pair of heads the scratch collects the queries' gradient.
-/

@[expose] public section

set_option maxRecDepth 16384

noncomputable section

namespace Cert.AttnPoint

open Cert.Kernel2Ideal Cert.Kernel2Ideal.Gen Cert.AttnTile Cert.AttnLoop Cert.AttnSum Cert.AttnRun Cert.AttnBody Cert.AttnCore Cert.AttnRuns
open Idealize.ShloMosaic Idealize.ShloMosaic.TcCoe Idealize.ShloMosaic.Tactic

/-! ## The specification: the gradients from the four operands -/

/-- Three-index arrays: head, row, lane. -/
abbrev Arr : Type := S16x8192x128.Idx → EReal

/-- The weight of key `k` for query `x`, nothing for a key that comes later. -/
def WT (Q K : Arr) (h : Fin 16) (x k : Fin 8192) : EReal :=
  if k.val ≤ x.val then Ideal.exp2 (∑ l : Fin 128, Q (ix3 h x l) * K (ix3 h k l)) else 0
/-- The weight times its cotangent. -/
def DS (Q K W O : Arr) (h : Fin 16) (x k : Fin 8192) : EReal := WT Q K h x k * ∑ l : Fin 128, O (ix3 h x l) * W (ix3 h k l)
def DQ (Q K W O : Arr) (h : Fin 16) (x : Fin 8192) (l : Fin 128) : EReal := ∑ k : Fin 8192, DS Q K W O h x k * K (ix3 h k l)
def DK (Q K W O : Arr) (h : Fin 16) (k : Fin 8192) (l : Fin 128) : EReal := ∑ x : Fin 8192, DS Q K W O h x k * Q (ix3 h x l)
def DV (Q K O : Arr) (h : Fin 16) (k : Fin 8192) (l : Fin 128) : EReal := ∑ x : Fin 8192, WT Q K h x k * O (ix3 h x l)

variable (m : (ℓ : Loc nD τ sig) → Buf (Elt Ideal) ℓ) (c : Dev nD)

/-- The launch's operands. -/
def opQ : Arr := V0 m c main_v103
def opK : Arr := V0 m c main_v104
def opW : Arr := V0 m c main_v105
def opO : Arr := V0 m c main_v106

theorem idx : ∀ t : Fin cfg0.N, win0_0.index t = ![t.val / 16, 0, 0] ∧ win0_1.index t = ![t.val / 16, t.val % 16, 0]
    ∧ win0_2.index t = ![t.val / 16, t.val % 16, 0] ∧ win0_3.index t = ![t.val / 16, 0, 0] ∧ win0_4.index t = ![t.val / 16, 0, 0]
    ∧ win0_5.index t = ![t.val / 16, t.val % 16, 0] ∧ win0_6.index t = ![t.val / 16, t.val % 16, 0] :=
  (by decide +kernel : ∀ t : Fin grid0.N, _)
theorem coord : ∀ t : Fin cfg0.N, (grid0.coords t 1).val = t.val % 16 := (by decide +kernel : ∀ t : Fin grid0.N, _)

/-- Head `e` of the pair of point `t`. -/
def hd (t : Fin cfg0.N) (e : Fin 2) : Fin 16 :=
  ⟨2 * (t.val / 16) + e.val, by have := t.isLt; have hN : cfg0.N = 128 := N_0; have := e.isLt; omega⟩

variable (t : Fin cfg0.N)

theorem tile_lt : t.val % 16 < 16 := Nat.mod_lt _ (by decide)

theorem row_val (y : Fin 512) : (rowAt (t.val % 16) y).val = t.val % 16 * 512 + y.val := by
  rw [rowAt_val _ (tile_lt t)]; omega

theorem emb0 (e : Fin 2) (r : Fin 8192) (l : Fin 128) : ((cfg0.win 0).blk t).view.emb (ix3 e r l) = ix3 (hd t e) r l := by
  blk_ext [idx t, hd]
theorem emb1 (e : Fin 2) (y : Fin 512) (l : Fin 128) : ((cfg0.win 1).blk t).view.emb (ix3 e y l) = ix3 (hd t e) (rowAt (t.val % 16) y) l := by
  blk_ext [idx t, hd, row_val t]

theorem emb4 (e : Fin 2) (r : Fin 8192) (l : Fin 128) : ((cfg0.win 4).blk t).view.emb (ix3 e r l) = ix3 (hd t e) r l := by
  blk_ext [idx t, hd]
theorem emb5 (e : Fin 2) (y : Fin 512) (l : Fin 128) : ((cfg0.win 5).blk t).view.emb (ix3 e y l) = ix3 (hd t e) (rowAt (t.val % 16) y) l := by
  blk_ext [idx t, hd, row_val t]
theorem emb6 (e : Fin 2) (y : Fin 512) (l : Fin 128) : ((cfg0.win 6).blk t).view.emb (ix3 e y l) = ix3 (hd t e) (rowAt (t.val % 16) y) l := by
  blk_ext [idx t, hd, row_val t]

/-- The blocks of point `t` are the operands' own entries. -/
theorem read0 (e : Fin 2) (r : Fin 8192) (l : Fin 128) : iblk m c 0 t (ix3 e r l) = opQ m c (ix3 (hd t e) r l) := by
  blk_ext [iblk, V, opQ, idx t, hd]
theorem read1 (e : Fin 2) (y : Fin 512) (l : Fin 128) : iblk m c 1 t (ix3 e y l) = opK m c (ix3 (hd t e) (rowAt (t.val % 16) y) l) := by
  blk_ext [iblk, V, opK, idx t, hd, row_val t]
theorem read2 (e : Fin 2) (y : Fin 512) (l : Fin 128) : iblk m c 2 t (ix3 e y l) = opW m c (ix3 (hd t e) (rowAt (t.val % 16) y) l) := by
  blk_ext [iblk, V, opW, idx t, hd, row_val t]
theorem read3 (e : Fin 2) (r : Fin 8192) (l : Fin 128) : iblk m c 3 t (ix3 e r l) = opO m c (ix3 (hd t e) r l) := by
  blk_ext [iblk, V, opO, idx t, hd]

/-! ## What a point adds, from the operands -/

theorem wt_at (e : Fin 2) (x : Fin 8192) (y : Fin 512) :
    wt (t.val % 16) (iblk m c 0 t) (iblk m c 1 t) e x y = WT (opQ m c) (opK m c) (hd t e) x (rowAt (t.val % 16) y) := by
  unfold wt WT
  rw [rowAt_val _ (tile_lt t)]
  simp only [read0, read1]
theorem dw_at (e : Fin 2) (x : Fin 8192) (y : Fin 512) :
    dw (iblk m c 3 t) (iblk m c 2 t) e x y = ∑ l : Fin 128, opO m c (ix3 (hd t e) x l) * opW m c (ix3 (hd t e) (rowAt (t.val % 16) y) l) := by
  unfold dw
  simp only [read2, read3]

/-- What the tile of keys number `a` adds to the queries' gradient. -/
def part (Q K W O : Arr) (h : Fin 16) (a : ℕ) (x : Fin 8192) (l : Fin 128) : EReal :=
  ∑ y : Fin 512, DS Q K W O h x (rowAt a y) * K (ix3 h (rowAt a y) l)

theorem dqAdd_at (e : Fin 2) (x : Fin 8192) (l : Fin 128) :
    dqAdd (t.val % 16) (iblk m c 0 t) (iblk m c 3 t) (iblk m c 1 t) (iblk m c 2 t) e x l
      = part (opQ m c) (opK m c) (opW m c) (opO m c) (hd t e) (t.val % 16) x l := by
  unfold dqAdd part DS
  simp only [wt_at, dw_at, read1]
theorem dkSum_at (e : Fin 2) (y : Fin 512) (l : Fin 128) :
    dkSum (t.val % 16) (iblk m c 0 t) (iblk m c 3 t) (iblk m c 1 t) (iblk m c 2 t) e y l
      = DK (opQ m c) (opK m c) (opW m c) (opO m c) (hd t e) (rowAt (t.val % 16) y) l := by
  unfold dkSum DK DS
  simp only [wt_at, dw_at, read0]
theorem dvSum_at (e : Fin 2) (y : Fin 512) (l : Fin 128) :
    dvSum (t.val % 16) (iblk m c 0 t) (iblk m c 3 t) (iblk m c 1 t) e y l
      = DV (opQ m c) (opK m c) (opO m c) (hd t e) (rowAt (t.val % 16) y) l := by
  unfold dvSum DV
  simp only [wt_at, read3]

/-! ## Each run, at a point of the grid -/

attribute [local irreducible] runFirst runMid runLast

theorem scrFirst_here (h0 : t.val % 16 = 0) (h1 : ¬t.val % 16 = 15) (e : Fin 2) (y : Fin 8192) (l : Fin 128) :
    (scrFirst m c t h0 h1 (ix3 e y l) : EReal) = dqAdd (t.val % 16) (iblk m c 0 t) (iblk m c 3 t) (iblk m c 1 t) (iblk m c 2 t) e y l := by
  unfold scrFirst atFirst
  exact (scrFirst_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (iblk m c 0 t) (iblk m c 1 t) (iblk m c 2 t) (iblk m c 3 t) ((isFirst_iff t).mpr h0) (fun h => h1 ((isLast_iff t).mp h)) e y l).trans (by rw [coord t])
theorem dkFirst_here (h0 : t.val % 16 = 0) (h1 : ¬t.val % 16 = 15) (e : Fin 2) (y : Fin 512) (l : Fin 128) :
    (dkFirst m c t h0 h1 (ix3 e y l) : EReal) = split 67 (by decide) (fun l => dkSum (t.val % 16) (iblk m c 0 t) (iblk m c 3 t) (iblk m c 1 t) (iblk m c 2 t) e y l) l := by
  unfold dkFirst atFirst
  have e := dkFirst_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (iblk m c 0 t) (iblk m c 1 t) (iblk m c 2 t) (iblk m c 3 t) ((isFirst_iff t).mpr h0) (fun h => h1 ((isLast_iff t).mp h)) (dkBuf t).view.junk e y l
  rw [coord t] at e
  exact e
theorem dvFirst_here (h0 : t.val % 16 = 0) (h1 : ¬t.val % 16 = 15) (e : Fin 2) (y : Fin 512) (l : Fin 128) :
    (dvFirst m c t h0 h1 (ix3 e y l) : EReal) = dvSum (t.val % 16) (iblk m c 0 t) (iblk m c 3 t) (iblk m c 1 t) e y l := by
  unfold dvFirst atFirst
  have e := dvFirst_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (iblk m c 0 t) (iblk m c 1 t) (iblk m c 2 t) (iblk m c 3 t) ((isFirst_iff t).mpr h0) (fun h => h1 ((isLast_iff t).mp h)) (dvBuf t).view.junk e y l
  rw [coord t] at e
  exact e
theorem scrMid_here (h0 : ¬t.val % 16 = 0) (h1 : ¬t.val % 16 = 15) (xs : Vec Ideal S2x8192x128 .f32) (e : Fin 2) (y : Fin 8192) (l : Fin 128) :
    (scrMid m c t h0 h1 xs (ix3 e y l) : EReal) = xs (ix3 e y l) + dqAdd (t.val % 16) (iblk m c 0 t) (iblk m c 3 t) (iblk m c 1 t) (iblk m c 2 t) e y l := by
  unfold scrMid atMid
  exact (scrMid_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (iblk m c 0 t) (iblk m c 1 t) (iblk m c 2 t) (iblk m c 3 t) (fun h => h0 ((isFirst_iff t).mp h)) (fun h => h1 ((isLast_iff t).mp h)) xs e y l).trans (by rw [coord t])
theorem dkMid_here (h0 : ¬t.val % 16 = 0) (h1 : ¬t.val % 16 = 15) (xs : Vec Ideal S2x8192x128 .f32) (e : Fin 2) (y : Fin 512) (l : Fin 128) :
    (dkMid m c t h0 h1 xs (ix3 e y l) : EReal) = split 67 (by decide) (fun l => dkSum (t.val % 16) (iblk m c 0 t) (iblk m c 3 t) (iblk m c 1 t) (iblk m c 2 t) e y l) l := by
  unfold dkMid atMid
  have e := dkMid_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (iblk m c 0 t) (iblk m c 1 t) (iblk m c 2 t) (iblk m c 3 t) (fun h => h0 ((isFirst_iff t).mp h)) (fun h => h1 ((isLast_iff t).mp h)) xs (dkBuf t).view.junk e y l
  rw [coord t] at e
  exact e
theorem dvMid_here (h0 : ¬t.val % 16 = 0) (h1 : ¬t.val % 16 = 15) (xs : Vec Ideal S2x8192x128 .f32) (e : Fin 2) (y : Fin 512) (l : Fin 128) :
    (dvMid m c t h0 h1 xs (ix3 e y l) : EReal) = dvSum (t.val % 16) (iblk m c 0 t) (iblk m c 3 t) (iblk m c 1 t) e y l := by
  unfold dvMid atMid
  have e := dvMid_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (iblk m c 0 t) (iblk m c 1 t) (iblk m c 2 t) (iblk m c 3 t) (fun h => h0 ((isFirst_iff t).mp h)) (fun h => h1 ((isLast_iff t).mp h)) xs (dvBuf t).view.junk e y l
  rw [coord t] at e
  exact e
theorem scrLast_here (h0 : ¬t.val % 16 = 0) (h1 : t.val % 16 = 15) (xs : Vec Ideal S2x8192x128 .f32) (e : Fin 2) (y : Fin 8192) (l : Fin 128) :
    (scrLast m c t h0 h1 xs (ix3 e y l) : EReal) = xs (ix3 e y l) + dqAdd (t.val % 16) (iblk m c 0 t) (iblk m c 3 t) (iblk m c 1 t) (iblk m c 2 t) e y l := by
  unfold scrLast atLast
  exact (scrLast_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (iblk m c 0 t) (iblk m c 1 t) (iblk m c 2 t) (iblk m c 3 t) (fun h => h0 ((isFirst_iff t).mp h)) ((isLast_iff t).mpr h1) xs e y l).trans (by rw [coord t])
theorem dkLast_here (h0 : ¬t.val % 16 = 0) (h1 : t.val % 16 = 15) (xs : Vec Ideal S2x8192x128 .f32) (e : Fin 2) (y : Fin 512) (l : Fin 128) :
    (dkLast m c t h0 h1 xs (ix3 e y l) : EReal) = split 67 (by decide) (fun l => dkSum (t.val % 16) (iblk m c 0 t) (iblk m c 3 t) (iblk m c 1 t) (iblk m c 2 t) e y l) l := by
  unfold dkLast atLast
  have e := dkLast_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (iblk m c 0 t) (iblk m c 1 t) (iblk m c 2 t) (iblk m c 3 t) (fun h => h0 ((isFirst_iff t).mp h)) ((isLast_iff t).mpr h1) xs (dkBuf t).view.junk e y l
  rw [coord t] at e
  exact e
theorem dvLast_here (h0 : ¬t.val % 16 = 0) (h1 : t.val % 16 = 15) (xs : Vec Ideal S2x8192x128 .f32) (e : Fin 2) (y : Fin 512) (l : Fin 128) :
    (dvLast m c t h0 h1 xs (ix3 e y l) : EReal) = dvSum (t.val % 16) (iblk m c 0 t) (iblk m c 3 t) (iblk m c 1 t) e y l := by
  unfold dvLast atLast
  have e := dvLast_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (iblk m c 0 t) (iblk m c 1 t) (iblk m c 2 t) (iblk m c 3 t) (fun h => h0 ((isFirst_iff t).mp h)) ((isLast_iff t).mpr h1) xs (dvBuf t).view.junk e y l
  rw [coord t] at e
  exact e
theorem dqLast_here (h0 : ¬t.val % 16 = 0) (h1 : t.val % 16 = 15) (xs : Vec Ideal S2x8192x128 .f32) (e : Fin 2) (x : Fin 8192) (l : Fin 128) :
    (dqLast m c t h0 h1 xs (ix3 e x l) : EReal) = split 64 (by decide) (fun l => (scrLast m c t h0 h1 xs (ix3 e x l) : EReal)) l := by
  unfold dqLast scrLast atLast
  exact dqLast_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scr (Memref.isWhole_whole _) (iblk m c 0 t) (iblk m c 1 t) (iblk m c 2 t) (iblk m c 3 t) (fun h => h0 ((isFirst_iff t).mp h)) ((isLast_iff t).mpr h1) xs _ e x l

end Cert.AttnPoint

end
-- ==== Proof.AttnReal.lean ====
module

public import proofs.«01_k».proof.Proof.AttnPoint
public import Idealize.ShloMosaic.Lib.WordCmp
public import Mathlib.Analysis.SpecialFunctions.Pow.Real

/-
  The mathematics of one head of the attention gradient over the real numbers: the weights, their gradient, and how the lanes the
  launch's operands carry beside the heads' own give the weights by one power of two and the gradient's factor by one product.
-/

@[expose] public section

noncomputable section

namespace Cert.AttnReal

open Idealize.ShloMosaic Cert.AttnPoint
open Finset

/-- A choice by the order of two positions. -/
theorem select_pos (x y : Fin 8192) (a b : EReal) :
    Scalar.select (IntOp.cmpi CmpIPredicate.sle (BitVec.ofNat 32 y.val) (BitVec.ofNat 32 x.val)) a b = if y ≤ x then a else b := by
  have h : (IntOp.cmpi CmpIPredicate.sle (BitVec.ofNat 32 y.val) (BitVec.ofNat 32 x.val) = 1#1) ↔ y ≤ x := by
    rw [Fin.le_def]; have := x.isLt; have := y.isLt; word_cmp
  unfold Scalar.select
  by_cases hc : y ≤ x
  · rw [if_pos hc]; exact if_pos (h.mpr hc)
  · rw [if_neg hc]; exact if_neg (fun e => hc (h.mp e))

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [sum_insert ha, sum_insert ha, EReal.coe_add, ih]

theorem neg_inf : Ideal.ofBits .f32 4286578688#32 = (⊥ : EReal) := by
  simp [Ideal.ofBits, Ideal.ieee]

theorem eighth : Ideal.ofBits .f32 1040187392#32 = ((1 / 8 : ℝ) : EReal) := by
  simp [Ideal.ofBits, Ideal.ieee, -EReal.coe_mul]; norm_num

variable (q k v d : Fin 8192 → Fin 64 → ℝ) (f : Fin 8192 → ℝ)

/-- A score, -/
def L (x y : Fin 8192) : ℝ := (∑ l, q x l * k y l) * (1 / 8) + (f x - f y)

/-- masked: a query sees the keys up to its own position. -/
def lg (x y : Fin 8192) : EReal := if y ≤ x then ((L q k f x y : ℝ) : EReal) else ⊥

/-- A query's largest score. -/
def top (x : Fin 8192) : EReal := Finset.fold max (⊥ : EReal) (fun y => lg q k f x y) Finset.univ
def M (x : Fin 8192) : ℝ := (top q k f x).toReal

theorem top_eq (x : Fin 8192) : top q k f x = ((M q k f x : ℝ) : EReal) := by
  refine (EReal.coe_toReal (ne_of_lt ?_) (ne_of_gt ?_)).symm
  · refine (Finset.fold_max_lt _).mpr ⟨by simp, fun y _ => ?_⟩
    unfold lg; split_ifs
    · exact EReal.coe_lt_top _
    · simp
  · refine (Finset.lt_fold_max _).mpr (Or.inr ⟨x, Finset.mem_univ _, ?_⟩)
    unfold lg; rw [if_pos le_rfl]; exact EReal.bot_lt_coe _

/-- The exponentials, their sum, the weights. -/
def e (x y : Fin 8192) : ℝ := if y ≤ x then Real.exp (L q k f x y - M q k f x) else 0
def z (x : Fin 8192) : ℝ := ∑ y, e q k f x y
def p (x y : Fin 8192) : ℝ := e q k f x y / z q k f x

theorem e_eq (x y : Fin 8192) : Ideal.exp (lg q k f x y - ((M q k f x : ℝ) : EReal)) = ((e q k f x y : ℝ) : EReal) := by
  unfold lg e; split_ifs
  · rw [← EReal.coe_sub]; rfl
  · rfl

theorem z_pos (x : Fin 8192) : 0 < z q k f x := by
  refine Finset.sum_pos' (fun y _ => ?_) ⟨x, Finset.mem_univ _, ?_⟩
  · unfold e; split_ifs
    · exact (Real.exp_pos _).le
    · exact le_rfl
  · unfold e; rw [if_pos le_rfl]; exact Real.exp_pos _

theorem div_z (x y : Fin 8192) : Ideal.div (e q k f x y : EReal) (z q k f x : EReal) = (p q k f x y : EReal) := by
  rw [Ideal.div_coe (z_pos q k f x).ne', ← EReal.coe_mul]
  exact congrArg _ (by unfold p; ring)

/-- The weights' gradient, its mean under the weights, and the scores' gradient. -/
def dp (x y : Fin 8192) : ℝ := ∑ l, d x l * v y l
def del (x : Fin 8192) : ℝ := ∑ y, p q k f x y * dp v d x y
def ds (x y : Fin 8192) : ℝ := p q k f x y * (dp v d x y - del q k v d f x)

/-- The gradients of the queries, the keys, the values and the decays. -/
def gq (x : Fin 8192) (i : Fin 64) : ℝ := ∑ y, ds q k v d f x y * (1 / 8) * k y i
def gk (y : Fin 8192) (i : Fin 64) : ℝ := ∑ x, ds q k v d f x y * (1 / 8) * q x i
def gv (y : Fin 8192) (i : Fin 64) : ℝ := ∑ x, p q k f x y * d x i
def gf (x : Fin 8192) : ℝ := ∑ y, ds q k v d f x y - ∑ y, ds q k v d f y x

/-- The mean is the output's product with its gradient. -/
theorem del_eq (x : Fin 8192) : ∑ l, d x l * ∑ y, v y l * p q k f x y = del q k v d f x := by
  unfold del dp
  simp only [Finset.mul_sum]
  rw [Finset.sum_comm]
  exact Finset.sum_congr rfl fun y _ => Finset.sum_congr rfl fun l _ => by ring

/-- A row of 128 lanes: a head's own 64, nine more, and zeros. -/
def lane (u : Fin 64 → ℝ) (w : Fin 9 → ℝ) (l : Fin 128) : ℝ :=
  if h : l.val < 64 then u ⟨l.val, h⟩ else if h' : l.val < 73 then w ⟨l.val - 64, by omega⟩ else 0

theorem sum_lane (u u' : Fin 64 → ℝ) (w w' : Fin 9 → ℝ) :
    ∑ l, lane u w l * lane u' w' l = (∑ l, u l * u' l) + ∑ j, w j * w' j := by
  rw [show (∑ l : Fin 128, lane u w l * lane u' w' l) = ∑ l : Fin (64 + (9 + 55)), lane u w l * lane u' w' l from rfl,
    Fin.sum_univ_add, Fin.sum_univ_add]
  refine congrArg₂ (· + ·) (Finset.sum_congr rfl fun l _ => ?_) ?_
  · simp [lane]
  · rw [show (∑ j : Fin 55, lane u w (Fin.natAdd 64 (Fin.natAdd 9 j)) * lane u' w' (Fin.natAdd 64 (Fin.natAdd 9 j))) = 0 from
      Finset.sum_eq_zero fun j _ => by simp [lane], add_zero]
    refine Finset.sum_congr rfl fun j _ => ?_
    have hj : j.val + 64 < 73 := by omega
    simp [lane, hj]

/-- The four operands' rows. -/
def QR (x : Fin 8192) : Fin 128 → ℝ :=
  lane (fun l => q x l * (1 / 8 * (Real.log 2)⁻¹))
    ![f x * (Real.log 2)⁻¹, 0, 0, 1, 1, 1, -((M q k f x + Real.log (z q k f x)) * (Real.log 2)⁻¹), 0, 0]
def KR (x : Fin 8192) : Fin 128 → ℝ := lane (k x) ![1, 1, 1, -(f x * (Real.log 2)⁻¹), 0, 0, 1, 1, 1]
def WR (x : Fin 8192) : Fin 128 → ℝ := lane (v x) ![1, 1, 1, 0, 0, 0, 0, 0, 0]
def OR (x : Fin 8192) : Fin 128 → ℝ := lane (d x) ![-del q k v d f x, 0, 0, 0, 0, 0, 0, 0, 0]

theorem log2_ne : Real.log 2 ≠ 0 := (Real.log_pos (by norm_num)).ne'

theorem sum_QK (x y : Fin 8192) :
    ∑ l, QR q k f x l * KR k f y l = (L q k f x y - (M q k f x + Real.log (z q k f x))) * (Real.log 2)⁻¹ := by
  unfold QR KR
  rw [sum_lane]
  rw [show (∑ l, q x l * (1 / 8 * (Real.log 2)⁻¹) * k y l) = (∑ l, q x l * k y l) * (1 / 8 * (Real.log 2)⁻¹) from by
    rw [Finset.sum_mul]; exact Finset.sum_congr rfl fun l _ => by ring]
  unfold L
  generalize (∑ l, q x l * k y l) = s
  simp [Fin.sum_univ_succ]
  ring

theorem sum_OW (x y : Fin 8192) : ∑ l, OR q k v d f x l * WR v y l = dp v d x y - del q k v d f x := by
  unfold OR WR
  rw [sum_lane]
  unfold dp
  generalize (∑ l, d x l * v y l) = s
  simp [Fin.sum_univ_succ]
  ring

theorem pow_eq (x y : Fin 8192) (h : y ≤ x) : Real.rpow 2 (∑ l, QR q k f x l * KR k f y l) = p q k f x y := by
  rw [sum_QK]
  refine (Real.rpow_def_of_pos (by norm_num : (0 : ℝ) < 2) _).trans ?_
  rw [mul_comm, mul_assoc, inv_mul_cancel₀ log2_ne, mul_one, ← sub_sub, Real.exp_sub, Real.exp_log (z_pos q k f x)]
  unfold p e; rw [if_pos h]

variable {Q K W O : Arr} {h : Fin 16}

theorem WT_eq (hQ : ∀ x l, Q (ix3 h x l) = (QR q k f x l : EReal)) (hK : ∀ x l, K (ix3 h x l) = (KR k f x l : EReal))
    (x y : Fin 8192) : WT Q K h x y = (p q k f x y : EReal) := by
  unfold WT
  by_cases hc : y ≤ x
  · rw [if_pos (Fin.le_def.mp hc)]
    simp only [hQ, hK, ← EReal.coe_mul, ← coe_sum]
    exact congrArg (fun r : ℝ => (r : EReal)) (pow_eq q k f x y hc)
  · rw [if_neg (fun e => hc (Fin.le_def.mpr e))]
    unfold p e; rw [if_neg hc, zero_div]; rfl

theorem DS_eq (hQ : ∀ x l, Q (ix3 h x l) = (QR q k f x l : EReal)) (hK : ∀ x l, K (ix3 h x l) = (KR k f x l : EReal))
    (hW : ∀ x l, W (ix3 h x l) = (WR v x l : EReal)) (hO : ∀ x l, O (ix3 h x l) = (OR q k v d f x l : EReal))
    (x y : Fin 8192) : DS Q K W O h x y = (ds q k v d f x y : EReal) := by
  unfold DS
  rw [WT_eq q k f hQ hK]
  simp only [hW, hO, ← EReal.coe_mul, ← coe_sum, sum_OW]
  rfl

theorem DQ_eq (hQ : ∀ x l, Q (ix3 h x l) = (QR q k f x l : EReal)) (hK : ∀ x l, K (ix3 h x l) = (KR k f x l : EReal))
    (hW : ∀ x l, W (ix3 h x l) = (WR v x l : EReal)) (hO : ∀ x l, O (ix3 h x l) = (OR q k v d f x l : EReal))
    (x : Fin 8192) (l : Fin 128) : DQ Q K W O h x l = ((∑ y, ds q k v d f x y * KR k f y l : ℝ) : EReal) := by
  unfold DQ
  rw [coe_sum]
  exact Finset.sum_congr rfl fun y _ => by rw [DS_eq q k v d f hQ hK hW hO, hK, EReal.coe_mul]

theorem DK_eq (hQ : ∀ x l, Q (ix3 h x l) = (QR q k f x l : EReal)) (hK : ∀ x l, K (ix3 h x l) = (KR k f x l : EReal))
    (hW : ∀ x l, W (ix3 h x l) = (WR v x l : EReal)) (hO : ∀ x l, O (ix3 h x l) = (OR q k v d f x l : EReal))
    (y : Fin 8192) (l : Fin 128) : DK Q K W O h y l = ((∑ x, ds q k v d f x y * QR q k f x l : ℝ) : EReal) := by
  unfold DK
  rw [coe_sum]
  exact Finset.sum_congr rfl fun x _ => by rw [DS_eq q k v d f hQ hK hW hO, hQ, EReal.coe_mul]

theorem DV_eq (hQ : ∀ x l, Q (ix3 h x l) = (QR q k f x l : EReal)) (hK : ∀ x l, K (ix3 h x l) = (KR k f x l : EReal))
    (hO : ∀ x l, O (ix3 h x l) = (OR q k v d f x l : EReal))
    (y : Fin 8192) (l : Fin 128) : DV Q K O h y l = ((∑ x, p q k f x y * OR q k v d f x l : ℝ) : EReal) := by
  unfold DV
  rw [coe_sum]
  exact Finset.sum_congr rfl fun x _ => by rw [WT_eq q k f hQ hK, hO, EReal.coe_mul]

/-! What the lines after the launch make of its three arrays. -/

theorem fin_q (x : Fin 8192) (i : Fin 64) :
    (∑ y, ds q k v d f x y * KR k f y ⟨i.val, by omega⟩) * (1 / 8) = gq q k v d f x i := by
  unfold gq KR lane
  rw [Finset.sum_mul]
  exact Finset.sum_congr rfl fun y _ => by rw [dif_pos i.isLt]; ring

theorem fin_k (y : Fin 8192) (i : Fin 64) :
    (∑ x, ds q k v d f x y * QR q k f x ⟨i.val, by omega⟩) * Real.log 2 = gk q k v d f y i := by
  unfold gk QR lane
  rw [Finset.sum_mul]
  refine Finset.sum_congr rfl fun y _ => ?_
  rw [dif_pos i.isLt]
  have := log2_ne
  field_simp

theorem fin_v (y : Fin 8192) (i : Fin 64) : ∑ x, p q k f x y * OR q k v d f x ⟨i.val, by omega⟩ = gv q k d f y i := by
  unfold gv OR lane
  exact Finset.sum_congr rfl fun y _ => by rw [dif_pos i.isLt]

theorem KR_64 (y : Fin 8192) : KR k f y 64 = 1 := by simp [KR, lane]
theorem QR_67 (x : Fin 8192) : QR q k f x 67 = 1 := by simp [QR, lane]

theorem fin_f (x : Fin 8192) :
    (∑ y, ds q k v d f x y * KR k f y 64) + ((∑ y, ds q k v d f x y * KR k f y 64) - ∑ y, ds q k v d f x y * KR k f y 64)
      - (∑ y, ds q k v d f y x * QR q k f y 67) - ((∑ y, ds q k v d f y x * QR q k f y 67) - ∑ y, ds q k v d f y x * QR q k f y 67)
      = gf q k v d f x := by
  simp only [KR_64, QR_67, mul_one]
  unfold gf
  ring

end Cert.AttnReal
-- ==== Proof.AttnHost.lean ====
module

public import proofs.«01_k».proof.Proof.AttnReal
public import Idealize.ShloMosaic.Lib.Pointwise
public import Idealize.ShloMosaic.Lib.StableHlo.RunRead

/-
  The host lines before the attention gradient's launch, entry by entry: the masked scores, their row maxima and sums, the
  log-sum-exp, the row sums of the output gradient times the output, and the four operands the launch takes.
-/

@[expose] public section

set_option maxRecDepth 16384

noncomputable section

namespace Cert.AttnHost

open Cert.Kernel2Ideal Cert.Kernel2Ideal.Gen Cert.AttnRun Cert.AttnPoint Cert.AttnReal
open Idealize.ShloMosaic Idealize.ShloMosaic.TcCoe Idealize.ShloMosaic.Tactic
open Idealize.ShloMosaic.StableHlo

/-- The lines up to the masked scores. -/
abbrev lineA : List (HloOp τ sig (Elt Ideal)) := hostOps0 ++ hostOps0_1
/-- The lines of the row maxima. -/
abbrev lineB : List (HloOp τ sig (Elt Ideal)) := hostOps0_2.take 2
/-- The lines of the exponentials and the row sums. -/
abbrev lineE : List (HloOp τ sig (Elt Ideal)) := (hostOps0_2.take 8).drop 2
/-- The lines from the row sums to the log-sum-exp and the output's row sums. -/
abbrev lineC : List (HloOp τ sig (Elt Ideal)) := (hostOps0_2.take 20).drop 8
/-- The lines that lay out the operands. -/
abbrev lineD : List (HloOp τ sig (Elt Ideal)) := hostOps0_2.drop 20

variable (m : (ℓ : Loc nD τ sig) → Buf (Elt Ideal) ℓ) (c : Dev nD) (σ : Valuation τ sig (Elt Ideal))
variable (h : Fin 16) (x : Fin 8192)

theorem V0_eq : V0 m c = after lineD (after lineC (after lineE (after lineB (after lineA fun b => m (c, b))))) := by
  rw [← after_append, ← after_append, ← after_append, ← after_append]; rfl

variable {q k v d : Fin 8192 → Fin 64 → ℝ} {f : Fin 8192 → ℝ}

/-- The masked scores, -/
theorem lineA_v16 (hq : ∀ x i, σ main_arg0 (ix3 x h i) = (q x i : EReal)) (hk : ∀ x i, σ main_arg1 (ix3 x h i) = (k x i : EReal))
    (hf : ∀ x, σ main_arg3 (ix2 h x) = (f x : EReal)) (y : Fin 8192) : after lineA σ main_v16 (ix3 h x y) = lg q k f x y := by
  after_reads_simp
  simp only [TRef.toBuf, TRef.ofBuf, cast_eq]
  pointwise
  rw [select_pos]
  simp only [hq, hk, hf, eighth, ← EReal.coe_mul, ← coe_sum, ← EReal.coe_sub, ← EReal.coe_add]
  unfold lg L
  exact congrArg (fun b : EReal => if y ≤ x then _ else b) neg_inf

/-- their row maxima, -/
theorem lineB_v17 (hg : ∀ y, σ main_v16 (ix3 h x y) = lg q k f x y) : after lineB σ main_v17 (ix2 h x) = (M q k f x : EReal) := by
  after_reads_simp
  pointwise
  simp only [hg, neg_inf]
  exact top_eq q k f x

theorem lineE_v18 (hm : σ main_v17 (ix2 h x) = (M q k f x : EReal)) : after lineE σ main_v18 (ix3 h x 0) = (M q k f x : EReal) := by
  after_reads_simp
  pointwise
  exact hm

/-- the exponentials and their sums, -/
theorem lineE_v21 (hg : ∀ y, σ main_v16 (ix3 h x y) = lg q k f x y) (hm : σ main_v17 (ix2 h x) = (M q k f x : EReal))
    (y : Fin 8192) : after lineE σ main_v21 (ix3 h x y) = (e q k f x y : EReal) := by
  after_reads_simp
  pointwise
  rw [hg, hm]
  exact e_eq q k f x y

theorem lineE_v22 (hg : ∀ y, σ main_v16 (ix3 h x y) = lg q k f x y) (hm : σ main_v17 (ix2 h x) = (M q k f x : EReal)) :
    after lineE σ main_v22 (ix2 h x) = (z q k f x : EReal) := by
  after_reads_simp
  pointwise
  simp only [hg, hm, e_eq, ← coe_sum]
  rfl

/-- the log-sum-exp, and the output's row sums. -/
theorem lineC_v30 (hm : σ main_v18 (ix3 h x 0) = (M q k f x : EReal)) (hz : σ main_v22 (ix2 h x) = (z q k f x : EReal)) :
    after lineC σ main_v30 (ix2 h x) = ((M q k f x + Real.log (z q k f x) : ℝ) : EReal) := by
  after_reads_simp
  pointwise
  rw [hm, hz, Ideal.log_coe, if_neg (not_le.mpr (z_pos q k f x)), EReal.coe_add]

theorem lineC_v33 (hv : ∀ x i, σ main_arg2 (ix3 x h i) = (v x i : EReal)) (hd : ∀ i, σ main_arg4 (ix3 x h i) = (d x i : EReal))
    (he : ∀ y, σ main_v21 (ix3 h x y) = (e q k f x y : EReal)) (hz : σ main_v22 (ix2 h x) = (z q k f x : EReal)) :
    after lineC σ main_v33 (ix2 h x) = (del q k v d f x : EReal) := by
  after_reads_simp
  pointwise
  simp only [hv, hd, he, hz, div_z, ← EReal.coe_mul, ← coe_sum, del_eq]

theorem ln2 : Ideal.log (Ideal.ofBits .f32 1073741824#32) = ((Real.log 2 : ℝ) : EReal) := by
  rw [show Ideal.ofBits .f32 1073741824#32 = ((2 : ℝ) : EReal) from by simp [Ideal.ofBits, Ideal.ieee, -EReal.coe_mul]; norm_num]
  simp

theorem div_ln2 (a : ℝ) : Ideal.div (a : EReal) ((Real.log 2 : ℝ) : EReal) = ((a * (Real.log 2)⁻¹ : ℝ) : EReal) := by
  rw [Ideal.div_coe log2_ne, EReal.coe_mul, one_div]

/-- The queries' operand, -/
theorem lineD_Q (u : Fin 64 → ℝ) (a b : ℝ) (hu : ∀ i, σ main_arg0 (ix3 x h i) = (u i : EReal)) (ha : σ main_arg3 (ix2 h x) = (a : EReal)) (hb : σ main_v30 (ix2 h x) = (b : EReal)) (l : Fin 128) :
    after lineD σ main_v103 (ix3 h x l) = ((lane (fun i => u i * (1 / 8 * (Real.log 2)⁻¹)) ![a * (Real.log 2)⁻¹, 0, 0, 1, 1, 1, -(b * (Real.log 2)⁻¹), 0, 0] l : ℝ) : EReal) := by
  after_reads_simp
  pointwise
  after_reads_simp
  pointwise
  simp only [hu, ha, hb, ln2, div_ln2, eighth, ← EReal.coe_mul, ← EReal.coe_sub, ← EReal.coe_neg, sub_self, neg_zero, EReal.coe_one.symm, EReal.coe_zero.symm, mul_assoc]
  obtain ⟨n, hn⟩ := l
  unfold lane
  by_cases h1 : n < 64
  · simp only [h1, dite_true]
  · by_cases h2 : n < 73
    · interval_cases n <;> simp
    · rw [dif_neg h1, dif_neg h1, dif_neg h2]
      dsimp only
      split_ifs <;> first | omega | rfl

/-- the keys', -/
theorem lineD_K (u : Fin 64 → ℝ) (a : ℝ) (hu : ∀ i, σ main_arg1 (ix3 x h i) = (u i : EReal)) (ha : σ main_arg3 (ix2 h x) = (a : EReal)) (l : Fin 128) :
    after lineD σ main_v104 (ix3 h x l) = ((lane u ![1, 1, 1, -(a * (Real.log 2)⁻¹), 0, 0, 1, 1, 1] l : ℝ) : EReal) := by
  after_reads_simp
  pointwise
  after_reads_simp
  pointwise
  simp only [hu, ha, ln2, div_ln2, eighth, ← EReal.coe_mul, ← EReal.coe_sub, ← EReal.coe_neg, sub_self, neg_zero, EReal.coe_one.symm, EReal.coe_zero.symm, mul_assoc]
  obtain ⟨n, hn⟩ := l
  unfold lane
  by_cases h1 : n < 64
  · simp only [h1, dite_true]
  · by_cases h2 : n < 73
    · interval_cases n <;> simp
    · rw [dif_neg h1, dif_neg h1, dif_neg h2]
      dsimp only
      split_ifs <;> first | omega | rfl

/-- the values' -/
theorem lineD_W (u : Fin 64 → ℝ) (hu : ∀ i, σ main_arg2 (ix3 x h i) = (u i : EReal)) (l : Fin 128) :
    after lineD σ main_v105 (ix3 h x l) = ((lane u ![1, 1, 1, 0, 0, 0, 0, 0, 0] l : ℝ) : EReal) := by
  after_reads_simp
  pointwise
  after_reads_simp
  pointwise
  simp only [hu, ln2, div_ln2, eighth, ← EReal.coe_mul, ← EReal.coe_sub, ← EReal.coe_neg, sub_self, neg_zero, EReal.coe_one.symm, EReal.coe_zero.symm, mul_assoc]
  obtain ⟨n, hn⟩ := l
  unfold lane
  by_cases h1 : n < 64
  · simp only [h1, dite_true]
  · by_cases h2 : n < 73
    · interval_cases n <;> simp
    · rw [dif_neg h1, dif_neg h1, dif_neg h2]
      dsimp only
      split_ifs <;> first | omega | rfl

/-- and the output gradient's. -/
theorem lineD_O (u : Fin 64 → ℝ) (b : ℝ) (hu : ∀ i, σ main_arg4 (ix3 x h i) = (u i : EReal)) (hb : σ main_v33 (ix2 h x) = (b : EReal)) (l : Fin 128) :
    after lineD σ main_v106 (ix3 h x l) = ((lane u ![-b, 0, 0, 0, 0, 0, 0, 0, 0] l : ℝ) : EReal) := by
  after_reads_simp
  pointwise
  after_reads_simp
  pointwise
  simp only [hu, hb, ln2, div_ln2, eighth, ← EReal.coe_mul, ← EReal.coe_sub, ← EReal.coe_neg, sub_self, neg_zero, EReal.coe_one.symm, EReal.coe_zero.symm, mul_assoc]
  obtain ⟨n, hn⟩ := l
  unfold lane
  by_cases h1 : n < 64
  · simp only [h1, dite_true]
  · by_cases h2 : n < 73
    · interval_cases n <;> simp
    · rw [dif_neg h1, dif_neg h1, dif_neg h2]
      dsimp only
      split_ifs <;> first | omega | rfl

theorem lineD_v40 : after lineD σ main_v40 ix0 = ((Real.log 2 : ℝ) : EReal) := by
  after_reads_simp
  exact ln2

variable (i : Fin 64)

/-- The lines after the launch: the queries' gradient, -/
theorem tail_dq : after hostOps1 σ main_v129 (ix3 x h i) = (HMul.hMul (α := EReal) (σ main_v107_0 (ix3 h x ⟨i.val, by omega⟩)) (Ideal.ofBits .f32 1040187392#32) : EReal) := by
  after_reads_simp
  pointwise

/-- the keys', -/
theorem tail_dk : after hostOps1 σ main_v131 (ix3 x h i) = (HMul.hMul (α := EReal) (σ main_v107_1 (ix3 h x ⟨i.val, by omega⟩)) (σ main_v40 ix0) : EReal) := by
  after_reads_simp
  pointwise

/-- the values', -/
theorem tail_dv : after hostOps1 σ main_v116 (ix3 x h i) = σ main_v107_2 (ix3 h x ⟨i.val, by omega⟩) := by
  after_reads_simp
  pointwise

/-- and the decays'. -/
theorem tail_df : after hostOps1 σ main_v127 (ix2 h x) =
    (HSub.hSub (α := EReal) (HSub.hSub (α := EReal) (HAdd.hAdd (α := EReal) (σ main_v107_0 (ix3 h x 64)) (σ main_v107_0 (ix3 h x 65))) (σ main_v107_1 (ix3 h x 67)))
      (σ main_v107_1 (ix3 h x 68)) : EReal) := by
  after_reads_simp
  pointwise

end Cert.AttnHost
-- ==== Proof.AttnRegion.lean ====
module

public import proofs.«01_k».proof.Proof.AttnPoint
public import Idealize.ShloMosaic.Lib.Pipeline.ValueKit
public import Idealize.ShloMosaic.Lib.Pipeline.ReadBack

/-
  The three arrays the attention gradient's launch leaves, entry by entry, from its four operands. Each point of the grid takes two
  heads and one tile of 512 keys; over the sixteen tiles of a pair of heads the scratch collects the queries' gradient.
-/

@[expose] public section

set_option maxRecDepth 16384

noncomputable section

namespace Cert.AttnRegion

open Cert.Kernel2Ideal Cert.Kernel2Ideal.Gen Cert.AttnTile Cert.AttnLoop Cert.AttnSum Cert.AttnRun Cert.AttnBody Cert.AttnCore Cert.AttnPoint
open Idealize.ShloMosaic Idealize.ShloMosaic.TcCoe Idealize.ShloMosaic.Tactic

variable (m : (ℓ : Loc nD τ sig) → Buf (Elt Ideal) ℓ) (c : Dev nD) (t : Fin cfg0.N)

/-- The keys' and the values' gradient of a point's tile. -/
theorem dkAt_eq (e : Fin 2) (y : Fin 512) (l : Fin 128) :
    dkAt m c t (ix3 e y l) = split 67 (by decide) (DK (opQ m c) (opK m c) (opW m c) (opO m c) (hd t e) (rowAt (t.val % 16) y)) l := by
  refine Eq.trans ?_ (congrArg (fun f => split 67 _ f l) (funext fun l => dkSum_at m c t e y l))
  unfold dkAt
  by_cases h0 : t.val % 16 = 0
  · rw [dif_pos h0]
    exact dkFirst_here m c t h0 _ e y l
  · rw [dif_neg h0]
    by_cases h1 : t.val % 16 = 15
    · rw [dif_pos h1]
      exact dkLast_here m c t h0 h1 _ e y l
    · rw [dif_neg h1]
      exact dkMid_here m c t h0 h1 _ e y l
theorem dvAt_eq (e : Fin 2) (y : Fin 512) (l : Fin 128) :
    dvAt m c t (ix3 e y l) = DV (opQ m c) (opK m c) (opO m c) (hd t e) (rowAt (t.val % 16) y) l := by
  refine Eq.trans ?_ (dvSum_at m c t e y l)
  unfold dvAt
  by_cases h0 : t.val % 16 = 0
  · rw [dif_pos h0]
    exact dvFirst_here m c t h0 _ e y l
  · rw [dif_neg h0]
    by_cases h1 : t.val % 16 = 15
    · rw [dif_pos h1]
      exact dvLast_here m c t h0 h1 _ e y l
    · rw [dif_neg h1]
      exact dvMid_here m c t h0 h1 _ e y l

/-- The scratch after a point: what the tiles of its pair have added so far. -/
theorem scrAt_eq : ∀ (n : ℕ) (hn : n < cfg0.N) (e : Fin 2) (x : Fin 8192) (l : Fin 128),
    (scrAt m c n hn (ix3 e x l) : EReal)
      = ∑ a ∈ Finset.range (n % 16 + 1), part (opQ m c) (opK m c) (opW m c) (opO m c) (hd ⟨n, hn⟩ e) a x l := by
  intro n
  induction n with
  | zero =>
    intro hn e x l
    rw [Finset.sum_range_one]
    refine Eq.trans ?_ (dqAdd_at m c ⟨0, hn⟩ e x l)
    exact scrFirst_here m c ⟨0, hn⟩ _ _ e x l
  | succ n ih =>
    intro hn e x l
    by_cases h0 : (n + 1) % 16 = 0
    · have h1 : ¬ (n + 1) % 16 = 15 := by omega
      rw [scrAt_first m c ⟨n + 1, hn⟩ h0 h1, show Finset.range ((n + 1) % 16 + 1) = Finset.range 1 by rw [h0], Finset.sum_range_one]
      refine Eq.trans ?_ ((dqAdd_at m c ⟨n + 1, hn⟩ e x l).trans (congrArg (fun a => part _ _ _ _ _ a x l) h0))
      exact scrFirst_here m c ⟨n + 1, hn⟩ h0 h1 e x l
    · have hb : (scrBefore m c ⟨n + 1, hn⟩ (ix3 e x l) : EReal)
          = ∑ a ∈ Finset.range ((n + 1) % 16), part (opQ m c) (opK m c) (opW m c) (opO m c) (hd ⟨n + 1, hn⟩ e) a x l := by
        refine (ih (Nat.lt_of_succ_lt hn) e x l).trans ?_
        rw [show n % 16 + 1 = (n + 1) % 16 by omega,
          show hd ⟨n, Nat.lt_of_succ_lt hn⟩ e = hd ⟨n + 1, hn⟩ e from Fin.ext (by show 2 * (n / 16) + e.val = 2 * ((n + 1) / 16) + e.val; omega)]
      rw [Finset.sum_range_succ, ← hb]
      refine Eq.trans ?_ (congrArg (fun z : EReal => (scrBefore m c ⟨n + 1, hn⟩ (ix3 e x l) : EReal) + z) (dqAdd_at m c ⟨n + 1, hn⟩ e x l))
      by_cases h1 : (n + 1) % 16 = 15
      · rw [scrAt_last m c ⟨n + 1, hn⟩ h0 h1]
        exact scrLast_here m c ⟨n + 1, hn⟩ h0 h1 _ e x l
      · rw [scrAt_mid m c ⟨n + 1, hn⟩ h0 h1]
        exact scrMid_here m c ⟨n + 1, hn⟩ h0 h1 _ e x l

theorem parts_all (Q K W O : Arr) (h : Fin 16) (x : Fin 8192) (l : Fin 128) :
    ∑ a ∈ Finset.range 16, part Q K W O h a x l = DQ Q K W O h x l :=
  (sum_rows fun k => DS Q K W O h x k * K (ix3 h k l)).symm

/-- The queries' gradient of a pair, at its last tile. -/
theorem dqAt_eq (h1 : t.val % 16 = 15) (e : Fin 2) (x : Fin 8192) (l : Fin 128) :
    dqAt m c t (ix3 e x l) = split 64 (by decide) (DQ (opQ m c) (opK m c) (opW m c) (opO m c) (hd t e) x) l := by
  have hs : ∀ l, (scrLast m c t (by omega) h1 (scrBefore m c t) (ix3 e x l) : EReal) = DQ (opQ m c) (opK m c) (opW m c) (opO m c) (hd t e) x l := by
    intro l
    rw [← scrAt_last, scrAt_eq, h1, parts_all]
  refine Eq.trans ?_ (congrArg (fun f => split 64 _ f l) (funext hs))
  unfold dqAt
  rw [dif_pos h1]
  exact dqLast_here m c t _ h1 _ e x l

/-! ## The three arrays -/

/-- The queries' gradient, its lane 65 nothing but what rounding leaves of lane 64; -/
theorem arr4 : (dats m 0 c).arrAt 4 cfg0.N
    = (fun i => split 64 (by decide) (DQ (opQ m c) (opK m c) (opW m c) (opO m c) (i 0) (i 1)) (i 2) : Arr) := by
  refine (dats m 0 c).arrAt_eq_of_covers 4 _ (by decide +kernel) fun t hf y => ?_
  have h1 : t.val % 16 = 15 := (by decide +kernel : ∀ t : Fin grid0.N, (cfg0.win 4).flush t = true → t.val % 16 = 15) t hf
  have hy : ∀ y : S2x8192x128.Idx, (dqAt m c t y : EReal) = (fun i => split 64 (by decide) (DQ (opQ m c) (opK m c) (opW m c) (opO m c) (i 0) (i 1)) (i 2) : Arr) (((cfg0.win 4).blk t).view.emb y) := by
    intro y
    obtain ⟨e, x, l, rfl⟩ : ∃ (e : Fin 2) (x : Fin 8192) (l : Fin 128), y = ix3 e x l := ⟨y 0, y 1, y 2, eq_ix3 y⟩
    refine (dqAt_eq m c t h1 e x l).trans ?_
    erw [emb4]
    rfl
  have hy := hy y
  blk_simp
  rw [after0_4]
  exact hy

/-- the keys' gradient, its lane 68 what rounding leaves of lane 67; -/
theorem arr5 : (dats m 0 c).arrAt 5 cfg0.N
    = (fun i => split 67 (by decide) (DK (opQ m c) (opK m c) (opW m c) (opO m c) (i 0) (i 1)) (i 2) : Arr) := by
  refine (dats m 0 c).arrAt_eq_of_covers 5 _ (by decide +kernel) fun t hf y => ?_
  have hy : ∀ y : S2x512x128.Idx, (dkAt m c t y : EReal) = (fun i => split 67 (by decide) (DK (opQ m c) (opK m c) (opW m c) (opO m c) (i 0) (i 1)) (i 2) : Arr) (((cfg0.win 5).blk t).view.emb y) := by
    intro y
    obtain ⟨e, x, l, rfl⟩ : ∃ (e : Fin 2) (x : Fin 512) (l : Fin 128), y = ix3 e x l := ⟨y 0, y 1, y 2, eq_ix3 y⟩
    refine (dkAt_eq m c t e x l).trans ?_
    erw [emb5]
    rfl
  have hy := hy y
  blk_simp
  rw [after0_5]
  exact hy

/-- and the values' gradient. -/
theorem arr6 : (dats m 0 c).arrAt 6 cfg0.N
    = (fun i => DV (opQ m c) (opK m c) (opO m c) (i 0) (i 1) (i 2) : Arr) := by
  refine (dats m 0 c).arrAt_eq_of_covers 6 _ (by decide +kernel) fun t hf y => ?_
  have hy : ∀ y : S2x512x128.Idx, (dvAt m c t y : EReal) = (fun i => DV (opQ m c) (opK m c) (opO m c) (i 0) (i 1) (i 2) : Arr) (((cfg0.win 6).blk t).view.emb y) := by
    intro y
    obtain ⟨e, x, l, rfl⟩ : ∃ (e : Fin 2) (x : Fin 512) (l : Fin 128), y = ix3 e x l := ⟨y 0, y 1, y 2, eq_ix3 y⟩
    refine (dvAt_eq m c t e x l).trans ?_
    erw [emb6]
    rfl
  have hy := hy y
  blk_simp
  rw [after0_6]
  exact hy

end Cert.AttnRegion

end
-- ==== Proof.AttnValue.lean ====
module

public import proofs.«01_k».proof.Proof.AttnHost
public import proofs.«01_k».proof.Proof.AttnRegion

/-
  The attention gradient's four results, entry by entry, over the real numbers its arguments hold.
-/

@[expose] public section

set_option maxRecDepth 16384

noncomputable section

namespace Cert.AttnValue

open Cert.Kernel2Ideal Cert.Kernel2Ideal.Gen Cert.AttnTile Cert.AttnRun Cert.AttnPoint Cert.AttnReal Cert.AttnHost Cert.AttnRegion
open Idealize.ShloMosaic Idealize.ShloMosaic.TcCoe Idealize.ShloMosaic.Tactic
open Idealize.ShloMosaic.StableHlo

variable (m : (ℓ : Loc nD τ sig) → Buf (Elt Ideal) ℓ) (c : Dev nD) (σ : Valuation τ sig (Elt Ideal))
variable {q k v d : Fin 16 → Fin 8192 → Fin 64 → ℝ} {f : Fin 16 → Fin 8192 → ℝ}

/-- What a device's arguments hold. -/
structure Holds (σ : Valuation τ sig (Elt Ideal)) (q k v d : Fin 16 → Fin 8192 → Fin 64 → ℝ) (f : Fin 16 → Fin 8192 → ℝ) : Prop where
  q : ∀ h x i, σ main_arg0 (ix3 x h i) = (q h x i : EReal)
  k : ∀ h x i, σ main_arg1 (ix3 x h i) = (k h x i : EReal)
  v : ∀ h x i, σ main_arg2 (ix3 x h i) = (v h x i : EReal)
  f : ∀ h x, σ main_arg3 (ix2 h x) = (f h x : EReal)
  d : ∀ h x i, σ main_arg4 (ix3 x h i) = (d h x i : EReal)

/-- The lines before the launch keep the arguments. -/
theorem Holds.lineA {σ} (H : Holds σ q k v d f) : Holds (after lineA σ) q k v d f :=
  ⟨fun h x i => (by after_reads_simp; exact H.q h x i), fun h x i => (by after_reads_simp; exact H.k h x i),
    fun h x i => (by after_reads_simp; exact H.v h x i), fun h x => (by after_reads_simp; exact H.f h x),
    fun h x i => (by after_reads_simp; exact H.d h x i)⟩
theorem Holds.lineB {σ} (H : Holds σ q k v d f) : Holds (after lineB σ) q k v d f :=
  ⟨fun h x i => (by after_reads_simp; exact H.q h x i), fun h x i => (by after_reads_simp; exact H.k h x i),
    fun h x i => (by after_reads_simp; exact H.v h x i), fun h x => (by after_reads_simp; exact H.f h x),
    fun h x i => (by after_reads_simp; exact H.d h x i)⟩
theorem Holds.lineE {σ} (H : Holds σ q k v d f) : Holds (after lineE σ) q k v d f :=
  ⟨fun h x i => (by after_reads_simp; exact H.q h x i), fun h x i => (by after_reads_simp; exact H.k h x i),
    fun h x i => (by after_reads_simp; exact H.v h x i), fun h x => (by after_reads_simp; exact H.f h x),
    fun h x i => (by after_reads_simp; exact H.d h x i)⟩
theorem Holds.lineC {σ} (H : Holds σ q k v d f) : Holds (after lineC σ) q k v d f :=
  ⟨fun h x i => (by after_reads_simp; exact H.q h x i), fun h x i => (by after_reads_simp; exact H.k h x i),
    fun h x i => (by after_reads_simp; exact H.v h x i), fun h x => (by after_reads_simp; exact H.f h x),
    fun h x i => (by after_reads_simp; exact H.d h x i)⟩

theorem lineB_v16 : after lineB σ main_v16 = σ main_v16 := by after_reads_simp

section
variable {σ : Valuation τ sig (Elt Ideal)} (H : Holds σ q k v d f) (h : Fin 16) (x : Fin 8192)
include H

/-- The memory after the lines of the row maxima, of the row sums, and of the log-sum-exp. -/
theorem v16_at (y : Fin 8192) : after lineB (after lineA σ) main_v16 (ix3 h x y) = lg (q h) (k h) (f h) x y := by
  rw [lineB_v16]
  exact lineA_v16 σ h x (H.q h) (H.k h) (H.f h) y

theorem v17_at : after lineB (after lineA σ) main_v17 (ix2 h x) = (M (q h) (k h) (f h) x : EReal) :=
  lineB_v17 _ h x fun y => lineA_v16 σ h x (H.q h) (H.k h) (H.f h) y

theorem v22_at : after lineE (after lineB (after lineA σ)) main_v22 (ix2 h x) = (z (q h) (k h) (f h) x : EReal) :=
  lineE_v22 _ h x (v16_at H h x) (v17_at H h x)

theorem v30_at : after lineC (after lineE (after lineB (after lineA σ))) main_v30 (ix2 h x)
    = ((M (q h) (k h) (f h) x + Real.log (z (q h) (k h) (f h) x) : ℝ) : EReal) :=
  lineC_v30 _ h x (lineE_v18 _ h x (v17_at H h x)) (v22_at H h x)

theorem v33_at : after lineC (after lineE (after lineB (after lineA σ))) main_v33 (ix2 h x) = (del (q h) (k h) (v h) (d h) (f h) x : EReal) :=
  lineC_v33 _ h x (H.lineA.lineB.lineE.v h) (H.lineA.lineB.lineE.d h x)
    (lineE_v21 _ h x (v16_at H h x) (v17_at H h x)) (v22_at H h x)
end

section
variable {m c} (H : Holds (fun b => m (c, b)) q k v d f) (h : Fin 16) (x : Fin 8192) (l : Fin 128)
include H

/-- The launch's operands. -/
theorem opQ_at : opQ m c (ix3 h x l) = (QR (q h) (k h) (f h) x l : EReal) := by
  unfold opQ; rw [V0_eq]
  exact lineD_Q _ h x _ _ _ (H.lineA.lineB.lineE.lineC.q h x) (H.lineA.lineB.lineE.lineC.f h x) (v30_at H h x) l

theorem opK_at : opK m c (ix3 h x l) = (KR (k h) (f h) x l : EReal) := by
  unfold opK; rw [V0_eq]
  exact lineD_K _ h x _ _ (H.lineA.lineB.lineE.lineC.k h x) (H.lineA.lineB.lineE.lineC.f h x) l

theorem opW_at : opW m c (ix3 h x l) = (WR (v h) x l : EReal) := by
  unfold opW; rw [V0_eq]
  exact lineD_W _ h x _ (H.lineA.lineB.lineE.lineC.v h x) l

theorem opO_at : opO m c (ix3 h x l) = (OR (q h) (k h) (v h) (d h) (f h) x l : EReal) := by
  unfold opO; rw [V0_eq]
  exact lineD_O _ h x _ _ (H.lineA.lineB.lineE.lineC.d h x) (v33_at H h x) l

theorem DQ_at : DQ (opQ m c) (opK m c) (opW m c) (opO m c) h x l
    = ((∑ y, ds (q h) (k h) (v h) (d h) (f h) x y * KR (k h) (f h) y l : ℝ) : EReal) :=
  DQ_eq (q h) (k h) (v h) (d h) (f h) (opQ_at H h) (opK_at H h) (opW_at H h) (opO_at H h) x l

theorem DK_at : DK (opQ m c) (opK m c) (opW m c) (opO m c) h x l
    = ((∑ y, ds (q h) (k h) (v h) (d h) (f h) y x * QR (q h) (k h) (f h) y l : ℝ) : EReal) :=
  DK_eq (q h) (k h) (v h) (d h) (f h) (opQ_at H h) (opK_at H h) (opW_at H h) (opO_at H h) x l

theorem DV_at : DV (opQ m c) (opK m c) (opO m c) h x l
    = ((∑ y, p (q h) (k h) (f h) y x * OR (q h) (k h) (v h) (d h) (f h) y l : ℝ) : EReal) :=
  DV_eq (q h) (k h) (v h) (d h) (f h) (opQ_at H h) (opK_at H h) (opO_at H h) x l
end

/-- The memory after the launch. -/
def exitV : Valuation τ sig (Elt Ideal) := Pipeline.withArrays (cfgs (0 : Fin 1)).spec c (V0 m c) fun w => (dats m 0 c).arrAt w (cfgs (0 : Fin 1)).N

theorem exit_v107_0 : exitV m c main_v107_0 = (dats m 0 c).arrAt 4 cfg0.N :=
  Pipeline.withArrays_arr (cfgs (0 : Fin 1)).spec launch0.win.arr_inj c (V0 m c) _ 4
theorem exit_v107_1 : exitV m c main_v107_1 = (dats m 0 c).arrAt 5 cfg0.N :=
  Pipeline.withArrays_arr (cfgs (0 : Fin 1)).spec launch0.win.arr_inj c (V0 m c) _ 5
theorem exit_v107_2 : exitV m c main_v107_2 = (dats m 0 c).arrAt 6 cfg0.N :=
  Pipeline.withArrays_arr (cfgs (0 : Fin 1)).spec launch0.win.arr_inj c (V0 m c) _ 6
theorem exit_v40 : exitV m c main_v40 = V0 m c main_v40 :=
  Pipeline.withArrays_of_ne (cfgs (0 : Fin 1)).spec c (V0 m c) _ main_v40 (by decide)

theorem split_lo (hi : ℕ) (hlt : hi < 128) (g : Fin 128 → EReal) (l : Fin 128) (h : l.val < hi) : split hi hlt g l = g l := by
  unfold split; rw [if_neg (by omega), if_neg (by omega)]
theorem split_hi (hi : ℕ) (hlt : hi < 128) (g : Fin 128 → EReal) (l : Fin 128) (h : l.val = hi) : split hi hlt g l = g l := by
  unfold split; rw [if_pos h]; exact congrArg g (Fin.ext h.symm)
theorem split_next (hi : ℕ) (hlt : hi < 128) (g : Fin 128 → EReal) (l : Fin 128) (h : l.val = hi + 1) :
    split hi hlt g l = g ⟨hi, hlt⟩ - g ⟨hi, hlt⟩ := by
  unfold split; rw [if_neg (by omega), if_pos h]

section
variable {m c} (H : Holds (fun b => m (c, b)) q k v d f) (h : Fin 16) (x : Fin 8192) (i : Fin 64)
include H

/-- The four results. -/
theorem dq_at : after hostOps1 (exitV m c) main_v129 (ix3 x h i) = ((gq (q h) (k h) (v h) (d h) (f h) x i : ℝ) : EReal) := by
  rw [tail_dq, exit_v107_0, arr4]
  refine (congrArg₂ (fun a b : EReal => a * b) ((split_lo 64 _ _ ⟨i.val, by omega⟩ i.isLt).trans (DQ_at H h x _)) eighth).trans ?_
  rw [← EReal.coe_mul, fin_q]

theorem dk_at : after hostOps1 (exitV m c) main_v131 (ix3 x h i) = ((gk (q h) (k h) (v h) (d h) (f h) x i : ℝ) : EReal) := by
  rw [tail_dk, exit_v107_1, arr5, exit_v40, V0_eq]
  refine (congrArg₂ (fun a b : EReal => a * b) ((split_lo 67 _ _ ⟨i.val, by omega⟩ (by have := i.isLt; show i.val < 67; omega)).trans (DK_at H h x _)) (lineD_v40 _)).trans ?_
  rw [← EReal.coe_mul, fin_k]

theorem dv_at : after hostOps1 (exitV m c) main_v116 (ix3 x h i) = ((gv (q h) (k h) (d h) (f h) x i : ℝ) : EReal) := by
  rw [tail_dv, exit_v107_2, arr6]
  exact (DV_at H h x ⟨i.val, by omega⟩).trans (congrArg (fun r : ℝ => (r : EReal)) (fin_v (q h) (k h) (v h) (d h) (f h) x i))

theorem df_at : after hostOps1 (exitV m c) main_v127 (ix2 h x) = ((gf (q h) (k h) (v h) (d h) (f h) x : ℝ) : EReal) := by
  rw [tail_df, exit_v107_0, exit_v107_1, arr4, arr5]
  refine (congrArg₂ (fun a b : EReal => a - b) (congrArg₂ (fun a b : EReal => a - b) (congrArg₂ (fun a b : EReal => a + b)
    ((split_hi 64 _ _ 64 rfl).trans (DQ_at H h x 64))
    ((split_next 64 _ _ 65 rfl).trans (congrArg₂ (fun a b : EReal => a - b) (DQ_at H h x 64) (DQ_at H h x 64))))
    ((split_hi 67 _ _ 67 rfl).trans (DK_at H h x 67)))
    ((split_next 67 _ _ 68 rfl).trans (congrArg₂ (fun a b : EReal => a - b) (DK_at H h x 67) (DK_at H h x 67)))).trans ?_
  simp only [← EReal.coe_sub, ← EReal.coe_add]
  rw [fin_f]
end

end Cert.AttnValue
-- ==== Proof.AttnStages.lean ====
module

public import proofs.«01_k».proof.Proof.Gen.Reference2Ideal.Run
public import proofs.«01_k».proof.Proof.AttnReal
public import Idealize.ShloMosaic.Lib.Pointwise

/-
  The plain attention gradient in stages, each a function of the stages before it, read entry by entry.
-/

@[expose] public section

set_option maxRecDepth 16384

noncomputable section

namespace Cert.AttnStages

open Cert.Reference2Ideal Cert.Reference2Ideal.Gen Cert.Reference2Ideal.Facts
open Cert.AttnReal
open Idealize.ShloMosaic Idealize.ShloMosaic.TcCoe Idealize.ShloMosaic.Tactic

/-- The masked scores. -/
def lgS (q : FVec Ideal S8192x16x64 .f32) (k : FVec Ideal S8192x16x64 .f32) (f : FVec Ideal S16x8192 .f32) : FVec Ideal S16x8192x8192 .f32 :=
  select (broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (addf (mulf (Host.dotGeneral dot_S8192x16x64_S8192x16x64_S16x8192x8192_2_2_0_0_1_1 none q k) (broadcastInDim S16x8192x8192 ![] bcast_S_S16x8192x8192 (constant S_ .f32 0x3E000000#32))) (subf (broadcastInDim S16x8192x8192 ![0, 1, 2] bcast_S16x8192x1_S16x8192x8192_0_1_2 (broadcastInDim S16x8192x1 ![0, 1] bcast_S16x8192_S16x8192x1_0_1 f)) (broadcastInDim S16x8192x8192 ![0, 1, 2] bcast_S16x1x8192_S16x8192x8192_0_1_2 (broadcastInDim S16x1x8192 ![0, 2] bcast_S16x8192_S16x1x8192_0_2 f)))) (broadcastInDim S16x8192x8192 ![] bcast_S_S16x8192x8192 (id (constant S_ .f32 0xFF800000#32)))

/-- The largest score of each query. -/
def tpS (LG : FVec Ideal S16x8192x8192 .f32) : FVec Ideal S16x8192 .f32 :=
  Host.reduce FloatOps.maximumf LG (constant S_ .f32 0xFF800000#32) reducesTo_S16x8192x8192_S16x8192_d2 h_S_

/-- The same, from below. -/
def mxS (TP : FVec Ideal S16x8192 .f32) : FVec Ideal S16x8192 .f32 :=
  maximumf (broadcastInDim S16x8192 ![] bcast_S_S16x8192 (constant S_ .f32 0xFF800000#32)) TP

/-- The exponentials of the scores less their largest. -/
def eS (LG : FVec Ideal S16x8192x8192 .f32) (MX : FVec Ideal S16x8192 .f32) : FVec Ideal S16x8192x8192 .f32 :=
  Host.exp (subf LG (broadcastInDim S16x8192x8192 ![0, 1, 2] bcast_S16x8192x1_S16x8192x8192_0_1_2 (broadcastInDim S16x8192x1 ![0, 1] bcast_S16x8192_S16x8192x1_0_1 MX)))

/-- Their sum over the keys. -/
def zS (E : FVec Ideal S16x8192x8192 .f32) : FVec Ideal S16x8192 .f32 :=
  Host.reduceAdd E (constant S_ .f32 0x00000000#32) reducesTo_S16x8192x8192_S16x8192_d2 h_S_

/-- The weights. -/
def pS (E : FVec Ideal S16x8192x8192 .f32) (Z : FVec Ideal S16x8192 .f32) : FVec Ideal S16x8192x8192 .f32 :=
  Host.divf E (broadcastInDim S16x8192x8192 ![0, 1, 2] bcast_S16x8192x1_S16x8192x8192_0_1_2 (broadcastInDim S16x8192x1 ![0, 1] bcast_S16x8192_S16x8192x1_0_1 Z))

/-- The output gradient times the values. -/
def dpS (v : FVec Ideal S8192x16x64 .f32) (d : FVec Ideal S8192x16x64 .f32) : FVec Ideal S16x8192x8192 .f32 :=
  Host.dotGeneral dot_S16x64x8192_S8192x16x64_S16x8192x8192_1_2_2_0_0_1 none (transpose S16x64x8192 [1, 2, 0] d transposes_S8192x16x64_S16x64x8192_1_2_0) v

/-- The sum over the keys that the division's second derivative takes. -/
def rsS (DP : FVec Ideal S16x8192x8192 .f32) (Z : FVec Ideal S16x8192 .f32) (E : FVec Ideal S16x8192x8192 .f32) : FVec Ideal S16x8192 .f32 :=
  Host.reduceAdd (mulf (mulf DP (broadcastInDim S16x8192x8192 ![0, 1, 2] bcast_S16x8192x1_S16x8192x8192_0_1_2 (Host.divf (broadcastInDim S16x8192x1 ![] bcast_S_S16x8192x1 (constant S_ .f32 0x3F800000#32)) (mulf (broadcastInDim S16x8192x1 ![0, 1] bcast_S16x8192_S16x8192x1_0_1 Z) (broadcastInDim S16x8192x1 ![0, 1] bcast_S16x8192_S16x8192x1_0_1 Z))))) E) (constant S_ .f32 0x00000000#32) reducesTo_S16x8192x8192_S16x8192_d2 h_S_

/-- That sum negated. -/
def nlS (RS : FVec Ideal S16x8192 .f32) : FVec Ideal S16x8192 .f32 :=
  Host.reduceAdd (Host.negf (shapeCast _ RS shapeCasts_S16x8192_S16x8192x1)) (constant S_ .f32 0x00000000#32) reducesTo_S16x8192x1_S16x8192_d2 h_S_

/-- The scores' gradient. -/
def dsS (DP : FVec Ideal S16x8192x8192 .f32) (Z : FVec Ideal S16x8192 .f32) (NL : FVec Ideal S16x8192 .f32) (E : FVec Ideal S16x8192x8192 .f32) : FVec Ideal S16x8192x8192 .f32 :=
  select (broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (addf (Host.divf DP (broadcastInDim S16x8192x8192 ![0, 1, 2] bcast_S16x8192x1_S16x8192x8192_0_1_2 (broadcastInDim S16x8192x1 ![0, 1] bcast_S16x8192_S16x8192x1_0_1 Z))) (broadcastInDim S16x8192x8192 ![0, 1] bcast_S16x8192_S16x8192x8192_0_1 NL)) E) (broadcastInDim S16x8192x8192 ![] bcast_S_S16x8192x8192 (constant S_ .f32 0x00000000#32))

/-- Its sum over the queries, negated. -/
def csS (DS : FVec Ideal S16x8192x8192 .f32) : FVec Ideal S16x8192 .f32 :=
  Host.reduceAdd (Host.negf DS) (constant S_ .f32 0x00000000#32) reducesTo_S16x8192x8192_S16x8192_d1 h_S_

/-- Its sum over the keys. -/
def rwS (DS : FVec Ideal S16x8192x8192 .f32) : FVec Ideal S16x8192 .f32 :=
  Host.reduceAdd DS (constant S_ .f32 0x00000000#32) reducesTo_S16x8192x8192_S16x8192_d2 h_S_

/-- The values' gradient. -/
def dvS (d : FVec Ideal S8192x16x64 .f32) (P : FVec Ideal S16x8192x8192 .f32) : FVec Ideal S8192x16x64 .f32 :=
  transpose S8192x16x64 [2, 0, 1] (Host.dotGeneral dot_S16x64x8192_S16x8192x8192_S16x64x8192_2_1_1_2_0_0 none (transpose S16x64x8192 [1, 2, 0] d transposes_S8192x16x64_S16x64x8192_1_2_0) P) transposes_S16x64x8192_S8192x16x64_2_0_1

/-- The keys' gradient. -/
def dkS (DS : FVec Ideal S16x8192x8192 .f32) (q : FVec Ideal S8192x16x64 .f32) : FVec Ideal S8192x16x64 .f32 :=
  transpose S8192x16x64 [1, 0, 2] (Host.dotGeneral dot_S16x8192x8192_S8192x16x64_S16x8192x64_1_0_2_2_0_1 none (mulf DS (broadcastInDim S16x8192x8192 ![] bcast_S_S16x8192x8192 (constant S_ .f32 0x3E000000#32))) q) transposes_S16x8192x64_S8192x16x64_1_0_2

/-- The queries' gradient. -/
def dqS (DS : FVec Ideal S16x8192x8192 .f32) (k : FVec Ideal S8192x16x64 .f32) : FVec Ideal S8192x16x64 .f32 :=
  transpose S8192x16x64 [1, 0, 2] (Host.dotGeneral dot_S16x8192x8192_S8192x16x64_S16x8192x64_2_0_1_2_0_1 none (mulf DS (broadcastInDim S16x8192x8192 ![] bcast_S_S16x8192x8192 (constant S_ .f32 0x3E000000#32))) k) transposes_S16x8192x64_S8192x16x64_1_0_2

/-- The decays' gradient. -/
def dfS (CS : FVec Ideal S16x8192 .f32) (RW : FVec Ideal S16x8192 .f32) : FVec Ideal S16x8192 .f32 :=
  addf (Host.reduceAdd (shapeCast _ CS shapeCasts_S16x8192_S16x1x8192) (constant S_ .f32 0x00000000#32) reducesTo_S16x1x8192_S16x8192_d1 h_S_) (Host.reduceAdd (shapeCast _ RW shapeCasts_S16x8192_S16x8192x1) (constant S_ .f32 0x00000000#32) reducesTo_S16x8192x1_S16x8192_d2 h_S_)

variable {q k v d : FVec Ideal S8192x16x64 .f32} {f TP MX Z RS NL CS RW : FVec Ideal S16x8192 .f32} {LG E P DP DS : FVec Ideal S16x8192x8192 .f32}
variable {h : Fin 16} {qr kr vr dr : Fin 8192 → Fin 64 → ℝ} {fr : Fin 8192 → ℝ} (x y : Fin 8192) (i : Fin 64)

/-! Each stage's entries at one head, from the entries of the stages it takes. -/

theorem lgS_at (hq : ∀ x i, q (ix3 x h i) = (qr x i : EReal)) (hk : ∀ x i, k (ix3 x h i) = (kr x i : EReal))
    (hf : ∀ x, f (ix2 h x) = (fr x : EReal)) : lgS q k f (ix3 h x y) = lg qr kr fr x y := by
  pointwise [lgS]
  rw [select_pos]
  simp only [hq, hk, hf, eighth, ← EReal.coe_mul, ← coe_sum, ← EReal.coe_sub, ← EReal.coe_add]
  unfold lg L
  exact congrArg (fun b : EReal => if y ≤ x then _ else b) neg_inf

theorem tpS_at (hg : ∀ y, LG (ix3 h x y) = lg qr kr fr x y) : tpS LG (ix2 h x) = (M qr kr fr x : EReal) := by
  pointwise [tpS]
  simp only [hg, neg_inf]
  exact top_eq qr kr fr x

theorem mxS_at (hm : TP (ix2 h x) = (M qr kr fr x : EReal)) : mxS TP (ix2 h x) = (M qr kr fr x : EReal) := by
  pointwise [mxS]
  rw [hm, neg_inf]
  exact max_eq_right bot_le

theorem eS_at (hg : ∀ y, LG (ix3 h x y) = lg qr kr fr x y) (hm : MX (ix2 h x) = (M qr kr fr x : EReal)) :
    eS LG MX (ix3 h x y) = (e qr kr fr x y : EReal) := by
  pointwise [eS]
  rw [hg, hm]
  exact e_eq qr kr fr x y

theorem zS_at (he : ∀ y, E (ix3 h x y) = (e qr kr fr x y : EReal)) : zS E (ix2 h x) = (z qr kr fr x : EReal) := by
  pointwise [zS]
  simp only [he, ← coe_sum]
  rfl

theorem pS_at (he : ∀ y, E (ix3 h x y) = (e qr kr fr x y : EReal)) (hz : Z (ix2 h x) = (z qr kr fr x : EReal)) :
    pS E Z (ix3 h x y) = (p qr kr fr x y : EReal) := by
  pointwise [pS]
  rw [he, hz]
  exact div_z qr kr fr x y

theorem dpS_at (hv : ∀ x i, v (ix3 x h i) = (vr x i : EReal)) (hd : ∀ x i, d (ix3 x h i) = (dr x i : EReal)) :
    dpS v d (ix3 h x y) = (dp vr dr x y : EReal) := by
  pointwise [dpS]
  simp only [hv, hd, ← EReal.coe_mul, ← coe_sum]
  rfl

theorem rsS_at (hp : ∀ y, DP (ix3 h x y) = (dp vr dr x y : EReal)) (hz : Z (ix2 h x) = (z qr kr fr x : EReal))
    (he : ∀ y, E (ix3 h x y) = (e qr kr fr x y : EReal)) : rsS DP Z E (ix2 h x) = ((del qr kr vr dr fr x / z qr kr fr x : ℝ) : EReal) := by
  have hn := (z_pos qr kr fr x).ne'
  pointwise [rsS]
  simp only [hp, hz, he, ← EReal.coe_mul, Ideal.div_coe (mul_ne_zero hn hn), one_mul, ← coe_sum]
  refine congrArg (fun r : ℝ => (r : EReal)) ?_
  unfold del p
  rw [Finset.sum_div]
  exact Finset.sum_congr rfl fun y _ => by field_simp

theorem nlS_at (hr : RS (ix2 h x) = ((del qr kr vr dr fr x / z qr kr fr x : ℝ) : EReal)) :
    nlS RS (ix2 h x) = ((-(del qr kr vr dr fr x / z qr kr fr x) : ℝ) : EReal) := by
  pointwise [nlS]
  rw [hr, EReal.coe_neg]
  simp

theorem dsS_at (hp : ∀ y, DP (ix3 h x y) = (dp vr dr x y : EReal)) (hz : Z (ix2 h x) = (z qr kr fr x : EReal))
    (hn : NL (ix2 h x) = ((-(del qr kr vr dr fr x / z qr kr fr x) : ℝ) : EReal))
    (he : ∀ y, E (ix3 h x y) = (e qr kr fr x y : EReal)) : dsS DP Z NL E (ix3 h x y) = (ds qr kr vr dr fr x y : EReal) := by
  pointwise [dsS]
  rw [select_pos, hp, hz, hn, he, Ideal.div_coe (z_pos qr kr fr x).ne', ← EReal.coe_mul, ← EReal.coe_add, ← EReal.coe_mul]
  unfold ds p
  split_ifs with hc
  · exact congrArg (fun r : ℝ => (r : EReal)) (by ring)
  · rw [show e qr kr fr x y = 0 from if_neg hc, zero_div, zero_mul]; rfl

theorem csS_at (hs : ∀ x y, DS (ix3 h x y) = (ds qr kr vr dr fr x y : EReal)) :
    csS DS (ix2 h x) = ((-∑ y, ds qr kr vr dr fr y x : ℝ) : EReal) := by
  pointwise [csS]
  simp only [hs, ← EReal.coe_neg, ← coe_sum, Finset.sum_neg_distrib]

theorem rwS_at (hs : ∀ x y, DS (ix3 h x y) = (ds qr kr vr dr fr x y : EReal)) :
    rwS DS (ix2 h x) = ((∑ y, ds qr kr vr dr fr x y : ℝ) : EReal) := by
  pointwise [rwS]
  simp only [hs, ← coe_sum]

theorem dvS_at (hd : ∀ x i, d (ix3 x h i) = (dr x i : EReal)) (hp : ∀ x y, P (ix3 h x y) = (p qr kr fr x y : EReal)) :
    dvS d P (ix3 x h i) = ((gv qr kr dr fr x i : ℝ) : EReal) := by
  pointwise [dvS]
  simp only [hd, hp, ← EReal.coe_mul, ← coe_sum]
  exact congrArg (fun r : ℝ => (r : EReal)) (Finset.sum_congr rfl fun y _ => mul_comm _ _)

theorem dkS_at (hs : ∀ x y, DS (ix3 h x y) = (ds qr kr vr dr fr x y : EReal)) (hq : ∀ x i, q (ix3 x h i) = (qr x i : EReal)) :
    dkS DS q (ix3 x h i) = ((gk qr kr vr dr fr x i : ℝ) : EReal) := by
  pointwise [dkS]
  simp only [hs, hq, eighth, ← EReal.coe_mul, ← coe_sum]
  rfl

theorem dqS_at (hs : ∀ x y, DS (ix3 h x y) = (ds qr kr vr dr fr x y : EReal)) (hk : ∀ x i, k (ix3 x h i) = (kr x i : EReal)) :
    dqS DS k (ix3 x h i) = ((gq qr kr vr dr fr x i : ℝ) : EReal) := by
  pointwise [dqS]
  simp only [hs, hk, eighth, ← EReal.coe_mul, ← coe_sum]
  rfl

theorem dfS_at (hc : CS (ix2 h x) = ((-∑ y, ds qr kr vr dr fr y x : ℝ) : EReal)) (hr : RW (ix2 h x) = ((∑ y, ds qr kr vr dr fr x y : ℝ) : EReal)) :
    dfS CS RW (ix2 h x) = ((gf qr kr vr dr fr x : ℝ) : EReal) := by
  pointwise [dfS]
  rw [hc, hr]
  simp only [Finset.univ_unique, Finset.sum_singleton, ← EReal.coe_add]
  exact congrArg (fun r : ℝ => (r : EReal)) (by unfold gf; ring)

/-! The stages one after another. -/

variable (q k v d f)

def lgT : FVec Ideal S16x8192x8192 .f32 := lgS q k f
def eT : FVec Ideal S16x8192x8192 .f32 := eS (lgT q k f) (mxS (tpS (lgT q k f)))
def zT : FVec Ideal S16x8192 .f32 := zS (eT q k f)
def pT : FVec Ideal S16x8192x8192 .f32 := pS (eT q k f) (zT q k f)
def dsT : FVec Ideal S16x8192x8192 .f32 := dsS (dpS v d) (zT q k f) (nlS (rsS (dpS v d) (zT q k f) (eT q k f))) (eT q k f)

variable {q k v d f}
variable (hq : ∀ x i, q (ix3 x h i) = (qr x i : EReal)) (hk : ∀ x i, k (ix3 x h i) = (kr x i : EReal))
  (hv : ∀ x i, v (ix3 x h i) = (vr x i : EReal)) (hd : ∀ x i, d (ix3 x h i) = (dr x i : EReal)) (hf : ∀ x, f (ix2 h x) = (fr x : EReal))

include hq hk hf in
theorem eT_at : eT q k f (ix3 h x y) = (e qr kr fr x y : EReal) :=
  eS_at x y (fun y => lgS_at x y hq hk hf) (mxS_at x (tpS_at x fun y => lgS_at x y hq hk hf))

include hq hk hf in
theorem zT_at : zT q k f (ix2 h x) = (z qr kr fr x : EReal) := zS_at x fun y => eT_at x y hq hk hf

include hq hk hf in
theorem pT_at : pT q k f (ix3 h x y) = (p qr kr fr x y : EReal) := pS_at x y (fun y => eT_at x y hq hk hf) (zT_at x hq hk hf)

include hq hk hv hd hf in
theorem dsT_at : dsT q k v d f (ix3 h x y) = (ds qr kr vr dr fr x y : EReal) :=
  dsS_at x y (fun y => dpS_at x y hv hd) (zT_at x hq hk hf)
    (nlS_at x (rsS_at x (fun y => dpS_at x y hv hd) (zT_at x hq hk hf) fun y => eT_at x y hq hk hf)) fun y => eT_at x y hq hk hf

variable (m : (ℓ : Loc nD τ sig) → Buf (Elt Ideal) ℓ) (c : Dev nD)

/-- The arguments. -/
abbrev aQ : FVec Ideal S8192x16x64 .f32 := m ((c.tc : Thread nD τ).loc main_arg0)
abbrev aK : FVec Ideal S8192x16x64 .f32 := m ((c.tc : Thread nD τ).loc main_arg1)
abbrev aV : FVec Ideal S8192x16x64 .f32 := m ((c.tc : Thread nD τ).loc main_arg2)
abbrev aF : FVec Ideal S16x8192 .f32 := m ((c.tc : Thread nD τ).loc main_arg3)
abbrev aD : FVec Ideal S8192x16x64 .f32 := m ((c.tc : Thread nD τ).loc main_arg4)

theorem out0 : Value.res_out0 m c = dqS (dsT (aQ m c) (aK m c) (aV m c) (aD m c) (aF m c)) (aK m c) := rfl
theorem out1 : Value.res_out1 m c = dkS (dsT (aQ m c) (aK m c) (aV m c) (aD m c) (aF m c)) (aQ m c) := rfl
theorem out2 : Value.res_out2 m c = dvS (aD m c) (pT (aQ m c) (aK m c) (aF m c)) := rfl
theorem out3 : Value.res_out3 m c = dfS (csS (dsT (aQ m c) (aK m c) (aV m c) (aD m c) (aF m c))) (rwS (dsT (aQ m c) (aK m c) (aV m c) (aD m c) (aF m c))) := rfl

end Cert.AttnStages
-- ==== Proof.AttnClaims.lean ====
/-
  The claims on the attention gradient: the reference leaves its arguments alone, and from finite arguments that agree the kernel
  and the reference leave the same four gradients.
-/
module

public import proofs.«01_k».proof.Defs
public import proofs.«01_k».proof.Proof.AttnValue
public import proofs.«01_k».proof.Proof.AttnStages
public import Idealize.ShloMosaic.Adequacy

@[expose] public section

noncomputable section

namespace Cert.AttnClaims

open Idealize.ShloMosaic Idealize.SL.Sem Cert.AttnReal Cert.AttnValue

/-- What two statements say of every run, their conjunction says. -/
theorem both {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {Q Q' : PUnit × MemSt nD τ sig Val → Prop}
    (A : θ_run defs p s Q) (B : θ_run defs p s Q') : θ_run defs p s fun r => Q r ∧ Q' r :=
  ⟨fun t ht hf => ⟨A.post t ht hf, B.post t ht hf⟩, B.progress, B.fair⟩

/-- The precondition's shape relations hold. -/
theorem finiteFacts : Cert.Pre_finite.Facts := ⟨by decide, by decide⟩

/-- The reference terminates, leaves its arguments and every semaphore as they were. -/
theorem frameRef : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- An entry whose absolute value is below infinity is a real number. -/
theorem real_of_lt (x : EReal) (h : max x (-x) < ⊤) : ((x.toReal : ℝ) : EReal) = x := by
  refine EReal.coe_toReal (fun e => ?_) (fun e => ?_)
  · rw [e] at h; simp at h
  · rw [e] at h; simp at h

theorem real_of_bit {s : Shape} (x : FVec Ideal s .f32) (b : Shape.BroadcastsInDim ⟨0, ![]⟩ s (![] : Fin 0 → Fin s.rank))
    (h : cmpf .olt (Host.absf x) (broadcastInDim s ![] b (constant (F := Ideal) ⟨0, ![]⟩ .f32 0x7F800000#32)) = fun _ => 1#1) (i : s.Idx) :
    (((x i : EReal).toReal : ℝ) : EReal) = x i := by
  refine real_of_lt _ ?_
  have e : BitVec.ofBool (decide (max (x i : EReal) (-(x i : EReal)) < Ideal.ofBits .f32 0x7F800000#32)) = 1#1 := congrFun h i
  have t : Ideal.ofBits .f32 0x7F800000#32 = (⊤ : EReal) := by simp [Ideal.ofBits, Ideal.ieee]
  rw [t] at e
  by_contra hn
  rw [decide_eq_false hn] at e
  exact absurd e (by decide)

section
open Cert.Kernel2Ideal
variable (m : (ℓ : Loc nD τ sig) → Buf (Elt Ideal) ℓ) (c : Dev nD)

/-- The real numbers the arguments hold. -/
def argQ (h : Fin 16) (x : Fin 8192) (i : Fin 64) : ℝ := EReal.toReal (m ((c.tc : Thread nD τ).loc main_arg0) (ix3 x h i))
def argK (h : Fin 16) (x : Fin 8192) (i : Fin 64) : ℝ := EReal.toReal (m ((c.tc : Thread nD τ).loc main_arg1) (ix3 x h i))
def argV (h : Fin 16) (x : Fin 8192) (i : Fin 64) : ℝ := EReal.toReal (m ((c.tc : Thread nD τ).loc main_arg2) (ix3 x h i))
def argF (h : Fin 16) (x : Fin 8192) : ℝ := EReal.toReal (m ((c.tc : Thread nD τ).loc main_arg3) (ix2 h x))
def argD (h : Fin 16) (x : Fin 8192) (i : Fin 64) : ℝ := EReal.toReal (m ((c.tc : Thread nD τ).loc main_arg4) (ix3 x h i))

theorem holds (hpre : Cert.Pre_Kernel2Ideal_finite (hPre_finite := finiteFacts) m) :
    Holds (fun b => m (c, b)) (argQ m c) (argK m c) (argV m c) (argD m c) (argF m c) := by
  obtain ⟨h0, h1, h2, h3, h4⟩ := hpre c
  exact ⟨fun h x i => (real_of_bit _ _ h0 (ix3 x h i)).symm, fun h x i => (real_of_bit _ _ h1 (ix3 x h i)).symm,
    fun h x i => (real_of_bit _ _ h2 (ix3 x h i)).symm, fun h x => (real_of_bit _ _ h3 (ix2 h x)).symm,
    fun h x i => (real_of_bit _ _ h4 (ix3 x h i)).symm⟩

/-- The four gradients as arrays. -/
def outQ : S8192x16x64.Idx → EReal := fun j =>
  (gq (argQ m c (j 1)) (argK m c (j 1)) (argV m c (j 1)) (argD m c (j 1)) (argF m c (j 1)) (j 0) (j 2) : EReal)
def outK : S8192x16x64.Idx → EReal := fun j =>
  (gk (argQ m c (j 1)) (argK m c (j 1)) (argV m c (j 1)) (argD m c (j 1)) (argF m c (j 1)) (j 0) (j 2) : EReal)
def outV : S8192x16x64.Idx → EReal := fun j =>
  (gv (argQ m c (j 1)) (argK m c (j 1)) (argD m c (j 1)) (argF m c (j 1)) (j 0) (j 2) : EReal)
def outF : S16x8192.Idx → EReal := fun j =>
  (gf (argQ m c (j 0)) (argK m c (j 0)) (argV m c (j 0)) (argD m c (j 0)) (argF m c (j 0)) (j 1) : EReal)

variable {m c} in
set_option backward.isDefEq.respectTransparency.types false in
/-- What a run leaves in an array the region does not own is what the host lines after it compute there. -/
theorem left {r : PUnit × MemSt nD τ sig (Elt Ideal)}
    (h : Pipeline.FramePost cfgs (AttnRun.dats m) 0 (Pipeline.afterTail₀ cfgs (AttnRun.dats m) 0 (Gen.V0 m) [Gen.hostOps1]) r)
    (b : Ref sig .tc) (hb : b ∈ Pipeline.restRefs sig (cfgs (0 : Fin 1)).spec) :
    r.2.mem ((c.tc : Thread nD τ).loc b) = StableHlo.after Gen.hostOps1 (exitV m c) (Proc.devRef .tc b) := (h c).2 b hb
end

set_option backward.isDefEq.respectTransparency.types false in
/-- From finite arguments that agree, the kernel and the reference leave the same gradients of the queries, the keys, the
    values and the decays. -/
theorem algebraic : Cert.algebraic_Kernel2Ideal_Reference2Ideal_pre_finite (hPre_finite := finiteFacts) := by
  intro m ρ m' ρ' hpre hagree
  refine ⟨outQ m, outK m, outV m, outF m, ?_, ?_⟩
  · have A := Cert.AttnRun.frame m ρ
    have B := Cert.AttnRun.run_main_quiescent m ρ
    refine (θ_run Cert.Kernel2Ideal.defs _ _).mono (fun r h c => ?_)
      (both A B)
    have H := holds m c hpre
    refine ⟨(left h.2.1 Cert.Kernel2Ideal.main_v129 (Pipeline.mem_restRefs_of _ (by decide) (by decide))).trans (funext fun j => ?_),
      (left h.2.1 Cert.Kernel2Ideal.main_v131 (Pipeline.mem_restRefs_of _ (by decide) (by decide))).trans (funext fun j => ?_),
      (left h.2.1 Cert.Kernel2Ideal.main_v116 (Pipeline.mem_restRefs_of _ (by decide) (by decide))).trans (funext fun j => ?_),
      (left h.2.1 Cert.Kernel2Ideal.main_v127 (Pipeline.mem_restRefs_of _ (by decide) (by decide))).trans (funext fun j => ?_), h.1.1 c⟩
    · rw [eq_ix3 j]; exact dq_at H _ _ _
    · rw [eq_ix3 j]; exact dk_at H _ _ _
    · rw [eq_ix3 j]; exact dv_at H _ _ _
    · rw [eq_ix2 j]; exact df_at H _ _
  · refine (θ_run Cert.Reference2Ideal.defs _ _).mono (fun r h c => ?_) (Cert.Reference2Ideal.Value.run (F := Ideal) m' ρ')
    obtain ⟨a0, a1, a2, a3, a4⟩ := hagree c
    have H := holds m c hpre
    have hq : ∀ h x i, AttnStages.aQ m' c (ix3 x h i) = (argQ m c h x i : EReal) := fun h x i => (congrFun a0 _).trans (H.q h x i)
    have hk : ∀ h x i, AttnStages.aK m' c (ix3 x h i) = (argK m c h x i : EReal) := fun h x i => (congrFun a1 _).trans (H.k h x i)
    have hv : ∀ h x i, AttnStages.aV m' c (ix3 x h i) = (argV m c h x i : EReal) := fun h x i => (congrFun a2 _).trans (H.v h x i)
    have hf : ∀ h x, AttnStages.aF m' c (ix2 h x) = (argF m c h x : EReal) := fun h x => (congrFun a3 _).trans (H.f h x)
    have hd : ∀ h x i, AttnStages.aD m' c (ix3 x h i) = (argD m c h x i : EReal) := fun h x i => (congrFun a4 _).trans (H.d h x i)
    have hs : ∀ h x y, _ := fun h x y => AttnStages.dsT_at x y (hq h) (hk h) (hv h) (hd h) (hf h)
    refine ⟨(h c).1.trans ?_, (h c).2.1.trans ?_, (h c).2.2.1.trans ?_, (h c).2.2.2.1.trans ?_, (h c).2.2.2.2⟩
    · refine (AttnStages.out0 m' c).trans (funext fun j => ?_)
      rw [eq_ix3 j]; exact AttnStages.dqS_at _ _ (hs _) (hk _)
    · refine (AttnStages.out1 m' c).trans (funext fun j => ?_)
      rw [eq_ix3 j]; exact AttnStages.dkS_at _ _ (hs _) (hq _)
    · refine (AttnStages.out2 m' c).trans (funext fun j => ?_)
      rw [eq_ix3 j]; exact AttnStages.dvS_at _ _ (hd _) (fun x y => AttnStages.pT_at x y (hq _) (hk _) (hf _))
    · refine (AttnStages.out3 m' c).trans (funext fun j => ?_)
      rw [eq_ix2 j]; exact AttnStages.dfS_at _ (AttnStages.csS_at _ (hs _)) (AttnStages.rwS_at _ (hs _))

end Cert.AttnClaims
-- ==== Proof.GradSum.lean ====
/-
  A weight's gradient, entry by entry: the sum over the 8192 rows of an input's entry times a cotangent's entry, and the same sum
  in four tiles of 2048 rows.
-/
module

public import Idealize.ShloMosaic.Lib.Pipeline.ValueKit

@[expose] public section

set_option maxRecDepth 16384

noncomputable section

namespace Cert.GradSum

open Idealize.ShloMosaic

/-- Row `r` of tile `k` of the four tiles of rows. -/
def row (k : Fin 4) (r : Fin 2048) : Fin 8192 := ⟨k.val * 2048 + r.val, by omega⟩

/-- A sum over all rows is the sum over the four tiles, added from the first on. -/
theorem sum_tiles (f : Fin 8192 → EReal) :
    ∑ r, f r = (∑ r, f (row 0 r)) + (∑ r, f (row 1 r)) + (∑ r, f (row 2 r)) + (∑ r, f (row 3 r)) := by
  rw [show (∑ r, f r) = _ from Fin.sum_univ_add (a := 6144) (b := 2048) f, Fin.sum_univ_add (a := 4096) (b := 2048),
    Fin.sum_univ_add (a := 2048) (b := 2048)]
  refine congrArg₂ (· + ·) (congrArg₂ (· + ·) (congrArg₂ (· + ·) ?_ ?_) ?_) ?_
  all_goals exact Finset.sum_congr rfl fun r _ => congrArg f (Fin.ext (by simp [row]; try omega))

/-- The entry of a weight's gradient at input `i` and output `j`. -/
def grad {n k : ℕ} (x : Shape.Idx ⟨2, ![8192, n]⟩ → EReal) (d : Shape.Idx ⟨2, ![8192, k]⟩ → EReal) (i : Fin n) (j : Fin k) : EReal :=
  ∑ r : Fin 8192, x (ix2 r i) * d (ix2 r j)

/-- The part of that entry that tile `q` of the rows adds. -/
def part {n k : ℕ} (x : Shape.Idx ⟨2, ![8192, n]⟩ → EReal) (d : Shape.Idx ⟨2, ![8192, k]⟩ → EReal) (q : Fin 4) (i : Fin n) (j : Fin k) : EReal :=
  ∑ r : Fin 2048, x (ix2 (row q r) i) * d (ix2 (row q r) j)

theorem grad_eq {n k : ℕ} (x : Shape.Idx ⟨2, ![8192, n]⟩ → EReal) (d : Shape.Idx ⟨2, ![8192, k]⟩ → EReal) (i : Fin n) (j : Fin k) :
    part x d 0 i j + part x d 1 i j + part x d 2 i j + part x d 3 i j = grad x d i j :=
  (sum_tiles fun r => x (ix2 r i) * d (ix2 r j)).symm

/-- The gradient as a matrix. -/
def mat {n k : ℕ} (x : Shape.Idx ⟨2, ![8192, n]⟩ → EReal) (d : Shape.Idx ⟨2, ![8192, k]⟩ → EReal) : Shape.Idx ⟨2, ![n, k]⟩ → EReal :=
  fun y => grad x d (y 0) (y 1)

/-- The gradient as four shards of `w` columns each. -/
def shards {n w : ℕ} (x : Shape.Idx ⟨2, ![8192, n]⟩ → EReal) (d : Shape.Idx ⟨2, ![8192, 4 * w]⟩ → EReal) : Shape.Idx ⟨3, ![4, n, w]⟩ → EReal :=
  fun y => grad x d (y 1) ⟨(y 0).val * w + (y 2).val, by
    have h0 : (y 0).val < 4 := (y 0).isLt
    have h2 : (y 2).val < w := (y 2).isLt
    have := Nat.mul_le_mul_right w (show (y 0).val ≤ 3 by omega)
    omega⟩

end Cert.GradSum
-- ==== Proof.GradFfnUp.lean ====
/-
  The gradient of the ConvFFN's up-projection: the call `ffn_dwup` and the reference leave the same four shards.
-/
module

public import proofs.«01_k».proof.Defs
public import proofs.«01_k».proof.Proof.GradSum
public import proofs.«01_k».proof.Proof.Gen.Kernel3.Frame
public import proofs.«01_k».proof.Proof.Gen.Kernel3Ideal.Value
public import proofs.«01_k».proof.Proof.Gen.Reference3Ideal.Run
public import Idealize.ShloMosaic.Adequacy
public import Idealize.ShloMosaic.Lib.Pipeline.ValueKit
public import Idealize.ShloMosaic.Lib.Pipeline.ReadBack

@[expose] public section

set_option maxRecDepth 16384

noncomputable section

namespace Cert.GradFfnUp

open Idealize.ShloMosaic Idealize.ShloMosaic.TcCoe Idealize.SL.Sem Cert.GradSum

section
open Cert.Kernel3Ideal Cert.Kernel3Ideal.Gen

/-- The accumulator starts at zero. -/
theorem start_at (i : Fin 1024) (j : Fin 1408) : (k0_pay1 (F := Ideal)) (ix2 i j) = 0 := by
  pointwise [k0_pay1]

/-- One point adds the product of its two blocks. -/
theorem step_at (acc : Vec Ideal S1024x1408 .f32) (a : Vec Ideal S2048x1024 .bf16) (b : Vec Ideal S1x2048x1408 .bf16) (i : Fin 1024) (j : Fin 1408) :
    k0_pay2 acc a b (ix2 i j) = acc (ix2 i j) + ∑ r : Fin 2048, a (ix2 r i) * b (ix3 0 r j) := by
  pointwise [k0_pay2]

variable (m : (ℓ : Loc nD τ sig) → Buf (Elt Ideal) ℓ) (c : Dev nD)

/-- The input and the cotangent. -/
abbrev X : Shape.Idx ⟨2, ![8192, 1024]⟩ → EReal := m ((c : Thread nD τ).loc main_arg0)
abbrev D : Shape.Idx ⟨2, ![8192, 5632]⟩ → EReal := m ((c : Thread nD τ).loc main_arg2)

theorem idx : ∀ t : Fin cfg0.N, win0_0.index t = ![t.val % 4, 0] ∧ win0_1.index t = ![t.val / 4 / 2, t.val % 4, t.val / 4 % 2] ∧ win0_2.index t = ![t.val / 4, 0, 0] :=
  (by decide +kernel : ∀ t : Fin grid0.N, _)

variable (t : Fin cfg0.N)

theorem lt_N : t.val < 16 := lt_of_lt_of_eq t.isLt (show cfg0.N = 16 from N_0)

/-- The tile of rows that a point takes, and the whole arrays' columns of its block's columns. -/
def tile : Fin 4 := ⟨t.val % 4, by omega⟩
def colX (i : Fin 1024) : Fin 1024 := ⟨(0) * 1024 + i.val, by have := lt_N t; omega⟩
def colD (j : Fin 1408) : Fin 5632 := ⟨(t.val / 4) * 1408 + j.val, by have := lt_N t; omega⟩

theorem read0 (r : Fin 2048) (i : Fin 1024) : iblk m c 0 t (ix2 r i) = X m c (ix2 (row (tile t) r) (colX t i)) := by
  blk_ext [iblk, V, idx t, row, tile, colX]

theorem read1 (r : Fin 2048) (j : Fin 1408) : iblk m c 1 t (ix3 0 r j) = D m c (ix2 (row (tile t) r) (colD t j)) := by
  blk_simp [iblk]
  entry_read
  rw [show ((View.whole main_v1).slice (win0_1.rect t)).emb (ix3 0 r j) = ix3 (⟨t.val / 4 / 2, by have := lt_N t; omega⟩ : Fin 2) (row (tile t) r)
    (⟨t.val / 4 % 2 * 1408 + j.val, by omega⟩ : Fin 2816) from by blk_ext [idx t, row, tile]]
  pointwise [D, colD]
  exact congrArg (fun l : Fin 5632 => D m c (ix2 (row (tile t) r) l)) (Fin.ext (by dsimp only; omega))

/-- What a point adds, from the two whole arrays. -/
theorem add_at (acc : Vec Ideal S1024x1408 .f32) (i : Fin 1024) (j : Fin 1408) :
    k0_pay2 acc (iblk m c 0 t) (iblk m c 1 t) (ix2 i j)
      = HAdd.hAdd (α := EReal) (acc (ix2 i j)) (part (X m c) (D m c) (tile t) (colX t i) (colD t j)) := by
  refine (step_at _ _ _ _ _).trans (congrArg (fun s : EReal => HAdd.hAdd (α := EReal) (acc (ix2 i j)) s) (Finset.sum_congr rfl fun r _ => ?_))
  rw [read0, read1]

/-- The accumulator after a first point, and after a middle one. -/
theorem first_at (h0 : t.val % 4 = 0) (i : Fin 1024) (j : Fin 1408) :
    (outsAt0 m c t.val t.isLt).2 (ix2 i j) = part (X m c) (D m c) (tile t) (colX t i) (colD t j) := by
  have e : k0_pay2 (k0_pay1 (F := Ideal)) (iblk m c 0 t) (iblk m c 1 t) (ix2 i j) = part (X m c) (D m c) (tile t) (colX t i) (colD t j) := by
    rw [add_at, start_at, zero_add]
  rw [outsAt0_A m c t h0 (by omega)]
  frame_out
  exact e

theorem mid_at (h0 : ¬t.val % 4 = 0) (h1 : ¬t.val % 4 = 3) (i : Fin 1024) (j : Fin 1408) :
    (outsAt0 m c t.val t.isLt).2 (ix2 i j)
      = HAdd.hAdd (α := EReal) ((outsAt0 m c (t.val - 1) (Nat.lt_of_le_of_lt (Nat.sub_le _ _) t.isLt)).2 (ix2 i j))
        (part (X m c) (D m c) (tile t) (colX t i) (colD t j)) := by
  rw [outsAt0_B m c t h0 h1]
  frame_out
  rw [read_unread_whole]
  exact add_at m c t _ i j

/-- What a last point writes. -/
theorem last_at (h1 : t.val % 4 = 3) (i : Fin 1024) (j : Fin 1408) :
    (outsAt0 m c t.val t.isLt).1 (ix3 0 i j)
      = HAdd.hAdd (α := EReal) ((outsAt0 m c (t.val - 1) (Nat.lt_of_le_of_lt (Nat.sub_le _ _) t.isLt)).2 (ix2 i j))
        (part (X m c) (D m c) (tile t) (colX t i) (colD t j)) := by
  have e : ∀ acc, k0_pay3 (k0_pay2 acc (iblk m c 0 t) (iblk m c 1 t)) (ix3 0 i j)
      = HAdd.hAdd (α := EReal) (acc (ix2 i j)) (part (X m c) (D m c) (tile t) (colX t i) (colD t j)) := fun acc => by
    rw [← add_at]
    pointwise [k0_pay3]
  rw [outsAt0_C m c t (by omega) h1]
  frame_out
  rw [read_unread_whole]
  exact e _

/-- The block a last point writes is the gradient's. -/
theorem block_at (h1 : t.val % 4 = 3) (i : Fin 1024) (j : Fin 1408) :
    (outsAt0 m c t.val t.isLt).1 (ix3 0 i j) = grad (X m c) (D m c) (colX t i) (colD t j) := by
  have hN := t.isLt
  rw [last_at m c t h1, mid_at m c ⟨t.val - 1, by omega⟩ (by dsimp only; omega) (by dsimp only; omega),
    mid_at m c ⟨t.val - 1 - 1, by omega⟩ (by dsimp only; omega) (by dsimp only; omega), first_at m c ⟨t.val - 1 - 1 - 1, by omega⟩ (by dsimp only; omega),
    ← grad_eq]
  have k0 : tile ⟨t.val - 1 - 1 - 1, by omega⟩ = 0 := Fin.ext (by dsimp only [tile]; show _ = 0; omega)
  have k1 : tile ⟨t.val - 1 - 1, by omega⟩ = 1 := Fin.ext (by dsimp only [tile]; show _ = 1; omega)
  have k2 : tile ⟨t.val - 1, by omega⟩ = 2 := Fin.ext (by dsimp only [tile]; show _ = 2; omega)
  have k3 : tile t = 3 := Fin.ext (by dsimp only [tile]; show _ = 3; omega)
  have x : ∀ s : Fin cfg0.N, s.val / 4 = t.val / 4 → colX s i = colX t i := fun s h => Fin.ext (by simp only [colX, h])
  have d : ∀ s : Fin cfg0.N, s.val / 4 = t.val / 4 → colD s j = colD t j := fun s h => Fin.ext (by simp only [colD, h])
  rw [k0, k1, k2, k3, x ⟨t.val - 1 - 1 - 1, by omega⟩ (by dsimp only; omega), x ⟨t.val - 1 - 1, by omega⟩ (by dsimp only; omega), x ⟨t.val - 1, by omega⟩ (by dsimp only; omega),
    d ⟨t.val - 1 - 1 - 1, by omega⟩ (by dsimp only; omega), d ⟨t.val - 1 - 1, by omega⟩ (by dsimp only; omega), d ⟨t.val - 1, by omega⟩ (by dsimp only; omega)]

/-- The gradient, laid out as the call lays it out. -/
abbrev G : S4x1024x1408.Idx → EReal := shards (w := 1408) (X m c) (D m c)

theorem emb (i : Fin 1024) (j : Fin 1408) : ((cfg0.win 2).blk t).view.emb (ix3 0 i j) = ix3 ⟨t.val / 4, by have := lt_N t; omega⟩ i j := by
  blk_ext [idx t, colX, colD]

/-- The result array after the run is the gradient. -/
theorem result : (dats m 0 c).arrAt 2 cfg0.N = G m c := by
  refine (dats m 0 c).arrAt_eq_of_covers 2 _ (by decide +kernel) fun t hf y => ?_
  have h1 : t.val % 4 = 3 := (flush0_2 t).mp hf
  have hy : (outsAt0 m c t.val t.isLt).1 y = G m c (((cfg0.win 2).blk t).view.emb y) := by
    obtain ⟨u, i, j, rfl⟩ : ∃ (u : Fin 1) (i : Fin 1024) (j : Fin 1408), y = ix3 u i j := ⟨y 0, y 1, y 2, eq_ix3 y⟩
    obtain rfl : u = 0 := Subsingleton.elim _ _
    rw [block_at m c t h1]
    erw [emb]
    exact congrArg (fun k => grad (X m c) (D m c) k _) (Fin.ext (by simp [colX]))
  blk_simp
  rw [after0_2]
  exact hy

end

section
open Cert.Reference3Ideal Cert.Reference3Ideal.Gen
variable (m : (ℓ : Loc nD τ sig) → Buf (Elt Ideal) ℓ) (c : Dev nD)

/-- The reference's input and cotangent. -/
abbrev RX : Shape.Idx ⟨2, ![8192, 1024]⟩ → EReal := m ((c.tc : Thread nD τ).loc main_arg0)
abbrev RD : Shape.Idx ⟨2, ![8192, 5632]⟩ → EReal := m ((c.tc : Thread nD τ).loc main_arg2)

/-- The reference's result is the gradient. -/
theorem reference (y : S4x1024x1408.Idx) : (transpose S4x1024x1408 [1, 0, 2] (shapeCast _ (truncf .bf16 (transpose S1024x5632 [1, 0] (Host.dotGeneral dot_S8192x5632_S8192x1024_S5632x1024_0_0_1_1_n_n none (extf .f32 (m ((c.tc : Thread nD τ).loc main_arg2)) bitsLt_bf16_f32) (extf .f32 (m ((c.tc : Thread nD τ).loc main_arg0)) bitsLt_bf16_f32)) transposes_S5632x1024_S1024x5632_1_0) bitsLt_bf16_f32) shapeCasts_S1024x5632_S1024x4x1408) transposes_S1024x4x1408_S4x1024x1408_1_0_2 : FVec Ideal S4x1024x1408 .bf16) y
      = (shards (w := 1408) (RX m c) (RD m c) : S4x1024x1408.Idx → EReal) y := by
  obtain ⟨p, i, j, rfl⟩ : ∃ (p : Fin 4) (i : Fin 1024) (j : Fin 1408), y = ix3 p i j := ⟨y 0, y 1, y 2, eq_ix3 y⟩
  pointwise [shards, grad]
  exact Finset.sum_congr rfl fun r _ => mul_comm _ _

end

/-- The reference terminates, leaves its arguments and every semaphore as they were. -/
theorem frameRef : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From arguments that agree, the kernel and the reference leave the same gradient. -/
theorem algebraic : Cert.algebraic_Kernel3Ideal_Reference3Ideal := by
  intro m ρ m' ρ' _ hagree
  refine ⟨fun c => G m c, ?_, ?_⟩
  · exact (θ_run Cert.Kernel3Ideal.defs _ _).mono (fun _ h c => ⟨(h c).1.trans (result m c), (h c).2⟩)
      (Cert.Kernel3Ideal.Value.run_blocks (F := Ideal) m ρ)
  · refine (θ_run Cert.Reference3Ideal.defs _ _).mono (fun _ h c => ⟨(h c).1.trans ((funext fun y => reference m' c y).trans ?_), (h c).2⟩)
      (Cert.Reference3Ideal.Value.run (F := Ideal) m' ρ')
    obtain ⟨h0, -, h2⟩ := hagree c
    rw [RX, RD, h0, h2]

end Cert.GradFfnUp
-- ==== Proof.GradFfnDown.lean ====
/-
  The gradient of the ConvFFN's down-projection: the call `ffn_dwdown` and the reference leave the same matrix.
-/
module

public import proofs.«01_k».proof.Defs
public import proofs.«01_k».proof.Proof.GradSum
public import proofs.«01_k».proof.Proof.Gen.Kernel4.Frame
public import proofs.«01_k».proof.Proof.Gen.Kernel4Ideal.Value
public import proofs.«01_k».proof.Proof.Gen.Reference4Ideal.Run
public import Idealize.ShloMosaic.Adequacy
public import Idealize.ShloMosaic.Lib.Pipeline.ValueKit
public import Idealize.ShloMosaic.Lib.Pipeline.ReadBack

@[expose] public section

set_option maxRecDepth 16384

noncomputable section

namespace Cert.GradFfnDown

open Idealize.ShloMosaic Idealize.ShloMosaic.TcCoe Idealize.SL.Sem Cert.GradSum

section
open Cert.Kernel4Ideal Cert.Kernel4Ideal.Gen

/-- The accumulator starts at zero. -/
theorem start_at (i : Fin 1408) (j : Fin 1024) : (k0_pay1 (F := Ideal)) (ix2 i j) = 0 := by
  pointwise [k0_pay1]

/-- One point adds the product of its two blocks. -/
theorem step_at (acc : Vec Ideal S1408x1024 .f32) (a : Vec Ideal S2048x1408 .bf16) (b : Vec Ideal S2048x1024 .bf16) (i : Fin 1408) (j : Fin 1024) :
    k0_pay2 acc a b (ix2 i j) = acc (ix2 i j) + ∑ r : Fin 2048, a (ix2 r i) * b (ix2 r j) := by
  pointwise [k0_pay2]

variable (m : (ℓ : Loc nD τ sig) → Buf (Elt Ideal) ℓ) (c : Dev nD)

/-- The input and the cotangent. -/
abbrev X : Shape.Idx ⟨2, ![8192, 2816]⟩ → EReal := m ((c : Thread nD τ).loc main_arg0)
abbrev D : Shape.Idx ⟨2, ![8192, 1024]⟩ → EReal := m ((c : Thread nD τ).loc main_arg2)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (t : Fin cfg0.N)

theorem lt_N : t.val < 8 := lt_of_lt_of_eq t.isLt (show cfg0.N = 8 from N_0)

/-- The tile of rows that a point takes, and the whole arrays' columns of its block's columns. -/
def tile : Fin 4 := ⟨t.val % 4, by omega⟩
def colX (i : Fin 1408) : Fin 2816 := ⟨(t.val / 4) * 1408 + i.val, by have := lt_N t; omega⟩
def colD (j : Fin 1024) : Fin 1024 := ⟨(0) * 1024 + j.val, by have := lt_N t; omega⟩

theorem read0 (r : Fin 2048) (i : Fin 1408) : iblk m c 0 t (ix2 r i) = X m c (ix2 (row (tile t) r) (colX t i)) := by
  blk_ext [iblk, V, idx t, row, tile, colX]

theorem read1 (r : Fin 2048) (j : Fin 1024) : iblk m c 1 t (ix2 r j) = D m c (ix2 (row (tile t) r) (colD t j)) := by
  blk_ext [iblk, V, idx t, row, tile, colD]

/-- What a point adds, from the two whole arrays. -/
theorem add_at (acc : Vec Ideal S1408x1024 .f32) (i : Fin 1408) (j : Fin 1024) :
    k0_pay2 acc (iblk m c 0 t) (iblk m c 1 t) (ix2 i j)
      = HAdd.hAdd (α := EReal) (acc (ix2 i j)) (part (X m c) (D m c) (tile t) (colX t i) (colD t j)) := by
  refine (step_at _ _ _ _ _).trans (congrArg (fun s : EReal => HAdd.hAdd (α := EReal) (acc (ix2 i j)) s) (Finset.sum_congr rfl fun r _ => ?_))
  rw [read0, read1]

/-- The accumulator after a first point, and after a middle one. -/
theorem first_at (h0 : t.val % 4 = 0) (i : Fin 1408) (j : Fin 1024) :
    (outsAt0 m c t.val t.isLt).2 (ix2 i j) = part (X m c) (D m c) (tile t) (colX t i) (colD t j) := by
  have e : k0_pay2 (k0_pay1 (F := Ideal)) (iblk m c 0 t) (iblk m c 1 t) (ix2 i j) = part (X m c) (D m c) (tile t) (colX t i) (colD t j) := by
    rw [add_at, start_at, zero_add]
  rw [outsAt0_A m c t h0 (by omega)]
  frame_out
  exact e

theorem mid_at (h0 : ¬t.val % 4 = 0) (h1 : ¬t.val % 4 = 3) (i : Fin 1408) (j : Fin 1024) :
    (outsAt0 m c t.val t.isLt).2 (ix2 i j)
      = HAdd.hAdd (α := EReal) ((outsAt0 m c (t.val - 1) (Nat.lt_of_le_of_lt (Nat.sub_le _ _) t.isLt)).2 (ix2 i j))
        (part (X m c) (D m c) (tile t) (colX t i) (colD t j)) := by
  rw [outsAt0_B m c t h0 h1]
  frame_out
  rw [read_unread_whole]
  exact add_at m c t _ i j

/-- What a last point writes. -/
theorem last_at (h1 : t.val % 4 = 3) (i : Fin 1408) (j : Fin 1024) :
    (outsAt0 m c t.val t.isLt).1 (ix2 i j)
      = HAdd.hAdd (α := EReal) ((outsAt0 m c (t.val - 1) (Nat.lt_of_le_of_lt (Nat.sub_le _ _) t.isLt)).2 (ix2 i j))
        (part (X m c) (D m c) (tile t) (colX t i) (colD t j)) := by
  have e : ∀ acc, k0_pay3 (k0_pay2 acc (iblk m c 0 t) (iblk m c 1 t)) (ix2 i j)
      = HAdd.hAdd (α := EReal) (acc (ix2 i j)) (part (X m c) (D m c) (tile t) (colX t i) (colD t j)) := fun acc => by
    rw [← add_at]
    pointwise [k0_pay3]
  rw [outsAt0_C m c t (by omega) h1]
  frame_out
  rw [read_unread_whole]
  exact e _

/-- The block a last point writes is the gradient's. -/
theorem block_at (h1 : t.val % 4 = 3) (i : Fin 1408) (j : Fin 1024) :
    (outsAt0 m c t.val t.isLt).1 (ix2 i j) = grad (X m c) (D m c) (colX t i) (colD t j) := by
  have hN := t.isLt
  rw [last_at m c t h1, mid_at m c ⟨t.val - 1, by omega⟩ (by dsimp only; omega) (by dsimp only; omega),
    mid_at m c ⟨t.val - 1 - 1, by omega⟩ (by dsimp only; omega) (by dsimp only; omega), first_at m c ⟨t.val - 1 - 1 - 1, by omega⟩ (by dsimp only; omega),
    ← grad_eq]
  have k0 : tile ⟨t.val - 1 - 1 - 1, by omega⟩ = 0 := Fin.ext (by dsimp only [tile]; show _ = 0; omega)
  have k1 : tile ⟨t.val - 1 - 1, by omega⟩ = 1 := Fin.ext (by dsimp only [tile]; show _ = 1; omega)
  have k2 : tile ⟨t.val - 1, by omega⟩ = 2 := Fin.ext (by dsimp only [tile]; show _ = 2; omega)
  have k3 : tile t = 3 := Fin.ext (by dsimp only [tile]; show _ = 3; omega)
  have x : ∀ s : Fin cfg0.N, s.val / 4 = t.val / 4 → colX s i = colX t i := fun s h => Fin.ext (by simp only [colX, h])
  have d : ∀ s : Fin cfg0.N, s.val / 4 = t.val / 4 → colD s j = colD t j := fun s h => Fin.ext (by simp only [colD, h])
  rw [k0, k1, k2, k3, x ⟨t.val - 1 - 1 - 1, by omega⟩ (by dsimp only; omega), x ⟨t.val - 1 - 1, by omega⟩ (by dsimp only; omega), x ⟨t.val - 1, by omega⟩ (by dsimp only; omega),
    d ⟨t.val - 1 - 1 - 1, by omega⟩ (by dsimp only; omega), d ⟨t.val - 1 - 1, by omega⟩ (by dsimp only; omega), d ⟨t.val - 1, by omega⟩ (by dsimp only; omega)]

/-- The gradient, laid out as the call lays it out. -/
abbrev G : S2816x1024.Idx → EReal := mat (X m c) (D m c)

theorem emb (i : Fin 1408) (j : Fin 1024) : ((cfg0.win 2).blk t).view.emb (ix2 i j) = ix2 (colX t i) (colD t j) := by
  blk_ext [idx t, colX, colD]

/-- The result array after the run is the gradient. -/
theorem result : (dats m 0 c).arrAt 2 cfg0.N = G m c := by
  refine (dats m 0 c).arrAt_eq_of_covers 2 _ (by decide +kernel) fun t hf y => ?_
  have h1 : t.val % 4 = 3 := (flush0_2 t).mp hf
  have hy : (outsAt0 m c t.val t.isLt).1 y = G m c (((cfg0.win 2).blk t).view.emb y) := by
    obtain ⟨i, j, rfl⟩ : ∃ (i : Fin 1408) (j : Fin 1024), y = ix2 i j := ⟨y 0, y 1, eq_ix2 y⟩
    rw [block_at m c t h1]
    erw [emb]
    rfl
  blk_simp
  rw [after0_2]
  exact hy

end

section
open Cert.Reference4Ideal Cert.Reference4Ideal.Gen
variable (m : (ℓ : Loc nD τ sig) → Buf (Elt Ideal) ℓ) (c : Dev nD)

/-- The reference's input and cotangent. -/
abbrev RX : Shape.Idx ⟨2, ![8192, 2816]⟩ → EReal := m ((c.tc : Thread nD τ).loc main_arg0)
abbrev RD : Shape.Idx ⟨2, ![8192, 1024]⟩ → EReal := m ((c.tc : Thread nD τ).loc main_arg2)

/-- The reference's result is the gradient. -/
theorem reference (y : S2816x1024.Idx) : (truncf .bf16 (transpose S2816x1024 [1, 0] (Host.dotGeneral dot_S8192x1024_S8192x2816_S1024x2816_0_0_1_1_n_n none (extf .f32 (m ((c.tc : Thread nD τ).loc main_arg2)) bitsLt_bf16_f32) (extf .f32 (m ((c.tc : Thread nD τ).loc main_arg0)) bitsLt_bf16_f32)) transposes_S1024x2816_S2816x1024_1_0) bitsLt_bf16_f32 : FVec Ideal S2816x1024 .bf16) y
      = (mat (RX m c) (RD m c) : S2816x1024.Idx → EReal) y := by
  obtain ⟨i, j, rfl⟩ : ∃ (i : Fin 2816) (j : Fin 1024), y = ix2 i j := ⟨y 0, y 1, eq_ix2 y⟩
  pointwise [mat, grad]
  exact Finset.sum_congr rfl fun r _ => mul_comm _ _

end

/-- The reference terminates, leaves its arguments and every semaphore as they were. -/
theorem frameRef : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From arguments that agree, the kernel and the reference leave the same gradient. -/
theorem algebraic : Cert.algebraic_Kernel4Ideal_Reference4Ideal := by
  intro m ρ m' ρ' _ hagree
  refine ⟨fun c => G m c, ?_, ?_⟩
  · exact (θ_run Cert.Kernel4Ideal.defs _ _).mono (fun _ h c => ⟨(h c).1.trans (result m c), (h c).2⟩)
      (Cert.Kernel4Ideal.Value.run_blocks (F := Ideal) m ρ)
  · refine (θ_run Cert.Reference4Ideal.defs _ _).mono (fun _ h c => ⟨(h c).1.trans ((funext fun y => reference m' c y).trans ?_), (h c).2⟩)
      (Cert.Reference4Ideal.Value.run (F := Ideal) m' ρ')
    obtain ⟨h0, -, h2⟩ := hagree c
    rw [RX, RD, h0, h2]

end Cert.GradFfnDown
-- ==== Proof.GradSguOut.lean ====
/-
  The gradient of the gated MLP's output projection: the call `sgu_dwout` and the reference leave the same matrix.
-/
module

public import proofs.«01_k».proof.Defs
public import proofs.«01_k».proof.Proof.GradSum
public import proofs.«01_k».proof.Proof.Gen.Kernel5.Frame
public import proofs.«01_k».proof.Proof.Gen.Kernel5Ideal.Value
public import proofs.«01_k».proof.Proof.Gen.Reference5Ideal.Run
public import Idealize.ShloMosaic.Adequacy
public import Idealize.ShloMosaic.Lib.Pipeline.ValueKit
public import Idealize.ShloMosaic.Lib.Pipeline.ReadBack

@[expose] public section

set_option maxRecDepth 16384

noncomputable section

namespace Cert.GradSguOut

open Idealize.ShloMosaic Idealize.ShloMosaic.TcCoe Idealize.SL.Sem Cert.GradSum

section
open Cert.Kernel5Ideal Cert.Kernel5Ideal.Gen

/-- The accumulator starts at zero. -/
theorem start_at (i : Fin 1024) (j : Fin 1024) : (k0_pay1 (F := Ideal)) (ix2 i j) = 0 := by
  pointwise [k0_pay1]

/-- One point adds the product of its two blocks. -/
theorem step_at (acc : Vec Ideal S1024x1024 .f32) (a : Vec Ideal S2048x1024 .bf16) (b : Vec Ideal S2048x1024 .bf16) (i : Fin 1024) (j : Fin 1024) :
    k0_pay2 acc a b (ix2 i j) = acc (ix2 i j) + ∑ r : Fin 2048, a (ix2 r i) * b (ix2 r j) := by
  pointwise [k0_pay2]

variable (m : (ℓ : Loc nD τ sig) → Buf (Elt Ideal) ℓ) (c : Dev nD)

/-- The input and the cotangent. -/
abbrev X : Shape.Idx ⟨2, ![8192, 2048]⟩ → EReal := m ((c : Thread nD τ).loc main_arg0)
abbrev D : Shape.Idx ⟨2, ![8192, 1024]⟩ → EReal := m ((c : Thread nD τ).loc main_arg2)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (t : Fin cfg0.N)

theorem lt_N : t.val < 8 := lt_of_lt_of_eq t.isLt (show cfg0.N = 8 from N_0)

/-- The tile of rows that a point takes, and the whole arrays' columns of its block's columns. -/
def tile : Fin 4 := ⟨t.val % 4, by omega⟩
def colX (i : Fin 1024) : Fin 2048 := ⟨(t.val / 4) * 1024 + i.val, by have := lt_N t; omega⟩
def colD (j : Fin 1024) : Fin 1024 := ⟨(0) * 1024 + j.val, by have := lt_N t; omega⟩

theorem read0 (r : Fin 2048) (i : Fin 1024) : iblk m c 0 t (ix2 r i) = X m c (ix2 (row (tile t) r) (colX t i)) := by
  blk_ext [iblk, V, idx t, row, tile, colX]

theorem read1 (r : Fin 2048) (j : Fin 1024) : iblk m c 1 t (ix2 r j) = D m c (ix2 (row (tile t) r) (colD t j)) := by
  blk_ext [iblk, V, idx t, row, tile, colD]

/-- What a point adds, from the two whole arrays. -/
theorem add_at (acc : Vec Ideal S1024x1024 .f32) (i : Fin 1024) (j : Fin 1024) :
    k0_pay2 acc (iblk m c 0 t) (iblk m c 1 t) (ix2 i j)
      = HAdd.hAdd (α := EReal) (acc (ix2 i j)) (part (X m c) (D m c) (tile t) (colX t i) (colD t j)) := by
  refine (step_at _ _ _ _ _).trans (congrArg (fun s : EReal => HAdd.hAdd (α := EReal) (acc (ix2 i j)) s) (Finset.sum_congr rfl fun r _ => ?_))
  rw [read0, read1]

/-- The accumulator after a first point, and after a middle one. -/
theorem first_at (h0 : t.val % 4 = 0) (i : Fin 1024) (j : Fin 1024) :
    (outsAt0 m c t.val t.isLt).2 (ix2 i j) = part (X m c) (D m c) (tile t) (colX t i) (colD t j) := by
  have e : k0_pay2 (k0_pay1 (F := Ideal)) (iblk m c 0 t) (iblk m c 1 t) (ix2 i j) = part (X m c) (D m c) (tile t) (colX t i) (colD t j) := by
    rw [add_at, start_at, zero_add]
  rw [outsAt0_A m c t h0 (by omega)]
  frame_out
  exact e

theorem mid_at (h0 : ¬t.val % 4 = 0) (h1 : ¬t.val % 4 = 3) (i : Fin 1024) (j : Fin 1024) :
    (outsAt0 m c t.val t.isLt).2 (ix2 i j)
      = HAdd.hAdd (α := EReal) ((outsAt0 m c (t.val - 1) (Nat.lt_of_le_of_lt (Nat.sub_le _ _) t.isLt)).2 (ix2 i j))
        (part (X m c) (D m c) (tile t) (colX t i) (colD t j)) := by
  rw [outsAt0_B m c t h0 h1]
  frame_out
  rw [read_unread_whole]
  exact add_at m c t _ i j

/-- What a last point writes. -/
theorem last_at (h1 : t.val % 4 = 3) (i : Fin 1024) (j : Fin 1024) :
    (outsAt0 m c t.val t.isLt).1 (ix2 i j)
      = HAdd.hAdd (α := EReal) ((outsAt0 m c (t.val - 1) (Nat.lt_of_le_of_lt (Nat.sub_le _ _) t.isLt)).2 (ix2 i j))
        (part (X m c) (D m c) (tile t) (colX t i) (colD t j)) := by
  have e : ∀ acc, k0_pay3 (k0_pay2 acc (iblk m c 0 t) (iblk m c 1 t)) (ix2 i j)
      = HAdd.hAdd (α := EReal) (acc (ix2 i j)) (part (X m c) (D m c) (tile t) (colX t i) (colD t j)) := fun acc => by
    rw [← add_at]
    pointwise [k0_pay3]
  rw [outsAt0_C m c t (by omega) h1]
  frame_out
  rw [read_unread_whole]
  exact e _

/-- The block a last point writes is the gradient's. -/
theorem block_at (h1 : t.val % 4 = 3) (i : Fin 1024) (j : Fin 1024) :
    (outsAt0 m c t.val t.isLt).1 (ix2 i j) = grad (X m c) (D m c) (colX t i) (colD t j) := by
  have hN := t.isLt
  rw [last_at m c t h1, mid_at m c ⟨t.val - 1, by omega⟩ (by dsimp only; omega) (by dsimp only; omega),
    mid_at m c ⟨t.val - 1 - 1, by omega⟩ (by dsimp only; omega) (by dsimp only; omega), first_at m c ⟨t.val - 1 - 1 - 1, by omega⟩ (by dsimp only; omega),
    ← grad_eq]
  have k0 : tile ⟨t.val - 1 - 1 - 1, by omega⟩ = 0 := Fin.ext (by dsimp only [tile]; show _ = 0; omega)
  have k1 : tile ⟨t.val - 1 - 1, by omega⟩ = 1 := Fin.ext (by dsimp only [tile]; show _ = 1; omega)
  have k2 : tile ⟨t.val - 1, by omega⟩ = 2 := Fin.ext (by dsimp only [tile]; show _ = 2; omega)
  have k3 : tile t = 3 := Fin.ext (by dsimp only [tile]; show _ = 3; omega)
  have x : ∀ s : Fin cfg0.N, s.val / 4 = t.val / 4 → colX s i = colX t i := fun s h => Fin.ext (by simp only [colX, h])
  have d : ∀ s : Fin cfg0.N, s.val / 4 = t.val / 4 → colD s j = colD t j := fun s h => Fin.ext (by simp only [colD, h])
  rw [k0, k1, k2, k3, x ⟨t.val - 1 - 1 - 1, by omega⟩ (by dsimp only; omega), x ⟨t.val - 1 - 1, by omega⟩ (by dsimp only; omega), x ⟨t.val - 1, by omega⟩ (by dsimp only; omega),
    d ⟨t.val - 1 - 1 - 1, by omega⟩ (by dsimp only; omega), d ⟨t.val - 1 - 1, by omega⟩ (by dsimp only; omega), d ⟨t.val - 1, by omega⟩ (by dsimp only; omega)]

/-- The gradient, laid out as the call lays it out. -/
abbrev G : S2048x1024.Idx → EReal := mat (X m c) (D m c)

theorem emb (i : Fin 1024) (j : Fin 1024) : ((cfg0.win 2).blk t).view.emb (ix2 i j) = ix2 (colX t i) (colD t j) := by
  blk_ext [idx t, colX, colD]

/-- The result array after the run is the gradient. -/
theorem result : (dats m 0 c).arrAt 2 cfg0.N = G m c := by
  refine (dats m 0 c).arrAt_eq_of_covers 2 _ (by decide +kernel) fun t hf y => ?_
  have h1 : t.val % 4 = 3 := (flush0_2 t).mp hf
  have hy : (outsAt0 m c t.val t.isLt).1 y = G m c (((cfg0.win 2).blk t).view.emb y) := by
    obtain ⟨i, j, rfl⟩ : ∃ (i : Fin 1024) (j : Fin 1024), y = ix2 i j := ⟨y 0, y 1, eq_ix2 y⟩
    rw [block_at m c t h1]
    erw [emb]
    rfl
  blk_simp
  rw [after0_2]
  exact hy

end

section
open Cert.Reference5Ideal Cert.Reference5Ideal.Gen
variable (m : (ℓ : Loc nD τ sig) → Buf (Elt Ideal) ℓ) (c : Dev nD)

/-- The reference's input and cotangent. -/
abbrev RX : Shape.Idx ⟨2, ![8192, 2048]⟩ → EReal := m ((c.tc : Thread nD τ).loc main_arg0)
abbrev RD : Shape.Idx ⟨2, ![8192, 1024]⟩ → EReal := m ((c.tc : Thread nD τ).loc main_arg2)

/-- The reference's result is the gradient. -/
theorem reference (y : S2048x1024.Idx) : (truncf .bf16 (transpose S2048x1024 [1, 0] (Host.dotGeneral dot_S8192x1024_S8192x2048_S1024x2048_0_0_1_1_n_n none (extf .f32 (m ((c.tc : Thread nD τ).loc main_arg2)) bitsLt_bf16_f32) (extf .f32 (m ((c.tc : Thread nD τ).loc main_arg0)) bitsLt_bf16_f32)) transposes_S1024x2048_S2048x1024_1_0) bitsLt_bf16_f32 : FVec Ideal S2048x1024 .bf16) y
      = (mat (RX m c) (RD m c) : S2048x1024.Idx → EReal) y := by
  obtain ⟨i, j, rfl⟩ : ∃ (i : Fin 2048) (j : Fin 1024), y = ix2 i j := ⟨y 0, y 1, eq_ix2 y⟩
  pointwise [mat, grad]
  exact Finset.sum_congr rfl fun r _ => mul_comm _ _

end

/-- The reference terminates, leaves its arguments and every semaphore as they were. -/
theorem frameRef : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- From arguments that agree, the kernel and the reference leave the same gradient. -/
theorem algebraic : Cert.algebraic_Kernel5Ideal_Reference5Ideal := by
  intro m ρ m' ρ' _ hagree
  refine ⟨fun c => G m c, ?_, ?_⟩
  · exact (θ_run Cert.Kernel5Ideal.defs _ _).mono (fun _ h c => ⟨(h c).1.trans (result m c), (h c).2⟩)
      (Cert.Kernel5Ideal.Value.run_blocks (F := Ideal) m ρ)
  · refine (θ_run Cert.Reference5Ideal.defs _ _).mono (fun _ h c => ⟨(h c).1.trans ((funext fun y => reference m' c y).trans ?_), (h c).2⟩)
      (Cert.Reference5Ideal.Value.run (F := Ideal) m' ρ')
    obtain ⟨h0, -, h2⟩ := hagree c
    rw [RX, RD, h0, h2]

end Cert.GradSguOut
-- ==== Proof.GradSguIn.lean ====
/-
  The gradient of the gated MLP's input projection: the call `sgu_dwin` and the reference leave the same four shards.
-/
module

public import proofs.«01_k».proof.Defs
public import proofs.«01_k».proof.Proof.GradSum
public import proofs.«01_k».proof.Proof.Gen.Kernel6.Frame
public import proofs.«01_k».proof.Proof.Gen.Kernel6Ideal.Value
public import proofs.«01_k».proof.Proof.Gen.Reference6Ideal.Run
public import Idealize.ShloMosaic.Adequacy
public import Idealize.ShloMosaic.Lib.Pipeline.ValueKit
public import Idealize.ShloMosaic.Lib.Pipeline.ReadBack

@[expose] public section

set_option maxRecDepth 16384

noncomputable section

namespace Cert.GradSguIn

open Idealize.ShloMosaic Idealize.ShloMosaic.TcCoe Idealize.SL.Sem Cert.GradSum

section
open Cert.Kernel6Ideal Cert.Kernel6Ideal.Gen

/-- The accumulator starts at zero. -/
theorem start_at (i : Fin 1024) (j : Fin 1024) : (k0_pay1 (F := Ideal)) (ix2 i j) = 0 := by
  pointwise [k0_pay1]

/-- One point adds the product of its two blocks. -/
theorem step_at (acc : Vec Ideal S1024x1024 .f32) (a : Vec Ideal S2048x1024 .bf16) (b : Vec Ideal S2048x1024 .bf16) (i : Fin 1024) (j : Fin 1024) :
    k0_pay2 acc a b (ix2 i j) = acc (ix2 i j) + ∑ r : Fin 2048, a (ix2 r i) * b (ix2 r j) := by
  pointwise [k0_pay2]

variable (m : (ℓ : Loc nD τ sig) → Buf (Elt Ideal) ℓ) (c : Dev nD)

/-- The input and the cotangent. -/
abbrev X : Shape.Idx ⟨2, ![8192, 1024]⟩ → EReal := m ((c : Thread nD τ).loc main_arg0)
abbrev D : Shape.Idx ⟨2, ![8192, 4096]⟩ → EReal := m ((c : Thread nD τ).loc main_arg2)

theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

variable (t : Fin cfg0.N)

theorem lt_N : t.val < 16 := lt_of_lt_of_eq t.isLt (show cfg0.N = 16 from N_0)

/-- The tile of rows that a point takes, and the whole arrays' columns of its block's columns. -/
def tile : Fin 4 := ⟨t.val % 4, by omega⟩
def colX (i : Fin 1024) : Fin 1024 := ⟨(0) * 1024 + i.val, by have := lt_N t; omega⟩
def colD (j : Fin 1024) : Fin 4096 := ⟨(t.val / 4) * 1024 + j.val, by have := lt_N t; omega⟩

theorem read0 (r : Fin 2048) (i : Fin 1024) : iblk m c 0 t (ix2 r i) = X m c (ix2 (row (tile t) r) (colX t i)) := by
  blk_ext [iblk, V, idx t, row, tile, colX]

theorem read1 (r : Fin 2048) (j : Fin 1024) : iblk m c 1 t (ix2 r j) = D m c (ix2 (row (tile t) r) (colD t j)) := by
  blk_ext [iblk, V, idx t, row, tile, colD]

/-- What a point adds, from the two whole arrays. -/
theorem add_at (acc : Vec Ideal S1024x1024 .f32) (i : Fin 1024) (j : Fin 1024) :
    k0_pay2 acc (iblk m c 0 t) (iblk m c 1 t) (ix2 i j)
      = HAdd.hAdd (α := EReal) (acc (ix2 i j)) (part (X m c) (D m c) (tile t) (colX t i) (colD t j)) := by
  refine (step_at _ _ _ _ _).trans (congrArg (fun s : EReal => HAdd.hAdd (α := EReal) (acc (ix2 i j)) s) (Finset.sum_congr rfl fun r _ => ?_))
  rw [read0, read1]

/-- The accumulator after a first point, and after a middle one. -/
theorem first_at (h0 : t.val % 4 = 0) (i : Fin 1024) (j : Fin 1024) :
    (outsAt0 m c t.val t.isLt).2 (ix2 i j) = part (X m c) (D m c) (tile t) (colX t i) (colD t j) := by
  have e : k0_pay2 (k0_pay1 (F := Ideal)) (iblk m c 0 t) (iblk m c 1 t) (ix2 i j) = part (X m c) (D m c) (tile t) (colX t i) (colD t j) := by
    rw [add_at, start_at, zero_add]
  rw [outsAt0_A m c t h0 (by omega)]
  frame_out
  exact e

theorem mid_at (h0 : ¬t.val % 4 = 0) (h1 : ¬t.val % 4 = 3) (i : Fin 1024) (j : Fin 1024) :
    (outsAt0 m c t.val t.isLt).2 (ix2 i j)
      = HAdd.hAdd (α := EReal) ((outsAt0 m c (t.val - 1) (Nat.lt_of_le_of_lt (Nat.sub_le _ _) t.isLt)).2 (ix2 i j))
        (part (X m c) (D m c) (tile t) (colX t i) (colD t j)) := by
  rw [outsAt0_B m c t h0 h1]
  frame_out
  rw [read_unread_whole]
  exact add_at m c t _ i j

/-- What a last point writes. -/
theorem last_at (h1 : t.val % 4 = 3) (i : Fin 1024) (j : Fin 1024) :
    (outsAt0 m c t.val t.isLt).1 (ix3 0 i j)
      = HAdd.hAdd (α := EReal) ((outsAt0 m c (t.val - 1) (Nat.lt_of_le_of_lt (Nat.sub_le _ _) t.isLt)).2 (ix2 i j))
        (part (X m c) (D m c) (tile t) (colX t i) (colD t j)) := by
  have e : ∀ acc, k0_pay3 (k0_pay2 acc (iblk m c 0 t) (iblk m c 1 t)) (ix3 0 i j)
      = HAdd.hAdd (α := EReal) (acc (ix2 i j)) (part (X m c) (D m c) (tile t) (colX t i) (colD t j)) := fun acc => by
    rw [← add_at]
    pointwise [k0_pay3]
  rw [outsAt0_C m c t (by omega) h1]
  frame_out
  rw [read_unread_whole]
  exact e _

/-- The block a last point writes is the gradient's. -/
theorem block_at (h1 : t.val % 4 = 3) (i : Fin 1024) (j : Fin 1024) :
    (outsAt0 m c t.val t.isLt).1 (ix3 0 i j) = grad (X m c) (D m c) (colX t i) (colD t j) := by
  have hN := t.isLt
  rw [last_at m c t h1, mid_at m c ⟨t.val - 1, by omega⟩ (by dsimp only; omega) (by dsimp only; omega),
    mid_at m c ⟨t.val - 1 - 1, by omega⟩ (by dsimp only; omega) (by dsimp only; omega), first_at m c ⟨t.val - 1 - 1 - 1, by omega⟩ (by dsimp only; omega),
    ← grad_eq]
  have k0 : tile ⟨t.val - 1 - 1 - 1, by omega⟩ = 0 := Fin.ext (by dsimp only [tile]; show _ = 0; omega)
  have k1 : tile ⟨t.val - 1 - 1, by omega⟩ = 1 := Fin.ext (by dsimp only [tile]; show _ = 1; omega)
  have k2 : tile ⟨t.val - 1, by omega⟩ = 2 := Fin.ext (by dsimp only [tile]; show _ = 2; omega)
  have k3 : tile t = 3 := Fin.ext (by dsimp only [tile]; show _ = 3; omega)
  have x : ∀ s : Fin cfg0.N, s.val / 4 = t.val / 4 → colX s i = colX t i := fun s h => Fin.ext (by simp only [colX, h])
  have d : ∀ s : Fin cfg0.N, s.val / 4 = t.val / 4 → colD s j = colD t j := fun s h => Fin.ext (by simp only [colD, h])
  rw [k0, k1, k2, k3, x ⟨t.val - 1 - 1 - 1, by omega⟩ (by dsimp only; omega), x ⟨t.val - 1 - 1, by omega⟩ (by dsimp only; omega), x ⟨t.val - 1, by omega⟩ (by dsimp only; omega),
    d ⟨t.val - 1 - 1 - 1, by omega⟩ (by dsimp only; omega), d ⟨t.val - 1 - 1, by omega⟩ (by dsimp only; omega), d ⟨t.val - 1, by omega⟩ (by dsimp only; omega)]

/-- The gradient, laid out as the call lays it out. -/
abbrev G : S4x1024x1024.Idx → EReal := shards (w := 1024) (X m c) (D m c)

theorem emb (i : Fin 1024) (j : Fin 1024) : ((cfg0.win 2).blk t).view.emb (ix3 0 i j) = ix3 ⟨t.val / 4, by have := lt_N t; omega⟩ i j := by
  blk_ext [idx t, colX, colD]

/-- The result array after the run is the gradient. -/
theorem result : (dats m 0 c).arrAt 2 cfg0.N = G m c := by
  refine (dats m 0 c).arrAt_eq_of_covers 2 _ (by decide +kernel) fun t hf y => ?_
  have h1 : t.val % 4 = 3 := (flush0_2 t).mp hf
  have hy : (outsAt0 m c t.val t.isLt).1 y = G m c (((cfg0.win 2).blk t).view.emb y) := by
    obtain ⟨u, i, j, rfl⟩ : ∃ (u : Fin 1) (i : Fin 1024) (j : Fin 1024), y = ix3 u i j := ⟨y 0, y 1, y 2, eq_ix3 y⟩
    obtain rfl : u = 0 := Subsingleton.elim _ _
    rw [block_at m c t h1]
    erw [emb]
    exact congrArg (fun k => grad (X m c) (D m c) k _) (Fin.ext (by simp [colX]))
  blk_simp
  rw [after0_2]
  exact hy

end

section
open Cert.Reference6Ideal Cert.Reference6Ideal.Gen
variable (m : (ℓ : Loc nD τ sig) → Buf (Elt Ideal) ℓ) (c : Dev nD)

/-- The reference's input and cotangent. -/
abbrev RX : Shape.Idx ⟨2, ![8192, 1024]⟩ → EReal := m ((c.tc : Thread nD τ).loc main_arg0)
abbrev RD : Shape.Idx ⟨2, ![8192, 4096]⟩ → EReal := m ((c.tc : Thread nD τ).loc main_arg2)

/-- The reference's result is the gradient. -/
theorem reference (y : S4x1024x1024.Idx) : (transpose S4x1024x1024 [1, 0, 2] (shapeCast _ (truncf .bf16 (transpose S1024x4096 [1, 0] (Host.dotGeneral dot_S8192x4096_S8192x1024_S4096x1024_0_0_1_1_n_n none (extf .f32 (m ((c.tc : Thread nD τ).loc main_arg2)) bitsLt_bf16_f32) (extf .f32 (m ((c.tc : Thread nD τ).loc main_arg0)) bitsLt_bf16_f32)) transposes_S4096x1024_S1024x4096_1_0) bitsLt_bf16_f32) shapeCasts_S1024x4096_S1024x4x1024) transposes_S1024x4x1024_S4x1024x1024_1_0_2 : FVec Ideal S4x1024x1024 .bf16) y
      = (shards (w := 1024) (RX m c) (RD m c) : S4x1024x1024.Idx → EReal) y := by
  obtain ⟨p, i, j, rfl⟩ : ∃ (p : Fin 4) (i : Fin 1024) (j : Fin 1024), y = ix3 p i j := ⟨y 0, y 1, y 2, eq_ix3 y⟩
  pointwise [shards, grad]
  exact Finset.sum_congr rfl fun r _ => mul_comm _ _

end

/-- The reference terminates, leaves its arguments and every semaphore as they were. -/
theorem frameRef : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- From arguments that agree, the kernel and the reference leave the same gradient. -/
theorem algebraic : Cert.algebraic_Kernel6Ideal_Reference6Ideal := by
  intro m ρ m' ρ' _ hagree
  refine ⟨fun c => G m c, ?_, ?_⟩
  · exact (θ_run Cert.Kernel6Ideal.defs _ _).mono (fun _ h c => ⟨(h c).1.trans (result m c), (h c).2⟩)
      (Cert.Kernel6Ideal.Value.run_blocks (F := Ideal) m ρ)
  · refine (θ_run Cert.Reference6Ideal.defs _ _).mono (fun _ h c => ⟨(h c).1.trans ((funext fun y => reference m' c y).trans ?_), (h c).2⟩)
      (Cert.Reference6Ideal.Value.run (F := Ideal) m' ρ')
    obtain ⟨h0, -, h2⟩ := hagree c
    rw [RX, RD, h0, h2]

end Cert.GradSguIn
-- ==== Proof.GradFoxOut.lean ====
/-
  The gradient of the attention's output projection: the call `fox_dwout` and the reference leave the same matrix.
-/
module

public import proofs.«01_k».proof.Defs
public import proofs.«01_k».proof.Proof.GradSum
public import proofs.«01_k».proof.Proof.Gen.Kernel7.Frame
public import proofs.«01_k».proof.Proof.Gen.Kernel7Ideal.Value
public import proofs.«01_k».proof.Proof.Gen.Reference7Ideal.Run
public import Idealize.ShloMosaic.Adequacy
public import Idealize.ShloMosaic.Lib.Pipeline.ValueKit
public import Idealize.ShloMosaic.Lib.Pipeline.ReadBack

@[expose] public section

set_option maxRecDepth 16384

noncomputable section

namespace Cert.GradFoxOut

open Idealize.ShloMosaic Idealize.ShloMosaic.TcCoe Idealize.SL.Sem Cert.GradSum

section
open Cert.Kernel7Ideal Cert.Kernel7Ideal.Gen

/-- The accumulator starts at zero. -/
theorem start_at (i : Fin 1024) (j : Fin 1024) : (k0_pay1 (F := Ideal)) (ix2 i j) = 0 := by
  pointwise [k0_pay1]

/-- One point adds the product of its two blocks. -/
theorem step_at (acc : Vec Ideal S1024x1024 .f32) (a : Vec Ideal S2048x1024 .bf16) (b : Vec Ideal S2048x1024 .bf16) (i : Fin 1024) (j : Fin 1024) :
    k0_pay2 acc a b (ix2 i j) = acc (ix2 i j) + ∑ r : Fin 2048, a (ix2 r i) * b (ix2 r j) := by
  pointwise [k0_pay2]

variable (m : (ℓ : Loc nD τ sig) → Buf (Elt Ideal) ℓ) (c : Dev nD)

/-- The input and the cotangent. -/
abbrev X : Shape.Idx ⟨2, ![8192, 1024]⟩ → EReal := m ((c : Thread nD τ).loc main_arg0)
abbrev D : Shape.Idx ⟨2, ![8192, 1024]⟩ → EReal := m ((c : Thread nD τ).loc main_arg2)

theorem idx : ∀ t : Fin cfg0.N, win0_0.index t = ![t.val % 4, 0] ∧ win0_1.index t = ![t.val % 4, 0] ∧ win0_2.index t = ![0, 0] :=
  (by decide +kernel : ∀ t : Fin grid0.N, _)

variable (t : Fin cfg0.N)

theorem lt_N : t.val < 4 := lt_of_lt_of_eq t.isLt (show cfg0.N = 4 from N_0)

/-- The tile of rows that a point takes, and the whole arrays' columns of its block's columns. -/
def tile : Fin 4 := ⟨t.val % 4, by omega⟩
def colX (i : Fin 1024) : Fin 1024 := ⟨(0) * 1024 + i.val, by have := lt_N t; omega⟩
def colD (j : Fin 1024) : Fin 1024 := ⟨(0) * 1024 + j.val, by have := lt_N t; omega⟩

theorem read0 (r : Fin 2048) (i : Fin 1024) : iblk m c 0 t (ix2 r i) = X m c (ix2 (row (tile t) r) (colX t i)) := by
  blk_ext [iblk, V, idx t, row, tile, colX]

theorem read1 (r : Fin 2048) (j : Fin 1024) : iblk m c 1 t (ix2 r j) = D m c (ix2 (row (tile t) r) (colD t j)) := by
  blk_ext [iblk, V, idx t, row, tile, colD]

/-- What a point adds, from the two whole arrays. -/
theorem add_at (acc : Vec Ideal S1024x1024 .f32) (i : Fin 1024) (j : Fin 1024) :
    k0_pay2 acc (iblk m c 0 t) (iblk m c 1 t) (ix2 i j)
      = HAdd.hAdd (α := EReal) (acc (ix2 i j)) (part (X m c) (D m c) (tile t) (colX t i) (colD t j)) := by
  refine (step_at _ _ _ _ _).trans (congrArg (fun s : EReal => HAdd.hAdd (α := EReal) (acc (ix2 i j)) s) (Finset.sum_congr rfl fun r _ => ?_))
  rw [read0, read1]

/-- The accumulator after a first point, and after a middle one. -/
theorem first_at (h0 : t.val % 4 = 0) (i : Fin 1024) (j : Fin 1024) :
    (outsAt0 m c t.val t.isLt).2 (ix2 i j) = part (X m c) (D m c) (tile t) (colX t i) (colD t j) := by
  have e : k0_pay2 (k0_pay1 (F := Ideal)) (iblk m c 0 t) (iblk m c 1 t) (ix2 i j) = part (X m c) (D m c) (tile t) (colX t i) (colD t j) := by
    rw [add_at, start_at, zero_add]
  rw [outsAt0_A m c t h0 (by omega)]
  frame_out
  exact e

theorem mid_at (h0 : ¬t.val % 4 = 0) (h1 : ¬t.val % 4 = 3) (i : Fin 1024) (j : Fin 1024) :
    (outsAt0 m c t.val t.isLt).2 (ix2 i j)
      = HAdd.hAdd (α := EReal) ((outsAt0 m c (t.val - 1) (Nat.lt_of_le_of_lt (Nat.sub_le _ _) t.isLt)).2 (ix2 i j))
        (part (X m c) (D m c) (tile t) (colX t i) (colD t j)) := by
  rw [outsAt0_B m c t h0 h1]
  frame_out
  rw [read_unread_whole]
  exact add_at m c t _ i j

/-- What a last point writes. -/
theorem last_at (h1 : t.val % 4 = 3) (i : Fin 1024) (j : Fin 1024) :
    (outsAt0 m c t.val t.isLt).1 (ix2 i j)
      = HAdd.hAdd (α := EReal) ((outsAt0 m c (t.val - 1) (Nat.lt_of_le_of_lt (Nat.sub_le _ _) t.isLt)).2 (ix2 i j))
        (part (X m c) (D m c) (tile t) (colX t i) (colD t j)) := by
  have e : ∀ acc, k0_pay3 (k0_pay2 acc (iblk m c 0 t) (iblk m c 1 t)) (ix2 i j)
      = HAdd.hAdd (α := EReal) (acc (ix2 i j)) (part (X m c) (D m c) (tile t) (colX t i) (colD t j)) := fun acc => by
    rw [← add_at]
    pointwise [k0_pay3]
  rw [outsAt0_C m c t (by omega) h1]
  frame_out
  rw [read_unread_whole]
  exact e _

/-- The block a last point writes is the gradient's. -/
theorem block_at (h1 : t.val % 4 = 3) (i : Fin 1024) (j : Fin 1024) :
    (outsAt0 m c t.val t.isLt).1 (ix2 i j) = grad (X m c) (D m c) (colX t i) (colD t j) := by
  have hN := t.isLt
  rw [last_at m c t h1, mid_at m c ⟨t.val - 1, by omega⟩ (by dsimp only; omega) (by dsimp only; omega),
    mid_at m c ⟨t.val - 1 - 1, by omega⟩ (by dsimp only; omega) (by dsimp only; omega), first_at m c ⟨t.val - 1 - 1 - 1, by omega⟩ (by dsimp only; omega),
    ← grad_eq]
  have k0 : tile ⟨t.val - 1 - 1 - 1, by omega⟩ = 0 := Fin.ext (by dsimp only [tile]; show _ = 0; omega)
  have k1 : tile ⟨t.val - 1 - 1, by omega⟩ = 1 := Fin.ext (by dsimp only [tile]; show _ = 1; omega)
  have k2 : tile ⟨t.val - 1, by omega⟩ = 2 := Fin.ext (by dsimp only [tile]; show _ = 2; omega)
  have k3 : tile t = 3 := Fin.ext (by dsimp only [tile]; show _ = 3; omega)
  have x : ∀ s : Fin cfg0.N, s.val / 4 = t.val / 4 → colX s i = colX t i := fun s h => Fin.ext (by simp only [colX, h])
  have d : ∀ s : Fin cfg0.N, s.val / 4 = t.val / 4 → colD s j = colD t j := fun s h => Fin.ext (by simp only [colD, h])
  rw [k0, k1, k2, k3, x ⟨t.val - 1 - 1 - 1, by omega⟩ (by dsimp only; omega), x ⟨t.val - 1 - 1, by omega⟩ (by dsimp only; omega), x ⟨t.val - 1, by omega⟩ (by dsimp only; omega),
    d ⟨t.val - 1 - 1 - 1, by omega⟩ (by dsimp only; omega), d ⟨t.val - 1 - 1, by omega⟩ (by dsimp only; omega), d ⟨t.val - 1, by omega⟩ (by dsimp only; omega)]

/-- The gradient, laid out as the call lays it out. -/
abbrev G : S1024x1024.Idx → EReal := mat (X m c) (D m c)

theorem emb (i : Fin 1024) (j : Fin 1024) : ((cfg0.win 2).blk t).view.emb (ix2 i j) = ix2 (colX t i) (colD t j) := by
  blk_ext [idx t, colX, colD]

/-- The result array after the run is the gradient. -/
theorem result : (dats m 0 c).arrAt 2 cfg0.N = G m c := by
  refine (dats m 0 c).arrAt_eq_of_covers 2 _ (by decide +kernel) fun t hf y => ?_
  have h1 : t.val % 4 = 3 := (flush0_2 t).mp hf
  have hy : (outsAt0 m c t.val t.isLt).1 y = G m c (((cfg0.win 2).blk t).view.emb y) := by
    obtain ⟨i, j, rfl⟩ : ∃ (i : Fin 1024) (j : Fin 1024), y = ix2 i j := ⟨y 0, y 1, eq_ix2 y⟩
    rw [block_at m c t h1]
    erw [emb]
    rfl
  blk_simp
  rw [after0_2]
  exact hy

end

section
open Cert.Reference7Ideal Cert.Reference7Ideal.Gen
variable (m : (ℓ : Loc nD τ sig) → Buf (Elt Ideal) ℓ) (c : Dev nD)

/-- The reference's input and cotangent. -/
abbrev RX : Shape.Idx ⟨2, ![8192, 1024]⟩ → EReal := m ((c.tc : Thread nD τ).loc main_arg0)
abbrev RD : Shape.Idx ⟨2, ![8192, 1024]⟩ → EReal := m ((c.tc : Thread nD τ).loc main_arg2)

/-- The reference's result is the gradient. -/
theorem reference (y : S1024x1024.Idx) : (truncf .bf16 (transpose S1024x1024 [1, 0] (Host.dotGeneral dot_S8192x1024_S8192x1024_S1024x1024_0_0_1_1_n_n none (extf .f32 (m ((c.tc : Thread nD τ).loc main_arg2)) bitsLt_bf16_f32) (extf .f32 (m ((c.tc : Thread nD τ).loc main_arg0)) bitsLt_bf16_f32)) transposes_S1024x1024_S1024x1024_1_0) bitsLt_bf16_f32 : FVec Ideal S1024x1024 .bf16) y
      = (mat (RX m c) (RD m c) : S1024x1024.Idx → EReal) y := by
  obtain ⟨i, j, rfl⟩ : ∃ (i : Fin 1024) (j : Fin 1024), y = ix2 i j := ⟨y 0, y 1, eq_ix2 y⟩
  pointwise [mat, grad]
  exact Finset.sum_congr rfl fun r _ => mul_comm _ _

end

/-- The reference terminates, leaves its arguments and every semaphore as they were. -/
theorem frameRef : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- From arguments that agree, the kernel and the reference leave the same gradient. -/
theorem algebraic : Cert.algebraic_Kernel7Ideal_Reference7Ideal := by
  intro m ρ m' ρ' _ hagree
  refine ⟨fun c => G m c, ?_, ?_⟩
  · exact (θ_run Cert.Kernel7Ideal.defs _ _).mono (fun _ h c => ⟨(h c).1.trans (result m c), (h c).2⟩)
      (Cert.Kernel7Ideal.Value.run_blocks (F := Ideal) m ρ)
  · refine (θ_run Cert.Reference7Ideal.defs _ _).mono (fun _ h c => ⟨(h c).1.trans ((funext fun y => reference m' c y).trans ?_), (h c).2⟩)
      (Cert.Reference7Ideal.Value.run (F := Ideal) m' ρ')
    obtain ⟨h0, -, h2⟩ := hagree c
    rw [RX, RD, h0, h2]

end Cert.GradFoxOut
-- ==== Proof.GradFoxIn.lean ====
/-
  The gradient of the attention's input projection: the call `fox_dwin` and the reference leave the same matrix.
-/
module

public import proofs.«01_k».proof.Defs
public import proofs.«01_k».proof.Proof.GradSum
public import proofs.«01_k».proof.Proof.Gen.Kernel8.Frame
public import proofs.«01_k».proof.Proof.Gen.Kernel8Ideal.Value
public import proofs.«01_k».proof.Proof.Gen.Reference8Ideal.Run
public import Idealize.ShloMosaic.Adequacy
public import Idealize.ShloMosaic.Lib.Pipeline.ValueKit
public import Idealize.ShloMosaic.Lib.Pipeline.ReadBack

@[expose] public section

set_option maxRecDepth 16384

noncomputable section

namespace Cert.GradFoxIn

open Idealize.ShloMosaic Idealize.ShloMosaic.TcCoe Idealize.SL.Sem Cert.GradSum

section
open Cert.Kernel8Ideal Cert.Kernel8Ideal.Gen

/-- The accumulator starts at zero. -/
theorem start_at (i : Fin 1024) (j : Fin 1408) : (k0_pay1 (F := Ideal)) (ix2 i j) = 0 := by
  pointwise [k0_pay1]

/-- One point adds the product of its two blocks. -/
theorem step_at (acc : Vec Ideal S1024x1408 .f32) (a : Vec Ideal S2048x1024 .bf16) (b : Vec Ideal S2048x1408 .bf16) (i : Fin 1024) (j : Fin 1408) :
    k0_pay2 acc a b (ix2 i j) = acc (ix2 i j) + ∑ r : Fin 2048, a (ix2 r i) * b (ix2 r j) := by
  pointwise [k0_pay2]

variable (m : (ℓ : Loc nD τ sig) → Buf (Elt Ideal) ℓ) (c : Dev nD)

/-- The input and the cotangent. -/
abbrev X : Shape.Idx ⟨2, ![8192, 1024]⟩ → EReal := m ((c : Thread nD τ).loc main_arg0)
abbrev D : Shape.Idx ⟨2, ![8192, 4224]⟩ → EReal := m ((c : Thread nD τ).loc main_arg2)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

variable (t : Fin cfg0.N)

theorem lt_N : t.val < 12 := lt_of_lt_of_eq t.isLt (show cfg0.N = 12 from N_0)

/-- The tile of rows that a point takes, and the whole arrays' columns of its block's columns. -/
def tile : Fin 4 := ⟨t.val % 4, by omega⟩
def colX (i : Fin 1024) : Fin 1024 := ⟨(0) * 1024 + i.val, by have := lt_N t; omega⟩
def colD (j : Fin 1408) : Fin 4224 := ⟨(t.val / 4) * 1408 + j.val, by have := lt_N t; omega⟩

theorem read0 (r : Fin 2048) (i : Fin 1024) : iblk m c 0 t (ix2 r i) = X m c (ix2 (row (tile t) r) (colX t i)) := by
  blk_ext [iblk, V, idx t, row, tile, colX]

theorem read1 (r : Fin 2048) (j : Fin 1408) : iblk m c 1 t (ix2 r j) = D m c (ix2 (row (tile t) r) (colD t j)) := by
  blk_ext [iblk, V, idx t, row, tile, colD]

/-- What a point adds, from the two whole arrays. -/
theorem add_at (acc : Vec Ideal S1024x1408 .f32) (i : Fin 1024) (j : Fin 1408) :
    k0_pay2 acc (iblk m c 0 t) (iblk m c 1 t) (ix2 i j)
      = HAdd.hAdd (α := EReal) (acc (ix2 i j)) (part (X m c) (D m c) (tile t) (colX t i) (colD t j)) := by
  refine (step_at _ _ _ _ _).trans (congrArg (fun s : EReal => HAdd.hAdd (α := EReal) (acc (ix2 i j)) s) (Finset.sum_congr rfl fun r _ => ?_))
  rw [read0, read1]

/-- The accumulator after a first point, and after a middle one. -/
theorem first_at (h0 : t.val % 4 = 0) (i : Fin 1024) (j : Fin 1408) :
    (outsAt0 m c t.val t.isLt).2 (ix2 i j) = part (X m c) (D m c) (tile t) (colX t i) (colD t j) := by
  have e : k0_pay2 (k0_pay1 (F := Ideal)) (iblk m c 0 t) (iblk m c 1 t) (ix2 i j) = part (X m c) (D m c) (tile t) (colX t i) (colD t j) := by
    rw [add_at, start_at, zero_add]
  rw [outsAt0_A m c t h0 (by omega)]
  frame_out
  exact e

theorem mid_at (h0 : ¬t.val % 4 = 0) (h1 : ¬t.val % 4 = 3) (i : Fin 1024) (j : Fin 1408) :
    (outsAt0 m c t.val t.isLt).2 (ix2 i j)
      = HAdd.hAdd (α := EReal) ((outsAt0 m c (t.val - 1) (Nat.lt_of_le_of_lt (Nat.sub_le _ _) t.isLt)).2 (ix2 i j))
        (part (X m c) (D m c) (tile t) (colX t i) (colD t j)) := by
  rw [outsAt0_B m c t h0 h1]
  frame_out
  rw [read_unread_whole]
  exact add_at m c t _ i j

/-- What a last point writes. -/
theorem last_at (h1 : t.val % 4 = 3) (i : Fin 1024) (j : Fin 1408) :
    (outsAt0 m c t.val t.isLt).1 (ix2 i j)
      = HAdd.hAdd (α := EReal) ((outsAt0 m c (t.val - 1) (Nat.lt_of_le_of_lt (Nat.sub_le _ _) t.isLt)).2 (ix2 i j))
        (part (X m c) (D m c) (tile t) (colX t i) (colD t j)) := by
  have e : ∀ acc, k0_pay3 (k0_pay2 acc (iblk m c 0 t) (iblk m c 1 t)) (ix2 i j)
      = HAdd.hAdd (α := EReal) (acc (ix2 i j)) (part (X m c) (D m c) (tile t) (colX t i) (colD t j)) := fun acc => by
    rw [← add_at]
    pointwise [k0_pay3]
  rw [outsAt0_C m c t (by omega) h1]
  frame_out
  rw [read_unread_whole]
  exact e _

/-- The block a last point writes is the gradient's. -/
theorem block_at (h1 : t.val % 4 = 3) (i : Fin 1024) (j : Fin 1408) :
    (outsAt0 m c t.val t.isLt).1 (ix2 i j) = grad (X m c) (D m c) (colX t i) (colD t j) := by
  have hN := t.isLt
  rw [last_at m c t h1, mid_at m c ⟨t.val - 1, by omega⟩ (by dsimp only; omega) (by dsimp only; omega),
    mid_at m c ⟨t.val - 1 - 1, by omega⟩ (by dsimp only; omega) (by dsimp only; omega), first_at m c ⟨t.val - 1 - 1 - 1, by omega⟩ (by dsimp only; omega),
    ← grad_eq]
  have k0 : tile ⟨t.val - 1 - 1 - 1, by omega⟩ = 0 := Fin.ext (by dsimp only [tile]; show _ = 0; omega)
  have k1 : tile ⟨t.val - 1 - 1, by omega⟩ = 1 := Fin.ext (by dsimp only [tile]; show _ = 1; omega)
  have k2 : tile ⟨t.val - 1, by omega⟩ = 2 := Fin.ext (by dsimp only [tile]; show _ = 2; omega)
  have k3 : tile t = 3 := Fin.ext (by dsimp only [tile]; show _ = 3; omega)
  have x : ∀ s : Fin cfg0.N, s.val / 4 = t.val / 4 → colX s i = colX t i := fun s h => Fin.ext (by simp only [colX, h])
  have d : ∀ s : Fin cfg0.N, s.val / 4 = t.val / 4 → colD s j = colD t j := fun s h => Fin.ext (by simp only [colD, h])
  rw [k0, k1, k2, k3, x ⟨t.val - 1 - 1 - 1, by omega⟩ (by dsimp only; omega), x ⟨t.val - 1 - 1, by omega⟩ (by dsimp only; omega), x ⟨t.val - 1, by omega⟩ (by dsimp only; omega),
    d ⟨t.val - 1 - 1 - 1, by omega⟩ (by dsimp only; omega), d ⟨t.val - 1 - 1, by omega⟩ (by dsimp only; omega), d ⟨t.val - 1, by omega⟩ (by dsimp only; omega)]

/-- The gradient, laid out as the call lays it out. -/
abbrev G : S1024x4224.Idx → EReal := mat (X m c) (D m c)

theorem emb (i : Fin 1024) (j : Fin 1408) : ((cfg0.win 2).blk t).view.emb (ix2 i j) = ix2 (colX t i) (colD t j) := by
  blk_ext [idx t, colX, colD]

/-- The result array after the run is the gradient. -/
theorem result : (dats m 0 c).arrAt 2 cfg0.N = G m c := by
  refine (dats m 0 c).arrAt_eq_of_covers 2 _ (by decide +kernel) fun t hf y => ?_
  have h1 : t.val % 4 = 3 := (flush0_2 t).mp hf
  have hy : (outsAt0 m c t.val t.isLt).1 y = G m c (((cfg0.win 2).blk t).view.emb y) := by
    obtain ⟨i, j, rfl⟩ : ∃ (i : Fin 1024) (j : Fin 1408), y = ix2 i j := ⟨y 0, y 1, eq_ix2 y⟩
    rw [block_at m c t h1]
    erw [emb]
    rfl
  blk_simp
  rw [after0_2]
  exact hy

end

section
open Cert.Reference8Ideal Cert.Reference8Ideal.Gen
variable (m : (ℓ : Loc nD τ sig) → Buf (Elt Ideal) ℓ) (c : Dev nD)

/-- The reference's input and cotangent. -/
abbrev RX : Shape.Idx ⟨2, ![8192, 1024]⟩ → EReal := m ((c.tc : Thread nD τ).loc main_arg0)
abbrev RD : Shape.Idx ⟨2, ![8192, 4224]⟩ → EReal := m ((c.tc : Thread nD τ).loc main_arg2)

/-- The reference's result is the gradient. -/
theorem reference (y : S1024x4224.Idx) : (truncf .bf16 (transpose S1024x4224 [1, 0] (Host.dotGeneral dot_S8192x4224_S8192x1024_S4224x1024_0_0_1_1_n_n none (extf .f32 (m ((c.tc : Thread nD τ).loc main_arg2)) bitsLt_bf16_f32) (extf .f32 (m ((c.tc : Thread nD τ).loc main_arg0)) bitsLt_bf16_f32)) transposes_S4224x1024_S1024x4224_1_0) bitsLt_bf16_f32 : FVec Ideal S1024x4224 .bf16) y
      = (mat (RX m c) (RD m c) : S1024x4224.Idx → EReal) y := by
  obtain ⟨i, j, rfl⟩ : ∃ (i : Fin 1024) (j : Fin 4224), y = ix2 i j := ⟨y 0, y 1, eq_ix2 y⟩
  pointwise [mat, grad]
  exact Finset.sum_congr rfl fun r _ => mul_comm _ _

end

/-- The reference terminates, leaves its arguments and every semaphore as they were. -/
theorem frameRef : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- From arguments that agree, the kernel and the reference leave the same gradient. -/
theorem algebraic : Cert.algebraic_Kernel8Ideal_Reference8Ideal := by
  intro m ρ m' ρ' _ hagree
  refine ⟨fun c => G m c, ?_, ?_⟩
  · exact (θ_run Cert.Kernel8Ideal.defs _ _).mono (fun _ h c => ⟨(h c).1.trans (result m c), (h c).2⟩)
      (Cert.Kernel8Ideal.Value.run_blocks (F := Ideal) m ρ)
  · refine (θ_run Cert.Reference8Ideal.defs _ _).mono (fun _ h c => ⟨(h c).1.trans ((funext fun y => reference m' c y).trans ?_), (h c).2⟩)
      (Cert.Reference8Ideal.Value.run (F := Ideal) m' ρ')
    obtain ⟨h0, -, h2⟩ := hagree c
    rw [RX, RD, h0, h2]

end Cert.GradFoxIn
-- ==== Proof.SguNormKernel.lean ====
/-
  THE GATED MLP'S NORM: THE KERNEL'S FIRST TWO RESULTS ARE THE SPECIFICATION'S.

  The launch takes 16 tiles of 512 rows. On each it multiplies the cotangent's four column quarters by the four quarters
  of the transposed weight and adds the products, which is the whole product of the tile's rows; from that and the rows'
  own sums it writes the tile of the gradient of `xp` (window 8) and of `y` (window 9). `arr8` and `arr9` say what the
  two whole arrays are at the end.
-/
module

public import proofs.«01_k».proof.Proof.NormSpec
public import proofs.«01_k».proof.Proof.Gen.Kernel9Ideal.Value
public import Idealize.ShloMosaic.Lib.Pipeline.ValueKit
public import Idealize.ShloMosaic.Lib.Pipeline.ReadBack

@[expose] public section

set_option maxRecDepth 16384

noncomputable section

namespace Cert.SguNormKernel

open Cert.Kernel9Ideal Cert.Kernel9Ideal.Gen Idealize.ShloMosaic Idealize.ShloMosaic.TcCoe Idealize.SL.Sem
open Idealize.ShloMosaic.Pipeline (Dat)
open Cert.NormRow Cert.NormSpec

/-! ## The body's steps, and each at an index -/

/-- The accumulator's start. -/
abbrev startP : FVec Ideal S8x1024 .f32 := k0_pay5
/-- The scaled rows. -/
abbrev xhP (x : Vec Ideal S512x1024 .f32) : FVec Ideal S512x1024 .f32 := k0_pay11 (k0_pay7 x) (k0_pay8 x) k0_pay9
/-- The row's gradient. -/
abbrev dxP (h : FVec Ideal S512x1024 .f32) (x : Vec Ideal S512x1024 .f32) (sc ng : Vec Ideal S1x1024 .f32) (ct : Vec Ideal S512x1024 .f32) : FVec Ideal S512x1024 .f32 :=
  k0_pay13 h (k0_pay7 x) (k0_pay8 x) k0_pay9 sc ng ct
/-- The three sums over rows. -/
abbrev shP (h : FVec Ideal S512x1024 .f32) (o : Vec Ideal S1x1024 .f32) : FVec Ideal S1x1024 .f32 := k0_pay14 h o
abbrev scP (h xh : FVec Ideal S512x1024 .f32) (o ng : Vec Ideal S1x1024 .f32) : FVec Ideal S1x1024 .f32 := k0_pay1 h xh (k0_pay15 o) (k0_pay16 ng)
abbrev ngP (xh dr : FVec Ideal S512x1024 .f32) (o : Vec Ideal S1x1024 .f32) : FVec Ideal S1x1024 .f32 := k0_pay2 xh dr o

theorem startP_apply (y : S8x1024.Idx) : startP y = 0 := by
  pointwise [startP, k0_pay5]

theorem xhP_apply (x : Vec Ideal S512x1024 .f32) (i : Fin 512) (j : Fin 1024) :
    xhP x (ix2 i j) = x (ix2 i j) * rs (fun k => x (ix2 i k)) := by
  pointwise [xhP, k0_pay11, k0_pay10, k0_pay9, k0_pay8, k0_pay7, rs, ms]

theorem shP_apply (h : FVec Ideal S512x1024 .f32) (o : Vec Ideal S1x1024 .f32) (j : Fin 1024) :
    shP h o (ix2 0 j) = o (ix2 0 j) + ∑ i : Fin 512, h (ix2 i j) := by
  pointwise [shP, k0_pay14]

theorem scP_apply (h xh : FVec Ideal S512x1024 .f32) (o ng : Vec Ideal S1x1024 .f32) (j : Fin 1024) :
    scP h xh o ng (ix2 0 j) = o (ix2 0 j) + ∑ i : Fin 512, h (ix2 i j) * (xh (ix2 i j) * ng (ix2 0 j)) := by
  pointwise [scP, k0_pay1, k0_pay15, k0_pay16]

theorem ngP_apply (xh dr : FVec Ideal S512x1024 .f32) (o : Vec Ideal S1x1024 .f32) (j : Fin 1024) :
    ngP xh dr o (ix2 0 j) = o (ix2 0 j) + ∑ i : Fin 512, dr (ix2 i j) * xh (ix2 i j) := by
  pointwise [ngP, k0_pay2]

/-- The scaled cotangent. -/
abbrev drP (h : FVec Ideal S512x1024 .f32) (sc : Vec Ideal S1x1024 .f32) : FVec Ideal S512x1024 .f32 := k0_pay12 h sc
/-- The gradient of the mixer's output, and the fourth sum over rows. -/
abbrev dyP (dx : FVec Ideal S512x1024 .f32) (g : Vec Ideal S1x1024 .f32) : FVec Ideal S512x1024 .bf16 := k0_pay3 dx g
abbrev gP (dx : FVec Ideal S512x1024 .f32) (o : Vec Ideal S1x1024 .f32) (y : Vec Ideal S512x1024 .bf16) : FVec Ideal S1x1024 .f32 := k0_pay4 dx o y

theorem drP_apply (h : FVec Ideal S512x1024 .f32) (sc : Vec Ideal S1x1024 .f32) (i : Fin 512) (j : Fin 1024) :
    drP h sc (ix2 i j) = h (ix2 i j) * (1 + sc (ix2 0 j)) := by
  pointwise [drP, k0_pay12]

theorem dxP_apply (h : FVec Ideal S512x1024 .f32) (x : Vec Ideal S512x1024 .f32) (sc ng : Vec Ideal S1x1024 .f32)
    (ct : Vec Ideal S512x1024 .f32) (i : Fin 512) (j : Fin 1024) :
    dxP h x sc ng ct (ix2 i j)
      = dxR (fun k => ct (ix2 i k)) (fun k => x (ix2 i k)) (fun k => h (ix2 i k)) (fun k => sc (ix2 0 k))
          (fun k => ng (ix2 0 k)) j := by
  rw [← dxK_eq_dxR]
  pointwise [dxP, k0_pay13, k0_pay12, k0_pay11, k0_pay10, k0_pay9, k0_pay8, k0_pay7, rs, ms, dxK, tt]

theorem dyP_apply (dx : FVec Ideal S512x1024 .f32) (g : Vec Ideal S1x1024 .f32) (i : Fin 512) (j : Fin 1024) :
    dyP dx g (ix2 i j) = dx (ix2 i j) * g (ix2 0 j) := by
  pointwise [dyP, k0_pay3]

theorem gP_apply (dx : FVec Ideal S512x1024 .f32) (o : Vec Ideal S1x1024 .f32) (y : Vec Ideal S512x1024 .bf16) (j : Fin 1024) :
    gP dx o y (ix2 0 j) = o (ix2 0 j) + ∑ i : Fin 512, dx (ix2 i j) * y (ix2 i j) := by
  pointwise [gP, k0_pay4]

/-- The cotangent of the product's left factor. -/
abbrev dhP (a0 : Vec Ideal S512x1024 .bf16) (w0 : Vec Ideal S1x1024x1024 .bf16) (a1 : Vec Ideal S512x1024 .bf16)
    (w1 : Vec Ideal S1x1024x1024 .bf16) (a2 : Vec Ideal S512x1024 .bf16) (w2 : Vec Ideal S1x1024x1024 .bf16)
    (a3 : Vec Ideal S512x1024 .bf16) (w3 : Vec Ideal S1x1024x1024 .bf16) : FVec Ideal S512x1024 .f32 := k0_pay6 a0 w0 a1 w1 a2 w2 a3 w3

theorem dhP_apply (a0 a1 a2 a3 : Vec Ideal S512x1024 .bf16) (w0 w1 w2 w3 : Vec Ideal S1x1024x1024 .bf16)
    (i : Fin 512) (j : Fin 1024) :
    dhP a0 w0 a1 w1 a2 w2 a3 w3 (ix2 i j)
      = (∑ q : Fin 1024, a0 (ix2 i q) * w0 (ix3 0 j q)) + (∑ q : Fin 1024, a1 (ix2 i q) * w1 (ix3 0 j q))
        + (∑ q : Fin 1024, a2 (ix2 i q) * w2 (ix3 0 j q)) + (∑ q : Fin 1024, a3 (ix2 i q) * w3 (ix3 0 j q)) := by
  pointwise [dhP, k0_pay6]

/-! ## The blocks read at an index -/

variable (m : (ℓ : Loc nD τ sig) → Buf (Elt Ideal) ℓ)

/-- The argument arrays of the launch. -/
def args (c : Dev nD) : Args 4096 where
  xp := m ((c : Thread nD τ).loc main_arg0)
  y := m ((c : Thread nD τ).loc main_arg1)
  g := m ((c : Thread nD τ).loc main_arg2)
  ng := m ((c : Thread nD τ).loc main_arg3)
  sc := m ((c : Thread nD τ).loc main_arg4)
  w := m ((c : Thread nD τ).loc main_arg6)
  ct := m ((c : Thread nD τ).loc main_arg7)
  a := m ((c : Thread nD τ).loc main_arg8)

theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![0, 0] :=
  (by decide +kernel : ∀ t : Fin grid0.N, _)

/-- Row `i` of the block of point `t`, as a row of the whole array. -/
def row (t : Fin cfg0.N) (i : Fin 512) : Fin 8192 :=
  ⟨t.val * 512 + i.val, by have := t.isLt; have hN : cfg0.N = 16 := N_0; have := i.isLt; omega⟩

variable (c : Dev nD) (t : Fin cfg0.N)

theorem read0 (i : Fin 512) (k : Fin 1024) : iblk m c 0 t (ix2 i k) = (args m c).X (row t i) k := by
  blk_simp [iblk]
  entry_read
  rw [show ((View.whole main_v3).slice (win0_0.rect t)).emb (ix2 i k) = ix2 (row t i) k from by blk_ext [idx t, row]]
  pointwise [Args.X, args]

theorem read1 (i : Fin 512) (q : Fin 4096) : iblk m c 1 t (ix2 i q) = (args m c).a (ix2 (row t i) q) := by
  blk_ext [iblk, V, idx t, args, row]

theorem read2 (p : Fin 4) (j : Fin 1024) (q : Fin 1024) :
    iblk m c 2 t (ix3 p j q) = (args m c).w (ix2 j ⟨p.val * 1024 + q.val, by omega⟩) := by
  blk_simp [iblk]
  entry_read
  rw [show ((View.whole main_v5).slice (win0_2.rect t)).emb (ix3 p j q) = ix3 p j q from by blk_ext [idx t]]
  pointwise [args]

theorem read3 (i : Fin 512) (k : Fin 1024) : iblk m c 3 t (ix2 i k) = (args m c).ct (ix2 (row t i) k) := by
  blk_ext [iblk, V, idx t, args, row]

theorem read4 (k : Fin 1024) : iblk m c 4 t (ix2 0 k) = (args m c).ng (ix2 0 k) := by
  blk_ext [iblk, V, idx t, args, row]

theorem read5 (k : Fin 1024) : iblk m c 5 t (ix2 0 k) = (args m c).sc (ix2 0 k) := by
  blk_ext [iblk, V, idx t, args, row]

theorem read6 (k : Fin 1024) : iblk m c 6 t (ix2 0 k) = (args m c).g (ix2 0 k) := by
  blk_ext [iblk, V, idx t, args, row]

theorem read7 (i : Fin 512) (k : Fin 1024) : iblk m c 7 t (ix2 i k) = (args m c).y (ix2 (row t i) k) := by
  blk_ext [iblk, V, idx t, args, row]

/-! ## The cotangent of the product's left factor, block by block -/

/-- A load of 1024 columns of window 1 reads the argument. -/
theorem ld1 (o : Nat) (ho : o + 1024 ≤ 4096)
    (h : ∀ a, (![0, o] : Fin 2 → Nat) a + (![512, 1024] : Fin 2 → Nat) a ≤ S512x4096.size a) (i : Fin 512) (q : Fin 1024)
    (l : Fin 4096) (hl : l.val = o + q.val) :
    View.ld (iblk m c 1 t) (Rect.unit ![0, o] ![512, 1024] h) (ix2 i q)
      = (args m c).a (ix2 (row t i) l) := by
  rw [View.ld_unit_apply_of _ _ _ _ _ (ix2 i ⟨o + q.val, by omega⟩) fun a => by fin_cases a <;> simp [ix2], read1]
  exact congrArg (fun l => (args m c).a (ix2 (row t i) l)) (Fin.ext hl.symm)

/-- The load of member `p` of window 2 reads the argument. -/
theorem ld2 (p : Nat) (hp : p < 4)
    (h : ∀ a, (![p, 0, 0] : Fin 3 → Nat) a + (![1, 1024, 1024] : Fin 3 → Nat) a ≤ S4x1024x1024.size a) (j : Fin 1024) (q : Fin 1024)
    (l : Fin 4096) (hl : l.val = p * 1024 + q.val) :
    View.ld (iblk m c 2 t) (Rect.unit ![p, 0, 0] ![1, 1024, 1024] h) (ix3 0 j q)
      = (args m c).w (ix2 j l) := by
  rw [View.ld_unit_apply_of _ _ _ _ _ (ix3 ⟨p, hp⟩ j q) fun a => by fin_cases a <;> simp [ix3], read2]
  exact congrArg (fun l => (args m c).w (ix2 j l)) (Fin.ext hl.symm)

/-- A sum over 4096 places is the sum of its four quarters. -/
theorem sum_quarters (f : Fin 4096 → EReal) :
    ∑ l, f l = (∑ q : Fin 1024, f ⟨q.val, by omega⟩) + (∑ q : Fin 1024, f ⟨1024 + q.val, by omega⟩)
      + (∑ q : Fin 1024, f ⟨2048 + q.val, by omega⟩) + (∑ q : Fin 1024, f ⟨3072 + q.val, by omega⟩) := by
  rw [show (∑ l, f l) = _ from Fin.sum_univ_add (a := 3072) (b := 1024) f, Fin.sum_univ_add (a := 2048) (b := 1024),
    Fin.sum_univ_add (a := 1024) (b := 1024)]
  rfl

/-- The block's cotangent of the product's left factor, as the body computes it: four products summed. -/
abbrev dhB : FVec Ideal S512x1024 .f32 :=
  dhP (View.ld (iblk m c 1 t) (Rect.unit ![0, 0] ![512, 1024] inb_S512x4096_S512x1024_0_0)) (View.ld (iblk m c 2 t) (Rect.unit ![0, 0, 0] ![1, 1024, 1024] inb_S4x1024x1024_S1x1024x1024_0_0_0))
    (View.ld (iblk m c 1 t) (Rect.unit ![0, 1024] ![512, 1024] inb_S512x4096_S512x1024_0_1024)) (View.ld (iblk m c 2 t) (Rect.unit ![1, 0, 0] ![1, 1024, 1024] inb_S4x1024x1024_S1x1024x1024_1_0_0))
    (View.ld (iblk m c 1 t) (Rect.unit ![0, 2048] ![512, 1024] inb_S512x4096_S512x1024_0_2048)) (View.ld (iblk m c 2 t) (Rect.unit ![2, 0, 0] ![1, 1024, 1024] inb_S4x1024x1024_S1x1024x1024_2_0_0))
    (View.ld (iblk m c 1 t) (Rect.unit ![0, 3072] ![512, 1024] inb_S512x4096_S512x1024_0_3072)) (View.ld (iblk m c 2 t) (Rect.unit ![3, 0, 0] ![1, 1024, 1024] inb_S4x1024x1024_S1x1024x1024_3_0_0))

theorem dhB_apply (i : Fin 512) (j : Fin 1024) : dhB m c t (ix2 i j) = (args m c).H (row t i) j := by
  rw [dhB, dhP_apply, Args.H, sum_quarters]
  refine congrArg₂ (· + ·) (congrArg₂ (· + ·) (congrArg₂ (· + ·) ?_ ?_) ?_) ?_
  all_goals
    refine Finset.sum_congr rfl fun q _ => ?_
    exact congrArg₂ (· * ·) (ld1 m c t _ (by omega) _ i q _ (by first | rfl | (dsimp only; omega)))
      (ld2 m c t _ (by omega) _ j q _ (by first | rfl | (dsimp only; omega)))

/-- The block's gradient of `xp`, as the body computes it. -/
abbrev dxB : FVec Ideal S512x1024 .f32 :=
  dxP (dhB m c t) (iblk m c 0 t) (iblk m c 5 t) (iblk m c 4 t) (iblk m c 3 t)

theorem dxB_apply (i : Fin 512) (j : Fin 1024) : dxB m c t (ix2 i j) = (args m c).DX (row t i) j := by
  rw [dxB, dxP_apply, Args.DX]
  simp only [dhB_apply, read0, read3, read4, read5]

/-! ## The two arrays written block by block -/

theorem emb8 (i : Fin 512) (j : Fin 1024) : ((cfg0.win 8).blk t).view.emb (ix2 i j) = ix2 (row t i) j := by
  blk_ext [idx t, row]

theorem emb9 (i : Fin 512) (j : Fin 1024) : ((cfg0.win 9).blk t).view.emb (ix2 i j) = ix2 (row t i) j := by
  blk_ext [idx t, row]

/-- The first result array after the run: the gradient of `xp`. -/
theorem arr8 : (dats m 0 c).arrAt 8 cfg0.N = (args m c).dx := by
  refine (dats m 0 c).arrAt_eq_of_covers 8 _ (by decide +kernel) fun t hf y => ?_
  have hy : ∀ y : S512x1024.Idx, dxB m c t y = (args m c).dx (((cfg0.win 8).blk t).view.emb y) := by
    intro y
    obtain ⟨i, j, rfl⟩ : ∃ (i : Fin 512) (j : Fin 1024), y = ix2 i j := ⟨y 0, y 1, eq_ix2 y⟩
    rw [dxB_apply]
    erw [emb8]
    rfl
  have hy := hy y
  blk_simp
  rw [after0_8]
  by_cases h0 : t.val % 16 = 0
  · rw [outsAt0_A m c t h0]
    frame_out
    exact hy
  · rw [outsAt0_B m c t h0]
    frame_out
    exact hy

/-- The second result array after the run: the gradient of `y`. -/
theorem arr9 : (dats m 0 c).arrAt 9 cfg0.N = (args m c).dy := by
  refine (dats m 0 c).arrAt_eq_of_covers 9 _ (by decide +kernel) fun t hf y => ?_
  have hy : ∀ y : S512x1024.Idx, dyP (dxB m c t) (iblk m c 6 t) y = (args m c).dy (((cfg0.win 9).blk t).view.emb y) := by
    intro y
    obtain ⟨i, j, rfl⟩ : ∃ (i : Fin 512) (j : Fin 1024), y = ix2 i j := ⟨y 0, y 1, eq_ix2 y⟩
    rw [dyP_apply, dxB_apply, read6]
    erw [emb9]
    rfl
  have hy := hy y
  blk_simp
  rw [after0_9]
  by_cases h0 : t.val % 16 = 0
  · rw [outsAt0_A m c t h0]
    frame_out
    exact hy
  · rw [outsAt0_B m c t h0]
    frame_out
    exact hy

end Cert.SguNormKernel
-- ==== Proof.SguNormRed.lean ====
module

public import proofs.«01_k».proof.Proof.SguNormKernel
public import Idealize.ShloMosaic.Lib.Pipeline.ValueKit
public import Idealize.ShloMosaic.Lib.Pipeline.ReadBack

@[expose] public section

set_option maxRecDepth 16384

noncomputable section

namespace Cert.SguNormKernel

open Cert.Kernel9Ideal Cert.Kernel9Ideal.Gen Idealize.ShloMosaic Idealize.ShloMosaic.TcCoe Idealize.SL.Sem
open Idealize.ShloMosaic.Pipeline (Dat)
open Cert.NormRow Cert.NormSpec

variable (m : (ℓ : Loc nD τ sig) → Buf (Elt Ideal) ℓ) (c : Dev nD) (t : Fin cfg0.N)

/-! ## The reduced rows, accumulated over the grid -/

/-- Four rows written over a list of writes, read at an index. -/
theorem rows_read {κ : Kind} {sp : Space} (v : View sig κ sp S8x1024 .f32) (f : v.ty.Contents (Elt Ideal))
    (p0 p1 p2 p3 : FVec Ideal S1x1024 .f32) (L : List (View.Piece (Elt Ideal) S8x1024 .f32)) (r : Fin 8) (j : Fin 1024) :
    v.read (Elt Ideal) (v.writes (Elt Ideal) f
      (⟨Rect.unit ![3, 0] ![1, 1024] inb_S8x1024_S1x1024_3_0, p3⟩ :: ⟨Rect.unit ![2, 0] ![1, 1024] inb_S8x1024_S1x1024_2_0, p2⟩
        :: ⟨Rect.unit ![1, 0] ![1, 1024] inb_S8x1024_S1x1024_1_0, p1⟩
        :: ⟨Rect.unit ![0, 0] ![1, 1024] inb_S8x1024_S1x1024_0_0, p0⟩ :: L)) (ix2 r j)
      = if r.val = 0 then p0 (ix2 0 j) else if r.val = 1 then p1 (ix2 0 j) else if r.val = 2 then p2 (ix2 0 j)
        else if r.val = 3 then p3 (ix2 0 j) else v.read (Elt Ideal) (v.writes (Elt Ideal) f L) (ix2 r j) := by
  by_cases h3 : r.val = 3
  · rw [View.read_writes_cons_hit_of_coords _ _ _ _ _ (ix2 0 j) _ fun a => by fin_cases a <;> simp [ix2, h3]]
    simp [h3]
  rw [View.read_writes_cons_miss_of_axis _ _ _ _ _ (0 : Fin 2) 3 1 rfl rfl rfl (by simp [ix2]; omega)]
  by_cases h2 : r.val = 2
  · rw [View.read_writes_cons_hit_of_coords _ _ _ _ _ (ix2 0 j) _ fun a => by fin_cases a <;> simp [ix2, h2]]
    simp [h2]
  rw [View.read_writes_cons_miss_of_axis _ _ _ _ _ (0 : Fin 2) 2 1 rfl rfl rfl (by simp [ix2]; omega)]
  by_cases h1 : r.val = 1
  · rw [View.read_writes_cons_hit_of_coords _ _ _ _ _ (ix2 0 j) _ fun a => by fin_cases a <;> simp [ix2, h1]]
    simp [h1]
  rw [View.read_writes_cons_miss_of_axis _ _ _ _ _ (0 : Fin 2) 1 1 rfl rfl rfl (by simp [ix2]; omega)]
  by_cases h0 : r.val = 0
  · rw [View.read_writes_cons_hit_of_coords _ _ _ _ _ (ix2 0 j) _ fun a => by fin_cases a <;> simp [ix2, h0]]
    simp [h0]
  rw [View.read_writes_cons_miss_of_axis _ _ _ _ _ (0 : Fin 2) 0 1 rfl rfl rfl (by simp [ix2]; omega)]
  simp [h0, h1, h2, h3]

/-- One point adds to every place the terms of its 512 rows. -/
theorem rows_step {κ : Kind} {sp : Space} (v : View sig κ sp S8x1024 .f32) (f : v.ty.Contents (Elt Ideal))
    (L : List (View.Piece (Elt Ideal) S8x1024 .f32)) (o : FVec Ideal S8x1024 .f32) (l0 l1 l2 l3 : FVec Ideal S1x1024 .f32)
    (h0 : ∀ j, l0 (ix2 0 j) = o (ix2 0 j)) (h1 : ∀ j, l1 (ix2 0 j) = o (ix2 1 j)) (h2 : ∀ j, l2 (ix2 0 j) = o (ix2 2 j))
    (h3 : ∀ j, l3 (ix2 0 j) = o (ix2 3 j)) (hb : ∀ y, v.read (Elt Ideal) (v.writes (Elt Ideal) f L) y = o y) (y : S8x1024.Idx) :
    v.read (Elt Ideal) (v.writes (Elt Ideal) f
      (⟨Rect.unit ![3, 0] ![1, 1024] inb_S8x1024_S1x1024_3_0, gP (dxB m c t) l3 (iblk m c 7 t)⟩
        :: ⟨Rect.unit ![2, 0] ![1, 1024] inb_S8x1024_S1x1024_2_0,
            ngP (xhP (iblk m c 0 t)) (drP (dhB m c t) (iblk m c 5 t)) l2⟩
        :: ⟨Rect.unit ![1, 0] ![1, 1024] inb_S8x1024_S1x1024_1_0,
            scP (dhB m c t) (xhP (iblk m c 0 t)) l1 (iblk m c 4 t)⟩
        :: ⟨Rect.unit ![0, 0] ![1, 1024] inb_S8x1024_S1x1024_0_0, shP (dhB m c t) l0⟩ :: L)) y
      = o y + ∑ i : Fin 512, (args m c).term (y 0) (row t i) (y 1) := by
  obtain ⟨r, j, rfl⟩ : ∃ r j, y = ix2 r j := ⟨y 0, y 1, eq_ix2 y⟩
  show _ = o (ix2 r j) + ∑ i : Fin 512, (args m c).term r (row t i) j
  rw [rows_read, hb]
  simp only [shP_apply, scP_apply, ngP_apply, gP_apply, xhP_apply, drP_apply, dhB_apply, dxB_apply, read0, read4,
    read5, read7, h0, h1, h2, h3]
  have e : ∀ k : Fin 8, r.val = k.val → ix2 (n1 := 1024) r j = ix2 k j := fun k h => by rw [Fin.ext h]
  by_cases c0 : r.val = 0
  · simp only [if_pos c0, e 0 c0, Args.term_0 _ c0]
  by_cases c1 : r.val = 1
  · simp only [if_neg c0, if_pos c1, e 1 c1, Args.term_1 _ c1]
  by_cases c2 : r.val = 2
  · simp only [if_neg c0, if_neg c1, if_pos c2, e 2 c2, Args.term_2 _ c2]
  by_cases c3 : r.val = 3
  · simp only [if_neg c0, if_neg c1, if_neg c2, if_pos c3, e 3 c3, Args.term_3 _ c3]
  simp only [if_neg c0, if_neg c1, if_neg c2, if_neg c3, Args.term_4 (r := r) _ (by omega), Finset.sum_const_zero, add_zero]

/-- A load of row `k` of the accumulator is that row. -/
theorem ld_row (o : FVec Ideal S8x1024 .f32) (k : Nat) (hk : k < 8)
    (h : ∀ a, (![k, 0] : Fin 2 → Nat) a + (![1, 1024] : Fin 2 → Nat) a ≤ S8x1024.size a) (j : Fin 1024) :
    View.ld (Val := Elt Ideal) (e' := .f32) o (Rect.unit (s := S8x1024) ![k, 0] ![1, 1024] h) (ix2 0 j) = o (ix2 ⟨k, hk⟩ j) :=
  View.ld_unit_apply_of _ _ _ _ _ _ fun a => by fin_cases a <;> simp [ix2]

/-- A write of the whole accumulator, read at an index. -/
theorem fill_read {κ : Kind} {sp : Space} (v : View sig κ sp S8x1024 .f32) (f : v.ty.Contents (Elt Ideal)) (y : S8x1024.Idx) :
    v.read (Elt Ideal) (v.writes (Elt Ideal) f [⟨Rect.unit ![0, 0] ![8, 1024] inb_S8x1024_S8x1024_0_0, startP⟩]) y
      = startP y :=
  View.read_writes_cons_hit_of_coords _ _ (Rect.unit (s := S8x1024) ![0, 0] ![8, 1024] inb_S8x1024_S8x1024_0_0) _ _ y y
    fun a => by
      show _ = (![0, 0] : Fin 2 → Nat) a + 1 * (y a).val
      fin_cases a <;> simp

/-- What the accumulator holds after the last point. -/
theorem acc (t : Fin cfg0.N) (ht : t.val + 1 = cfg0.N) (y : S8x1024.Idx) :
    (outsAt0 m c t.val t.isLt).2.2 y = 0 + ∑ p : Fin cfg0.N, ∑ i : Fin 512, (args m c).term (y 0) (row p i) (y 1) := by
  refine Pipeline.eq_sum_fin_of_reset_step_apply_last (fun n h => (outsAt0 m c n h).2.2) 16 (fun _ => (0 : EReal))
    (fun p y => ∑ i : Fin 512, (args m c).term (y 0) (row p i) (y 1)) (fun t h y => ?_) (fun t h y => ?_)
    (le_of_eq N_0) t ht y
  · rw [outsAt0_A m c t h]
    frame_open
    simp (disch := decide) only [↓ View.readCov_skip, ↓ View.readCov_cons_toLoadRect, ↓ View.readCov_fill]
    frame_out
    rw [← View.read_writes_junk_eq_canon (ms0_10 t).view]
    have key := rows_step m c t (ms0_10 t).view ((ms0_10 t).view.junk)
      [⟨Rect.unit ![0, 0] ![8, 1024] inb_S8x1024_S8x1024_0_0, startP⟩] (startP) _ _ _ _
      (ld_row _ 0 (by omega) inb_S8x1024_S1x1024_0_0) (ld_row _ 1 (by omega) inb_S8x1024_S1x1024_1_0)
      (ld_row _ 2 (by omega) inb_S8x1024_S1x1024_2_0) (ld_row _ 3 (by omega) inb_S8x1024_S1x1024_3_0)
      (fun y => fill_read _ _ y) y
    rw [startP_apply] at key
    exact key
  · rw [outsAt0_B m c t h]
    frame_out
    generalize (outsAt0 m c (t.val - 1) _).2.2 = o
    exact rows_step m c t (ms0_10 t).view _ [] o _ _ _ _
      (ld_row _ 0 (by omega) inb_S8x1024_S1x1024_0_0) (ld_row _ 1 (by omega) inb_S8x1024_S1x1024_1_0)
      (ld_row _ 2 (by omega) inb_S8x1024_S1x1024_2_0) (ld_row _ 3 (by omega) inb_S8x1024_S1x1024_3_0)
      (fun y => congrFun ((hs0_10 t).read_unread o) y) y

/-- The last grid point. -/
def tLast : Fin cfg0.N := ⟨15, by decide +kernel⟩

/-- The third result array after the run: the reduced rows. -/
theorem arr10 : (dats m 0 c).arrAt 10 cfg0.N = (args m c).red := by
  refine (dats m 0 c).arrAt_eq_of_after_last 10 tLast (by decide +kernel) _ fun j => ?_
  blk_simp
  rw [after0_10]
  refine (acc m c tLast rfl j).trans ?_
  rw [zero_add]
  refine Fin.sum_mul_add_congr fun t k hl => ?_
  rfl

end Cert.SguNormKernel
-- ==== Proof.SguNormRef.lean ====
/-
  THE REFERENCE'S RESULTS ARE THE SPECIFICATION'S. Each of its three composed terms, read at an index, is `Args.dx`,
  `Args.dy` and `Args.red` of the arguments.
-/
module

public import proofs.«01_k».proof.Proof.NormSpec
public import proofs.«01_k».proof.Proof.Gen.Reference9Ideal.Run

@[expose] public section

set_option maxRecDepth 16384

noncomputable section

namespace Cert.SguNormRef

open Cert.Reference9Ideal Cert.Reference9Ideal.Gen Cert.Reference9Ideal.Value Idealize.ShloMosaic Idealize.ShloMosaic.TcCoe
open Idealize.SL.Sem Cert.NormRow Cert.NormSpec

variable (m : (ℓ : Loc nD τ sig) → Buf (Elt Ideal) ℓ) (c : Dev nD)

/-- The argument arrays of the launch. -/
def args : Args 4096 where
  xp := m ((c.tc : Thread nD τ).loc main_arg0)
  y := m ((c.tc : Thread nD τ).loc main_arg1)
  g := m ((c.tc : Thread nD τ).loc main_arg2)
  ng := m ((c.tc : Thread nD τ).loc main_arg3)
  sc := m ((c.tc : Thread nD τ).loc main_arg4)
  w := m ((c.tc : Thread nD τ).loc main_arg6)
  ct := m ((c.tc : Thread nD τ).loc main_arg7)
  a := m ((c.tc : Thread nD τ).loc main_arg8)

/-- The first result, the gradient of `xp`. -/
theorem out0_apply (i : Fin 8192) (j : Fin 1024) : res_out0 m c (ix2 i j) = (args m c).DX i j := by
  pointwise [res_out0, res_main_v55, Args.DX, dxR, qq, tt, rs, ms, Args.X, Args.H, args]
  simp only [Fin.sum_univ_one]

/-- The second result, the gradient of `y`. -/
theorem out1_apply (i : Fin 8192) (j : Fin 1024) : res_out1 m c (ix2 i j) = (args m c).DX i j * (args m c).g (ix2 0 j) := by
  rw [mul_comm, ← out0_apply]
  pointwise [res_out1, res_main_v62, res_out0, res_main_v55, args]

theorem out0 : res_out0 m c = (args m c).dx := by
  funext y
  obtain ⟨i, j, rfl⟩ : ∃ (i : Fin 8192) (j : Fin 1024), y = ix2 i j := ⟨y 0, y 1, eq_ix2 y⟩
  exact out0_apply m c i j

theorem out1 : res_out1 m c = (args m c).dy := by
  funext y
  obtain ⟨i, j, rfl⟩ : ∃ (i : Fin 8192) (j : Fin 1024), y = ix2 i j := ⟨y 0, y 1, eq_ix2 y⟩
  exact out1_apply m c i j

/-- The third result, row by row. -/
theorem out2_apply (p : Fin 8) (j : Fin 1024) : res_out2 m c (ix2 p j) = ∑ i, (args m c).term p i j := by
  obtain ⟨p, hp⟩ := p
  have h0 : res_out2 m c (ix2 (0 : Fin 8) j) = ∑ i, (args m c).H i j := by
    pointwise [res_out2, res_main_v64, Args.H, args]
  have h1 : res_out2 m c (ix2 (1 : Fin 8) j)
      = ∑ i, (args m c).X i j * rs ((args m c).X i) * (args m c).ng (ix2 0 j) * (args m c).H i j := by
    pointwise [res_out2, res_main_v64, Args.X, rs, ms, Args.H, args]
  have h2 : res_out2 m c (ix2 (2 : Fin 8) j)
      = ∑ i, (args m c).X i j * rs ((args m c).X i) * ((args m c).H i j * (1 + (args m c).sc (ix2 0 j))) := by
    pointwise [res_out2, res_main_v64, Args.X, rs, ms, Args.H, args]
  have h3 : res_out2 m c (ix2 (3 : Fin 8) j) = ∑ i, (args m c).DX i j * (args m c).y (ix2 i j) := by
    have e : ∀ i, (args m c).DX i j = res_out0 m c (ix2 i j) := fun i => (out0_apply m c i j).symm
    simp only [e]
    pointwise [res_out2, res_main_v64, res_out0, res_main_v55, args]
  have h4 : ∀ q : Fin 8, 4 ≤ q.val → res_out2 m c (ix2 q j) = (0 : EReal) := by
    intro q hq
    obtain ⟨q, hq'⟩ := q
    obtain rfl | rfl | rfl | rfl : q = 4 ∨ q = 5 ∨ q = 6 ∨ q = 7 := by
      have : 4 ≤ q := hq
      omega
    · change res_out2 m c (ix2 (4 : Fin 8) j) = (0 : EReal)
      pointwise [res_out2, res_main_v64]
    · change res_out2 m c (ix2 (5 : Fin 8) j) = (0 : EReal)
      pointwise [res_out2, res_main_v64]
    · change res_out2 m c (ix2 (6 : Fin 8) j) = (0 : EReal)
      pointwise [res_out2, res_main_v64]
    · change res_out2 m c (ix2 (7 : Fin 8) j) = (0 : EReal)
      pointwise [res_out2, res_main_v64]
  by_cases hq : 4 ≤ p
  · refine (h4 ⟨p, hp⟩ hq).trans ?_
    exact (Finset.sum_eq_zero fun i _ => Args.term_4 _ hq i j).symm
  obtain rfl | rfl | rfl | rfl : p = 0 ∨ p = 1 ∨ p = 2 ∨ p = 3 := by omega
  · exact h0.trans (Finset.sum_congr (M := EReal) rfl fun i _ => (Args.term_0 _ rfl i j).symm)
  · exact h1.trans (Finset.sum_congr (M := EReal) rfl fun i _ => by rw [Args.term_1 _ rfl i j, mul_comm])
  · exact h2.trans (Finset.sum_congr (M := EReal) rfl fun i _ => by rw [Args.term_2 _ rfl i j, mul_comm])
  · exact h3.trans (Finset.sum_congr (M := EReal) rfl fun i _ => (Args.term_3 _ rfl i j).symm)

theorem out2 : res_out2 m c = (args m c).red := by
  funext y
  obtain ⟨i, j, rfl⟩ : ∃ (i : Fin 8) (j : Fin 1024), y = ix2 i j := ⟨y 0, y 1, eq_ix2 y⟩
  exact out2_apply m c i j

end Cert.SguNormRef
-- ==== Proof.SguNormClaims.lean ====
/-
  THE CLAIMS ON THE NORM'S BACKWARD PASS: the reference leaves its arguments alone, and the kernel and the reference leave
  the same three results, the specification's, from arguments that agree.
-/
module

public import proofs.«01_k».proof.Defs
public import proofs.«01_k».proof.Proof.Gen.Kernel9.Frame
public import proofs.«01_k».proof.Proof.SguNormRed
public import proofs.«01_k».proof.Proof.SguNormRef
public import Idealize.ShloMosaic.Adequacy

@[expose] public section

noncomputable section

namespace Cert.SguNormClaims

open Idealize.ShloMosaic Idealize.SL.Sem Cert.NormSpec

/-- The reference terminates, leaves its arguments and every semaphore as they were. -/
theorem frameRef : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- From arguments that agree, the kernel and the reference leave the same three arrays: the gradient of `xp`, the gradient
    of `y`, and the rows of the gradients of `sh`, `sc`, `ng` and `g`. -/
theorem algebraic : Cert.algebraic_Kernel9Ideal_Reference9Ideal := by
  intro m ρ m' ρ' _ hagree
  have same : ∀ c : Dev Cert.Kernel9Ideal.nD, SguNormRef.args m' c = SguNormKernel.args m c := fun c => by
    obtain ⟨h0, h1, h2, h3, h4, -, h6, h7, h8⟩ := hagree c
    rw [SguNormRef.args, SguNormKernel.args, h0, h1, h2, h3, h4, h6, h7, h8]
  refine ⟨fun c => (SguNormKernel.args m c).dx, fun c => (SguNormKernel.args m c).dy, fun c => (SguNormKernel.args m c).red, ?_, ?_⟩
  · exact (θ_run Cert.Kernel9Ideal.defs _ _).mono
      (fun _ h c => ⟨(h c).1.trans (SguNormKernel.arr8 m c), (h c).2.1.trans (SguNormKernel.arr9 m c),
        (h c).2.2.1.trans (SguNormKernel.arr10 m c), (h c).2.2.2⟩)
      (Cert.Kernel9Ideal.Value.run_blocks (F := Ideal) m ρ)
  · exact (θ_run Cert.Reference9Ideal.defs _ _).mono
      (fun _ h c => ⟨(h c).1.trans ((SguNormRef.out0 m' c).trans (congrArg Args.dx (same c))),
        (h c).2.1.trans ((SguNormRef.out1 m' c).trans (congrArg Args.dy (same c))),
        (h c).2.2.1.trans ((SguNormRef.out2 m' c).trans (congrArg Args.red (same c))), (h c).2.2.2⟩)
      (Cert.Reference9Ideal.Value.run (F := Ideal) m' ρ')

end Cert.SguNormClaims
-- ==== Proof.FoxNormKernel.lean ====
/-
  THE ATTENTION'S NORM: THE KERNEL'S FIRST RESULT IS THE SPECIFICATION'S.

  The launch takes 16 tiles of 512 rows. On each it multiplies the cotangent's three thirds of columns by those of the
  transposed weight and adds the products, which is the whole product of the tile's rows; from that and the rows' own sums
  it writes the tile of the gradient of the rows. `arr6` says what the whole array is at the end.
-/
module

public import proofs.«01_k».proof.Proof.NormSpec
public import proofs.«01_k».proof.Proof.Gen.Kernel10Ideal.Value
public import Idealize.ShloMosaic.Lib.Pipeline.ValueKit
public import Idealize.ShloMosaic.Lib.Pipeline.ReadBack

@[expose] public section

set_option maxRecDepth 16384

noncomputable section

namespace Cert.FoxNormKernel

open Cert.Kernel10Ideal Cert.Kernel10Ideal.Gen Idealize.ShloMosaic Idealize.ShloMosaic.TcCoe Idealize.SL.Sem
open Idealize.ShloMosaic.Pipeline (Dat)
open Cert.NormRow Cert.NormSpec

/-! ## The body's steps, and each at an index -/

/-- The accumulator's start. -/
abbrev startP : FVec Ideal S8x1024 .f32 := k0_pay2
/-- The scaled rows. -/
abbrev xhP (x : Vec Ideal S512x1024 .f32) : FVec Ideal S512x1024 .f32 := k0_pay5 x
/-- The three sums over rows. -/
abbrev shP (h : FVec Ideal S512x1024 .f32) (o : Vec Ideal S1x1024 .f32) : FVec Ideal S1x1024 .f32 := k0_pay8 h o
abbrev scP (h xh : FVec Ideal S512x1024 .f32) (o ng : Vec Ideal S1x1024 .f32) : FVec Ideal S1x1024 .f32 := k0_pay9 h xh o ng
abbrev ngP (xh dr : FVec Ideal S512x1024 .f32) (o : Vec Ideal S1x1024 .f32) : FVec Ideal S1x1024 .f32 := k0_pay1 (k0_pay10 o) (k0_pay11 xh dr)

theorem startP_apply (y : S8x1024.Idx) : startP y = 0 := by
  pointwise [startP, k0_pay2]

theorem xhP_apply (x : Vec Ideal S512x1024 .f32) (i : Fin 512) (j : Fin 1024) :
    xhP x (ix2 i j) = x (ix2 i j) * rs (fun k => x (ix2 i k)) := by
  pointwise [xhP, k0_pay5, k0_pay4, rs, ms]

theorem shP_apply (h : FVec Ideal S512x1024 .f32) (o : Vec Ideal S1x1024 .f32) (j : Fin 1024) :
    shP h o (ix2 0 j) = o (ix2 0 j) + ∑ i : Fin 512, h (ix2 i j) := by
  pointwise [shP, k0_pay8]

theorem scP_apply (h xh : FVec Ideal S512x1024 .f32) (o ng : Vec Ideal S1x1024 .f32) (j : Fin 1024) :
    scP h xh o ng (ix2 0 j) = o (ix2 0 j) + ∑ i : Fin 512, h (ix2 i j) * (xh (ix2 i j) * ng (ix2 0 j)) := by
  pointwise [scP, k0_pay9]

theorem ngP_apply (xh dr : FVec Ideal S512x1024 .f32) (o : Vec Ideal S1x1024 .f32) (j : Fin 1024) :
    ngP xh dr o (ix2 0 j) = o (ix2 0 j) + ∑ i : Fin 512, dr (ix2 i j) * xh (ix2 i j) := by
  pointwise [ngP, k0_pay1, k0_pay10, k0_pay11]

/-- The row's gradient, from the scaled rows' cotangent. -/
abbrev dxP (dr : FVec Ideal S512x1024 .f32) (x : Vec Ideal S512x1024 .f32) (ng : Vec Ideal S1x1024 .f32) (ct : Vec Ideal S512x1024 .f32) : FVec Ideal S512x1024 .f32 :=
  k0_pay7 (k0_pay4 x) (k0_pay5 x) dr ng ct

theorem dxP_apply (h dr : FVec Ideal S512x1024 .f32) (x : Vec Ideal S512x1024 .f32) (sc ng : Vec Ideal S1x1024 .f32)
    (ct : Vec Ideal S512x1024 .f32) (hd : ∀ i j, dr (ix2 i j) = h (ix2 i j) * (1 + sc (ix2 0 j))) (i : Fin 512) (j : Fin 1024) :
    dxP dr x ng ct (ix2 i j)
      = dxR (fun k => ct (ix2 i k)) (fun k => x (ix2 i k)) (fun k => h (ix2 i k)) (fun k => sc (ix2 0 k))
          (fun k => ng (ix2 0 k)) j := by
  rw [← dxK_eq_dxR]
  simp only [dxK, tt, ← hd]
  pointwise [dxP, k0_pay7, k0_pay5, k0_pay4, rs, ms]

/-- The cotangent of the product's left factor, and the same scaled. -/
abbrev dhP (a0 : Vec Ideal S512x1408 .bf16) (w0 : Vec Ideal S1024x1408 .bf16) (a1 : Vec Ideal S512x1408 .bf16)
    (w1 : Vec Ideal S1024x1408 .bf16) (a2 : Vec Ideal S512x1408 .bf16) (w2 : Vec Ideal S1024x1408 .bf16) : FVec Ideal S512x1024 .f32 :=
  k0_pay3 a0 w0 a1 w1 a2 w2
abbrev drP (a0 : Vec Ideal S512x1408 .bf16) (w0 : Vec Ideal S1024x1408 .bf16) (a1 : Vec Ideal S512x1408 .bf16)
    (w1 : Vec Ideal S1024x1408 .bf16) (a2 : Vec Ideal S512x1408 .bf16) (w2 : Vec Ideal S1024x1408 .bf16)
    (sc : Vec Ideal S1x1024 .f32) : FVec Ideal S512x1024 .f32 :=
  k0_pay6 a0 w0 a1 w1 a2 w2 sc

theorem dhP_apply (a0 : Vec Ideal S512x1408 .bf16) (w0 : Vec Ideal S1024x1408 .bf16) (a1 : Vec Ideal S512x1408 .bf16)
    (w1 : Vec Ideal S1024x1408 .bf16) (a2 : Vec Ideal S512x1408 .bf16) (w2 : Vec Ideal S1024x1408 .bf16) (i : Fin 512) (j : Fin 1024) :
    dhP a0 w0 a1 w1 a2 w2 (ix2 i j)
      = (∑ q : Fin 1408, a0 (ix2 i q) * w0 (ix2 j q)) + (∑ q : Fin 1408, a1 (ix2 i q) * w1 (ix2 j q))
        + (∑ q : Fin 1408, a2 (ix2 i q) * w2 (ix2 j q)) := by
  pointwise [dhP, k0_pay3]

theorem drP_apply (a0 : Vec Ideal S512x1408 .bf16) (w0 : Vec Ideal S1024x1408 .bf16) (a1 : Vec Ideal S512x1408 .bf16)
    (w1 : Vec Ideal S1024x1408 .bf16) (a2 : Vec Ideal S512x1408 .bf16) (w2 : Vec Ideal S1024x1408 .bf16)
    (sc : Vec Ideal S1x1024 .f32) (i : Fin 512) (j : Fin 1024) :
    drP a0 w0 a1 w1 a2 w2 sc (ix2 i j) = dhP a0 w0 a1 w1 a2 w2 (ix2 i j) * (1 + sc (ix2 0 j)) := by
  pointwise [drP, k0_pay6, k0_pay3]

/-! ## The blocks read at an index -/

variable (m : (ℓ : Loc nD τ sig) → Buf (Elt Ideal) ℓ)

/-- The argument arrays of the launch; nothing is added to the normed rows. -/
def args (c : Dev nD) : Args 4224 where
  xp := m ((c : Thread nD τ).loc main_arg0)
  y := fun _ => (0 : EReal)
  g := fun _ => (0 : EReal)
  ng := m ((c : Thread nD τ).loc main_arg1)
  sc := m ((c : Thread nD τ).loc main_arg2)
  w := m ((c : Thread nD τ).loc main_arg4)
  ct := m ((c : Thread nD τ).loc main_arg5)
  a := m ((c : Thread nD τ).loc main_arg6)

/-- The normed rows are the argument's. -/
theorem X_eq (c : Dev nD) (i : Fin 8192) (k : Fin 1024) : (args m c).X i k = (args m c).xp (ix2 i k) := by
  show HAdd.hAdd (α := EReal) ((args m c).xp (ix2 i k)) ((0 : EReal) * 0) = _
  rw [zero_mul, add_zero]

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0]
    ∧ win0_7.index t = ![0, 0] :=
  (by decide +kernel : ∀ t : Fin grid0.N, _)

/-- Row `i` of the block of point `t`, as a row of the whole array. -/
def row (t : Fin cfg0.N) (i : Fin 512) : Fin 8192 :=
  ⟨t.val * 512 + i.val, by have := t.isLt; have hN : cfg0.N = 16 := N_0; have := i.isLt; omega⟩

variable (c : Dev nD) (t : Fin cfg0.N)

theorem read0 (i : Fin 512) (k : Fin 1024) : iblk m c 0 t (ix2 i k) = (args m c).X (row t i) k := by
  rw [X_eq]
  blk_ext [iblk, V, idx t, args, row]

theorem read1 (i : Fin 512) (q : Fin 4224) : iblk m c 1 t (ix2 i q) = (args m c).a (ix2 (row t i) q) := by
  blk_ext [iblk, V, idx t, args, row]

theorem read2 (j : Fin 1024) (q : Fin 4224) : iblk m c 2 t (ix2 j q) = (args m c).w (ix2 j q) := by
  blk_ext [iblk, V, idx t, args, row]

theorem read3 (i : Fin 512) (k : Fin 1024) : iblk m c 3 t (ix2 i k) = (args m c).ct (ix2 (row t i) k) := by
  blk_ext [iblk, V, idx t, args, row]

theorem read4 (k : Fin 1024) : iblk m c 4 t (ix2 0 k) = (args m c).ng (ix2 0 k) := by
  blk_ext [iblk, V, idx t, args, row]

theorem read5 (k : Fin 1024) : iblk m c 5 t (ix2 0 k) = (args m c).sc (ix2 0 k) := by
  blk_ext [iblk, V, idx t, args, row]

/-! ## The cotangent of the product's left factor, block by block -/

/-- Loads of 1408 columns of windows 1 and 2 read the arguments. -/
theorem ld1 (o : Nat) (ho : o + 1408 ≤ 4224)
    (h : ∀ a, (![0, o] : Fin 2 → Nat) a + (![512, 1408] : Fin 2 → Nat) a ≤ S512x4224.size a) (i : Fin 512) (q : Fin 1408)
    (l : Fin 4224) (hl : l.val = o + q.val) :
    View.ld (iblk m c 1 t) (Rect.unit ![0, o] ![512, 1408] h) (ix2 i q)
      = (args m c).a (ix2 (row t i) l) := by
  rw [View.ld_unit_apply_of _ _ _ _ _ (ix2 i ⟨o + q.val, by omega⟩) fun a => by fin_cases a <;> simp [ix2], read1]
  exact congrArg (fun l => (args m c).a (ix2 (row t i) l)) (Fin.ext hl.symm)

theorem ld2 (o : Nat) (ho : o + 1408 ≤ 4224)
    (h : ∀ a, (![0, o] : Fin 2 → Nat) a + (![1024, 1408] : Fin 2 → Nat) a ≤ S1024x4224.size a) (j : Fin 1024) (q : Fin 1408)
    (l : Fin 4224) (hl : l.val = o + q.val) :
    View.ld (iblk m c 2 t) (Rect.unit ![0, o] ![1024, 1408] h) (ix2 j q)
      = (args m c).w (ix2 j l) := by
  rw [View.ld_unit_apply_of _ _ _ _ _ (ix2 j ⟨o + q.val, by omega⟩) fun a => by fin_cases a <;> simp [ix2], read2]
  exact congrArg (fun l => (args m c).w (ix2 j l)) (Fin.ext hl.symm)

/-- A sum over 4224 places is the sum of its three thirds. -/
theorem sum_thirds (f : Fin 4224 → EReal) :
    ∑ l, f l = (∑ q : Fin 1408, f ⟨q.val, by omega⟩) + (∑ q : Fin 1408, f ⟨1408 + q.val, by omega⟩)
      + (∑ q : Fin 1408, f ⟨2816 + q.val, by omega⟩) := by
  rw [show (∑ l, f l) = _ from Fin.sum_univ_add (a := 2816) (b := 1408) f, Fin.sum_univ_add (a := 1408) (b := 1408)]
  rfl

/-- The block's cotangent of the product's left factor, as the body computes it: three products summed; and the same scaled. -/
abbrev dhB : FVec Ideal S512x1024 .f32 :=
  dhP (View.ld (iblk m c 1 t) (Rect.unit ![0, 0] ![512, 1408] inb_S512x4224_S512x1408_0_0)) (View.ld (iblk m c 2 t) (Rect.unit ![0, 0] ![1024, 1408] inb_S1024x4224_S1024x1408_0_0))
    (View.ld (iblk m c 1 t) (Rect.unit ![0, 1408] ![512, 1408] inb_S512x4224_S512x1408_0_1408)) (View.ld (iblk m c 2 t) (Rect.unit ![0, 1408] ![1024, 1408] inb_S1024x4224_S1024x1408_0_1408))
    (View.ld (iblk m c 1 t) (Rect.unit ![0, 2816] ![512, 1408] inb_S512x4224_S512x1408_0_2816)) (View.ld (iblk m c 2 t) (Rect.unit ![0, 2816] ![1024, 1408] inb_S1024x4224_S1024x1408_0_2816))

abbrev drB : FVec Ideal S512x1024 .f32 :=
  drP (View.ld (iblk m c 1 t) (Rect.unit ![0, 0] ![512, 1408] inb_S512x4224_S512x1408_0_0)) (View.ld (iblk m c 2 t) (Rect.unit ![0, 0] ![1024, 1408] inb_S1024x4224_S1024x1408_0_0))
    (View.ld (iblk m c 1 t) (Rect.unit ![0, 1408] ![512, 1408] inb_S512x4224_S512x1408_0_1408)) (View.ld (iblk m c 2 t) (Rect.unit ![0, 1408] ![1024, 1408] inb_S1024x4224_S1024x1408_0_1408))
    (View.ld (iblk m c 1 t) (Rect.unit ![0, 2816] ![512, 1408] inb_S512x4224_S512x1408_0_2816)) (View.ld (iblk m c 2 t) (Rect.unit ![0, 2816] ![1024, 1408] inb_S1024x4224_S1024x1408_0_2816)) (iblk m c 5 t)

theorem dhB_apply (i : Fin 512) (j : Fin 1024) : dhB m c t (ix2 i j) = (args m c).H (row t i) j := by
  rw [dhB, dhP_apply, Args.H, sum_thirds]
  refine congrArg₂ (· + ·) (congrArg₂ (· + ·) ?_ ?_) ?_
  all_goals
    refine Finset.sum_congr rfl fun q _ => ?_
    exact congrArg₂ (· * ·) (ld1 m c t _ (by omega) _ i q _ (by first | rfl | (dsimp only; omega)))
      (ld2 m c t _ (by omega) _ j q _ (by first | rfl | (dsimp only; omega)))

theorem drB_at (i : Fin 512) (j : Fin 1024) : drB m c t (ix2 i j) = dhB m c t (ix2 i j) * (1 + iblk m c 5 t (ix2 0 j)) :=
  drP_apply _ _ _ _ _ _ _ _ _

theorem drB_apply (i : Fin 512) (j : Fin 1024) :
    drB m c t (ix2 i j) = (args m c).H (row t i) j * (1 + (args m c).sc (ix2 0 j)) := by
  rw [drB_at, dhB_apply, read5]

/-- The block's gradient of the normed rows, as the body computes it. -/
abbrev dxB : FVec Ideal S512x1024 .f32 :=
  dxP (drB m c t) (iblk m c 0 t) (iblk m c 4 t) (iblk m c 3 t)

theorem dxB_apply (i : Fin 512) (j : Fin 1024) : dxB m c t (ix2 i j) = (args m c).DX (row t i) j := by
  rw [dxB, dxP_apply (dhB m c t) _ _ (iblk m c 5 t) _ _ (drB_at m c t), Args.DX]
  simp only [dhB_apply, read0, read3, read4, read5]

/-! ## The array written block by block -/

theorem emb6 (i : Fin 512) (j : Fin 1024) : ((cfg0.win 6).blk t).view.emb (ix2 i j) = ix2 (row t i) j := by
  blk_ext [idx t, row]

/-- The first result array after the run: the gradient of the normed rows. -/
theorem arr6 : (dats m 0 c).arrAt 6 cfg0.N = (args m c).dx := by
  refine (dats m 0 c).arrAt_eq_of_covers 6 _ (by decide +kernel) fun t hf y => ?_
  have hy : ∀ y : S512x1024.Idx, dxB m c t y = (args m c).dx (((cfg0.win 6).blk t).view.emb y) := by
    intro y
    obtain ⟨i, j, rfl⟩ : ∃ (i : Fin 512) (j : Fin 1024), y = ix2 i j := ⟨y 0, y 1, eq_ix2 y⟩
    rw [dxB_apply]
    erw [emb6]
    rfl
  have hy := hy y
  blk_simp
  rw [after0_6]
  by_cases h0 : t.val % 16 = 0
  · rw [outsAt0_A m c t h0]
    frame_out
    exact hy
  · rw [outsAt0_B m c t h0]
    frame_out
    exact hy

end Cert.FoxNormKernel
-- ==== Proof.FoxNormRed.lean ====
module

public import proofs.«01_k».proof.Proof.FoxNormKernel
public import Idealize.ShloMosaic.Lib.Pipeline.ValueKit
public import Idealize.ShloMosaic.Lib.Pipeline.ReadBack

@[expose] public section

set_option maxRecDepth 16384

noncomputable section

namespace Cert.FoxNormKernel

open Cert.Kernel10Ideal Cert.Kernel10Ideal.Gen Idealize.ShloMosaic Idealize.ShloMosaic.TcCoe Idealize.SL.Sem
open Idealize.ShloMosaic.Pipeline (Dat)
open Cert.NormRow Cert.NormSpec

variable (m : (ℓ : Loc nD τ sig) → Buf (Elt Ideal) ℓ) (c : Dev nD) (t : Fin cfg0.N)

/-! ## The reduced rows, accumulated over the grid -/

/-- Three rows written over a list of writes, read at an index. -/
theorem rows_read {κ : Kind} {sp : Space} (v : View sig κ sp S8x1024 .f32) (f : v.ty.Contents (Elt Ideal))
    (p0 p1 p2 : FVec Ideal S1x1024 .f32) (L : List (View.Piece (Elt Ideal) S8x1024 .f32)) (r : Fin 8) (j : Fin 1024) :
    v.read (Elt Ideal) (v.writes (Elt Ideal) f
      (⟨Rect.unit ![2, 0] ![1, 1024] inb_S8x1024_S1x1024_2_0, p2⟩
        :: ⟨Rect.unit ![1, 0] ![1, 1024] inb_S8x1024_S1x1024_1_0, p1⟩
        :: ⟨Rect.unit ![0, 0] ![1, 1024] inb_S8x1024_S1x1024_0_0, p0⟩ :: L)) (ix2 r j)
      = if r.val = 0 then p0 (ix2 0 j) else if r.val = 1 then p1 (ix2 0 j) else if r.val = 2 then p2 (ix2 0 j)
        else v.read (Elt Ideal) (v.writes (Elt Ideal) f L) (ix2 r j) := by
  by_cases h2 : r.val = 2
  · rw [View.read_writes_cons_hit_of_coords _ _ _ _ _ (ix2 0 j) _ fun a => by fin_cases a <;> simp [ix2, h2]]
    simp [h2]
  rw [View.read_writes_cons_miss_of_axis _ _ _ _ _ (0 : Fin 2) 2 1 rfl rfl rfl (by simp [ix2]; omega)]
  by_cases h1 : r.val = 1
  · rw [View.read_writes_cons_hit_of_coords _ _ _ _ _ (ix2 0 j) _ fun a => by fin_cases a <;> simp [ix2, h1]]
    simp [h1]
  rw [View.read_writes_cons_miss_of_axis _ _ _ _ _ (0 : Fin 2) 1 1 rfl rfl rfl (by simp [ix2]; omega)]
  by_cases h0 : r.val = 0
  · rw [View.read_writes_cons_hit_of_coords _ _ _ _ _ (ix2 0 j) _ fun a => by fin_cases a <;> simp [ix2, h0]]
    simp [h0]
  rw [View.read_writes_cons_miss_of_axis _ _ _ _ _ (0 : Fin 2) 0 1 rfl rfl rfl (by simp [ix2]; omega)]
  simp [h0, h1, h2]

/-- No row after the third gets anything. -/
theorem term_rest {r : Fin 8} (h : 3 ≤ r.val) (i : Fin 8192) (j : Fin 1024) : (args m c).term r i j = 0 := by
  by_cases h3 : r.val = 3
  · rw [Args.term_3 _ h3]
    exact mul_zero (M₀ := EReal) _
  · exact Args.term_4 _ (by omega) i j

/-- One point adds to every place the terms of its 512 rows. -/
theorem rows_step {κ : Kind} {sp : Space} (v : View sig κ sp S8x1024 .f32) (f : v.ty.Contents (Elt Ideal))
    (L : List (View.Piece (Elt Ideal) S8x1024 .f32)) (o : FVec Ideal S8x1024 .f32) (l0 l1 l2 : FVec Ideal S1x1024 .f32)
    (h0 : ∀ j, l0 (ix2 0 j) = o (ix2 0 j)) (h1 : ∀ j, l1 (ix2 0 j) = o (ix2 1 j)) (h2 : ∀ j, l2 (ix2 0 j) = o (ix2 2 j))
    (hb : ∀ y, v.read (Elt Ideal) (v.writes (Elt Ideal) f L) y = o y) (y : S8x1024.Idx) :
    v.read (Elt Ideal) (v.writes (Elt Ideal) f
      (⟨Rect.unit ![2, 0] ![1, 1024] inb_S8x1024_S1x1024_2_0, ngP (xhP (iblk m c 0 t)) (drB m c t) l2⟩
        :: ⟨Rect.unit ![1, 0] ![1, 1024] inb_S8x1024_S1x1024_1_0,
            scP (dhB m c t) (xhP (iblk m c 0 t)) l1 (iblk m c 4 t)⟩
        :: ⟨Rect.unit ![0, 0] ![1, 1024] inb_S8x1024_S1x1024_0_0, shP (dhB m c t) l0⟩ :: L)) y
      = o y + ∑ i : Fin 512, (args m c).term (y 0) (row t i) (y 1) := by
  obtain ⟨r, j, rfl⟩ : ∃ r j, y = ix2 r j := ⟨y 0, y 1, eq_ix2 y⟩
  show _ = o (ix2 r j) + ∑ i : Fin 512, (args m c).term r (row t i) j
  rw [rows_read, hb]
  simp only [shP_apply, scP_apply, ngP_apply, xhP_apply, dhB_apply, drB_apply, read0, read4, h0, h1, h2]
  have e : ∀ k : Fin 8, r.val = k.val → ix2 (n1 := 1024) r j = ix2 k j := fun k h => by rw [Fin.ext h]
  by_cases c0 : r.val = 0
  · simp only [if_pos c0, e 0 c0, Args.term_0 _ c0]
  by_cases c1 : r.val = 1
  · simp only [if_neg c0, if_pos c1, e 1 c1, Args.term_1 _ c1]
  by_cases c2 : r.val = 2
  · simp only [if_neg c0, if_neg c1, if_pos c2, e 2 c2, Args.term_2 _ c2]
  simp only [if_neg c0, if_neg c1, if_neg c2, term_rest m c (r := r) (by omega), Finset.sum_const_zero, add_zero]

/-- A load of row `k` of the accumulator is that row. -/
theorem ld_row (o : FVec Ideal S8x1024 .f32) (k : Nat) (hk : k < 8)
    (h : ∀ a, (![k, 0] : Fin 2 → Nat) a + (![1, 1024] : Fin 2 → Nat) a ≤ S8x1024.size a) (j : Fin 1024) :
    View.ld (Val := Elt Ideal) (e' := .f32) o (Rect.unit (s := S8x1024) ![k, 0] ![1, 1024] h) (ix2 0 j) = o (ix2 ⟨k, hk⟩ j) :=
  View.ld_unit_apply_of _ _ _ _ _ _ fun a => by fin_cases a <;> simp [ix2]

/-- A write of the whole accumulator, read at an index. -/
theorem fill_read {κ : Kind} {sp : Space} (v : View sig κ sp S8x1024 .f32) (f : v.ty.Contents (Elt Ideal)) (y : S8x1024.Idx) :
    v.read (Elt Ideal) (v.writes (Elt Ideal) f [⟨Rect.unit ![0, 0] ![8, 1024] inb_S8x1024_S8x1024_0_0, startP⟩]) y
      = startP y :=
  View.read_writes_cons_hit_of_coords _ _ (Rect.unit (s := S8x1024) ![0, 0] ![8, 1024] inb_S8x1024_S8x1024_0_0) _ _ y y
    fun a => by
      show _ = (![0, 0] : Fin 2 → Nat) a + 1 * (y a).val
      fin_cases a <;> simp

/-- What the accumulator holds after the last point. -/
theorem acc (t : Fin cfg0.N) (ht : t.val + 1 = cfg0.N) (y : S8x1024.Idx) :
    (outsAt0 m c t.val t.isLt).2 y = 0 + ∑ p : Fin cfg0.N, ∑ i : Fin 512, (args m c).term (y 0) (row p i) (y 1) := by
  refine Pipeline.eq_sum_fin_of_reset_step_apply_last (fun n h => (outsAt0 m c n h).2) 16 (fun _ => (0 : EReal))
    (fun p y => ∑ i : Fin 512, (args m c).term (y 0) (row p i) (y 1)) (fun t h y => ?_) (fun t h y => ?_)
    (le_of_eq N_0) t ht y
  · rw [outsAt0_A m c t h]
    frame_open
    simp (disch := decide) only [↓ View.readCov_skip, ↓ View.readCov_cons_toLoadRect, ↓ View.readCov_fill]
    frame_out
    rw [← View.read_writes_junk_eq_canon (ms0_7 t).view]
    have key := rows_step m c t (ms0_7 t).view ((ms0_7 t).view.junk)
      [⟨Rect.unit ![0, 0] ![8, 1024] inb_S8x1024_S8x1024_0_0, startP⟩] (startP) _ _ _
      (ld_row _ 0 (by omega) inb_S8x1024_S1x1024_0_0) (ld_row _ 1 (by omega) inb_S8x1024_S1x1024_1_0)
      (ld_row _ 2 (by omega) inb_S8x1024_S1x1024_2_0)
      (fun y => fill_read _ _ y) y
    rw [startP_apply] at key
    exact key
  · rw [outsAt0_B m c t h]
    frame_out
    generalize (outsAt0 m c (t.val - 1) _).2 = o
    exact rows_step m c t (ms0_7 t).view _ [] o _ _ _
      (ld_row _ 0 (by omega) inb_S8x1024_S1x1024_0_0) (ld_row _ 1 (by omega) inb_S8x1024_S1x1024_1_0)
      (ld_row _ 2 (by omega) inb_S8x1024_S1x1024_2_0)
      (fun y => congrFun ((hs0_7 t).read_unread o) y) y

/-- The last grid point. -/
def tLast : Fin cfg0.N := ⟨15, by decide +kernel⟩

/-- The second result array after the run: the reduced rows. -/
theorem arr7 : (dats m 0 c).arrAt 7 cfg0.N = (args m c).red := by
  refine (dats m 0 c).arrAt_eq_of_after_last 7 tLast (by decide +kernel) _ fun j => ?_
  blk_simp
  rw [after0_7]
  refine (acc m c tLast rfl j).trans ?_
  rw [zero_add]
  refine Fin.sum_mul_add_congr fun t k hl => ?_
  rfl

end Cert.FoxNormKernel
-- ==== Proof.FoxNormRef.lean ====
/-
  THE ATTENTION'S NORM: THE REFERENCE'S RESULTS ARE THE SPECIFICATION'S. Each of its two composed terms, read at an index,
  is `Args.dx` and `Args.red` of the arguments.
-/
module

public import proofs.«01_k».proof.Proof.NormSpec
public import proofs.«01_k».proof.Proof.Gen.Reference10Ideal.Run

@[expose] public section

set_option maxRecDepth 16384

noncomputable section

namespace Cert.FoxNormRef

open Cert.Reference10Ideal Cert.Reference10Ideal.Gen Cert.Reference10Ideal.Value Idealize.ShloMosaic Idealize.ShloMosaic.TcCoe
open Idealize.SL.Sem Idealize.ShloMosaic.StableHlo Cert.NormRow Cert.NormSpec

variable (m : (ℓ : Loc nD τ sig) → Buf (Elt Ideal) ℓ) (c : Dev nD)

/-- The argument arrays of the launch; nothing is added to the normed rows. -/
def args : Args 4224 where
  xp := m ((c.tc : Thread nD τ).loc main_arg0)
  y := fun _ => (0 : EReal)
  g := fun _ => (0 : EReal)
  ng := m ((c.tc : Thread nD τ).loc main_arg1)
  sc := m ((c.tc : Thread nD τ).loc main_arg2)
  w := m ((c.tc : Thread nD τ).loc main_arg4)
  ct := m ((c.tc : Thread nD τ).loc main_arg5)
  a := m ((c.tc : Thread nD τ).loc main_arg6)

/-- The normed rows are the argument's. -/
theorem X_eq (i : Fin 8192) : (args m c).X i = fun k => (args m c).xp (ix2 i k) := by
  funext k
  show HAdd.hAdd (α := EReal) ((args m c).xp (ix2 i k)) ((0 : EReal) * 0) = _
  rw [zero_mul, add_zero]

/-- The first result, the gradient of the normed rows. -/
theorem out0_apply (i : Fin 8192) (j : Fin 1024) : res_out0 m c (ix2 i j) = (args m c).DX i j := by
  rw [Args.DX, X_eq]
  pointwise [res_out0, res_main_v51, dxR, qq, tt, rs, ms, Args.H, args]
  try simp only [Fin.sum_univ_one]

theorem out0 : res_out0 m c = (args m c).dx := by
  funext y
  obtain ⟨i, j, rfl⟩ : ∃ (i : Fin 8192) (j : Fin 1024), y = ix2 i j := ⟨y 0, y 1, eq_ix2 y⟩
  exact out0_apply m c i j

/-- The second result, the composed term of the reduced rows. -/
def redTerm : FVec Ideal S8x1024 .f32 :=
  (concatenate S8x1024 0 [⟨S1x1024, ((shapeCast _ (Host.reduceAdd (Host.dotGeneral dot_S8192x4224_S1024x4224_S8192x1024_1_1_0_0_n_n none (extf .f32 (m ((c.tc : Thread nD τ).loc main_arg6)) bitsLt_bf16_f32) (extf .f32 (m ((c.tc : Thread nD τ).loc main_arg4)) bitsLt_bf16_f32)) (constant (F := Ideal) S_ .f32 0x00000000#32) reducesTo_S8192x1024_S1024_d0 h_S_) shapeCasts_S1024_S1x1024) : (⟨S1x1024, .f32⟩ : BufTy).Contents (Elt Ideal))⟩, ⟨S1x1024, ((shapeCast _ (Host.reduceAdd (mulf (mulf (mulf (m ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m ((c.tc : Thread nD τ).loc main_arg1)))) (Host.dotGeneral dot_S8192x4224_S1024x4224_S8192x1024_1_1_0_0_n_n none (extf .f32 (m ((c.tc : Thread nD τ).loc main_arg6)) bitsLt_bf16_f32) (extf .f32 (m ((c.tc : Thread nD τ).loc main_arg4)) bitsLt_bf16_f32))) (constant (F := Ideal) S_ .f32 0x00000000#32) reducesTo_S8192x1024_S1024_d0 h_S_) shapeCasts_S1024_S1x1024) : (⟨S1x1024, .f32⟩ : BufTy).Contents (Elt Ideal))⟩, ⟨S1x1024, ((shapeCast _ (Host.reduceAdd (mulf (mulf (m ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (mulf (Host.dotGeneral dot_S8192x4224_S1024x4224_S8192x1024_1_1_0_0_n_n none (extf .f32 (m ((c.tc : Thread nD τ).loc main_arg6)) bitsLt_bf16_f32) (extf .f32 (m ((c.tc : Thread nD τ).loc main_arg4)) bitsLt_bf16_f32)) (broadcastInDim S8192x1024 ![0, 1] bcast_S1x1024_S8192x1024_0_1 (addf (broadcastInDim S1x1024 ![] bcast_S_S1x1024 (constant (F := Ideal) S_ .f32 0x3F800000#32)) (m ((c.tc : Thread nD τ).loc main_arg2)))))) (constant (F := Ideal) S_ .f32 0x00000000#32) reducesTo_S8192x1024_S1024_d0 h_S_) shapeCasts_S1024_S1x1024) : (⟨S1x1024, .f32⟩ : BufTy).Contents (Elt Ideal))⟩, ⟨S5x1024, ((broadcastInDim S5x1024 ![] bcast_S_S5x1024 (constant (F := Ideal) S_ .f32 0x00000000#32)) : (⟨S5x1024, .f32⟩ : BufTy).Contents (Elt Ideal))⟩] concatenates_S1x1024_S1x1024_S1x1024_S5x1024_S8x1024_d0 : (⟨S8x1024, .f32⟩ : BufTy).Contents (Elt Ideal))

/-- The second result, row by row. -/
theorem out1_apply (p : Fin 8) (j : Fin 1024) : redTerm m c (ix2 p j) = ∑ i, (args m c).term p i j := by
  obtain ⟨p, hp⟩ := p
  have h0 : redTerm m c (ix2 (0 : Fin 8) j) = ∑ i, (args m c).H i j := by
    pointwise [redTerm, Args.H, args]
  have h1 : redTerm m c (ix2 (1 : Fin 8) j)
      = ∑ i, (args m c).xp (ix2 i j) * rs (fun k => (args m c).xp (ix2 i k)) * (args m c).ng (ix2 0 j) * (args m c).H i j := by
    pointwise [redTerm, rs, ms, Args.H, args]
  have h2 : redTerm m c (ix2 (2 : Fin 8) j)
      = ∑ i, (args m c).xp (ix2 i j) * rs (fun k => (args m c).xp (ix2 i k)) * ((args m c).H i j * (1 + (args m c).sc (ix2 0 j))) := by
    pointwise [redTerm, rs, ms, Args.H, args]
  have h3 : ∀ q : Fin 8, 3 ≤ q.val → redTerm m c (ix2 q j) = (0 : EReal) := by
    intro q hq
    obtain ⟨q, hq'⟩ := q
    obtain rfl | rfl | rfl | rfl | rfl : q = 3 ∨ q = 4 ∨ q = 5 ∨ q = 6 ∨ q = 7 := by
      have : 3 ≤ q := hq
      omega
    · change redTerm m c (ix2 (3 : Fin 8) j) = (0 : EReal)
      pointwise [redTerm]
    · change redTerm m c (ix2 (4 : Fin 8) j) = (0 : EReal)
      pointwise [redTerm]
    · change redTerm m c (ix2 (5 : Fin 8) j) = (0 : EReal)
      pointwise [redTerm]
    · change redTerm m c (ix2 (6 : Fin 8) j) = (0 : EReal)
      pointwise [redTerm]
    · change redTerm m c (ix2 (7 : Fin 8) j) = (0 : EReal)
      pointwise [redTerm]
  by_cases hq : 3 ≤ p
  · refine (h3 ⟨p, hp⟩ hq).trans (Finset.sum_eq_zero fun i _ => ?_).symm
    by_cases e : p = 3
    · rw [Args.term_3 _ e]
      exact mul_zero (M₀ := EReal) _
    · exact Args.term_4 _ (by show 4 ≤ p; omega) i j
  obtain rfl | rfl | rfl : p = 0 ∨ p = 1 ∨ p = 2 := by omega
  · exact h0.trans (Finset.sum_congr (M := EReal) rfl fun i _ => (Args.term_0 _ rfl i j).symm)
  · exact h1.trans (Finset.sum_congr (M := EReal) rfl fun i _ => by rw [Args.term_1 _ rfl i j, mul_comm, X_eq])
  · exact h2.trans (Finset.sum_congr (M := EReal) rfl fun i _ => by rw [Args.term_2 _ rfl i j, mul_comm, X_eq])

theorem out1 : redTerm m c = (args m c).red := by
  funext y
  obtain ⟨i, j, rfl⟩ : ∃ (i : Fin 8) (j : Fin 1024), y = ix2 i j := ⟨y 0, y 1, eq_ix2 y⟩
  exact out1_apply m c i j

end Cert.FoxNormRef
-- ==== Proof.FoxNormClaims.lean ====
/-
  THE CLAIMS ON THE ATTENTION'S NORM'S BACKWARD PASS: the reference leaves its arguments alone, and the kernel and the reference leave
  the same two results, the specification's, from arguments that agree.
-/
module

public import proofs.«01_k».proof.Defs
public import proofs.«01_k».proof.Proof.Gen.Kernel10.Frame
public import proofs.«01_k».proof.Proof.FoxNormRed
public import proofs.«01_k».proof.Proof.FoxNormRef
public import Idealize.ShloMosaic.Adequacy

@[expose] public section

noncomputable section

namespace Cert.FoxNormClaims

open Idealize.ShloMosaic Idealize.SL.Sem Cert.NormSpec

/-- The reference terminates, leaves its arguments and every semaphore as they were. -/
theorem frameRef : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- From arguments that agree, the kernel and the reference leave the same two arrays: the gradient of the normed rows, and the
    rows of the gradients of `sh`, `sc` and `ng`. -/
theorem algebraic : Cert.algebraic_Kernel10Ideal_Reference10Ideal := by
  intro m ρ m' ρ' _ hagree
  have same : ∀ c : Dev Cert.Kernel10Ideal.nD, FoxNormRef.args m' c = FoxNormKernel.args m c := fun c => by
    obtain ⟨h0, h1, h2, -, h4, h5, h6⟩ := hagree c
    rw [FoxNormRef.args, FoxNormKernel.args, h0, h1, h2, h4, h5, h6]
  refine ⟨fun c => (FoxNormKernel.args m c).dx, fun c => (FoxNormKernel.args m c).red, ?_, ?_⟩
  · exact (θ_run Cert.Kernel10Ideal.defs _ _).mono
      (fun _ h c => ⟨(h c).1.trans (FoxNormKernel.arr6 m c), (h c).2.1.trans (FoxNormKernel.arr7 m c), (h c).2.2⟩)
      (Cert.Kernel10Ideal.Value.run_blocks (F := Ideal) m ρ)
  · exact (θ_run Cert.Reference10Ideal.defs _ _).mono
      (fun _ h c => ⟨(h c).1.trans ((FoxNormRef.out0 m' c).trans (congrArg Args.dx (same c))),
        (h c).2.1.trans ((FoxNormRef.out1 m' c).trans (congrArg Args.red (same c))), (h c).2.2⟩)
      (Cert.Reference10Ideal.Value.run (F := Ideal) m' ρ')

end Cert.FoxNormClaims
-- ==== Proof.SguOutInput.lean ====
/-
  The gated MLP's output product, the gradient of its input: the call `sgu_dyy` and the reference leave the same array.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Adequacy
public import Idealize.ShloMosaic.Lib.Pipeline.ValueKit
public import Idealize.ShloMosaic.Lib.Pipeline.ReadBack

@[expose] public section

set_option maxRecDepth 16384

noncomputable section

namespace Cert.SguOutInput

open Idealize.ShloMosaic Idealize.ShloMosaic.TcCoe Idealize.SL.Sem

section
open Cert.Kernel11Ideal Cert.Kernel11Ideal.Gen

/-- The two tiles of a point's block: the product with the transpose of half the weight's rows. -/
theorem tile0_at (d : Vec Ideal S512x1024 .bf16) (w : Vec Ideal S1024x1024 .bf16) (i : Fin 512) (q : Fin 1024) :
    k0_pay1 d w (ix2 i q) = ∑ k : Fin 1024, d (ix2 i k) * w (ix2 q k) := by
  pointwise [k0_pay1]

theorem tile1_at (d : Vec Ideal S512x1024 .bf16) (w : Vec Ideal S1024x1024 .bf16) (i : Fin 512) (q : Fin 1024) :
    k0_pay2 d w (ix2 i q) = ∑ k : Fin 1024, d (ix2 i k) * w (ix2 q k) := by
  pointwise [k0_pay2]

/-- The gradient of the product's left factor, from the cotangent and the weight. -/
def prod (d : Shape.Idx ⟨2, ![8192, 1024]⟩ → EReal) (w : Shape.Idx ⟨2, ![2048, 1024]⟩ → EReal) (i : Fin 8192) (l : Fin 2048) : EReal :=
  ∑ k : Fin 1024, d (ix2 i k) * w (ix2 l k)

variable (m : (ℓ : Loc nD τ sig) → Buf (Elt Ideal) ℓ) (c : Dev nD)

/-- The cotangent and the weight. -/
abbrev D : Shape.Idx ⟨2, ![8192, 1024]⟩ → EReal := m ((c : Thread nD τ).loc main_arg2)
abbrev W : Shape.Idx ⟨2, ![2048, 1024]⟩ → EReal := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- Row `i` of the block of point `t`, as a row of the whole array. -/
def row (t : Fin cfg0.N) (i : Fin 512) : Fin 8192 :=
  ⟨t.val * 512 + i.val, by have := t.isLt; have hN : cfg0.N = 16 := N_0; have := i.isLt; omega⟩

variable (t : Fin cfg0.N)

theorem read0 (i : Fin 512) (k : Fin 1024) : iblk m c 0 t (ix2 i k) = D m c (ix2 (row t i) k) := by
  blk_ext [iblk, V, idx t, row]

theorem read1 (l : Fin 2048) (k : Fin 1024) : iblk m c 1 t (ix2 l k) = W m c (ix2 l k) := by
  blk_ext [iblk, V, idx t]

/-- A tile of a point's block, its columns from `o` on. -/
theorem prod_at (d : Vec Ideal S512x1024 .bf16) (w : Vec Ideal S1024x1024 .bf16) (o : ℕ) (ho : o + 1024 ≤ 2048)
    (hd : ∀ (i : Fin 512) (k : Fin 1024), d (ix2 i k) = D m c (ix2 (row t i) k))
    (hw : ∀ q k : Fin 1024, w (ix2 q k) = W m c (ix2 ⟨o + q.val, by omega⟩ k)) (i : Fin 512) (q : Fin 1024) :
    (∑ k : Fin 1024, (d (ix2 i k) * w (ix2 q k) : EReal)) = prod (D m c) (W m c) (row t i) ⟨o + q.val, by omega⟩ :=
  Finset.sum_congr rfl fun k _ => by rw [hd, hw]

/-- The gradient as an array, and the rows of it that point `t` writes. -/
def G : S8192x2048.Idx → EReal := fun y => prod (D m c) (W m c) (y 0) (y 1)
def B : S512x2048.Idx → EReal := fun y => prod (D m c) (W m c) (row t (y 0)) (y 1)

theorem B_eq (z : S512x2048.Idx) (i : Fin 512) (l : Fin 2048) (h0 : (z 0).val = i.val) (h1 : (z 1).val = l.val) :
    prod (D m c) (W m c) (row t i) l = B m c t z := by
  obtain rfl : z 0 = i := Fin.ext h0
  obtain rfl : z 1 = l := Fin.ext h1
  rfl

/-- What a point leaves in the result's block. -/
theorem out_at (y : S512x2048.Idx) : out0_2 (iblk m c 0 t) (iblk m c 1 t) y = B m c t y := by
  unfold out0_2
  refine View.canon_apply_of_pieces (Val := Elt Ideal) (B m c t) _ ?_ y (cover0_2 _ _ y)
  intro pc hpc x
  rcases List.mem_cons.mp hpc with rfl | hpc
  · obtain ⟨i, q, rfl⟩ : ∃ (i : Fin 512) (q : Fin 1024), x = ix2 i q := ⟨x 0, x 1, eq_ix2 x⟩
    refine (tile1_at _ _ i q).trans ((prod_at m c t _ _ 1024 (by omega) (fun i k => ?_) (fun q k => ?_) i q).trans (B_eq m c t _ i _ ?_ ?_))
    · exact (View.ld_unit_apply_of _ _ _ _ _ (ix2 i k) fun a => by fin_cases a <;> simp [ix2]).trans (read0 m c t i k)
    · exact (View.ld_unit_apply_of _ _ _ _ _ (ix2 ⟨1024 + q.val, by omega⟩ k) fun a => by fin_cases a <;> simp [ix2]).trans (read1 m c t _ k)
    · exact (ValueKit.rect_emb_unit_val _ _ inb_S512x2048_S512x1024_0_1024 _ _).trans (by simp [ix2])
    · exact (ValueKit.rect_emb_unit_val _ _ inb_S512x2048_S512x1024_0_1024 _ _).trans (by simp [ix2])
  rcases List.mem_cons.mp hpc with rfl | hpc
  · obtain ⟨i, q, rfl⟩ : ∃ (i : Fin 512) (q : Fin 1024), x = ix2 i q := ⟨x 0, x 1, eq_ix2 x⟩
    refine (tile0_at _ _ i q).trans ((prod_at m c t _ _ 0 (by omega) (fun i k => ?_) (fun q k => ?_) i q).trans (B_eq m c t _ i _ ?_ ?_))
    · exact (View.ld_unit_apply_of _ _ _ _ _ (ix2 i k) fun a => by fin_cases a <;> simp [ix2]).trans (read0 m c t i k)
    · exact (View.ld_unit_apply_of _ _ _ _ _ (ix2 ⟨0 + q.val, by omega⟩ k) fun a => by fin_cases a <;> simp [ix2]).trans (read1 m c t _ k)
    · exact (ValueKit.rect_emb_unit_val _ _ inb_S512x2048_S512x1024_0_0 _ _).trans (by simp [ix2])
    · exact (ValueKit.rect_emb_unit_val _ _ inb_S512x2048_S512x1024_0_0 _ _).trans (by simp [ix2])
  exact absurd hpc List.not_mem_nil

theorem emb (i : Fin 512) (l : Fin 2048) : ((cfg0.win 2).blk t).view.emb (ix2 i l) = ix2 (row t i) l := by
  blk_ext [idx t, row]

/-- The result after the run is the gradient. -/
theorem result : (dats m 0 c).arrAt 2 cfg0.N = G m c := by
  refine (dats m 0 c).arrAt_eq_of_covers 2 _ (by decide +kernel) fun t hf y => ?_
  have hy : out0_2 (iblk m c 0 t) (iblk m c 1 t) y = G m c (((cfg0.win 2).blk t).view.emb y) := by
    obtain ⟨i, l, rfl⟩ : ∃ (i : Fin 512) (l : Fin 2048), y = ix2 i l := ⟨y 0, y 1, eq_ix2 y⟩
    rw [out_at]
    erw [emb]
    rfl
  blk_simp
  rw [after0_2]
  exact hy

end

section
open Cert.Reference11Ideal Cert.Reference11Ideal.Gen Idealize.ShloMosaic.StableHlo
variable (m : (ℓ : Loc nD τ sig) → Buf (Elt Ideal) ℓ) (c : Dev nD)

/-- The reference's result is the gradient. -/
theorem reference (y : S8192x2048.Idx) : (truncf .bf16 (Host.dotGeneral dot_S8192x1024_S2048x1024_S8192x2048_1_1_0_0_n_n none (extf .f32 (m ((c.tc : Thread nD τ).loc main_arg2)) bitsLt_bf16_f32) (extf .f32 (m ((c.tc : Thread nD τ).loc main_arg1)) bitsLt_bf16_f32)) bitsLt_bf16_f32 : FVec Ideal S8192x2048 .bf16) y
      = prod (m ((c.tc : Thread nD τ).loc main_arg2)) (m ((c.tc : Thread nD τ).loc main_arg1)) (y 0) (y 1) := by
  obtain ⟨i, l, rfl⟩ : ∃ (i : Fin 8192) (l : Fin 2048), y = ix2 i l := ⟨y 0, y 1, eq_ix2 y⟩
  pointwise [prod]

end

/-- The reference terminates, leaves its arguments and every semaphore as they were. -/
theorem frameRef : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- From arguments that agree, the kernel and the reference leave the same gradient. -/
theorem algebraic : Cert.algebraic_Kernel11Ideal_Reference11Ideal := by
  intro m ρ m' ρ' _ hagree
  refine ⟨fun c => G m c, ?_, ?_⟩
  · exact (θ_run Cert.Kernel11Ideal.defs _ _).mono (fun _ h c => ⟨(h c).1.trans (result m c), (h c).2⟩)
      (Cert.Kernel11Ideal.Value.run_blocks (F := Ideal) m ρ)
  · refine (θ_run Cert.Reference11Ideal.defs _ _).mono (fun _ h c => ⟨(h c).1.trans ((funext fun y => reference m' c y).trans ?_), (h c).2⟩)
      (Cert.Reference11Ideal.Value.run (F := Ideal) m' ρ')
    obtain ⟨-, h1, h2⟩ := hagree c
    rw [h1, h2]
    rfl

end Cert.SguOutInput
-- ==== Proof.NormForward.lean ====
/-
  A MODULATED RMS NORM AND THE PRODUCT THAT TAKES IT, AS FUNCTIONS OF THE ARGUMENT ARRAYS.

  The lines: `h = (x r) * ng * (1 + sc) + sh` with `r = 1 / sqrt (mean (x * x) + eps)`, row by row, and the product
  `h w + b`. `Args` collects the arrays; `Args.H` and `Args.P` are the two results at an index. The number of columns of
  the weight is a parameter.
-/
module

public import proofs.«01_k».proof.Proof.NormRow

@[expose] public section

noncomputable section

namespace Cert.NormForward

open Idealize.ShloMosaic Cert.NormRow

/-- The argument arrays. -/
structure Args (n : Nat) where
  x : FVec Ideal ⟨2, ![8192, 1024]⟩ .f32
  ng : FVec Ideal ⟨2, ![1, 1024]⟩ .f32
  sc : FVec Ideal ⟨2, ![1, 1024]⟩ .f32
  sh : FVec Ideal ⟨2, ![1, 1024]⟩ .f32
  w : FVec Ideal ⟨2, ![1024, n]⟩ .bf16
  b : FVec Ideal ⟨2, ![1, n]⟩ .f32

/-- One entry of a normed and modulated row `x`. -/
def entry (x : Fin 1024 → EReal) (ng sc sh : EReal) (k : Fin 1024) : EReal := x k * rs x * ng * (1 + sc) + sh

namespace Args
variable {n : Nat} (A : Args n)

/-- The normed and modulated rows. -/
def H (i : Fin 8192) (k : Fin 1024) : EReal :=
  entry (fun k => A.x (ix2 i k)) (A.ng (ix2 0 k)) (A.sc (ix2 0 k)) (A.sh (ix2 0 k)) k
/-- The product, the bias added. -/
def P (i : Fin 8192) (l : Fin n) : EReal := (∑ k, A.H i k * A.w (ix2 k l)) + A.b (ix2 0 l)
/-- The rows as an array. -/
def h : FVec Ideal ⟨2, ![8192, 1024]⟩ .bf16 := fun y => A.H (y 0) (y 1)

/-- With no bias the product stands alone. -/
theorem P_of_zero (hb : ∀ y, A.b y = (0 : EReal)) (i : Fin 8192) (l : Fin n) : A.P i l = ∑ k, A.H i k * A.w (ix2 k l) := by
  rw [P, hb]
  exact add_zero _

end Args

end Cert.NormForward
-- ==== Proof.FwdFfnUp.lean ====
/-
  The feed-forward block's first product: the call `ffn_up` and the reference leave the same normed rows and the same product.
-/
module

public import proofs.«01_k».proof.Defs
public import proofs.«01_k».proof.Proof.NormForward
public import proofs.«01_k».proof.Proof.Gen.Kernel12.Frame
public import proofs.«01_k».proof.Proof.Gen.Kernel12Ideal.Value
public import proofs.«01_k».proof.Proof.Gen.Reference12Ideal.Run
public import Idealize.ShloMosaic.Adequacy
public import Idealize.ShloMosaic.Lib.Pipeline.ValueKit
public import Idealize.ShloMosaic.Lib.Pipeline.ReadBack

@[expose] public section

set_option maxRecDepth 16384

noncomputable section

namespace Cert.FwdFfnUp

open Idealize.ShloMosaic Idealize.ShloMosaic.TcCoe Idealize.SL.Sem Cert.NormRow Cert.NormForward

section
open Cert.Kernel12Ideal Cert.Kernel12Ideal.Gen

/-- The normed and modulated rows of a block. -/
theorem rows_at (x : Vec Ideal S512x1024 .f32) (ng sc sh : Vec Ideal S1x1024 .f32) (i : Fin 512) (k : Fin 1024) :
    k0_pay2 x ng sc sh (ix2 i k) = entry (fun k => x (ix2 i k)) (ng (ix2 0 k)) (sc (ix2 0 k)) (sh (ix2 0 k)) k := by
  pointwise [k0_pay2, entry, rs, ms]

/-- Tile 0 of the product. -/
abbrev tile0 (x : Vec Ideal S512x1024 .f32) (ng sc sh : Vec Ideal S1x1024 .f32) (w : Vec Ideal S1x1024x1408 .bf16) (b : Vec Ideal S1x1408 .f32) :
    FVec Ideal S1x512x1408 .bf16 := k0_pay3 x ng sc sh w b

theorem tile0_at (x : Vec Ideal S512x1024 .f32) (ng sc sh : Vec Ideal S1x1024 .f32) (w : Vec Ideal S1x1024x1408 .bf16) (b : Vec Ideal S1x1408 .f32)
    (i : Fin 512) (q : Fin 1408) :
    tile0 x ng sc sh w b (ix3 0 i q) = (∑ k : Fin 1024, k0_pay2 x ng sc sh (ix2 i k) * w (ix3 0 k q)) + b (ix2 0 q) := by
  pointwise [tile0, k0_pay3]

/-- Tile 1 of the product. -/
abbrev tile1 (x : Vec Ideal S512x1024 .f32) (ng sc sh : Vec Ideal S1x1024 .f32) (w : Vec Ideal S1x1024x1408 .bf16) (b : Vec Ideal S1x1408 .f32) :
    FVec Ideal S1x512x1408 .bf16 := k0_pay4 (k0_pay2 x ng sc sh) w b

theorem tile1_at (x : Vec Ideal S512x1024 .f32) (ng sc sh : Vec Ideal S1x1024 .f32) (w : Vec Ideal S1x1024x1408 .bf16) (b : Vec Ideal S1x1408 .f32)
    (i : Fin 512) (q : Fin 1408) :
    tile1 x ng sc sh w b (ix3 0 i q) = (∑ k : Fin 1024, k0_pay2 x ng sc sh (ix2 i k) * w (ix3 0 k q)) + b (ix2 0 q) := by
  pointwise [tile1, k0_pay4]

/-- Tile 2 of the product. -/
abbrev tile2 (x : Vec Ideal S512x1024 .f32) (ng sc sh : Vec Ideal S1x1024 .f32) (w : Vec Ideal S1x1024x1408 .bf16) (b : Vec Ideal S1x1408 .f32) :
    FVec Ideal S1x512x1408 .bf16 := k0_pay5 (k0_pay2 x ng sc sh) w b

theorem tile2_at (x : Vec Ideal S512x1024 .f32) (ng sc sh : Vec Ideal S1x1024 .f32) (w : Vec Ideal S1x1024x1408 .bf16) (b : Vec Ideal S1x1408 .f32)
    (i : Fin 512) (q : Fin 1408) :
    tile2 x ng sc sh w b (ix3 0 i q) = (∑ k : Fin 1024, k0_pay2 x ng sc sh (ix2 i k) * w (ix3 0 k q)) + b (ix2 0 q) := by
  pointwise [tile2, k0_pay5]

/-- Tile 3 of the product. -/
abbrev tile3 (x : Vec Ideal S512x1024 .f32) (ng sc sh : Vec Ideal S1x1024 .f32) (w : Vec Ideal S1x1024x1408 .bf16) (b : Vec Ideal S1x1408 .f32) :
    FVec Ideal S1x512x1408 .bf16 := k0_pay1 (k0_pay6 (k0_pay2 x ng sc sh) w b)

theorem tile3_at (x : Vec Ideal S512x1024 .f32) (ng sc sh : Vec Ideal S1x1024 .f32) (w : Vec Ideal S1x1024x1408 .bf16) (b : Vec Ideal S1x1408 .f32)
    (i : Fin 512) (q : Fin 1408) :
    tile3 x ng sc sh w b (ix3 0 i q) = (∑ k : Fin 1024, k0_pay2 x ng sc sh (ix2 i k) * w (ix3 0 k q)) + b (ix2 0 q) := by
  pointwise [tile3, k0_pay1, k0_pay6]

variable (m : (ℓ : Loc nD τ sig) → Buf (Elt Ideal) ℓ)

/-- The argument arrays of the launch. -/
def args (c : Dev nD) : Args 5632 where
  x := m ((c : Thread nD τ).loc main_arg0)
  ng := m ((c : Thread nD τ).loc main_arg1)
  sc := m ((c : Thread nD τ).loc main_arg2)
  sh := m ((c : Thread nD τ).loc main_arg3)
  w := m ((c : Thread nD τ).loc main_arg4)
  b := fun _ => (0 : EReal)

theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0] ∧ win0_6.index t = ![0, t.val, 0]
    ∧ win0_7.index t = ![t.val, 0] :=
  (by decide +kernel : ∀ t : Fin grid0.N, _)

/-- Row `i` of the block of point `t`, as a row of the whole array. -/
def row (t : Fin cfg0.N) (i : Fin 512) : Fin 8192 :=
  ⟨t.val * 512 + i.val, by have := t.isLt; have hN : cfg0.N = 16 := N_0; have := i.isLt; omega⟩

variable (c : Dev nD) (t : Fin cfg0.N)

theorem read0 (i : Fin 512) (k : Fin 1024) : iblk m c 0 t (ix2 i k) = (args m c).x (ix2 (row t i) k) := by
  blk_ext [iblk, V, idx t, args, row]

theorem read1 (k : Fin 1024) : iblk m c 1 t (ix2 0 k) = (args m c).ng (ix2 0 k) := by
  blk_ext [iblk, V, idx t, args]

theorem read2 (k : Fin 1024) : iblk m c 2 t (ix2 0 k) = (args m c).sc (ix2 0 k) := by
  blk_ext [iblk, V, idx t, args]

theorem read3 (k : Fin 1024) : iblk m c 3 t (ix2 0 k) = (args m c).sh (ix2 0 k) := by
  blk_ext [iblk, V, idx t, args]

theorem read4 (p : Fin 4) (k : Fin 1024) (q : Fin 1408) :
    iblk m c 4 t (ix3 p k q) = (args m c).w (ix2 k ⟨p.val * 1408 + q.val, by omega⟩) := by
  blk_simp [iblk]
  entry_read
  rw [show ((View.whole main_v1).slice (win0_4.rect t)).emb (ix3 p k q) = ix3 p k q from by blk_ext [idx t]]
  pointwise [args]

theorem read5 (q : Fin 5632) : iblk m c 5 t (ix2 0 q) = (args m c).b (ix2 0 q) := by
  blk_simp [iblk]
  entry_read
  pointwise [args]

/-- A load of a whole block is the block. -/
theorem ld0 (X : Vec Ideal S512x1024 .f32) : View.ld X r0_0 = X :=
  funext fun z => View.ld_unit_apply_of _ _ _ _ _ z fun a => by fin_cases a <;> simp

theorem ld1 (X : Vec Ideal S1x1024 .f32) : View.ld X r0_1 = X :=
  funext fun z => View.ld_unit_apply_of _ _ _ _ _ z fun a => by fin_cases a <;> simp

/-- The normed and modulated rows of a point's block. -/
theorem h_at (i : Fin 512) (k : Fin 1024) :
    k0_pay2 (View.ld (iblk m c 0 t) r0_0) (View.ld (iblk m c 1 t) r0_1) (View.ld (iblk m c 2 t) r0_1) (View.ld (iblk m c 3 t) r0_1) (ix2 i k)
      = (args m c).H (row t i) k := by
  rw [ld0, ld1, ld1, ld1, rows_at, read1, read2, read3, Args.H]
  exact congrArg (fun f => entry f _ _ _ k) (funext fun k => read0 m c t i k)

/-- A tile of a point's block is the product's, its columns from `o` on. -/
theorem prod_at (h : FVec Ideal S512x1024 .bf16) (w : Vec Ideal S1x1024x1408 .bf16) (b : Vec Ideal S1x1408 .f32)
    (o : ℕ) (ho : o + 1408 ≤ 5632) (hh : ∀ i k, h (ix2 i k) = (args m c).H (row t i) k)
    (hw : ∀ (k : Fin 1024) (q : Fin 1408), w (ix3 0 k q) = (args m c).w (ix2 k ⟨o + q.val, by omega⟩))
    (hb : ∀ q : Fin 1408, b (ix2 0 q) = (args m c).b (ix2 0 ⟨o + q.val, by omega⟩)) (i : Fin 512) (q : Fin 1408) :
    HAdd.hAdd (α := EReal) (∑ k : Fin 1024, (h (ix2 i k) * w (ix3 0 k q) : EReal)) (b (ix2 0 q)) = (args m c).P (row t i) ⟨o + q.val, by omega⟩ := by
  rw [Args.P, hb]
  exact congrArg (fun s : EReal => HAdd.hAdd (α := EReal) s _) (Finset.sum_congr rfl fun k _ => by rw [hh, hw])

/-- The product laid out as the call lays it out, two halves of the columns. -/
def G6 : S2x8192x2816.Idx → EReal := fun y => (args m c).P (y 1) ⟨(y 0).val * 2816 + (y 2).val, by
    have h0 : (y 0).val < 2 := (y 0).isLt
    have h2 : (y 2).val < 2816 := (y 2).isLt
    omega⟩
/-- The rows of it that point `t` writes. -/
def B6 : S2x512x2816.Idx → EReal := fun y => (args m c).P (row t (y 1)) ⟨(y 0).val * 2816 + (y 2).val, by
    have h0 : (y 0).val < 2 := (y 0).isLt
    have h2 : (y 2).val < 2816 := (y 2).isLt
    omega⟩

theorem B6_eq (z : S2x512x2816.Idx) (i : Fin 512) (l : Fin 5632) (h1 : (z 1).val = i.val) (h : (z 0).val * 2816 + (z 2).val = l.val) :
    (args m c).P (row t i) l = B6 m c t z := by
  obtain rfl : z 1 = i := Fin.ext h1
  obtain ⟨l, hl⟩ := l
  obtain rfl : (z 0).val * 2816 + (z 2).val = l := h
  rfl

/-- Tile 0 of a point's block lies where the product has it. -/
theorem piece0 (i : Fin 512) (q : Fin 1408) :
    tile0 (View.ld (iblk m c 0 t) r0_0) (View.ld (iblk m c 1 t) r0_1) (View.ld (iblk m c 2 t) r0_1) (View.ld (iblk m c 3 t) r0_1)
        (View.ld (iblk m c 4 t) r0_2) (View.ld (iblk m c 5 t) r0_3) (ix3 (0 : Fin 1) i q)
      = B6 m c t (r0_4.emb (ix3 (0 : Fin 1) i q)) := by
  refine (tile0_at _ _ _ _ _ _ i q).trans ((prod_at m c t _ _ _ 0 (by omega) (h_at m c t) (fun k q => ?_) (fun q => ?_) i q).trans
    (B6_eq m c t (r0_4.emb (ix3 (0 : Fin 1) i q)) i _ ?_ ?_))
  · exact (View.ld_unit_apply_of _ _ _ _ _ (ix3 (0 : Fin 4) k q) fun a => by fin_cases a <;> simp [ix3]).trans (read4 m c t 0 k q)
  · exact (View.ld_unit_apply_of _ _ _ _ _ (ix2 0 ⟨0 + q.val, by omega⟩) fun a => by fin_cases a <;> simp [ix2]).trans (read5 m c t _)
  · exact (ValueKit.rect_emb_unit_val _ _ inb_S2x512x2816_S1x512x1408_0_0_0 _ _).trans (by simp [ix3])
  · have e0 : (r0_4.emb (ix3 (0 : Fin 1) i q) 0).val = 0 := (ValueKit.rect_emb_unit_val _ _ inb_S2x512x2816_S1x512x1408_0_0_0 _ _).trans (by simp [ix3])
    have e2 : (r0_4.emb (ix3 (0 : Fin 1) i q) 2).val = 0 + q.val := (ValueKit.rect_emb_unit_val _ _ inb_S2x512x2816_S1x512x1408_0_0_0 _ _).trans (by simp [ix3])
    rw [e0, e2]
    dsimp only
    omega

/-- Tile 1 of a point's block lies where the product has it. -/
theorem piece1 (i : Fin 512) (q : Fin 1408) :
    tile1 (View.ld (iblk m c 0 t) r0_0) (View.ld (iblk m c 1 t) r0_1) (View.ld (iblk m c 2 t) r0_1) (View.ld (iblk m c 3 t) r0_1)
        (View.ld (iblk m c 4 t) r0_5) (View.ld (iblk m c 5 t) r0_6) (ix3 (0 : Fin 1) i q)
      = B6 m c t (r0_7.emb (ix3 (0 : Fin 1) i q)) := by
  refine (tile1_at _ _ _ _ _ _ i q).trans ((prod_at m c t _ _ _ 1408 (by omega) (h_at m c t) (fun k q => ?_) (fun q => ?_) i q).trans
    (B6_eq m c t (r0_7.emb (ix3 (0 : Fin 1) i q)) i _ ?_ ?_))
  · exact (View.ld_unit_apply_of _ _ _ _ _ (ix3 (1 : Fin 4) k q) fun a => by fin_cases a <;> simp [ix3]).trans (read4 m c t 1 k q)
  · exact (View.ld_unit_apply_of _ _ _ _ _ (ix2 0 ⟨1408 + q.val, by omega⟩) fun a => by fin_cases a <;> simp [ix2]).trans (read5 m c t _)
  · exact (ValueKit.rect_emb_unit_val _ _ inb_S2x512x2816_S1x512x1408_0_0_1408 _ _).trans (by simp [ix3])
  · have e0 : (r0_7.emb (ix3 (0 : Fin 1) i q) 0).val = 0 := (ValueKit.rect_emb_unit_val _ _ inb_S2x512x2816_S1x512x1408_0_0_1408 _ _).trans (by simp [ix3])
    have e2 : (r0_7.emb (ix3 (0 : Fin 1) i q) 2).val = 1408 + q.val := (ValueKit.rect_emb_unit_val _ _ inb_S2x512x2816_S1x512x1408_0_0_1408 _ _).trans (by simp [ix3])
    rw [e0, e2]
    dsimp only
    omega

/-- Tile 2 of a point's block lies where the product has it. -/
theorem piece2 (i : Fin 512) (q : Fin 1408) :
    tile2 (View.ld (iblk m c 0 t) r0_0) (View.ld (iblk m c 1 t) r0_1) (View.ld (iblk m c 2 t) r0_1) (View.ld (iblk m c 3 t) r0_1)
        (View.ld (iblk m c 4 t) r0_8) (View.ld (iblk m c 5 t) r0_9) (ix3 (0 : Fin 1) i q)
      = B6 m c t (r0_10.emb (ix3 (0 : Fin 1) i q)) := by
  refine (tile2_at _ _ _ _ _ _ i q).trans ((prod_at m c t _ _ _ 2816 (by omega) (h_at m c t) (fun k q => ?_) (fun q => ?_) i q).trans
    (B6_eq m c t (r0_10.emb (ix3 (0 : Fin 1) i q)) i _ ?_ ?_))
  · exact (View.ld_unit_apply_of _ _ _ _ _ (ix3 (2 : Fin 4) k q) fun a => by fin_cases a <;> simp [ix3]).trans (read4 m c t 2 k q)
  · exact (View.ld_unit_apply_of _ _ _ _ _ (ix2 0 ⟨2816 + q.val, by omega⟩) fun a => by fin_cases a <;> simp [ix2]).trans (read5 m c t _)
  · exact (ValueKit.rect_emb_unit_val _ _ inb_S2x512x2816_S1x512x1408_1_0_0 _ _).trans (by simp [ix3])
  · have e0 : (r0_10.emb (ix3 (0 : Fin 1) i q) 0).val = 1 := (ValueKit.rect_emb_unit_val _ _ inb_S2x512x2816_S1x512x1408_1_0_0 _ _).trans (by simp [ix3])
    have e2 : (r0_10.emb (ix3 (0 : Fin 1) i q) 2).val = 0 + q.val := (ValueKit.rect_emb_unit_val _ _ inb_S2x512x2816_S1x512x1408_1_0_0 _ _).trans (by simp [ix3])
    rw [e0, e2]
    dsimp only
    omega

/-- Tile 3 of a point's block lies where the product has it. -/
theorem piece3 (i : Fin 512) (q : Fin 1408) :
    tile3 (View.ld (iblk m c 0 t) r0_0) (View.ld (iblk m c 1 t) r0_1) (View.ld (iblk m c 2 t) r0_1) (View.ld (iblk m c 3 t) r0_1)
        (View.ld (iblk m c 4 t) r0_11) (View.ld (iblk m c 5 t) r0_12) (ix3 (0 : Fin 1) i q)
      = B6 m c t (r0_13.emb (ix3 (0 : Fin 1) i q)) := by
  refine (tile3_at _ _ _ _ _ _ i q).trans ((prod_at m c t _ _ _ 4224 (by omega) (h_at m c t) (fun k q => ?_) (fun q => ?_) i q).trans
    (B6_eq m c t (r0_13.emb (ix3 (0 : Fin 1) i q)) i _ ?_ ?_))
  · exact (View.ld_unit_apply_of _ _ _ _ _ (ix3 (3 : Fin 4) k q) fun a => by fin_cases a <;> simp [ix3]).trans (read4 m c t 3 k q)
  · exact (View.ld_unit_apply_of _ _ _ _ _ (ix2 0 ⟨4224 + q.val, by omega⟩) fun a => by fin_cases a <;> simp [ix2]).trans (read5 m c t _)
  · exact (ValueKit.rect_emb_unit_val _ _ inb_S2x512x2816_S1x512x1408_1_0_1408 _ _).trans (by simp [ix3])
  · have e0 : (r0_13.emb (ix3 (0 : Fin 1) i q) 0).val = 1 := (ValueKit.rect_emb_unit_val _ _ inb_S2x512x2816_S1x512x1408_1_0_1408 _ _).trans (by simp [ix3])
    have e2 : (r0_13.emb (ix3 (0 : Fin 1) i q) 2).val = 1408 + q.val := (ValueKit.rect_emb_unit_val _ _ inb_S2x512x2816_S1x512x1408_1_0_1408 _ _).trans (by simp [ix3])
    rw [e0, e2]
    dsimp only
    omega

/-- What a point leaves in the first result's block. -/
theorem out6_at (y : S2x512x2816.Idx) : out0_6 (iblk m c 0 t) (iblk m c 1 t) (iblk m c 2 t) (iblk m c 3 t) (iblk m c 4 t) (iblk m c 5 t) y = B6 m c t y := by
  unfold out0_6
  refine View.canon_apply_of_pieces (Val := Elt Ideal) (B6 m c t) _ ?_ y (cover0_6 _ _ _ _ y)
  intro pc hpc x
  rcases List.mem_cons.mp hpc with rfl | hpc
  · obtain ⟨u, i, q, rfl⟩ : ∃ (u : Fin 1) (i : Fin 512) (q : Fin 1408), x = ix3 u i q := ⟨x 0, x 1, x 2, eq_ix3 x⟩
    obtain rfl : u = 0 := Subsingleton.elim _ _
    exact piece3 m c t i q
  rcases List.mem_cons.mp hpc with rfl | hpc
  · obtain ⟨u, i, q, rfl⟩ : ∃ (u : Fin 1) (i : Fin 512) (q : Fin 1408), x = ix3 u i q := ⟨x 0, x 1, x 2, eq_ix3 x⟩
    obtain rfl : u = 0 := Subsingleton.elim _ _
    exact piece2 m c t i q
  rcases List.mem_cons.mp hpc with rfl | hpc
  · obtain ⟨u, i, q, rfl⟩ : ∃ (u : Fin 1) (i : Fin 512) (q : Fin 1408), x = ix3 u i q := ⟨x 0, x 1, x 2, eq_ix3 x⟩
    obtain rfl : u = 0 := Subsingleton.elim _ _
    exact piece1 m c t i q
  rcases List.mem_cons.mp hpc with rfl | hpc
  · obtain ⟨u, i, q, rfl⟩ : ∃ (u : Fin 1) (i : Fin 512) (q : Fin 1408), x = ix3 u i q := ⟨x 0, x 1, x 2, eq_ix3 x⟩
    obtain rfl : u = 0 := Subsingleton.elim _ _
    exact piece0 m c t i q
  exact absurd hpc List.not_mem_nil

/-- What a point leaves in the second result's block: its rows, normed and modulated. -/
theorem out7_at (i : Fin 512) (k : Fin 1024) : out0_7 (iblk m c 0 t) (iblk m c 1 t) (iblk m c 2 t) (iblk m c 3 t) (iblk m c 4 t) (iblk m c 5 t) (ix2 i k) = (args m c).H (row t i) k := by
  have e := View.canon_apply_of_pieces (Val := Elt Ideal) (S := S512x1024) (e := .bf16) (fun y => (args m c).H (row t (y 0)) (y 1))
    [⟨r0_0, k0_pay2 (View.ld (iblk m c 0 t) r0_0) (View.ld (iblk m c 1 t) r0_1) (View.ld (iblk m c 2 t) r0_1) (View.ld (iblk m c 3 t) r0_1)⟩] ?_ (ix2 i k) (cover0_7 _ _)
  · exact e
  · intro pc hpc x
    rcases List.mem_cons.mp hpc with rfl | hpc
    · obtain ⟨i, q, rfl⟩ : ∃ (i : Fin 512) (q : Fin 1024), x = ix2 i q := ⟨x 0, x 1, eq_ix2 x⟩
      refine (h_at m c t i q).trans ?_
      have e : r0_0.emb (ix2 i q) = ix2 i q := by blk_ext
      exact congrArg (fun z : S512x1024.Idx => (args m c).H (row t (z 0)) (z 1)) e.symm
    · exact absurd hpc List.not_mem_nil

theorem emb6 (u : Fin 2) (i : Fin 512) (l : Fin 2816) : ((cfg0.win 6).blk t).view.emb (ix3 u i l) = ix3 u (row t i) l := by
  blk_ext [idx t, row]

theorem emb7 (i : Fin 512) (k : Fin 1024) : ((cfg0.win 7).blk t).view.emb (ix2 i k) = ix2 (row t i) k := by
  blk_ext [idx t, row]

/-- The first result after the run is the product. -/
theorem result6 : (dats m 0 c).arrAt 6 cfg0.N = G6 m c := by
  refine (dats m 0 c).arrAt_eq_of_covers 6 _ (by decide +kernel) fun t hf y => ?_
  have hy : out0_6 (iblk m c 0 t) (iblk m c 1 t) (iblk m c 2 t) (iblk m c 3 t) (iblk m c 4 t) (iblk m c 5 t) y = G6 m c (((cfg0.win 6).blk t).view.emb y) := by
    obtain ⟨u, i, l, rfl⟩ : ∃ (u : Fin 2) (i : Fin 512) (l : Fin 2816), y = ix3 u i l := ⟨y 0, y 1, y 2, eq_ix3 y⟩
    rw [out6_at]
    erw [emb6]
    rfl
  blk_simp
  rw [after0_6]
  exact hy

/-- The second result after the run is the normed and modulated rows. -/
theorem result7 : (dats m 0 c).arrAt 7 cfg0.N = (args m c).h := by
  refine (dats m 0 c).arrAt_eq_of_covers 7 _ (by decide +kernel) fun t hf y => ?_
  have hy : out0_7 (iblk m c 0 t) (iblk m c 1 t) (iblk m c 2 t) (iblk m c 3 t) (iblk m c 4 t) (iblk m c 5 t) y = (args m c).h (((cfg0.win 7).blk t).view.emb y) := by
    obtain ⟨i, k, rfl⟩ : ∃ (i : Fin 512) (k : Fin 1024), y = ix2 i k := ⟨y 0, y 1, eq_ix2 y⟩
    rw [out7_at]
    erw [emb7]
    rfl
  blk_simp
  rw [after0_7]
  exact hy

end

section
open Cert.Reference12Ideal Cert.Reference12Ideal.Gen Idealize.ShloMosaic.StableHlo
variable (m : (ℓ : Loc nD τ sig) → Buf (Elt Ideal) ℓ) (c : Dev nD)

/-- The reference's argument arrays. -/
def rargs : Args 5632 where
  x := m ((c.tc : Thread nD τ).loc main_arg0)
  ng := m ((c.tc : Thread nD τ).loc main_arg1)
  sc := m ((c.tc : Thread nD τ).loc main_arg2)
  sh := m ((c.tc : Thread nD τ).loc main_arg3)
  w := m ((c.tc : Thread nD τ).loc main_arg4)
  b := fun _ => (0 : EReal)

/-- The reference's first result is the product. -/
theorem reference0 (y : S2x8192x2816.Idx) : (transpose S2x8192x2816 [1, 0, 2] (shapeCast _ (truncf .bf16 (Host.dotGeneral dot_S8192x1024_S1024x5632_S8192x5632_1_0_0_1_n_n none (addf (mulf (mulf (mulf (m ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m ((c.tc : Thread nD τ).loc main_arg1)))) (broadcastInDim S8192x1024 ![0, 1] bcast_S1x1024_S8192x1024_0_1 (addf (broadcastInDim S1x1024 ![] bcast_S_S1x1024 (constant (F := Ideal) S_ .f32 0x3F800000#32)) (m ((c.tc : Thread nD τ).loc main_arg2))))) (broadcastInDim S8192x1024 ![0, 1] bcast_S1x1024_S8192x1024_0_1 (m ((c.tc : Thread nD τ).loc main_arg3)))) (extf .f32 (m ((c.tc : Thread nD τ).loc main_arg4)) bitsLt_bf16_f32)) bitsLt_bf16_f32) shapeCasts_S8192x5632_S8192x2x2816) transposes_S8192x2x2816_S2x8192x2816_1_0_2 : FVec Ideal S2x8192x2816 .bf16) y
      = (rargs m c).P (y 1) ⟨(y 0).val * 2816 + (y 2).val, by
    have h0 : (y 0).val < 2 := (y 0).isLt
    have h2 : (y 2).val < 2816 := (y 2).isLt
    omega⟩ := by
  obtain ⟨u, i, l, rfl⟩ : ∃ (u : Fin 2) (i : Fin 8192) (l : Fin 2816), y = ix3 u i l := ⟨y 0, y 1, y 2, eq_ix3 y⟩
  refine Eq.trans ?_ ((rargs m c).P_of_zero (fun _ => rfl) _ _).symm
  pointwise [Args.H, entry, rs, ms, rargs]

/-- The reference's second result is the normed and modulated rows. -/
theorem reference1 (y : S8192x1024.Idx) : (truncf .bf16 (addf (mulf (mulf (mulf (m ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m ((c.tc : Thread nD τ).loc main_arg1)))) (broadcastInDim S8192x1024 ![0, 1] bcast_S1x1024_S8192x1024_0_1 (addf (broadcastInDim S1x1024 ![] bcast_S_S1x1024 (constant (F := Ideal) S_ .f32 0x3F800000#32)) (m ((c.tc : Thread nD τ).loc main_arg2))))) (broadcastInDim S8192x1024 ![0, 1] bcast_S1x1024_S8192x1024_0_1 (m ((c.tc : Thread nD τ).loc main_arg3)))) bitsLt_bf16_f32 : FVec Ideal S8192x1024 .bf16) y
      = (rargs m c).h y := by
  obtain ⟨i, k, rfl⟩ : ∃ (i : Fin 8192) (k : Fin 1024), y = ix2 i k := ⟨y 0, y 1, eq_ix2 y⟩
  pointwise [Args.h, Args.H, entry, rs, ms, rargs]

end

/-- The reference terminates, leaves its arguments and every semaphore as they were. -/
theorem frameRef : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- From arguments that agree, the kernel and the reference leave the same rows and the same product. -/
theorem algebraic : Cert.algebraic_Kernel12Ideal_Reference12Ideal := by
  intro m ρ m' ρ' _ hagree
  have same : ∀ c : Dev Cert.Kernel12Ideal.nD, rargs m' c = args m c := fun c => by
    obtain ⟨h0, h1, h2, h3, h4⟩ := hagree c
    rw [rargs, args, h0, h1, h2, h3, h4]
  refine ⟨fun c => G6 m c, fun c => (args m c).h, ?_, ?_⟩
  · exact (θ_run Cert.Kernel12Ideal.defs _ _).mono
      (fun _ h c => ⟨(h c).1.trans (result6 m c), (h c).2.1.trans (result7 m c), (h c).2.2⟩)
      (Cert.Kernel12Ideal.Value.run_blocks (F := Ideal) m ρ)
  · refine (θ_run Cert.Reference12Ideal.defs _ _).mono
      (fun _ h c => ⟨(h c).1.trans ((funext fun y => reference0 m' c y).trans ?_), (h c).2.1.trans ((funext fun y => reference1 m' c y).trans ?_), (h c).2.2⟩)
      (Cert.Reference12Ideal.Value.run (F := Ideal) m' ρ')
    · rw [same c]
      rfl
    · rw [same c]

end Cert.FwdFfnUp
-- ==== Proof.FwdSguIn.lean ====
/-
  The gated MLP's input product: the call `sgu_in` and the reference leave the same normed rows and the same product.
-/
module

public import proofs.«01_k».proof.Defs
public import proofs.«01_k».proof.Proof.NormForward
public import proofs.«01_k».proof.Proof.Gen.Kernel13.Frame
public import proofs.«01_k».proof.Proof.Gen.Kernel13Ideal.Value
public import proofs.«01_k».proof.Proof.Gen.Reference13Ideal.Run
public import Idealize.ShloMosaic.Adequacy
public import Idealize.ShloMosaic.Lib.Pipeline.ValueKit
public import Idealize.ShloMosaic.Lib.Pipeline.ReadBack

@[expose] public section

set_option maxRecDepth 16384

noncomputable section

namespace Cert.FwdSguIn

open Idealize.ShloMosaic Idealize.ShloMosaic.TcCoe Idealize.SL.Sem Cert.NormRow Cert.NormForward

section
open Cert.Kernel13Ideal Cert.Kernel13Ideal.Gen

/-- The normed and modulated rows of a block. -/
theorem rows_at (x : Vec Ideal S512x1024 .f32) (ng sc sh : Vec Ideal S1x1024 .f32) (i : Fin 512) (k : Fin 1024) :
    k0_pay4 x ng sc sh (ix2 i k) = entry (fun k => x (ix2 i k)) (ng (ix2 0 k)) (sc (ix2 0 k)) (sh (ix2 0 k)) k := by
  pointwise [k0_pay4, entry, rs, ms]

/-- Tile 0 of the product. -/
abbrev tile0 (x : Vec Ideal S512x1024 .f32) (ng sc sh : Vec Ideal S1x1024 .f32) (w : Vec Ideal S1x1024x1024 .bf16) (b : Vec Ideal S1x1024 .f32) :
    FVec Ideal S512x1024 .bf16 := k0_pay5 x ng sc sh w b

theorem tile0_at (x : Vec Ideal S512x1024 .f32) (ng sc sh : Vec Ideal S1x1024 .f32) (w : Vec Ideal S1x1024x1024 .bf16) (b : Vec Ideal S1x1024 .f32)
    (i : Fin 512) (q : Fin 1024) :
    tile0 x ng sc sh w b (ix2 i q) = (∑ k : Fin 1024, k0_pay4 x ng sc sh (ix2 i k) * w (ix3 0 k q)) + b (ix2 0 q) := by
  pointwise [tile0, k0_pay5]

/-- Tile 1 of the product. -/
abbrev tile1 (x : Vec Ideal S512x1024 .f32) (ng sc sh : Vec Ideal S1x1024 .f32) (w : Vec Ideal S1x1024x1024 .bf16) (b : Vec Ideal S1x1024 .f32) :
    FVec Ideal S512x1024 .bf16 := k0_pay1 (k0_pay4 x ng sc sh) w b

theorem tile1_at (x : Vec Ideal S512x1024 .f32) (ng sc sh : Vec Ideal S1x1024 .f32) (w : Vec Ideal S1x1024x1024 .bf16) (b : Vec Ideal S1x1024 .f32)
    (i : Fin 512) (q : Fin 1024) :
    tile1 x ng sc sh w b (ix2 i q) = (∑ k : Fin 1024, k0_pay4 x ng sc sh (ix2 i k) * w (ix3 0 k q)) + b (ix2 0 q) := by
  pointwise [tile1, k0_pay1]

/-- Tile 2 of the product. -/
abbrev tile2 (x : Vec Ideal S512x1024 .f32) (ng sc sh : Vec Ideal S1x1024 .f32) (w : Vec Ideal S1x1024x1024 .bf16) (b : Vec Ideal S1x1024 .f32) :
    FVec Ideal S512x1024 .bf16 := k0_pay2 (k0_pay4 x ng sc sh) w b

theorem tile2_at (x : Vec Ideal S512x1024 .f32) (ng sc sh : Vec Ideal S1x1024 .f32) (w : Vec Ideal S1x1024x1024 .bf16) (b : Vec Ideal S1x1024 .f32)
    (i : Fin 512) (q : Fin 1024) :
    tile2 x ng sc sh w b (ix2 i q) = (∑ k : Fin 1024, k0_pay4 x ng sc sh (ix2 i k) * w (ix3 0 k q)) + b (ix2 0 q) := by
  pointwise [tile2, k0_pay2]

/-- Tile 3 of the product. -/
abbrev tile3 (x : Vec Ideal S512x1024 .f32) (ng sc sh : Vec Ideal S1x1024 .f32) (w : Vec Ideal S1x1024x1024 .bf16) (b : Vec Ideal S1x1024 .f32) :
    FVec Ideal S512x1024 .bf16 := k0_pay3 (k0_pay4 x ng sc sh) w b

theorem tile3_at (x : Vec Ideal S512x1024 .f32) (ng sc sh : Vec Ideal S1x1024 .f32) (w : Vec Ideal S1x1024x1024 .bf16) (b : Vec Ideal S1x1024 .f32)
    (i : Fin 512) (q : Fin 1024) :
    tile3 x ng sc sh w b (ix2 i q) = (∑ k : Fin 1024, k0_pay4 x ng sc sh (ix2 i k) * w (ix3 0 k q)) + b (ix2 0 q) := by
  pointwise [tile3, k0_pay3]

variable (m : (ℓ : Loc nD τ sig) → Buf (Elt Ideal) ℓ)

/-- The argument arrays of the launch. -/
def args (c : Dev nD) : Args 4096 where
  x := m ((c : Thread nD τ).loc main_arg0)
  ng := m ((c : Thread nD τ).loc main_arg1)
  sc := m ((c : Thread nD τ).loc main_arg2)
  sh := m ((c : Thread nD τ).loc main_arg3)
  w := m ((c : Thread nD τ).loc main_arg4)
  b := m ((c : Thread nD τ).loc main_arg5)

theorem idx : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0] ∧ win0_6.index t = ![t.val, 0]
    ∧ win0_7.index t = ![t.val, 0] :=
  (by decide +kernel : ∀ t : Fin grid0.N, _)

/-- Row `i` of the block of point `t`, as a row of the whole array. -/
def row (t : Fin cfg0.N) (i : Fin 512) : Fin 8192 :=
  ⟨t.val * 512 + i.val, by have := t.isLt; have hN : cfg0.N = 16 := N_0; have := i.isLt; omega⟩

variable (c : Dev nD) (t : Fin cfg0.N)

theorem read0 (i : Fin 512) (k : Fin 1024) : iblk m c 0 t (ix2 i k) = (args m c).x (ix2 (row t i) k) := by
  blk_ext [iblk, V, idx t, args, row]

theorem read1 (k : Fin 1024) : iblk m c 1 t (ix2 0 k) = (args m c).ng (ix2 0 k) := by
  blk_ext [iblk, V, idx t, args]

theorem read2 (k : Fin 1024) : iblk m c 2 t (ix2 0 k) = (args m c).sc (ix2 0 k) := by
  blk_ext [iblk, V, idx t, args]

theorem read3 (k : Fin 1024) : iblk m c 3 t (ix2 0 k) = (args m c).sh (ix2 0 k) := by
  blk_ext [iblk, V, idx t, args]

theorem read4 (p : Fin 4) (k : Fin 1024) (q : Fin 1024) :
    iblk m c 4 t (ix3 p k q) = (args m c).w (ix2 k ⟨p.val * 1024 + q.val, by omega⟩) := by
  blk_simp [iblk]
  entry_read
  rw [show ((View.whole main_v1).slice (win0_4.rect t)).emb (ix3 p k q) = ix3 p k q from by blk_ext [idx t]]
  pointwise [args]

theorem read5 (q : Fin 4096) : iblk m c 5 t (ix2 0 q) = (args m c).b (ix2 0 q) := by
  blk_ext [iblk, V, idx t, args]

/-- A load of a whole block is the block. -/
theorem ld0 (X : Vec Ideal S512x1024 .f32) : View.ld X r0_0 = X :=
  funext fun z => View.ld_unit_apply_of _ _ _ _ _ z fun a => by fin_cases a <;> simp

theorem ld1 (X : Vec Ideal S1x1024 .f32) : View.ld X r0_1 = X :=
  funext fun z => View.ld_unit_apply_of _ _ _ _ _ z fun a => by fin_cases a <;> simp

/-- The normed and modulated rows of a point's block. -/
theorem h_at (i : Fin 512) (k : Fin 1024) :
    k0_pay4 (View.ld (iblk m c 0 t) r0_0) (View.ld (iblk m c 1 t) r0_1) (View.ld (iblk m c 2 t) r0_1) (View.ld (iblk m c 3 t) r0_1) (ix2 i k)
      = (args m c).H (row t i) k := by
  rw [ld0, ld1, ld1, ld1, rows_at, read1, read2, read3, Args.H]
  exact congrArg (fun f => entry f _ _ _ k) (funext fun k => read0 m c t i k)

/-- A tile of a point's block is the product's, its columns from `o` on. -/
theorem prod_at (h : FVec Ideal S512x1024 .bf16) (w : Vec Ideal S1x1024x1024 .bf16) (b : Vec Ideal S1x1024 .f32)
    (o : ℕ) (ho : o + 1024 ≤ 4096) (hh : ∀ i k, h (ix2 i k) = (args m c).H (row t i) k)
    (hw : ∀ (k : Fin 1024) (q : Fin 1024), w (ix3 0 k q) = (args m c).w (ix2 k ⟨o + q.val, by omega⟩))
    (hb : ∀ q : Fin 1024, b (ix2 0 q) = (args m c).b (ix2 0 ⟨o + q.val, by omega⟩)) (i : Fin 512) (q : Fin 1024) :
    HAdd.hAdd (α := EReal) (∑ k : Fin 1024, (h (ix2 i k) * w (ix3 0 k q) : EReal)) (b (ix2 0 q)) = (args m c).P (row t i) ⟨o + q.val, by omega⟩ := by
  rw [Args.P, hb]
  exact congrArg (fun s : EReal => HAdd.hAdd (α := EReal) s _) (Finset.sum_congr rfl fun k _ => by rw [hh, hw])

/-- The product as an array. -/
def G6 : S8192x4096.Idx → EReal := fun y => (args m c).P (y 0) ⟨(y 1).val, (y 1).isLt⟩
/-- The rows of it that point `t` writes. -/
def B6 : S512x4096.Idx → EReal := fun y => (args m c).P (row t (y 0)) ⟨(y 1).val, (y 1).isLt⟩

theorem B6_eq (z : S512x4096.Idx) (i : Fin 512) (l : Fin 4096) (h1 : (z 0).val = i.val) (h : (z 1).val = l.val) :
    (args m c).P (row t i) l = B6 m c t z := by
  obtain rfl : z 0 = i := Fin.ext h1
  obtain ⟨l, hl⟩ := l
  obtain rfl : (z 1).val = l := h
  rfl

/-- Tile 0 of a point's block lies where the product has it. -/
theorem piece0 (i : Fin 512) (q : Fin 1024) :
    tile0 (View.ld (iblk m c 0 t) r0_0) (View.ld (iblk m c 1 t) r0_1) (View.ld (iblk m c 2 t) r0_1) (View.ld (iblk m c 3 t) r0_1)
        (View.ld (iblk m c 4 t) r0_2) (View.ld (iblk m c 5 t) r0_3) (ix2 i q)
      = B6 m c t (r0_4.emb (ix2 i q)) := by
  refine (tile0_at _ _ _ _ _ _ i q).trans ((prod_at m c t _ _ _ 0 (by omega) (h_at m c t) (fun k q => ?_) (fun q => ?_) i q).trans
    (B6_eq m c t (r0_4.emb (ix2 i q)) i _ ?_ ?_))
  · exact (View.ld_unit_apply_of _ _ _ _ _ (ix3 (0 : Fin 4) k q) fun a => by fin_cases a <;> simp [ix3]).trans (read4 m c t 0 k q)
  · exact (View.ld_unit_apply_of _ _ _ _ _ (ix2 0 ⟨0 + q.val, by omega⟩) fun a => by fin_cases a <;> simp [ix2]).trans (read5 m c t _)
  · exact (ValueKit.rect_emb_unit_val _ _ inb_S512x4096_S512x1024_0_0 _ _).trans (by simp [ix2])
  · exact (ValueKit.rect_emb_unit_val _ _ inb_S512x4096_S512x1024_0_0 _ _).trans (by simp [ix2])

/-- Tile 1 of a point's block lies where the product has it. -/
theorem piece1 (i : Fin 512) (q : Fin 1024) :
    tile1 (View.ld (iblk m c 0 t) r0_0) (View.ld (iblk m c 1 t) r0_1) (View.ld (iblk m c 2 t) r0_1) (View.ld (iblk m c 3 t) r0_1)
        (View.ld (iblk m c 4 t) r0_5) (View.ld (iblk m c 5 t) r0_6) (ix2 i q)
      = B6 m c t (r0_7.emb (ix2 i q)) := by
  refine (tile1_at _ _ _ _ _ _ i q).trans ((prod_at m c t _ _ _ 1024 (by omega) (h_at m c t) (fun k q => ?_) (fun q => ?_) i q).trans
    (B6_eq m c t (r0_7.emb (ix2 i q)) i _ ?_ ?_))
  · exact (View.ld_unit_apply_of _ _ _ _ _ (ix3 (1 : Fin 4) k q) fun a => by fin_cases a <;> simp [ix3]).trans (read4 m c t 1 k q)
  · exact (View.ld_unit_apply_of _ _ _ _ _ (ix2 0 ⟨1024 + q.val, by omega⟩) fun a => by fin_cases a <;> simp [ix2]).trans (read5 m c t _)
  · exact (ValueKit.rect_emb_unit_val _ _ inb_S512x4096_S512x1024_0_1024 _ _).trans (by simp [ix2])
  · exact (ValueKit.rect_emb_unit_val _ _ inb_S512x4096_S512x1024_0_1024 _ _).trans (by simp [ix2])

/-- Tile 2 of a point's block lies where the product has it. -/
theorem piece2 (i : Fin 512) (q : Fin 1024) :
    tile2 (View.ld (iblk m c 0 t) r0_0) (View.ld (iblk m c 1 t) r0_1) (View.ld (iblk m c 2 t) r0_1) (View.ld (iblk m c 3 t) r0_1)
        (View.ld (iblk m c 4 t) r0_8) (View.ld (iblk m c 5 t) r0_9) (ix2 i q)
      = B6 m c t (r0_10.emb (ix2 i q)) := by
  refine (tile2_at _ _ _ _ _ _ i q).trans ((prod_at m c t _ _ _ 2048 (by omega) (h_at m c t) (fun k q => ?_) (fun q => ?_) i q).trans
    (B6_eq m c t (r0_10.emb (ix2 i q)) i _ ?_ ?_))
  · exact (View.ld_unit_apply_of _ _ _ _ _ (ix3 (2 : Fin 4) k q) fun a => by fin_cases a <;> simp [ix3]).trans (read4 m c t 2 k q)
  · exact (View.ld_unit_apply_of _ _ _ _ _ (ix2 0 ⟨2048 + q.val, by omega⟩) fun a => by fin_cases a <;> simp [ix2]).trans (read5 m c t _)
  · exact (ValueKit.rect_emb_unit_val _ _ inb_S512x4096_S512x1024_0_2048 _ _).trans (by simp [ix2])
  · exact (ValueKit.rect_emb_unit_val _ _ inb_S512x4096_S512x1024_0_2048 _ _).trans (by simp [ix2])

/-- Tile 3 of a point's block lies where the product has it. -/
theorem piece3 (i : Fin 512) (q : Fin 1024) :
    tile3 (View.ld (iblk m c 0 t) r0_0) (View.ld (iblk m c 1 t) r0_1) (View.ld (iblk m c 2 t) r0_1) (View.ld (iblk m c 3 t) r0_1)
        (View.ld (iblk m c 4 t) r0_11) (View.ld (iblk m c 5 t) r0_12) (ix2 i q)
      = B6 m c t (r0_13.emb (ix2 i q)) := by
  refine (tile3_at _ _ _ _ _ _ i q).trans ((prod_at m c t _ _ _ 3072 (by omega) (h_at m c t) (fun k q => ?_) (fun q => ?_) i q).trans
    (B6_eq m c t (r0_13.emb (ix2 i q)) i _ ?_ ?_))
  · exact (View.ld_unit_apply_of _ _ _ _ _ (ix3 (3 : Fin 4) k q) fun a => by fin_cases a <;> simp [ix3]).trans (read4 m c t 3 k q)
  · exact (View.ld_unit_apply_of _ _ _ _ _ (ix2 0 ⟨3072 + q.val, by omega⟩) fun a => by fin_cases a <;> simp [ix2]).trans (read5 m c t _)
  · exact (ValueKit.rect_emb_unit_val _ _ inb_S512x4096_S512x1024_0_3072 _ _).trans (by simp [ix2])
  · exact (ValueKit.rect_emb_unit_val _ _ inb_S512x4096_S512x1024_0_3072 _ _).trans (by simp [ix2])

/-- What a point leaves in the first result's block. -/
theorem out6_at (y : S512x4096.Idx) : out0_6 (iblk m c 0 t) (iblk m c 1 t) (iblk m c 2 t) (iblk m c 3 t) (iblk m c 4 t) (iblk m c 5 t) y = B6 m c t y := by
  unfold out0_6
  refine View.canon_apply_of_pieces (Val := Elt Ideal) (B6 m c t) _ ?_ y (cover0_6 _ _ _ _ y)
  intro pc hpc x
  rcases List.mem_cons.mp hpc with rfl | hpc
  · obtain ⟨i, q, rfl⟩ : ∃ (i : Fin 512) (q : Fin 1024), x = ix2 i q := ⟨x 0, x 1, eq_ix2 x⟩
    exact piece3 m c t i q
  rcases List.mem_cons.mp hpc with rfl | hpc
  · obtain ⟨i, q, rfl⟩ : ∃ (i : Fin 512) (q : Fin 1024), x = ix2 i q := ⟨x 0, x 1, eq_ix2 x⟩
    exact piece2 m c t i q
  rcases List.mem_cons.mp hpc with rfl | hpc
  · obtain ⟨i, q, rfl⟩ : ∃ (i : Fin 512) (q : Fin 1024), x = ix2 i q := ⟨x 0, x 1, eq_ix2 x⟩
    exact piece1 m c t i q
  rcases List.mem_cons.mp hpc with rfl | hpc
  · obtain ⟨i, q, rfl⟩ : ∃ (i : Fin 512) (q : Fin 1024), x = ix2 i q := ⟨x 0, x 1, eq_ix2 x⟩
    exact piece0 m c t i q
  exact absurd hpc List.not_mem_nil

/-- What a point leaves in the second result's block: its rows, normed and modulated. -/
theorem out7_at (i : Fin 512) (k : Fin 1024) : out0_7 (iblk m c 0 t) (iblk m c 1 t) (iblk m c 2 t) (iblk m c 3 t) (iblk m c 4 t) (iblk m c 5 t) (ix2 i k) = (args m c).H (row t i) k := by
  have e := View.canon_apply_of_pieces (Val := Elt Ideal) (S := S512x1024) (e := .bf16) (fun y => (args m c).H (row t (y 0)) (y 1))
    [⟨r0_0, k0_pay4 (View.ld (iblk m c 0 t) r0_0) (View.ld (iblk m c 1 t) r0_1) (View.ld (iblk m c 2 t) r0_1) (View.ld (iblk m c 3 t) r0_1)⟩] ?_ (ix2 i k) (cover0_7 _ _)
  · exact e
  · intro pc hpc x
    rcases List.mem_cons.mp hpc with rfl | hpc
    · obtain ⟨i, q, rfl⟩ : ∃ (i : Fin 512) (q : Fin 1024), x = ix2 i q := ⟨x 0, x 1, eq_ix2 x⟩
      refine (h_at m c t i q).trans ?_
      have e : r0_0.emb (ix2 i q) = ix2 i q := by blk_ext
      exact congrArg (fun z : S512x1024.Idx => (args m c).H (row t (z 0)) (z 1)) e.symm
    · exact absurd hpc List.not_mem_nil

theorem emb6 (i : Fin 512) (l : Fin 4096) : ((cfg0.win 6).blk t).view.emb (ix2 i l) = ix2 (row t i) l := by
  blk_ext [idx t, row]

theorem emb7 (i : Fin 512) (k : Fin 1024) : ((cfg0.win 7).blk t).view.emb (ix2 i k) = ix2 (row t i) k := by
  blk_ext [idx t, row]

/-- The first result after the run is the product. -/
theorem result6 : (dats m 0 c).arrAt 6 cfg0.N = G6 m c := by
  refine (dats m 0 c).arrAt_eq_of_covers 6 _ (by decide +kernel) fun t hf y => ?_
  have hy : out0_6 (iblk m c 0 t) (iblk m c 1 t) (iblk m c 2 t) (iblk m c 3 t) (iblk m c 4 t) (iblk m c 5 t) y = G6 m c (((cfg0.win 6).blk t).view.emb y) := by
    obtain ⟨i, l, rfl⟩ : ∃ (i : Fin 512) (l : Fin 4096), y = ix2 i l := ⟨y 0, y 1, eq_ix2 y⟩
    rw [out6_at]
    erw [emb6]
    rfl
  blk_simp
  rw [after0_6]
  exact hy

/-- The second result after the run is the normed and modulated rows. -/
theorem result7 : (dats m 0 c).arrAt 7 cfg0.N = (args m c).h := by
  refine (dats m 0 c).arrAt_eq_of_covers 7 _ (by decide +kernel) fun t hf y => ?_
  have hy : out0_7 (iblk m c 0 t) (iblk m c 1 t) (iblk m c 2 t) (iblk m c 3 t) (iblk m c 4 t) (iblk m c 5 t) y = (args m c).h (((cfg0.win 7).blk t).view.emb y) := by
    obtain ⟨i, k, rfl⟩ : ∃ (i : Fin 512) (k : Fin 1024), y = ix2 i k := ⟨y 0, y 1, eq_ix2 y⟩
    rw [out7_at]
    erw [emb7]
    rfl
  blk_simp
  rw [after0_7]
  exact hy

end

section
open Cert.Reference13Ideal Cert.Reference13Ideal.Gen Idealize.ShloMosaic.StableHlo
variable (m : (ℓ : Loc nD τ sig) → Buf (Elt Ideal) ℓ) (c : Dev nD)

/-- The reference's argument arrays. -/
def rargs : Args 4096 where
  x := m ((c.tc : Thread nD τ).loc main_arg0)
  ng := m ((c.tc : Thread nD τ).loc main_arg1)
  sc := m ((c.tc : Thread nD τ).loc main_arg2)
  sh := m ((c.tc : Thread nD τ).loc main_arg3)
  w := m ((c.tc : Thread nD τ).loc main_arg4)
  b := m ((c.tc : Thread nD τ).loc main_arg5)

/-- The reference's first result is the product. -/
theorem reference0 (y : S8192x4096.Idx) : (truncf .bf16 (addf (Host.dotGeneral dot_S8192x1024_S1024x4096_S8192x4096_1_0_0_1_n_n none (addf (mulf (mulf (mulf (m ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m ((c.tc : Thread nD τ).loc main_arg1)))) (broadcastInDim S8192x1024 ![0, 1] bcast_S1x1024_S8192x1024_0_1 (addf (broadcastInDim S1x1024 ![] bcast_S_S1x1024 (constant (F := Ideal) S_ .f32 0x3F800000#32)) (m ((c.tc : Thread nD τ).loc main_arg2))))) (broadcastInDim S8192x1024 ![0, 1] bcast_S1x1024_S8192x1024_0_1 (m ((c.tc : Thread nD τ).loc main_arg3)))) (extf .f32 (m ((c.tc : Thread nD τ).loc main_arg4)) bitsLt_bf16_f32)) (broadcastInDim S8192x4096 ![0, 1] bcast_S1x4096_S8192x4096_0_1 (m ((c.tc : Thread nD τ).loc main_arg5)))) bitsLt_bf16_f32 : FVec Ideal S8192x4096 .bf16) y
      = (rargs m c).P (y 0) ⟨(y 1).val, (y 1).isLt⟩ := by
  obtain ⟨i, l, rfl⟩ : ∃ (i : Fin 8192) (l : Fin 4096), y = ix2 i l := ⟨y 0, y 1, eq_ix2 y⟩
  pointwise [Args.P, Args.H, entry, rs, ms, rargs]

/-- The reference's second result is the normed and modulated rows. -/
theorem reference1 (y : S8192x1024.Idx) : (truncf .bf16 (addf (mulf (mulf (mulf (m ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m ((c.tc : Thread nD τ).loc main_arg1)))) (broadcastInDim S8192x1024 ![0, 1] bcast_S1x1024_S8192x1024_0_1 (addf (broadcastInDim S1x1024 ![] bcast_S_S1x1024 (constant (F := Ideal) S_ .f32 0x3F800000#32)) (m ((c.tc : Thread nD τ).loc main_arg2))))) (broadcastInDim S8192x1024 ![0, 1] bcast_S1x1024_S8192x1024_0_1 (m ((c.tc : Thread nD τ).loc main_arg3)))) bitsLt_bf16_f32 : FVec Ideal S8192x1024 .bf16) y
      = (rargs m c).h y := by
  obtain ⟨i, k, rfl⟩ : ∃ (i : Fin 8192) (k : Fin 1024), y = ix2 i k := ⟨y 0, y 1, eq_ix2 y⟩
  pointwise [Args.h, Args.H, entry, rs, ms, rargs]

end

/-- The reference terminates, leaves its arguments and every semaphore as they were. -/
theorem frameRef : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

/-- From arguments that agree, the kernel and the reference leave the same rows and the same product. -/
theorem algebraic : Cert.algebraic_Kernel13Ideal_Reference13Ideal := by
  intro m ρ m' ρ' _ hagree
  have same : ∀ c : Dev Cert.Kernel13Ideal.nD, rargs m' c = args m c := fun c => by
    obtain ⟨h0, h1, h2, h3, h4, h5⟩ := hagree c
    rw [rargs, args, h0, h1, h2, h3, h4, h5]
  refine ⟨fun c => G6 m c, fun c => (args m c).h, ?_, ?_⟩
  · exact (θ_run Cert.Kernel13Ideal.defs _ _).mono
      (fun _ h c => ⟨(h c).1.trans (result6 m c), (h c).2.1.trans (result7 m c), (h c).2.2⟩)
      (Cert.Kernel13Ideal.Value.run_blocks (F := Ideal) m ρ)
  · refine (θ_run Cert.Reference13Ideal.defs _ _).mono
      (fun _ h c => ⟨(h c).1.trans ((funext fun y => reference0 m' c y).trans ?_), (h c).2.1.trans ((funext fun y => reference1 m' c y).trans ?_), (h c).2.2⟩)
      (Cert.Reference13Ideal.Value.run (F := Ideal) m' ρ')
    · rw [same c]
      rfl
    · rw [same c]

end Cert.FwdSguIn
-- ==== Proof.FwdFoxIn.lean ====
/-
  The attention's input product: the call `fox_in` and the reference leave the same normed rows and the same product.
-/
module

public import proofs.«01_k».proof.Defs
public import proofs.«01_k».proof.Proof.NormForward
public import proofs.«01_k».proof.Proof.Gen.Kernel14.Frame
public import proofs.«01_k».proof.Proof.Gen.Kernel14Ideal.Value
public import proofs.«01_k».proof.Proof.Gen.Reference14Ideal.Run
public import Idealize.ShloMosaic.Adequacy
public import Idealize.ShloMosaic.Lib.Pipeline.ValueKit
public import Idealize.ShloMosaic.Lib.Pipeline.ReadBack

@[expose] public section

set_option maxRecDepth 16384

noncomputable section

namespace Cert.FwdFoxIn

open Idealize.ShloMosaic Idealize.ShloMosaic.TcCoe Idealize.SL.Sem Cert.NormRow Cert.NormForward

section
open Cert.Kernel14Ideal Cert.Kernel14Ideal.Gen

/-- The normed and modulated rows of a block. -/
theorem rows_at (x : Vec Ideal S512x1024 .f32) (ng sc sh : Vec Ideal S1x1024 .f32) (i : Fin 512) (k : Fin 1024) :
    k0_pay3 x ng sc sh (ix2 i k) = entry (fun k => x (ix2 i k)) (ng (ix2 0 k)) (sc (ix2 0 k)) (sh (ix2 0 k)) k := by
  pointwise [k0_pay3, entry, rs, ms]

/-- Tile 0 of the product. -/
abbrev tile0 (x : Vec Ideal S512x1024 .f32) (ng sc sh : Vec Ideal S1x1024 .f32) (w : Vec Ideal S1024x1408 .bf16) (b : Vec Ideal S1x1408 .f32) :
    FVec Ideal S512x1408 .f32 := k0_pay4 x ng sc sh w b

theorem tile0_at (x : Vec Ideal S512x1024 .f32) (ng sc sh : Vec Ideal S1x1024 .f32) (w : Vec Ideal S1024x1408 .bf16) (b : Vec Ideal S1x1408 .f32)
    (i : Fin 512) (q : Fin 1408) :
    tile0 x ng sc sh w b (ix2 i q) = (∑ k : Fin 1024, k0_pay3 x ng sc sh (ix2 i k) * w (ix2 k q)) + b (ix2 0 q) := by
  pointwise [tile0, k0_pay4]

/-- Tile 1 of the product. -/
abbrev tile1 (x : Vec Ideal S512x1024 .f32) (ng sc sh : Vec Ideal S1x1024 .f32) (w : Vec Ideal S1024x1408 .bf16) (b : Vec Ideal S1x1408 .f32) :
    FVec Ideal S512x1408 .f32 := k0_pay1 (k0_pay5 x ng sc sh w) b

theorem tile1_at (x : Vec Ideal S512x1024 .f32) (ng sc sh : Vec Ideal S1x1024 .f32) (w : Vec Ideal S1024x1408 .bf16) (b : Vec Ideal S1x1408 .f32)
    (i : Fin 512) (q : Fin 1408) :
    tile1 x ng sc sh w b (ix2 i q) = (∑ k : Fin 1024, k0_pay3 x ng sc sh (ix2 i k) * w (ix2 k q)) + b (ix2 0 q) := by
  pointwise [tile1, k0_pay1, k0_pay5]

/-- Tile 2 of the product. -/
abbrev tile2 (x : Vec Ideal S512x1024 .f32) (ng sc sh : Vec Ideal S1x1024 .f32) (w : Vec Ideal S1024x1408 .bf16) (b : Vec Ideal S1x1408 .f32) :
    FVec Ideal S512x1408 .f32 := k0_pay2 (k0_pay3 x ng sc sh) w b

theorem tile2_at (x : Vec Ideal S512x1024 .f32) (ng sc sh : Vec Ideal S1x1024 .f32) (w : Vec Ideal S1024x1408 .bf16) (b : Vec Ideal S1x1408 .f32)
    (i : Fin 512) (q : Fin 1408) :
    tile2 x ng sc sh w b (ix2 i q) = (∑ k : Fin 1024, k0_pay3 x ng sc sh (ix2 i k) * w (ix2 k q)) + b (ix2 0 q) := by
  pointwise [tile2, k0_pay2]

variable (m : (ℓ : Loc nD τ sig) → Buf (Elt Ideal) ℓ)

/-- The argument arrays of the launch. -/
def args (c : Dev nD) : Args 4224 where
  x := m ((c : Thread nD τ).loc main_arg0)
  ng := m ((c : Thread nD τ).loc main_arg1)
  sc := m ((c : Thread nD τ).loc main_arg2)
  sh := m ((c : Thread nD τ).loc main_arg3)
  w := m ((c : Thread nD τ).loc main_arg4)
  b := fun _ => (0 : EReal)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] :=
  (by decide +kernel : ∀ t : Fin grid0.N, _)

/-- Row `i` of the block of point `t`, as a row of the whole array. -/
def row (t : Fin cfg0.N) (i : Fin 512) : Fin 8192 :=
  ⟨t.val * 512 + i.val, by have := t.isLt; have hN : cfg0.N = 16 := N_0; have := i.isLt; omega⟩

variable (c : Dev nD) (t : Fin cfg0.N)

theorem read0 (i : Fin 512) (k : Fin 1024) : iblk m c 0 t (ix2 i k) = (args m c).x (ix2 (row t i) k) := by
  blk_ext [iblk, V, idx t, args, row]

theorem read1 (k : Fin 1024) : iblk m c 1 t (ix2 0 k) = (args m c).ng (ix2 0 k) := by
  blk_ext [iblk, V, idx t, args]

theorem read2 (k : Fin 1024) : iblk m c 2 t (ix2 0 k) = (args m c).sc (ix2 0 k) := by
  blk_ext [iblk, V, idx t, args]

theorem read3 (k : Fin 1024) : iblk m c 3 t (ix2 0 k) = (args m c).sh (ix2 0 k) := by
  blk_ext [iblk, V, idx t, args]

theorem read4 (k : Fin 1024) (q : Fin 4224) : iblk m c 4 t (ix2 k q) = (args m c).w (ix2 k q) := by
  blk_ext [iblk, V, idx t, args]

theorem read5 (q : Fin 4224) : iblk m c 5 t (ix2 0 q) = (args m c).b (ix2 0 q) := by
  blk_simp [iblk]
  entry_read
  pointwise [args]

/-- A load of a whole block is the block. -/
theorem ld0 (X : Vec Ideal S512x1024 .f32) : View.ld X r0_0 = X :=
  funext fun z => View.ld_unit_apply_of _ _ _ _ _ z fun a => by fin_cases a <;> simp

theorem ld1 (X : Vec Ideal S1x1024 .f32) : View.ld X r0_1 = X :=
  funext fun z => View.ld_unit_apply_of _ _ _ _ _ z fun a => by fin_cases a <;> simp

/-- The normed and modulated rows of a point's block. -/
theorem h_at (i : Fin 512) (k : Fin 1024) :
    k0_pay3 (View.ld (iblk m c 0 t) r0_0) (View.ld (iblk m c 1 t) r0_1) (View.ld (iblk m c 2 t) r0_1) (View.ld (iblk m c 3 t) r0_1) (ix2 i k)
      = (args m c).H (row t i) k := by
  rw [ld0, ld1, ld1, ld1, rows_at, read1, read2, read3, Args.H]
  exact congrArg (fun f => entry f _ _ _ k) (funext fun k => read0 m c t i k)

/-- A tile of a point's block is the product's, its columns from `o` on. -/
theorem prod_at (h : FVec Ideal S512x1024 .bf16) (w : Vec Ideal S1024x1408 .bf16) (b : Vec Ideal S1x1408 .f32)
    (o : ℕ) (ho : o + 1408 ≤ 4224) (hh : ∀ i k, h (ix2 i k) = (args m c).H (row t i) k)
    (hw : ∀ (k : Fin 1024) (q : Fin 1408), w (ix2 k q) = (args m c).w (ix2 k ⟨o + q.val, by omega⟩))
    (hb : ∀ q : Fin 1408, b (ix2 0 q) = (args m c).b (ix2 0 ⟨o + q.val, by omega⟩)) (i : Fin 512) (q : Fin 1408) :
    HAdd.hAdd (α := EReal) (∑ k : Fin 1024, (h (ix2 i k) * w (ix2 k q) : EReal)) (b (ix2 0 q)) = (args m c).P (row t i) ⟨o + q.val, by omega⟩ := by
  rw [Args.P, hb]
  exact congrArg (fun s : EReal => HAdd.hAdd (α := EReal) s _) (Finset.sum_congr rfl fun k _ => by rw [hh, hw])

/-- The product as an array. -/
def G6 : S8192x4224.Idx → EReal := fun y => (args m c).P (y 0) ⟨(y 1).val, (y 1).isLt⟩
/-- The rows of it that point `t` writes. -/
def B6 : S512x4224.Idx → EReal := fun y => (args m c).P (row t (y 0)) ⟨(y 1).val, (y 1).isLt⟩

theorem B6_eq (z : S512x4224.Idx) (i : Fin 512) (l : Fin 4224) (h1 : (z 0).val = i.val) (h : (z 1).val = l.val) :
    (args m c).P (row t i) l = B6 m c t z := by
  obtain rfl : z 0 = i := Fin.ext h1
  obtain ⟨l, hl⟩ := l
  obtain rfl : (z 1).val = l := h
  rfl

/-- Tile 0 of a point's block lies where the product has it. -/
theorem piece0 (i : Fin 512) (q : Fin 1408) :
    tile0 (View.ld (iblk m c 0 t) r0_0) (View.ld (iblk m c 1 t) r0_1) (View.ld (iblk m c 2 t) r0_1) (View.ld (iblk m c 3 t) r0_1)
        (View.ld (iblk m c 4 t) r0_2) (View.ld (iblk m c 5 t) r0_3) (ix2 i q)
      = B6 m c t (r0_4.emb (ix2 i q)) := by
  refine (tile0_at _ _ _ _ _ _ i q).trans ((prod_at m c t _ _ _ 0 (by omega) (h_at m c t) (fun k q => ?_) (fun q => ?_) i q).trans
    (B6_eq m c t (r0_4.emb (ix2 i q)) i _ ?_ ?_))
  · exact (View.ld_unit_apply_of _ _ _ _ _ (ix2 k ⟨0 + q.val, by omega⟩) fun a => by fin_cases a <;> simp [ix2]).trans (read4 m c t k _)
  · exact (View.ld_unit_apply_of _ _ _ _ _ (ix2 0 ⟨0 + q.val, by omega⟩) fun a => by fin_cases a <;> simp [ix2]).trans (read5 m c t _)
  · exact (ValueKit.rect_emb_unit_val _ _ inb_S512x4224_S512x1408_0_0 _ _).trans (by simp [ix2])
  · exact (ValueKit.rect_emb_unit_val _ _ inb_S512x4224_S512x1408_0_0 _ _).trans (by simp [ix2])

/-- Tile 1 of a point's block lies where the product has it. -/
theorem piece1 (i : Fin 512) (q : Fin 1408) :
    tile1 (View.ld (iblk m c 0 t) r0_0) (View.ld (iblk m c 1 t) r0_1) (View.ld (iblk m c 2 t) r0_1) (View.ld (iblk m c 3 t) r0_1)
        (View.ld (iblk m c 4 t) r0_5) (View.ld (iblk m c 5 t) r0_6) (ix2 i q)
      = B6 m c t (r0_7.emb (ix2 i q)) := by
  refine (tile1_at _ _ _ _ _ _ i q).trans ((prod_at m c t _ _ _ 1408 (by omega) (h_at m c t) (fun k q => ?_) (fun q => ?_) i q).trans
    (B6_eq m c t (r0_7.emb (ix2 i q)) i _ ?_ ?_))
  · exact (View.ld_unit_apply_of _ _ _ _ _ (ix2 k ⟨1408 + q.val, by omega⟩) fun a => by fin_cases a <;> simp [ix2]).trans (read4 m c t k _)
  · exact (View.ld_unit_apply_of _ _ _ _ _ (ix2 0 ⟨1408 + q.val, by omega⟩) fun a => by fin_cases a <;> simp [ix2]).trans (read5 m c t _)
  · exact (ValueKit.rect_emb_unit_val _ _ inb_S512x4224_S512x1408_0_1408 _ _).trans (by simp [ix2])
  · exact (ValueKit.rect_emb_unit_val _ _ inb_S512x4224_S512x1408_0_1408 _ _).trans (by simp [ix2])

/-- Tile 2 of a point's block lies where the product has it. -/
theorem piece2 (i : Fin 512) (q : Fin 1408) :
    tile2 (View.ld (iblk m c 0 t) r0_0) (View.ld (iblk m c 1 t) r0_1) (View.ld (iblk m c 2 t) r0_1) (View.ld (iblk m c 3 t) r0_1)
        (View.ld (iblk m c 4 t) r0_8) (View.ld (iblk m c 5 t) r0_9) (ix2 i q)
      = B6 m c t (r0_10.emb (ix2 i q)) := by
  refine (tile2_at _ _ _ _ _ _ i q).trans ((prod_at m c t _ _ _ 2816 (by omega) (h_at m c t) (fun k q => ?_) (fun q => ?_) i q).trans
    (B6_eq m c t (r0_10.emb (ix2 i q)) i _ ?_ ?_))
  · exact (View.ld_unit_apply_of _ _ _ _ _ (ix2 k ⟨2816 + q.val, by omega⟩) fun a => by fin_cases a <;> simp [ix2]).trans (read4 m c t k _)
  · exact (View.ld_unit_apply_of _ _ _ _ _ (ix2 0 ⟨2816 + q.val, by omega⟩) fun a => by fin_cases a <;> simp [ix2]).trans (read5 m c t _)
  · exact (ValueKit.rect_emb_unit_val _ _ inb_S512x4224_S512x1408_0_2816 _ _).trans (by simp [ix2])
  · exact (ValueKit.rect_emb_unit_val _ _ inb_S512x4224_S512x1408_0_2816 _ _).trans (by simp [ix2])

/-- What a point leaves in the first result's block. -/
theorem out6_at (y : S512x4224.Idx) : out0_6 (iblk m c 0 t) (iblk m c 1 t) (iblk m c 2 t) (iblk m c 3 t) (iblk m c 4 t) (iblk m c 5 t) y = B6 m c t y := by
  unfold out0_6
  refine View.canon_apply_of_pieces (Val := Elt Ideal) (B6 m c t) _ ?_ y (cover0_6 _ _ _ y)
  intro pc hpc x
  rcases List.mem_cons.mp hpc with rfl | hpc
  · obtain ⟨i, q, rfl⟩ : ∃ (i : Fin 512) (q : Fin 1408), x = ix2 i q := ⟨x 0, x 1, eq_ix2 x⟩
    exact piece2 m c t i q
  rcases List.mem_cons.mp hpc with rfl | hpc
  · obtain ⟨i, q, rfl⟩ : ∃ (i : Fin 512) (q : Fin 1408), x = ix2 i q := ⟨x 0, x 1, eq_ix2 x⟩
    exact piece1 m c t i q
  rcases List.mem_cons.mp hpc with rfl | hpc
  · obtain ⟨i, q, rfl⟩ : ∃ (i : Fin 512) (q : Fin 1408), x = ix2 i q := ⟨x 0, x 1, eq_ix2 x⟩
    exact piece0 m c t i q
  exact absurd hpc List.not_mem_nil

/-- What a point leaves in the second result's block: its rows, normed and modulated. -/
theorem out7_at (i : Fin 512) (k : Fin 1024) : out0_7 (iblk m c 0 t) (iblk m c 1 t) (iblk m c 2 t) (iblk m c 3 t) (iblk m c 4 t) (iblk m c 5 t) (ix2 i k) = (args m c).H (row t i) k := by
  have e := View.canon_apply_of_pieces (Val := Elt Ideal) (S := S512x1024) (e := .bf16) (fun y => (args m c).H (row t (y 0)) (y 1))
    [⟨r0_0, k0_pay3 (View.ld (iblk m c 0 t) r0_0) (View.ld (iblk m c 1 t) r0_1) (View.ld (iblk m c 2 t) r0_1) (View.ld (iblk m c 3 t) r0_1)⟩] ?_ (ix2 i k) (cover0_7 _ _)
  · exact e
  · intro pc hpc x
    rcases List.mem_cons.mp hpc with rfl | hpc
    · obtain ⟨i, q, rfl⟩ : ∃ (i : Fin 512) (q : Fin 1024), x = ix2 i q := ⟨x 0, x 1, eq_ix2 x⟩
      refine (h_at m c t i q).trans ?_
      have e : r0_0.emb (ix2 i q) = ix2 i q := by blk_ext
      exact congrArg (fun z : S512x1024.Idx => (args m c).H (row t (z 0)) (z 1)) e.symm
    · exact absurd hpc List.not_mem_nil

theorem emb6 (i : Fin 512) (l : Fin 4224) : ((cfg0.win 6).blk t).view.emb (ix2 i l) = ix2 (row t i) l := by
  blk_ext [idx t, row]

theorem emb7 (i : Fin 512) (k : Fin 1024) : ((cfg0.win 7).blk t).view.emb (ix2 i k) = ix2 (row t i) k := by
  blk_ext [idx t, row]

/-- The first result after the run is the product. -/
theorem result6 : (dats m 0 c).arrAt 6 cfg0.N = G6 m c := by
  refine (dats m 0 c).arrAt_eq_of_covers 6 _ (by decide +kernel) fun t hf y => ?_
  have hy : out0_6 (iblk m c 0 t) (iblk m c 1 t) (iblk m c 2 t) (iblk m c 3 t) (iblk m c 4 t) (iblk m c 5 t) y = G6 m c (((cfg0.win 6).blk t).view.emb y) := by
    obtain ⟨i, l, rfl⟩ : ∃ (i : Fin 512) (l : Fin 4224), y = ix2 i l := ⟨y 0, y 1, eq_ix2 y⟩
    rw [out6_at]
    erw [emb6]
    rfl
  blk_simp
  rw [after0_6]
  exact hy

/-- The second result after the run is the normed and modulated rows. -/
theorem result7 : (dats m 0 c).arrAt 7 cfg0.N = (args m c).h := by
  refine (dats m 0 c).arrAt_eq_of_covers 7 _ (by decide +kernel) fun t hf y => ?_
  have hy : out0_7 (iblk m c 0 t) (iblk m c 1 t) (iblk m c 2 t) (iblk m c 3 t) (iblk m c 4 t) (iblk m c 5 t) y = (args m c).h (((cfg0.win 7).blk t).view.emb y) := by
    obtain ⟨i, k, rfl⟩ : ∃ (i : Fin 512) (k : Fin 1024), y = ix2 i k := ⟨y 0, y 1, eq_ix2 y⟩
    rw [out7_at]
    erw [emb7]
    rfl
  blk_simp
  rw [after0_7]
  exact hy

end

section
open Cert.Reference14Ideal Cert.Reference14Ideal.Gen Idealize.ShloMosaic.StableHlo
variable (m : (ℓ : Loc nD τ sig) → Buf (Elt Ideal) ℓ) (c : Dev nD)

/-- The reference's argument arrays. -/
def rargs : Args 4224 where
  x := m ((c.tc : Thread nD τ).loc main_arg0)
  ng := m ((c.tc : Thread nD τ).loc main_arg1)
  sc := m ((c.tc : Thread nD τ).loc main_arg2)
  sh := m ((c.tc : Thread nD τ).loc main_arg3)
  w := m ((c.tc : Thread nD τ).loc main_arg4)
  b := fun _ => (0 : EReal)

/-- The reference's first result is the product. -/
theorem reference0 (y : S8192x4224.Idx) : (Host.dotGeneral dot_S8192x1024_S1024x4224_S8192x4224_1_0_0_1_n_n none (addf (mulf (mulf (mulf (m ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m ((c.tc : Thread nD τ).loc main_arg1)))) (broadcastInDim S8192x1024 ![0, 1] bcast_S1x1024_S8192x1024_0_1 (addf (broadcastInDim S1x1024 ![] bcast_S_S1x1024 (constant (F := Ideal) S_ .f32 0x3F800000#32)) (m ((c.tc : Thread nD τ).loc main_arg2))))) (broadcastInDim S8192x1024 ![0, 1] bcast_S1x1024_S8192x1024_0_1 (m ((c.tc : Thread nD τ).loc main_arg3)))) (extf .f32 (m ((c.tc : Thread nD τ).loc main_arg4)) bitsLt_bf16_f32) : FVec Ideal S8192x4224 .f32) y
      = (rargs m c).P (y 0) ⟨(y 1).val, (y 1).isLt⟩ := by
  obtain ⟨i, l, rfl⟩ : ∃ (i : Fin 8192) (l : Fin 4224), y = ix2 i l := ⟨y 0, y 1, eq_ix2 y⟩
  refine Eq.trans ?_ ((rargs m c).P_of_zero (fun _ => rfl) _ _).symm
  pointwise [Args.H, entry, rs, ms, rargs]

/-- The reference's second result is the normed and modulated rows. -/
theorem reference1 (y : S8192x1024.Idx) : (truncf .bf16 (addf (mulf (mulf (mulf (m ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 (m ((c.tc : Thread nD τ).loc main_arg1)))) (broadcastInDim S8192x1024 ![0, 1] bcast_S1x1024_S8192x1024_0_1 (addf (broadcastInDim S1x1024 ![] bcast_S_S1x1024 (constant (F := Ideal) S_ .f32 0x3F800000#32)) (m ((c.tc : Thread nD τ).loc main_arg2))))) (broadcastInDim S8192x1024 ![0, 1] bcast_S1x1024_S8192x1024_0_1 (m ((c.tc : Thread nD τ).loc main_arg3)))) bitsLt_bf16_f32 : FVec Ideal S8192x1024 .bf16) y
      = (rargs m c).h y := by
  obtain ⟨i, k, rfl⟩ : ∃ (i : Fin 8192) (k : Fin 1024), y = ix2 i k := ⟨y 0, y 1, eq_ix2 y⟩
  pointwise [Args.h, Args.H, entry, rs, ms, rargs]

end

/-- The reference terminates, leaves its arguments and every semaphore as they were. -/
theorem frameRef : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

/-- From arguments that agree, the kernel and the reference leave the same rows and the same product. -/
theorem algebraic : Cert.algebraic_Kernel14Ideal_Reference14Ideal := by
  intro m ρ m' ρ' _ hagree
  have same : ∀ c : Dev Cert.Kernel14Ideal.nD, rargs m' c = args m c := fun c => by
    obtain ⟨h0, h1, h2, h3, h4⟩ := hagree c
    rw [rargs, args, h0, h1, h2, h3, h4]
  refine ⟨fun c => G6 m c, fun c => (args m c).h, ?_, ?_⟩
  · exact (θ_run Cert.Kernel14Ideal.defs _ _).mono
      (fun _ h c => ⟨(h c).1.trans (result6 m c), (h c).2.1.trans (result7 m c), (h c).2.2⟩)
      (Cert.Kernel14Ideal.Value.run_blocks (F := Ideal) m ρ)
  · refine (θ_run Cert.Reference14Ideal.defs _ _).mono
      (fun _ h c => ⟨(h c).1.trans ((funext fun y => reference0 m' c y).trans ?_), (h c).2.1.trans ((funext fun y => reference1 m' c y).trans ?_), (h c).2.2⟩)
      (Cert.Reference14Ideal.Value.run (F := Ideal) m' ρ')
    · rw [same c]
      rfl
    · rw [same c]

end Cert.FwdFoxIn
-- ==== Proof.lean ====
/- The claims of `Cert.Claim`, put together from the generated frames and the hand-written modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.NormClaims
public import proofs.«01_k».proof.Proof.AttnFrame
public import proofs.«01_k».proof.Proof.AttnFrameBits
public import proofs.«01_k».proof.Proof.AttnClaims
public import proofs.«01_k».proof.Proof.GradFfnUp
public import proofs.«01_k».proof.Proof.GradFfnDown
public import proofs.«01_k».proof.Proof.GradSguOut
public import proofs.«01_k».proof.Proof.GradSguIn
public import proofs.«01_k».proof.Proof.GradFoxOut
public import proofs.«01_k».proof.Proof.GradFoxIn
public import proofs.«01_k».proof.Proof.SguNormClaims
public import proofs.«01_k».proof.Proof.FoxNormClaims
public import proofs.«01_k».proof.Proof.SguOutInput
public import proofs.«01_k».proof.Proof.FwdFfnUp
public import proofs.«01_k».proof.Proof.FwdSguIn
public import proofs.«01_k».proof.Proof.FwdFoxIn
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.AttnClaims.finiteFacts,
  fun m ρ _ => Cert.Kernel.Gen.frame m ρ, fun m ρ _ => Cert.KernelIdeal.Gen.frame m ρ, Cert.NormClaims.frameRef,
  fun m ρ _ => Cert.AttnRunBits.frame m ρ, fun m ρ _ => Cert.AttnRun.frame m ρ, fun m ρ _ => Cert.AttnRun.frame m ρ,
  Cert.AttnClaims.frameRef, fun m ρ _ => Cert.AttnClaims.frameRef m ρ trivial,
  fun m ρ _ => Cert.Kernel3.Gen.frame m ρ, fun m ρ _ => Cert.Kernel3Ideal.Gen.frame m ρ, Cert.GradFfnUp.frameRef,
  fun m ρ _ => Cert.Kernel4.Gen.frame m ρ, fun m ρ _ => Cert.Kernel4Ideal.Gen.frame m ρ, Cert.GradFfnDown.frameRef,
  fun m ρ _ => Cert.Kernel5.Gen.frame m ρ, fun m ρ _ => Cert.Kernel5Ideal.Gen.frame m ρ, Cert.GradSguOut.frameRef,
  fun m ρ _ => Cert.Kernel6.Gen.frame m ρ, fun m ρ _ => Cert.Kernel6Ideal.Gen.frame m ρ, Cert.GradSguIn.frameRef,
  fun m ρ _ => Cert.Kernel7.Gen.frame m ρ, fun m ρ _ => Cert.Kernel7Ideal.Gen.frame m ρ, Cert.GradFoxOut.frameRef,
  fun m ρ _ => Cert.Kernel8.Gen.frame m ρ, fun m ρ _ => Cert.Kernel8Ideal.Gen.frame m ρ, Cert.GradFoxIn.frameRef,
  fun m ρ _ => Cert.Kernel9.Gen.frame m ρ, fun m ρ _ => Cert.Kernel9Ideal.Gen.frame m ρ, Cert.SguNormClaims.frameRef,
  fun m ρ _ => Cert.Kernel10.Gen.frame m ρ, fun m ρ _ => Cert.Kernel10Ideal.Gen.frame m ρ, Cert.FoxNormClaims.frameRef,
  fun m ρ _ => Cert.Kernel11.Gen.frame m ρ, fun m ρ _ => Cert.Kernel11Ideal.Gen.frame m ρ, Cert.SguOutInput.frameRef,
  fun m ρ _ => Cert.Kernel12.Gen.frame m ρ, fun m ρ _ => Cert.Kernel12Ideal.Gen.frame m ρ, Cert.FwdFfnUp.frameRef,
  fun m ρ _ => Cert.Kernel13.Gen.frame m ρ, fun m ρ _ => Cert.Kernel13Ideal.Gen.frame m ρ, Cert.FwdSguIn.frameRef,
  fun m ρ _ => Cert.Kernel14.Gen.frame m ρ, fun m ρ _ => Cert.Kernel14Ideal.Gen.frame m ρ, Cert.FwdFoxIn.frameRef,
  trivial, Cert.NormClaims.algebraic, trivial, Cert.AttnClaims.algebraic,
  trivial, Cert.GradFfnUp.algebraic, trivial, Cert.GradFfnDown.algebraic, trivial, Cert.GradSguOut.algebraic, trivial, Cert.GradSguIn.algebraic, trivial, Cert.GradFoxOut.algebraic, trivial, Cert.GradFoxIn.algebraic,
  trivial, Cert.SguNormClaims.algebraic, trivial, Cert.FoxNormClaims.algebraic, trivial, Cert.SguOutInput.algebraic, trivial, Cert.FwdFfnUp.algebraic, trivial, Cert.FwdSguIn.algebraic, trivial, Cert.FwdFoxIn.algebraic⟩

end Cert.Proof

end
